-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![8192, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x32 : Shape := ⟨2, ![512, 32]⟩
abbrev S2048x1 : Shape := ⟨2, ![2048, 1]⟩
abbrev S8x512x1024 : Shape := ⟨3, ![8, 512, 1024]⟩
abbrev S2048x2048 : Shape := ⟨2, ![2048, 2048]⟩
abbrev S2048x1024 : Shape := ⟨2, ![2048, 1024]⟩
abbrev S4x2048x8 : Shape := ⟨3, ![4, 2048, 8]⟩
abbrev S3x2048x512 : Shape := ⟨3, ![3, 2048, 512]⟩
abbrev S2x2048x512 : Shape := ⟨3, ![2, 2048, 512]⟩
abbrev S3x2048x1 : Shape := ⟨3, ![3, 2048, 1]⟩
abbrev S3 : Shape := ⟨1, ![3]⟩
abbrev S6 : Shape := ⟨1, ![6]⟩
abbrev S4 : Shape := ⟨1, ![4]⟩
abbrev S_ : Shape := ⟨0, ![]⟩
abbrev S1 : Shape := ⟨1, ![1]⟩
abbrev S1x2048x1 : Shape := ⟨3, ![1, 2048, 1]⟩
abbrev S1x2048x512 : Shape := ⟨3, ![1, 2048, 512]⟩
abbrev S1x8 : Shape := ⟨2, ![1, 8]⟩
abbrev S2048x8 : Shape := ⟨2, ![2048, 8]⟩
abbrev S8 : Shape := ⟨1, ![8]⟩
abbrev S1x2048x8 : Shape := ⟨3, ![1, 2048, 8]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 11
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x1, .i32⟩
  | .hbm, ⟨3, _⟩ => ⟨S8x512x1024, .f32⟩
  | .hbm, ⟨4, _⟩ => ⟨S2048x512, .bf16⟩
  | .hbm, ⟨5, _⟩ => ⟨S8x512x1024, .bf16⟩
  | .hbm, ⟨6, _⟩ => ⟨S2048x2048, .i32⟩
  | .hbm, ⟨7, _⟩ => ⟨S2048x2048, .i32⟩
  | .hbm, ⟨8, _⟩ => ⟨S2048x2048, .i1⟩
  | .hbm, ⟨9, _⟩ => ⟨S2048x2048, .bf16⟩
  | .hbm, ⟨10, _⟩ => ⟨S2048x1024, .f32⟩
  | .local _ .vmem, ⟨0, _⟩ => ⟨S2048x512, .bf16⟩
  | .local _ .vmem, ⟨1, _⟩ => ⟨S8x512x1024, .bf16⟩
  | .local _ .vmem, ⟨2, _⟩ => ⟨S2048x1, .i32⟩
  | .local _ .vmem, ⟨3, _⟩ => ⟨S2048x2048, .bf16⟩
  | .local _ .vmem, ⟨4, _⟩ => ⟨S2048x1024, .f32⟩
  | .local _ .vmem, ⟨5, _⟩ => ⟨S4x2048x8, .bf16⟩
  | .local _ .vmem, ⟨6, _⟩ => ⟨S3x2048x512, .bf16⟩
  | .local _ .vmem, ⟨7, _⟩ => ⟨S2048x1024, .bf16⟩
  | .local _ .vmem, ⟨8, _⟩ => ⟨S2048x512, .bf16⟩
  | .local _ .vmem, ⟨9, _⟩ => ⟨S2048x512, .bf16⟩
  | .local _ .vmem, ⟨10, _⟩ => ⟨S2048x1024, .bf16⟩
  | .local _ .vmem, ⟨11, _⟩ => ⟨S2x2048x512, .bf16⟩
  | .local _ .vmem, ⟨12, _⟩ => ⟨S2x2048x512, .bf16⟩
  | .local _ .vmem, ⟨13, _⟩ => ⟨S2x2048x512, .bf16⟩
  | .local _ .vmem, ⟨14, _⟩ => ⟨S3x2048x1, .i32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 3 → Bool
  | ⟨0, _⟩ => true
  | ⟨1, _⟩ => true
  | ⟨2, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 3 37 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_12 : BitVec 32 := 1#32
  let v15 : BitVec 32 := Scalar.muli v9 c1_i32_12
  let v16 : BitVec 32 := Scalar.addi c0_i32_13 v15
  v16.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_17 : BitVec 32 := 1#32
  let v17 : BitVec 32 := Scalar.muli v7 c1_i32_17
  let v18 : BitVec 32 := Scalar.addi c0_i32_18 v17
  v18.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_24 : BitVec 32 := 1#32
  let v25 : BitVec 32 := Scalar.muli v5 c1_i32_24
  let v26 : BitVec 32 := Scalar.addi c0_i32_25 v25
  v26.toNat
def k0_dev6 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_31 : BitVec 32 := 1#32
  let v33 : BitVec 32 := Scalar.muli v9 c1_i32_31
  let v34 : BitVec 32 := Scalar.addi c0_i32_32 v33
  v34.toNat
def k0_dev7 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_38 : BitVec 32 := 1#32
  let v41 : BitVec 32 := Scalar.muli v7 c1_i32_38
  let v42 : BitVec 32 := Scalar.addi c0_i32_39 v41
  v42.toNat
def k0_dev8 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_45 : BitVec 32 := 1#32
  let v49 : BitVec 32 := Scalar.muli v5 c1_i32_45
  let v50 : BitVec 32 := Scalar.addi c0_i32_46 v49
  v50.toNat
def k0_dev9 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_194 : BitVec 32 := 1#32
  let v321 : BitVec 32 := Scalar.muli v7 c1_i32_194
  let v322 : BitVec 32 := Scalar.addi c0_i32_195 v321
  v322.toNat
def k0_dev10 (d0 : Dev nD) : Nat :=
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_263 : BitVec 32 := 1#32
  let v402 : BitVec 32 := Scalar.muli v7 c1_i32_263
  let v403 : BitVec 32 := Scalar.addi c0_i32_264 v402
  v403.toNat
def k0_dev11 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_273 : BitVec 32 := 1#32
  let v412 : BitVec 32 := Scalar.muli v7 c1_i32_273
  let v413 : BitVec 32 := Scalar.addi c0_i32_274 v412
  v413.toNat
def k0_dev12 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_351 : BitVec 32 := 1#32
  let v499 : BitVec 32 := Scalar.muli v5 c1_i32_351
  let v500 : BitVec 32 := Scalar.addi c0_i32_352 v499
  v500.toNat
def k0_dev13 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_361 : BitVec 32 := 1#32
  let v509 : BitVec 32 := Scalar.muli v5 c1_i32_361
  let v510 : BitVec 32 := Scalar.addi c0_i32_362 v509
  v510.toNat
def k0_dev14 (d0 : Dev nD) : Nat :=
  let c0_i32_532 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_531 : BitVec 32 := 1#32
  let v691 : BitVec 32 := Scalar.muli v7 c1_i32_531
  let v692 : BitVec 32 := Scalar.addi c0_i32_532 v691
  v692.toNat
def k0_dev15 (d0 : Dev nD) : Nat :=
  let c0_i32_566 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_565 : BitVec 32 := 1#32
  let v722 : BitVec 32 := Scalar.muli v7 c1_i32_565
  let v723 : BitVec 32 := Scalar.addi c0_i32_566 v722
  v723.toNat
def k0_dev16 (d0 : Dev nD) : Nat :=
  let c0_i32_573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_572 : BitVec 32 := 1#32
  let v732 : BitVec 32 := Scalar.muli v5 c1_i32_572
  let v733 : BitVec 32 := Scalar.addi c0_i32_573 v732
  v733.toNat
def k0_dev17 (d0 : Dev nD) : Nat :=
  let c0_i32_668 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_667 : BitVec 32 := 1#32
  let v827 : BitVec 32 := Scalar.muli v5 c1_i32_667
  let v828 : BitVec 32 := Scalar.addi c0_i32_668 v827
  v828.toNat
def k0_dev18 (d0 : Dev nD) : Nat :=
  let c0_i32_703 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_702 : BitVec 32 := 1#32
  let v858 : BitVec 32 := Scalar.muli v5 c1_i32_702
  let v859 : BitVec 32 := Scalar.addi c0_i32_703 v858
  v859.toNat
def k0_dev19 (d0 : Dev nD) : Nat :=
  let c0_i32_710 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_709 : BitVec 32 := 1#32
  let v868 : BitVec 32 := Scalar.muli v7 c1_i32_709
  let v869 : BitVec 32 := Scalar.addi c0_i32_710 v868
  v869.toNat
def k0_dev20 (d0 : Dev nD) : Nat :=
  let c0_i32_807 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_806 : BitVec 32 := 1#32
  let v963 : BitVec 32 := Scalar.muli v7 c1_i32_806
  let v964 : BitVec 32 := Scalar.addi c0_i32_807 v963
  v964.toNat
def k0_dev21 (d0 : Dev nD) : Nat :=
  let c0_i32_841 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_840 : BitVec 32 := 1#32
  let v994 : BitVec 32 := Scalar.muli v7 c1_i32_840
  let v995 : BitVec 32 := Scalar.addi c0_i32_841 v994
  v995.toNat
def k0_dev22 (d0 : Dev nD) : Nat :=
  let c0_i32_942 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_941 : BitVec 32 := 1#32
  let v1097 : BitVec 32 := Scalar.muli v5 c1_i32_941
  let v1098 : BitVec 32 := Scalar.addi c0_i32_942 v1097
  v1098.toNat
def k0_dev23 (d0 : Dev nD) : Nat :=
  let c0_i32_977 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_976 : BitVec 32 := 1#32
  let v1128 : BitVec 32 := Scalar.muli v5 c1_i32_976
  let v1129 : BitVec 32 := Scalar.addi c0_i32_977 v1128
  v1129.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x512 : Shape := ⟨2, ![8192, 512]⟩
abbrev S512x32 : Shape := ⟨2, ![512, 32]⟩
abbrev S8192x1 : Shape := ⟨2, ![8192, 1]⟩
abbrev S32x512x1024 : Shape := ⟨3, ![32, 512, 1024]⟩
abbrev S32 : Shape := ⟨1, ![32]⟩
abbrev S1x32 : Shape := ⟨2, ![1, 32]⟩
abbrev S8192x32 : Shape := ⟨2, ![8192, 32]⟩
abbrev S_ : Shape := ⟨0, ![]⟩
abbrev S8192x32x1024 : Shape := ⟨3, ![8192, 32, 1024]⟩
abbrev S8192x32x1 : Shape := ⟨3, ![8192, 32, 1]⟩
abbrev S8192x1024 : Shape := ⟨2, ![8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x32, .f32⟩
  | .hbm, ⟨2, _⟩ => ⟨S8192x1, .i32⟩
  | .hbm, ⟨3, _⟩ => ⟨S32x512x1024, .f32⟩
  | .hbm, ⟨4, _⟩ => ⟨S32, .i32⟩
  | .hbm, ⟨5, _⟩ => ⟨S1x32, .i32⟩
  | .hbm, ⟨6, _⟩ => ⟨S8192x32, .i32⟩
  | .hbm, ⟨7, _⟩ => ⟨S8192x32, .i32⟩
  | .hbm, ⟨8, _⟩ => ⟨S8192x32, .i1⟩
  | .hbm, ⟨9, _⟩ => ⟨S8192x32, .i32⟩
  | .hbm, ⟨10, _⟩ => ⟨S_, .i32⟩
  | .hbm, ⟨11, _⟩ => ⟨S_, .i32⟩
  | .hbm, ⟨12, _⟩ => ⟨S8192x32, .i32⟩
  | .hbm, ⟨13, _⟩ => ⟨S8192x32, .i32⟩
  | .hbm, ⟨14, _⟩ => ⟨S_, .i32⟩
  | .hbm, ⟨15, _⟩ => ⟨S8192x32, .i32⟩
  | .hbm, ⟨16, _⟩ => ⟨S8192x32, .i1⟩
  | .hbm, ⟨17, _⟩ => ⟨S8192x32, .i1⟩
  | .hbm, ⟨18, _⟩ => ⟨S8192x32x1024, .f32⟩
  | .hbm, ⟨19, _⟩ => ⟨S8192x32x1, .i1⟩
  | .hbm, ⟨20, _⟩ => ⟨S_, .f32⟩
  | .hbm, ⟨21, _⟩ => ⟨S_, .f32⟩
  | .hbm, ⟨22, _⟩ => ⟨S8192x32x1024, .i1⟩
  | .hbm, ⟨23, _⟩ => ⟨S8192x32x1024, .f32⟩
  | .hbm, ⟨24, _⟩ => ⟨S8192x32x1024, .f32⟩
  | .hbm, ⟨25, _⟩ => ⟨S_, .f32⟩
  | .hbm, ⟨26, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Cells.lean ====
/-
  The cells of the kernel's protocol between devices, the pieces of its scratch buffers that travel, what each piece
  holds when it arrives, and the schedule that says who pays which cell and with what.

  Device `c` has a left neighbour `c - 1`, a right neighbour `c + 1` and an opposite device `c + 2` (mod 4).
  It waits on 32 DMA cells (numbers 5 to 36), two credit cells and its barrier cell. Every cell has one round, except
  the first two landing cells of each direction of the reduction (17, 18 and 27, 28), which are used twice.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.TalkSites
public import Idealize.ShloMosaic.Lib.Pipeline.Kit
public import Idealize.ShloMosaic.Lib.Tactic

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (lv mayWait_of)
open Idealize.ShloMosaic.TalkSites (Pay tallyL tallyL_pos Fam)

variable {F : FTy → Type} [FloatOps F]

/-! ## The resource algebra -/

/-- Two copies of the rounds' algebra: the pipeline library's and the one of this protocol, whose duties are numbered
    below three. -/
abbrev UU : Type := UR sig nD τ × URounds (GSem nD τ sig) (Fin 3)

local notation "𝕄" => MT nD τ sig ℕ (Elt F) ℕ UU ℕ

/-- The pipeline library's copy. -/
def EP : Emb (UR sig nD τ) (MT nD τ sig ℕ (Elt F) ℕ UU ℕ) := embL
/-- The copy of this protocol. -/
def ER : Emb (URounds (GSem nD τ sig) (Fin 3)) (MT nD τ sig ℕ (Elt F) ℕ UU ℕ) := embR

instance EP_landsIn : (EP (F := F)).LandsIn (upEmb : UEmb _ 𝕄) := by unfold EP; infer_instance
instance ER_landsIn : (ER (F := F)).LandsIn (upEmb : UEmb _ 𝕄) := by unfold ER; infer_instance

/-! ## The ring of devices -/

set_option backward.proofsInPublic true in
/-- The left neighbour. -/
def lft (c : Dev nD) : Dev nD := ⟨(c.val + 3) % 4, Nat.mod_lt _ (by decide)⟩
set_option backward.proofsInPublic true in
/-- The right neighbour. -/
def rgt (c : Dev nD) : Dev nD := ⟨(c.val + 1) % 4, Nat.mod_lt _ (by decide)⟩
set_option backward.proofsInPublic true in
/-- The opposite device. -/
def opp (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem opp_opp (c : Dev nD) : opp (opp c) = c := by revert c; decide
theorem lft_lft (c : Dev nD) : lft (lft c) = opp c := by revert c; decide
theorem rgt_rgt (c : Dev nD) : rgt (rgt c) = opp c := by revert c; decide

theorem dev1_eq (c : Dev nD) : (⟨k0_dev1 c, k0_dev1_lt c⟩ : Dev nD) = lft c := by revert c; decide
theorem dev2_eq (c : Dev nD) : (⟨k0_dev2 c, k0_dev2_lt c⟩ : Dev nD) = rgt c := by revert c; decide
theorem dev3_eq (c : Dev nD) : (⟨k0_dev3 c, k0_dev3_lt c⟩ : Dev nD) = opp c := by revert c; decide
theorem dev4_eq (c : Dev nD) : (⟨k0_dev4 c, k0_dev4_lt c⟩ : Dev nD) = rgt c := by revert c; decide
theorem dev5_eq (c : Dev nD) : (⟨k0_dev5 c, k0_dev5_lt c⟩ : Dev nD) = lft c := by revert c; decide
theorem dev6_eq (c : Dev nD) : (⟨k0_dev6 c, k0_dev6_lt c⟩ : Dev nD) = opp c := by revert c; decide
theorem dev7_eq (c : Dev nD) : (⟨k0_dev7 c, k0_dev7_lt c⟩ : Dev nD) = rgt c := by revert c; decide
theorem dev8_eq (c : Dev nD) : (⟨k0_dev8 c, k0_dev8_lt c⟩ : Dev nD) = lft c := by revert c; decide
theorem dev9_eq (c : Dev nD) : (⟨k0_dev9 c, k0_dev9_lt c⟩ : Dev nD) = rgt c := by revert c; decide
theorem dev10_eq (c : Dev nD) : (⟨k0_dev10 c, k0_dev10_lt c⟩ : Dev nD) = rgt c := by revert c; decide
theorem dev11_eq (c : Dev nD) : (⟨k0_dev11 c, k0_dev11_lt c⟩ : Dev nD) = rgt c := by revert c; decide
theorem dev12_eq (c : Dev nD) : (⟨k0_dev12 c, k0_dev12_lt c⟩ : Dev nD) = lft c := by revert c; decide
theorem dev13_eq (c : Dev nD) : (⟨k0_dev13 c, k0_dev13_lt c⟩ : Dev nD) = lft c := by revert c; decide
theorem dev14_eq (c : Dev nD) : (⟨k0_dev14 c, k0_dev14_lt c⟩ : Dev nD) = rgt c := by revert c; decide
theorem dev15_eq (c : Dev nD) : (⟨k0_dev15 c, k0_dev15_lt c⟩ : Dev nD) = rgt c := by revert c; decide
theorem dev16_eq (c : Dev nD) : (⟨k0_dev16 c, k0_dev16_lt c⟩ : Dev nD) = lft c := by revert c; decide
theorem dev17_eq (c : Dev nD) : (⟨k0_dev17 c, k0_dev17_lt c⟩ : Dev nD) = lft c := by revert c; decide
theorem dev18_eq (c : Dev nD) : (⟨k0_dev18 c, k0_dev18_lt c⟩ : Dev nD) = lft c := by revert c; decide
theorem dev19_eq (c : Dev nD) : (⟨k0_dev19 c, k0_dev19_lt c⟩ : Dev nD) = rgt c := by revert c; decide
theorem dev20_eq (c : Dev nD) : (⟨k0_dev20 c, k0_dev20_lt c⟩ : Dev nD) = rgt c := by revert c; decide
theorem dev21_eq (c : Dev nD) : (⟨k0_dev21 c, k0_dev21_lt c⟩ : Dev nD) = rgt c := by revert c; decide
theorem dev22_eq (c : Dev nD) : (⟨k0_dev22 c, k0_dev22_lt c⟩ : Dev nD) = lft c := by revert c; decide
theorem dev23_eq (c : Dev nD) : (⟨k0_dev23 c, k0_dev23_lt c⟩ : Dev nD) = lft c := by revert c; decide

/-! ## The semaphores -/

/-- The barrier semaphore. -/
abbrev barS : Sem sig := (SemArray.scalar (sig.barrier 0 rfl) : Sems sig S_).sem
/-- The two credit semaphores: of the right-moving chain and of the left-moving one. -/
abbrev crR : Sem sig := cc0_scratch18.sem
/-- The credit semaphore of the left-moving chain. -/
abbrev crL : Sem sig := cc0_scratch19.sem

/-- Device `c`'s DMA cell number `n`. -/
abbrev dC (c : Dev nD) (n : DmaSem sig) : GSem nD τ sig := ((c.tc : Thread nD τ), .dma n)
/-- Device `c`'s barrier cell. -/
abbrev barC (c : Dev nD) : GSem nD τ sig := ((c.tc : Thread nD τ), .reg barS)
/-- Device `c`'s credit cell for the right-moving chain; -/
abbrev crRC (c : Dev nD) : GSem nD τ sig := ((c.tc : Thread nD τ), .reg crR)
/-- for the left-moving chain. -/
abbrev crLC (c : Dev nD) : GSem nD τ sig := ((c.tc : Thread nD τ), .reg crL)

theorem sem_5 : ((cc0_scratch10.slice (Rect.unit (s := S3) ![0] S1.size inb_S3_S1_0)).squeeze S_ squeezes_S1_S_).sem = (5 : DmaSem sig) := by decide
theorem sem_6 : ((cc0_scratch10.slice (Rect.unit (s := S3) ![1] S1.size inb_S3_S1_1)).squeeze S_ squeezes_S1_S_).sem = (6 : DmaSem sig) := by decide
theorem sem_7 : ((cc0_scratch10.slice (Rect.unit (s := S3) ![2] S1.size inb_S3_S1_2)).squeeze S_ squeezes_S1_S_).sem = (7 : DmaSem sig) := by decide
theorem sem_8 : ((cc0_scratch11.slice (Rect.unit (s := S3) ![0] S1.size inb_S3_S1_0)).squeeze S_ squeezes_S1_S_).sem = (8 : DmaSem sig) := by decide
theorem sem_9 : ((cc0_scratch11.slice (Rect.unit (s := S3) ![1] S1.size inb_S3_S1_1)).squeeze S_ squeezes_S1_S_).sem = (9 : DmaSem sig) := by decide
theorem sem_10 : ((cc0_scratch11.slice (Rect.unit (s := S3) ![2] S1.size inb_S3_S1_2)).squeeze S_ squeezes_S1_S_).sem = (10 : DmaSem sig) := by decide
theorem sem_11 : ((cc0_scratch12.slice (Rect.unit (s := S6) ![0] S1.size inb_S6_S1_0)).squeeze S_ squeezes_S1_S_).sem = (11 : DmaSem sig) := by decide
theorem sem_12 : ((cc0_scratch12.slice (Rect.unit (s := S6) ![1] S1.size inb_S6_S1_1)).squeeze S_ squeezes_S1_S_).sem = (12 : DmaSem sig) := by decide
theorem sem_13 : ((cc0_scratch12.slice (Rect.unit (s := S6) ![2] S1.size inb_S6_S1_2)).squeeze S_ squeezes_S1_S_).sem = (13 : DmaSem sig) := by decide
theorem sem_14 : ((cc0_scratch12.slice (Rect.unit (s := S6) ![3] S1.size inb_S6_S1_3)).squeeze S_ squeezes_S1_S_).sem = (14 : DmaSem sig) := by decide
theorem sem_15 : ((cc0_scratch12.slice (Rect.unit (s := S6) ![4] S1.size inb_S6_S1_4)).squeeze S_ squeezes_S1_S_).sem = (15 : DmaSem sig) := by decide
theorem sem_16 : ((cc0_scratch12.slice (Rect.unit (s := S6) ![5] S1.size inb_S6_S1_5)).squeeze S_ squeezes_S1_S_).sem = (16 : DmaSem sig) := by decide
theorem sem_17 : ((cc0_scratch13.slice (Rect.unit (s := S4) ![0] S1.size inb_S4_S1_0)).squeeze S_ squeezes_S1_S_).sem = (17 : DmaSem sig) := by decide
theorem sem_18 : ((cc0_scratch13.slice (Rect.unit (s := S4) ![1] S1.size inb_S4_S1_1)).squeeze S_ squeezes_S1_S_).sem = (18 : DmaSem sig) := by decide
theorem sem_19 : ((cc0_scratch13.slice (Rect.unit (s := S4) ![2] S1.size inb_S4_S1_2)).squeeze S_ squeezes_S1_S_).sem = (19 : DmaSem sig) := by decide
theorem sem_20 : ((cc0_scratch13.slice (Rect.unit (s := S4) ![3] S1.size inb_S4_S1_3)).squeeze S_ squeezes_S1_S_).sem = (20 : DmaSem sig) := by decide
theorem sem_21 : ((cc0_scratch14.slice (Rect.unit (s := S6) ![0] S1.size inb_S6_S1_0)).squeeze S_ squeezes_S1_S_).sem = (21 : DmaSem sig) := by decide
theorem sem_22 : ((cc0_scratch14.slice (Rect.unit (s := S6) ![1] S1.size inb_S6_S1_1)).squeeze S_ squeezes_S1_S_).sem = (22 : DmaSem sig) := by decide
theorem sem_23 : ((cc0_scratch14.slice (Rect.unit (s := S6) ![2] S1.size inb_S6_S1_2)).squeeze S_ squeezes_S1_S_).sem = (23 : DmaSem sig) := by decide
theorem sem_24 : ((cc0_scratch14.slice (Rect.unit (s := S6) ![3] S1.size inb_S6_S1_3)).squeeze S_ squeezes_S1_S_).sem = (24 : DmaSem sig) := by decide
theorem sem_25 : ((cc0_scratch14.slice (Rect.unit (s := S6) ![4] S1.size inb_S6_S1_4)).squeeze S_ squeezes_S1_S_).sem = (25 : DmaSem sig) := by decide
theorem sem_26 : ((cc0_scratch14.slice (Rect.unit (s := S6) ![5] S1.size inb_S6_S1_5)).squeeze S_ squeezes_S1_S_).sem = (26 : DmaSem sig) := by decide
theorem sem_27 : ((cc0_scratch15.slice (Rect.unit (s := S4) ![0] S1.size inb_S4_S1_0)).squeeze S_ squeezes_S1_S_).sem = (27 : DmaSem sig) := by decide
theorem sem_28 : ((cc0_scratch15.slice (Rect.unit (s := S4) ![1] S1.size inb_S4_S1_1)).squeeze S_ squeezes_S1_S_).sem = (28 : DmaSem sig) := by decide
theorem sem_29 : ((cc0_scratch15.slice (Rect.unit (s := S4) ![2] S1.size inb_S4_S1_2)).squeeze S_ squeezes_S1_S_).sem = (29 : DmaSem sig) := by decide
theorem sem_30 : ((cc0_scratch15.slice (Rect.unit (s := S4) ![3] S1.size inb_S4_S1_3)).squeeze S_ squeezes_S1_S_).sem = (30 : DmaSem sig) := by decide
theorem sem_31 : ((cc0_scratch16.slice (Rect.unit (s := S3) ![0] S1.size inb_S3_S1_0)).squeeze S_ squeezes_S1_S_).sem = (31 : DmaSem sig) := by decide
theorem sem_32 : ((cc0_scratch16.slice (Rect.unit (s := S3) ![1] S1.size inb_S3_S1_1)).squeeze S_ squeezes_S1_S_).sem = (32 : DmaSem sig) := by decide
theorem sem_33 : ((cc0_scratch16.slice (Rect.unit (s := S3) ![2] S1.size inb_S3_S1_2)).squeeze S_ squeezes_S1_S_).sem = (33 : DmaSem sig) := by decide
theorem sem_34 : ((cc0_scratch17.slice (Rect.unit (s := S3) ![0] S1.size inb_S3_S1_0)).squeeze S_ squeezes_S1_S_).sem = (34 : DmaSem sig) := by decide
theorem sem_35 : ((cc0_scratch17.slice (Rect.unit (s := S3) ![1] S1.size inb_S3_S1_1)).squeeze S_ squeezes_S1_S_).sem = (35 : DmaSem sig) := by decide
theorem sem_36 : ((cc0_scratch17.slice (Rect.unit (s := S3) ![2] S1.size inb_S3_S1_2)).squeeze S_ squeezes_S1_S_).sem = (36 : DmaSem sig) := by decide

/-! ## The pieces that travel -/

/-- Slot 0 of the received route ids. -/
abbrev rc0 : Memref sig .tc .vmem S2048x1 .i32 :=
  ((Memref.whole cc0_scratch9 : Memref sig .tc .vmem S3x2048x1 .i32).slice (Rect.unit (s := S3x2048x1) ![0, 0, 0] S1x2048x1.size inb_S3x2048x1_S1x2048x1_0_0_0) (fun _ => rfl)).squeeze S2048x1 squeezes_S1x2048x1_S2048x1
/-- Slot 1 of the received route ids. -/
abbrev rc1 : Memref sig .tc .vmem S2048x1 .i32 :=
  ((Memref.whole cc0_scratch9 : Memref sig .tc .vmem S3x2048x1 .i32).slice (Rect.unit (s := S3x2048x1) ![1, 0, 0] S1x2048x1.size inb_S3x2048x1_S1x2048x1_1_0_0) (fun _ => rfl)).squeeze S2048x1 squeezes_S1x2048x1_S2048x1
/-- Slot 2 of the received route ids. -/
abbrev rc2 : Memref sig .tc .vmem S2048x1 .i32 :=
  ((Memref.whole cc0_scratch9 : Memref sig .tc .vmem S3x2048x1 .i32).slice (Rect.unit (s := S3x2048x1) ![2, 0, 0] S1x2048x1.size inb_S3x2048x1_S1x2048x1_2_0_0) (fun _ => rfl)).squeeze S2048x1 squeezes_S1x2048x1_S2048x1
/-- Slot 0 of the received token rows. -/
abbrev xg0 : Memref sig .tc .vmem S2048x512 .bf16 :=
  ((Memref.whole cc0_scratch1 : Memref sig .tc .vmem S3x2048x512 .bf16).slice (Rect.unit (s := S3x2048x512) ![0, 0, 0] S1x2048x512.size inb_S3x2048x512_S1x2048x512_0_0_0) (fun _ => rfl)).squeeze S2048x512 squeezes_S1x2048x512_S2048x512
/-- Slot 1 of the received token rows. -/
abbrev xg1 : Memref sig .tc .vmem S2048x512 .bf16 :=
  ((Memref.whole cc0_scratch1 : Memref sig .tc .vmem S3x2048x512 .bf16).slice (Rect.unit (s := S3x2048x512) ![1, 0, 0] S1x2048x512.size inb_S3x2048x512_S1x2048x512_1_0_0) (fun _ => rfl)).squeeze S2048x512 squeezes_S1x2048x512_S2048x512
/-- Slot 2 of the received token rows. -/
abbrev xg2 : Memref sig .tc .vmem S2048x512 .bf16 :=
  ((Memref.whole cc0_scratch1 : Memref sig .tc .vmem S3x2048x512 .bf16).slice (Rect.unit (s := S3x2048x512) ![2, 0, 0] S1x2048x512.size inb_S3x2048x512_S1x2048x512_2_0_0) (fun _ => rfl)).squeeze S2048x512 squeezes_S1x2048x512_S2048x512
/-- Slot 0, rows from 0, of the outgoing accumulators. -/
abbrev ac00 : Memref sig .tc .vmem S1024x512 .bf16 :=
  ((Memref.whole cc0_scratch6 : Memref sig .tc .vmem S2x2048x512 .bf16).slice (Rect.unit (s := S2x2048x512) ![0, 0, 0] S1x1024x512.size inb_S2x2048x512_S1x1024x512_0_0_0) (fun _ => rfl)).squeeze S1024x512 squeezes_S1x1024x512_S1024x512
/-- Slot 0, rows from 1024, of the outgoing accumulators. -/
abbrev ac01 : Memref sig .tc .vmem S1024x512 .bf16 :=
  ((Memref.whole cc0_scratch6 : Memref sig .tc .vmem S2x2048x512 .bf16).slice (Rect.unit (s := S2x2048x512) ![0, 1024, 0] S1x1024x512.size inb_S2x2048x512_S1x1024x512_0_1024_0) (fun _ => rfl)).squeeze S1024x512 squeezes_S1x1024x512_S1024x512
/-- Slot 1, rows from 0, of the outgoing accumulators. -/
abbrev ac10 : Memref sig .tc .vmem S1024x512 .bf16 :=
  ((Memref.whole cc0_scratch6 : Memref sig .tc .vmem S2x2048x512 .bf16).slice (Rect.unit (s := S2x2048x512) ![1, 0, 0] S1x1024x512.size inb_S2x2048x512_S1x1024x512_1_0_0) (fun _ => rfl)).squeeze S1024x512 squeezes_S1x1024x512_S1024x512
/-- Slot 1, rows from 1024, of the outgoing accumulators. -/
abbrev ac11 : Memref sig .tc .vmem S1024x512 .bf16 :=
  ((Memref.whole cc0_scratch6 : Memref sig .tc .vmem S2x2048x512 .bf16).slice (Rect.unit (s := S2x2048x512) ![1, 1024, 0] S1x1024x512.size inb_S2x2048x512_S1x1024x512_1_1024_0) (fun _ => rfl)).squeeze S1024x512 squeezes_S1x1024x512_S1024x512
/-- Slot 0, rows from 0, of the landing buffer of the right-moving chain. -/
abbrev rr00 : Memref sig .tc .vmem S1024x512 .bf16 :=
  ((Memref.whole cc0_scratch7 : Memref sig .tc .vmem S2x2048x512 .bf16).slice (Rect.unit (s := S2x2048x512) ![0, 0, 0] S1x1024x512.size inb_S2x2048x512_S1x1024x512_0_0_0) (fun _ => rfl)).squeeze S1024x512 squeezes_S1x1024x512_S1024x512
/-- Slot 0, rows from 1024, of the landing buffer of the right-moving chain. -/
abbrev rr01 : Memref sig .tc .vmem S1024x512 .bf16 :=
  ((Memref.whole cc0_scratch7 : Memref sig .tc .vmem S2x2048x512 .bf16).slice (Rect.unit (s := S2x2048x512) ![0, 1024, 0] S1x1024x512.size inb_S2x2048x512_S1x1024x512_0_1024_0) (fun _ => rfl)).squeeze S1024x512 squeezes_S1x1024x512_S1024x512
/-- Slot 1, rows from 0, of the landing buffer of the right-moving chain. -/
abbrev rr10 : Memref sig .tc .vmem S1024x512 .bf16 :=
  ((Memref.whole cc0_scratch7 : Memref sig .tc .vmem S2x2048x512 .bf16).slice (Rect.unit (s := S2x2048x512) ![1, 0, 0] S1x1024x512.size inb_S2x2048x512_S1x1024x512_1_0_0) (fun _ => rfl)).squeeze S1024x512 squeezes_S1x1024x512_S1024x512
/-- Slot 1, rows from 1024, of the landing buffer of the right-moving chain. -/
abbrev rr11 : Memref sig .tc .vmem S1024x512 .bf16 :=
  ((Memref.whole cc0_scratch7 : Memref sig .tc .vmem S2x2048x512 .bf16).slice (Rect.unit (s := S2x2048x512) ![1, 1024, 0] S1x1024x512.size inb_S2x2048x512_S1x1024x512_1_1024_0) (fun _ => rfl)).squeeze S1024x512 squeezes_S1x1024x512_S1024x512
/-- Slot 0, rows from 0, of the landing buffer of the left-moving chain. -/
abbrev rl00 : Memref sig .tc .vmem S1024x512 .bf16 :=
  ((Memref.whole cc0_scratch8 : Memref sig .tc .vmem S2x2048x512 .bf16).slice (Rect.unit (s := S2x2048x512) ![0, 0, 0] S1x1024x512.size inb_S2x2048x512_S1x1024x512_0_0_0) (fun _ => rfl)).squeeze S1024x512 squeezes_S1x1024x512_S1024x512
/-- Slot 0, rows from 1024, of the landing buffer of the left-moving chain. -/
abbrev rl01 : Memref sig .tc .vmem S1024x512 .bf16 :=
  ((Memref.whole cc0_scratch8 : Memref sig .tc .vmem S2x2048x512 .bf16).slice (Rect.unit (s := S2x2048x512) ![0, 1024, 0] S1x1024x512.size inb_S2x2048x512_S1x1024x512_0_1024_0) (fun _ => rfl)).squeeze S1024x512 squeezes_S1x1024x512_S1024x512
/-- Slot 1, rows from 0, of the landing buffer of the left-moving chain. -/
abbrev rl10 : Memref sig .tc .vmem S1024x512 .bf16 :=
  ((Memref.whole cc0_scratch8 : Memref sig .tc .vmem S2x2048x512 .bf16).slice (Rect.unit (s := S2x2048x512) ![1, 0, 0] S1x1024x512.size inb_S2x2048x512_S1x1024x512_1_0_0) (fun _ => rfl)).squeeze S1024x512 squeezes_S1x1024x512_S1024x512
/-- Slot 1, rows from 1024, of the landing buffer of the left-moving chain. -/
abbrev rl11 : Memref sig .tc .vmem S1024x512 .bf16 :=
  ((Memref.whole cc0_scratch8 : Memref sig .tc .vmem S2x2048x512 .bf16).slice (Rect.unit (s := S2x2048x512) ![1, 1024, 0] S1x1024x512.size inb_S2x2048x512_S1x1024x512_1_1024_0) (fun _ => rfl)).squeeze S1024x512 squeezes_S1x1024x512_S1024x512

end Cert.KernelIdeal.Talk

end
-- ==== Proof.Proto.lean ====
/-
  What travels between the devices and when: the contents of every piece on arrival, the schedule (who pays which cell
  with what), what each device owes in program order, the duty tokens it pays with, and the order of its waits.
-/
module

public import proofs.«01_k».proof.Proof.Cells
public import Idealize.ShloMosaic.Lib.ValueIdxCore

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (lv mayWait_of)
open Idealize.ShloMosaic.TalkSites (Pay tallyL tallyL_pos Fam)
open Idealize.ShloMosaic.ValueIdx (ix2)

variable {F : FTy → Type} [FloatOps F]

local notation "𝕄" => MT nD τ sig ℕ (Elt F) ℕ UU ℕ

/-! ## Contents -/

/-- What travels, by the device it comes from: the token rows, the route ids, and the accumulators of the three steps
    of the right-moving and of the left-moving chain. -/
structure Cont (F : FTy → Type) where
  x : Dev nD → Vec F S2048x512 .bf16
  rt : Dev nD → Vec F S2048x1 .i32
  a0r : Dev nD → Vec F S2048x512 .bf16
  a1r : Dev nD → Vec F S2048x512 .bf16
  a2r : Dev nD → Vec F S2048x512 .bf16
  a0l : Dev nD → Vec F S2048x512 .bf16
  a1l : Dev nD → Vec F S2048x512 .bf16
  a2l : Dev nD → Vec F S2048x512 .bf16
  w : Dev nD → Vec F S8x512x1024 .bf16
  tri : Dev nD → Vec F S2048x2048 .bf16
  kG : Dev nD → Vec F S4x2048x8 .bf16
  dG : Dev nD → Vec F S2048x1024 .bf16
  pG : Dev nD → Vec F S2048x512 .bf16
  mG : Dev nD → Vec F S2048x512 .bf16
  wG : Dev nD → Vec F S2048x1024 .bf16
  oG : Dev nD → Vec F S2048x1024 .f32

/-- A matrix as the contents of every slot of a stack of matrices. -/
def up {α : Type} {k n p : ℕ} (A : (⟨2, ![n, p]⟩ : Shape).Idx → α) : (⟨3, ![k, n, p]⟩ : Shape).Idx → α :=
  fun i => A (ix2 (i 1) (i 2))

/-- The elements of device `o` under a view, at contents `f`, at share `q`; -/
abbrev atQ (q : PosShare TreeShare) (o : Dev nD) {s : Shape} {e : EltTy} (P : Memref sig .tc .vmem s e) (f : Buf (Elt F) (P.view.loc (o : Thread nD τ))) : sProp 𝕄 :=
  P.view.loc (o : Thread nD τ) ↦[P.view.set]{q} f
/-- at the full share; -/
abbrev at_ (o : Dev nD) {s : Shape} {e : EltTy} (P : Memref sig .tc .vmem s e) (f : Buf (Elt F) (P.view.loc (o : Thread nD τ))) : sProp 𝕄 :=
  atQ fullShare o P f
/-- at some contents. -/
abbrev any (o : Dev nD) {s : Shape} {e : EltTy} (P : Memref sig .tc .vmem s e) : sProp 𝕄 := iprop(∃ f, at_ (F := F) o P f)

/-- The staged tokens, and the staged route ids. -/
abbrev xM : Memref sig .tc .vmem S2048x512 .bf16 := Memref.whole cc0_stg0_0
/-- The staged route ids. -/
abbrev rM : Memref sig .tc .vmem S2048x1 .i32 := Memref.whole cc0_stg2_0

instance any_storable (o : Dev nD) {s : Shape} {e : EltTy} (P : Memref sig .tc .vmem s e) : BI.Storable (upEmb : UEmb _ 𝕄) (any (F := F) o P) := by
  infer_instance
instance reached_storable (g : GSem nD τ sig) (r : ℕ) : BI.Storable (upEmb : UEmb _ 𝕄) (reached (ER (F := F)) g r) := by infer_instance
theorem sto {P Q : sProp 𝕄} (hP : BI.Storable (upEmb : UEmb _ 𝕄) P) (hQ : BI.Storable (upEmb : UEmb _ 𝕄) Q) : BI.Storable (upEmb : UEmb _ 𝕄) iprop(P ∗ Q) :=
  BI.Storable.sep _ _ _

/-! ## Amounts -/

/-- What a copy of the token rows credits; -/
def aX : ℕ := xg0.view.dmaCredit
/-- a copy of half an accumulator; -/
def aH : ℕ := rr00.view.dmaCredit
/-- a copy of the route ids. -/
def aR : ℕ := rc0.view.dmaCredit

theorem aX_pos : 0 < aX := View.dmaCredit_pos _ (by decide)
theorem aH_pos : 0 < aH := View.dmaCredit_pos _ (by decide)
theorem aR_pos : 0 < aR := View.dmaCredit_pos _ (by decide)

/-! ## The schedule -/

section Pay

variable (D : Cont F)

/-- What the payer `p` of a barrier duty hands over: to its left neighbour (duty 0) the pieces that neighbour will write on
    `p`, and that `p` is at the first round of their landing cells and of its credit cell for the left-moving chain; to its
    right neighbour (duty 1) likewise; to the opposite device (duty 2) the third slot of the route ids. -/
def barPay (p : Dev nD) (d : Fin 3) : sProp 𝕄 :=
  match d with
  | 0 => iprop(any (F := F) p rc0 ∗ any (F := F) p xg0 ∗ any (F := F) p xg1 ∗ any (F := F) p rr00 ∗ any (F := F) p rr01 ∗ any (F := F) p rr10 ∗ any (F := F) p rr11
      ∗ reached ER (dC p 34) 0 ∗ reached ER (dC p 8) 0 ∗ reached ER (dC p 9) 0 ∗ reached ER (dC p 17) 0 ∗ reached ER (dC p 18) 0 ∗ reached ER (dC p 19) 0 ∗ reached ER (dC p 20) 0
      ∗ reached ER (crLC p) 0)
  | 1 => iprop(any (F := F) p rc1 ∗ any (F := F) p xg2 ∗ any (F := F) p rl00 ∗ any (F := F) p rl01 ∗ any (F := F) p rl10 ∗ any (F := F) p rl11
      ∗ reached ER (dC p 35) 0 ∗ reached ER (dC p 10) 0 ∗ reached ER (dC p 27) 0 ∗ reached ER (dC p 28) 0 ∗ reached ER (dC p 29) 0 ∗ reached ER (dC p 30) 0
      ∗ reached ER (crRC p) 0)
  | 2 => iprop(any (F := F) p rc2 ∗ reached ER (dC p 36) 0)

/-- Who pays duty `d` of device `o`'s barrier cell. -/
def barFrom (o : Dev nD) (d : Fin 3) : Dev nD := match d with | 0 => rgt o | 1 => lft o | 2 => opp o

/-- What the credit for the right-moving chain hands to `o`: the first slot of the right neighbour's landing buffer, free again. -/
def crRPay (p : Dev nD) : sProp 𝕄 := iprop(any (F := F) p rr00 ∗ any (F := F) p rr01 ∗ reached ER (dC p 17) 1 ∗ reached ER (dC p 18) 1)
/-- Of the left-moving chain. -/
def crLPay (p : Dev nD) : sProp 𝕄 := iprop(any (F := F) p rl00 ∗ any (F := F) p rl01 ∗ reached ER (dC p 27) 1 ∗ reached ER (dC p 28) 1)

/-- What a DMA cell of device `o` hands over in round `r`: a landing cell, the piece that landed with its contents; a
    departure cell, the source it was lent. -/
def dmaPay (o : Dev nD) (k r : ℕ) : sProp 𝕄 :=
  match k with
  | 5 => atQ fullShare.left (o) xM (D.x o)
  | 6 => atQ fullShare.left (o) xg0 (up (D.x (lft o)))
  | 7 => atQ fullShare.right.left (o) xM (D.x o)
  | 8 => at_ (o) xg0 (up (D.x (lft o)))
  | 9 => at_ (o) xg1 (up (D.x (lft (lft o))))
  | 10 => at_ (o) xg2 (up (D.x (rgt o)))
  | 11 => at_ (o) ac00 (up (D.a0r o))
  | 12 => at_ (o) ac01 (up (D.a0r o))
  | 13 => at_ (o) ac00 (up (D.a1r o))
  | 14 => at_ (o) ac01 (up (D.a1r o))
  | 15 => at_ (o) ac00 (up (D.a2r o))
  | 16 => at_ (o) ac01 (up (D.a2r o))
  | 17 => if r = 0 then at_ (o) rr00 (up (D.a0r (lft o))) else at_ (o) rr00 (up (D.a2r (lft o)))
  | 18 => if r = 0 then at_ (o) rr01 (up (D.a0r (lft o))) else at_ (o) rr01 (up (D.a2r (lft o)))
  | 19 => at_ (o) rr10 (up (D.a1r (lft o)))
  | 20 => at_ (o) rr11 (up (D.a1r (lft o)))
  | 21 => at_ (o) ac10 (up (D.a0l o))
  | 22 => at_ (o) ac11 (up (D.a0l o))
  | 23 => at_ (o) ac10 (up (D.a1l o))
  | 24 => at_ (o) ac11 (up (D.a1l o))
  | 25 => at_ (o) ac10 (up (D.a2l o))
  | 26 => at_ (o) ac11 (up (D.a2l o))
  | 27 => if r = 0 then at_ (o) rl00 (up (D.a0l (rgt o))) else at_ (o) rl00 (up (D.a2l (rgt o)))
  | 28 => if r = 0 then at_ (o) rl01 (up (D.a0l (rgt o))) else at_ (o) rl01 (up (D.a2l (rgt o)))
  | 29 => at_ (o) rl10 (up (D.a1l (rgt o)))
  | 30 => at_ (o) rl11 (up (D.a1l (rgt o)))
  | 31 => atQ fullShare.left (o) rM (D.rt o)
  | 32 => atQ fullShare.right.left (o) rM (D.rt o)
  | 33 => atQ fullShare.right.right.left (o) rM (D.rt o)
  | 34 => at_ (o) rc0 (up (D.rt (lft o)))
  | 35 => at_ (o) rc1 (up (D.rt (rgt o)))
  | 36 => at_ (o) rc2 (up (D.rt (opp o)))
  | _ => iprop(emp)

/-- What duty `d` of round `r` of a cell hands over. -/
def pay (g : GSem nD τ sig) (r : ℕ) (d : Fin 3) : sProp 𝕄 :=
  match g.2 with
  | .reg s => if s.val = 2 then barPay (barFrom g.1.1 d) d else if s.val = 0 then crRPay (rgt g.1.1) else crLPay (lft g.1.1)
  | .dma s => dmaPay D g.1.1 s.val r

/-- The duties of a round: three on a barrier cell, one elsewhere. -/
def dutiesOf (g : GSem nD τ sig) (r : ℕ) : Finset (Fin 3) :=
  match g.2 with
  | .reg s => if r = 0 then (if s.val = 2 then {0, 1, 2} else {0}) else ∅
  | .dma s => if r = 0 then {0} else if r = 1 ∧ (s.val = 17 ∨ s.val = 18 ∨ s.val = 27 ∨ s.val = 28) then {0} else ∅

/-- The units of a duty. -/
def amountOf' (g : GSem nD τ sig) : ℕ :=
  match g.2 with
  | .reg _ => 1
  | .dma s => if s.val ≤ 10 then aX else if s.val ≤ 30 then aH else aR

/-- The schedule. -/
def Rd : Schedule (GSem nD τ sig) (Fin 3) 𝕄 where
  duties := dutiesOf
  unitless _ := False
  amount g _ _ := amountOf' g
  payload := pay D
  amount_pos g _ _ _ := by
    unfold amountOf'
    split
    · exact Nat.one_pos
    · split
      · exact aX_pos
      · split
        · exact aH_pos
        · exact aR_pos

instance barPay_storable (p : Dev nD) (d : Fin 3) : BI.Storable (upEmb : UEmb _ 𝕄) (barPay (F := F) p d) := by
  unfold barPay
  split
  · exact sto (any_storable _ _) <| sto (any_storable _ _) <| sto (any_storable _ _) <| sto (any_storable _ _) <| sto (any_storable _ _) <|
      sto (any_storable _ _) <| sto (any_storable _ _) <| sto (reached_storable _ _) <| sto (reached_storable _ _) <| sto (reached_storable _ _) <|
      sto (reached_storable _ _) <| sto (reached_storable _ _) <| sto (reached_storable _ _) <| sto (reached_storable _ _) <| reached_storable _ _
  · exact sto (any_storable _ _) <| sto (any_storable _ _) <| sto (any_storable _ _) <| sto (any_storable _ _) <| sto (any_storable _ _) <|
      sto (any_storable _ _) <| sto (reached_storable _ _) <| sto (reached_storable _ _) <| sto (reached_storable _ _) <|
      sto (reached_storable _ _) <| sto (reached_storable _ _) <| sto (reached_storable _ _) <| reached_storable _ _
  · exact sto (any_storable _ _) (reached_storable _ _)
instance crRPay_storable (p : Dev nD) : BI.Storable (upEmb : UEmb _ 𝕄) (crRPay (F := F) p) :=
  sto (any_storable _ _) <| sto (any_storable _ _) <| sto (reached_storable _ _) <| reached_storable _ _
instance crLPay_storable (p : Dev nD) : BI.Storable (upEmb : UEmb _ 𝕄) (crLPay (F := F) p) :=
  sto (any_storable _ _) <| sto (any_storable _ _) <| sto (reached_storable _ _) <| reached_storable _ _
instance dmaPay_storable (o : Dev nD) (k r : ℕ) : BI.Storable (upEmb : UEmb _ 𝕄) (dmaPay D o k r) := by
  unfold dmaPay; (repeat' split) <;> infer_instance
instance Rd_storable (g : GSem nD τ sig) (r : ℕ) (d : Fin 3) : BI.Storable (upEmb : UEmb _ 𝕄) ((Rd D).payload g r d) := by
  show BI.Storable upEmb (pay D g r d)
  unfold pay; (repeat' split)
  · exact barPay_storable _ _
  · exact crRPay_storable _
  · exact crLPay_storable _
  · exact dmaPay_storable _ _ _ _

end Pay

/-! ## What a device owes, in program order -/

/-- The payments of device `c` in program order: the cell, the index (its level), the units. -/
def dueL (c : Dev nD) : List (Pay nD τ sig) :=
  [(barC (lft c), 1, 1),
   (barC (rgt c), 1, 1),
   (barC (opp c), 1, 1),
   (dC (rgt c) 34, 2, aR),
   (dC (lft c) 35, 2, aR),
   (dC (opp c) 36, 2, aR),
   (dC (rgt c) 8, 3, aX),
   (dC (lft c) 10, 3, aX),
   (dC (rgt c) 9, 4, aX),
   (dC (rgt c) 17, 5, aH),
   (dC (rgt c) 18, 5, aH),
   (dC (lft c) 27, 5, aH),
   (dC (lft c) 28, 5, aH),
   (dC (rgt c) 19, 7, aH),
   (dC (rgt c) 20, 7, aH),
   (crRC (lft c), 6, 1),
   (dC (lft c) 29, 7, aH),
   (dC (lft c) 30, 7, aH),
   (crLC (rgt c), 6, 1),
   (dC (rgt c) 17, 8, aH),
   (dC (rgt c) 18, 8, aH),
   (dC (lft c) 27, 8, aH),
   (dC (lft c) 28, 8, aH)]

/-- The tokens each payment uses, in the same order. -/
def tokL (c : Dev nD) : List (List (GSem nD τ sig × ℕ × Fin 3)) :=
  [[(barC (lft c), 0, 0)],
   [(barC (rgt c), 0, 1)],
   [(barC (opp c), 0, 2)],
   [(dC c 31, 0, 0), (dC (rgt c) 34, 0, 0)],
   [(dC c 32, 0, 0), (dC (lft c) 35, 0, 0)],
   [(dC c 33, 0, 0), (dC (opp c) 36, 0, 0)],
   [(dC c 5, 0, 0), (dC (rgt c) 8, 0, 0)],
   [(dC c 7, 0, 0), (dC (lft c) 10, 0, 0)],
   [(dC c 6, 0, 0), (dC (rgt c) 9, 0, 0)],
   [(dC c 11, 0, 0), (dC (rgt c) 17, 0, 0)],
   [(dC c 12, 0, 0), (dC (rgt c) 18, 0, 0)],
   [(dC c 21, 0, 0), (dC (lft c) 27, 0, 0)],
   [(dC c 22, 0, 0), (dC (lft c) 28, 0, 0)],
   [(dC c 13, 0, 0), (dC (rgt c) 19, 0, 0)],
   [(dC c 14, 0, 0), (dC (rgt c) 20, 0, 0)],
   [(crRC (lft c), 0, 0)],
   [(dC c 23, 0, 0), (dC (lft c) 29, 0, 0)],
   [(dC c 24, 0, 0), (dC (lft c) 30, 0, 0)],
   [(crLC (rgt c), 0, 0)],
   [(dC c 15, 0, 0), (dC (rgt c) 17, 1, 0)],
   [(dC c 16, 0, 0), (dC (rgt c) 18, 1, 0)],
   [(dC c 25, 0, 0), (dC (lft c) 27, 1, 0)],
   [(dC c 26, 0, 0), (dC (lft c) 28, 1, 0)]]

/-! ## The waits, in program order -/

/-- What device `c` holds for each of its waits: its position on the cell, and the credit unless the send itself returns it. -/
def waitL (c : Dev nD) : List (sProp 𝕄) :=
  [iprop(atPos ER (dC c 34) 0 ∅ 0 ∗ cred (tallyAt (dC c 34) 2 aR)),
   iprop(atPos ER (dC c 35) 0 ∅ 0 ∗ cred (tallyAt (dC c 35) 2 aR)),
   iprop(atPos ER (dC c 36) 0 ∅ 0 ∗ cred (tallyAt (dC c 36) 2 aR)),
   iprop(atPos ER (dC c 8) 0 ∅ 0 ∗ cred (tallyAt (dC c 8) 3 aX)),
   iprop(atPos ER (dC c 10) 0 ∅ 0 ∗ cred (tallyAt (dC c 10) 3 aX)),
   iprop(atPos ER (dC c 9) 0 ∅ 0 ∗ cred (tallyAt (dC c 9) 4 aX)),
   iprop(atPos ER (dC c 17) 0 ∅ 0 ∗ cred (tallyAt (dC c 17) 5 aH)),
   atPos ER (dC c 11) 0 ∅ 0,
   iprop(atPos ER (dC c 18) 0 ∅ 0 ∗ cred (tallyAt (dC c 18) 5 aH)),
   atPos ER (dC c 12) 0 ∅ 0,
   iprop(atPos ER (dC c 27) 0 ∅ 0 ∗ cred (tallyAt (dC c 27) 5 aH)),
   atPos ER (dC c 21) 0 ∅ 0,
   iprop(atPos ER (dC c 28) 0 ∅ 0 ∗ cred (tallyAt (dC c 28) 5 aH)),
   atPos ER (dC c 22) 0 ∅ 0,
   iprop(atPos ER (dC c 19) 0 ∅ 0 ∗ cred (tallyAt (dC c 19) 7 aH)),
   atPos ER (dC c 13) 0 ∅ 0,
   iprop(atPos ER (crRC c) 0 ∅ 0 ∗ cred (tallyAt (crRC c) 6 1)),
   iprop(atPos ER (dC c 20) 0 ∅ 0 ∗ cred (tallyAt (dC c 20) 7 aH)),
   atPos ER (dC c 14) 0 ∅ 0,
   iprop(atPos ER (dC c 29) 0 ∅ 0 ∗ cred (tallyAt (dC c 29) 7 aH)),
   atPos ER (dC c 23) 0 ∅ 0,
   iprop(atPos ER (crLC c) 0 ∅ 0 ∗ cred (tallyAt (crLC c) 6 1)),
   iprop(atPos ER (dC c 30) 0 ∅ 0 ∗ cred (tallyAt (dC c 30) 7 aH)),
   atPos ER (dC c 24) 0 ∅ 0,
   cred (tallyAt (dC c 17) 8 aH),
   cred (tallyAt (dC c 18) 8 aH),
   cred (tallyAt (dC c 27) 8 aH),
   cred (tallyAt (dC c 28) 8 aH),
   atPos ER (dC c 15) 0 ∅ 0,
   atPos ER (dC c 16) 0 ∅ 0,
   atPos ER (dC c 25) 0 ∅ 0,
   atPos ER (dC c 26) 0 ∅ 0,
   atPos ER (dC c 5) 0 ∅ 0,
   atPos ER (dC c 6) 0 ∅ 0,
   atPos ER (dC c 7) 0 ∅ 0,
   atPos ER (dC c 31) 0 ∅ 0,
   atPos ER (dC c 32) 0 ∅ 0,
   atPos ER (dC c 33) 0 ∅ 0]

/-- The semaphores of the cells a device waits on inside the kernel, in the order of the first wait. -/
def ownL : List (SemLoc sig) :=
  [.dma 34, .dma 35, .dma 36, .dma 8, .dma 10, .dma 9, .dma 17, .dma 11, .dma 18, .dma 12, .dma 27, .dma 21, .dma 28, .dma 22, .dma 19, .dma 13, .reg crR, .dma 20, .dma 14, .dma 29, .dma 23, .reg crL, .dma 30, .dma 24, .dma 15, .dma 16, .dma 25, .dma 26, .dma 5, .dma 6, .dma 7, .dma 31, .dma 32, .dma 33]

theorem ownL_nodup : ownL.Nodup := by decide

/-! ## The launch's family of cells -/

/-- Which device pays with a token: read off the cell and the duty. -/
def payer (x : GSem nD τ sig × ℕ × Fin 3) : Dev nD :=
  match x.1.2 with
  | .reg s => if s.val = 2 then barFrom x.1.1.1 x.2.2 else if s.val = 0 then rgt x.1.1.1 else lft x.1.1.1
  | .dma s =>
    if s.val = 36 then opp x.1.1.1
    else if s.val = 34 ∨ s.val = 8 ∨ s.val = 9 ∨ (17 ≤ s.val ∧ s.val ≤ 20) then lft x.1.1.1
    else if s.val = 35 ∨ s.val = 10 ∨ (27 ≤ s.val ∧ s.val ≤ 30) then rgt x.1.1.1
    else x.1.1.1

theorem tokL_payer (c : Dev nD) : ∀ x ∈ (tokL c).flatten, payer x = c := by revert c; decide
theorem tokL_nodup (c : Dev nD) : (tokL c).flatten.Nodup := by revert c; decide

/-- The family: the barrier cell of each device, its dormant cells, the tokens it pays with. -/
def fam : Fam nD τ sig (Fin 3) 1 where
  bar := .reg barS
  dorm _ := ownL.toFinset
  toks c _ := (tokL c).flatten.toFinset
  semKey _ := 0
  hsem j _ _ := (Subsingleton.elim _ _)
  hbar _ := by decide
  tokKey x := (payer x, 0)
  htok c j x hx := by
    rw [tokL_payer c x (List.mem_toFinset.mp hx)]; exact congrArg (Prod.mk c) (Subsingleton.elim _ _)

theorem mem_dorm (j : Fin 1) (sm : SemLoc sig) (h : sm ∈ ownL) : sm ∈ fam.dorm j := List.mem_toFinset.mpr h

end Cert.KernelIdeal.Talk

end
-- ==== Proof.Steps.lean ====
/-
  One rule per kind of communication step of the kernel, over what a device carries from step to step: what it still
  owes with the tokens it pays by, the waits still to come, and the cells it has finished with.
-/
module

public import proofs.«01_k».proof.Proof.Proto

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (lv mayWait_of)
open Idealize.ShloMosaic.TalkSites (Pay tallyL tallyL_pos Fam)

variable {F : FTy → Type} [FloatOps F]

local notation "𝕄" => MT nD τ sig ℕ (Elt F) ℕ UU ℕ

/-- The body polls no cell. -/
abbrev 𝒱₀ : Variants := Variants.none

/-! ## Lists of resources -/

theorem sepL_cons {I : Type} (i : I) (l : List I) (Φ : I → sProp 𝕄) : bigSepL (i :: l) Φ = iprop(Φ i ∗ bigSepL l Φ) := bigSepL_cons i l Φ

theorem bigSepL_mem {I : Type} {l : List I} {Φ : I → sProp 𝕄} {i : I} (h : i ∈ l) : bigSepL l Φ ⊢ Φ i := by
  induction l with
  | nil => exact absurd h List.not_mem_nil
  | cons a l ih =>
    rw [sepL_cons]
    rcases List.mem_cons.mp h with rfl | h
    · iintro ⟨H, -⟩; iexact H
    · iintro ⟨-, H⟩; iapply (ih h); iexact H

theorem bigSepL_pers {I : Type} (l : List I) (Φ : I → sProp 𝕄) [∀ i, BI.Persistent (Φ i)] : BI.Persistent (bigSepL l Φ) := by
  induction l with
  | nil => show BI.Persistent (iprop(emp) : sProp 𝕄); infer_instance
  | cons a l ih => rw [sepL_cons]; infer_instance

/-! ## What a device carries -/

/-- The cells of the neighbours whose first round the barrier tells a device about. -/
def nbL (c : Dev nD) : List (GSem nD τ sig) :=
  [dC (rgt c) 34, dC (rgt c) 8, dC (rgt c) 9, dC (rgt c) 17, dC (rgt c) 18, dC (rgt c) 19, dC (rgt c) 20, crLC (rgt c),
   dC (lft c) 35, dC (lft c) 10, dC (lft c) 27, dC (lft c) 28, dC (lft c) 29, dC (lft c) 30, crRC (lft c), dC (opp c) 36]

section Step

variable (D : Cont F) (c : Dev nD) (κ : GSem nD τ sig → ℕ)

/-- What stays true: the cells' invariants, the levels, and that the device's own cells are at their first round. -/
def Pers : sProp 𝕄 :=
  iprop(fam.cellInvs ER (Rd D) κ ∗ levAts (SiteBlocks.L 9) lv ∗ bigSepL ownL fun sm => reached ER ((c.tc : Thread nD τ), sm) 0)
/-- What the barrier has told. -/
def Nb : sProp 𝕄 := bigSepL (nbL c) fun g => reached (ER (F := F)) g 0

instance Pers_persistent : BI.Persistent (Pers D c κ) := by
  unfold Pers
  have := bigSepL_pers (F := F) ownL (fun sm => reached ER ((c.tc : Thread nD τ), sm) 0)
  infer_instance
instance Nb_persistent : BI.Persistent (Nb (F := F) c) := bigSepL_pers _ _

/-- After `k` payments: what is owed, and the tokens left. -/
def Led (k : ℕ) : sProp 𝕄 :=
  iprop((∃ W, owes (c : Thread nD τ) (tallyL ((dueL c).drop k)) W) ∗ bigSepL ((tokL c).drop k) fun l => bigSepL l fun x => dutyTok (ER (F := F)) x.1 x.2.1 x.2.2)
/-- After `j` waits: what the waits to come need. -/
def Wts (j : ℕ) : sProp 𝕄 := bigSepL ((waitL (F := F) c).drop j) fun P => P
/-- The finished cells, at zero. -/
def Dn (l : List (SemLoc sig)) : sProp 𝕄 := bigSepL l fun sm => semVal ((c : Thread nD τ), sm) 0
/-- All three. -/
def St (k j : ℕ) (l : List (SemLoc sig)) : sProp 𝕄 := iprop(Led (F := F) c k ∗ Wts (F := F) c j ∗ Dn (F := F) c l)

variable {D c κ}

theorem Pers_inv {sm : SemLoc sig} (p : Dev nD) (h : sm ∈ ownL) : Pers D c κ ⊢ cellInv ER (Rd D) (κ ((p : Thread nD τ), sm)) ((p : Thread nD τ), sm) := by
  unfold Pers; iintro ⟨H, -⟩; iapply (fam.cellInvs_dorm ER (Rd D) κ p (mem_dorm 0 sm h)); iexact H
theorem Pers_bar (p : Dev nD) : Pers D c κ ⊢ cellInv ER (Rd D) (κ (barC p)) (barC p) := by
  unfold Pers; iintro ⟨H, -⟩; iapply (fam.cellInvs_bar ER (Rd D) κ p); iexact H
theorem Pers_lev : Pers D c κ ⊢ levAts (SiteBlocks.L 9) lv := by
  unfold Pers; iintro ⟨-, H, -⟩; iexact H
theorem Pers_reached {sm : SemLoc sig} (h : sm ∈ ownL) : Pers D c κ ⊢ reached ER ((c : Thread nD τ), sm) 0 := by
  unfold Pers; iintro ⟨-, -, H⟩; iapply (bigSepL_mem (Φ := fun sm => reached ER ((c : Thread nD τ), sm) 0) h); iexact H

/-- Everything owed after `k` payments is above level `i`. -/
def Above (c : Dev nD) (k i : ℕ) : Prop := ∀ x ∈ (dueL c).drop k, x.1.1.2 = .tc ∧ i < x.2.1 ∧ x.2.1 < 9
instance (c : Dev nD) (k i : ℕ) : Decidable (Above c k i) := by unfold Above; infer_instance

theorem mayWait {k i : ℕ} (h : Above c k i) (hi : i < 9) (sm : SemLoc sig) :
    Pers D c κ ⊢ MayWait (c : Thread nD τ) sm i (tallyL ((dueL c).drop k)) :=
  Pers_lev.trans (mayWait_of hi c sm _ fun g j hj => by
    obtain ⟨x, hx, rfl, rfl⟩ := tallyL_pos hj
    obtain ⟨h1, h2, h3⟩ := h x hx
    exact ⟨SiteBlocks.mem_L' h1 h3, h2⟩)

theorem drop_done {g : GSem nD τ sig} (h : dutiesOf g 1 = ∅) : ∀ r, 1 ≤ r → (Rd D).duties g r = ∅ := by
  intro r hr
  rcases Nat.lt_or_ge 1 r with h2 | h2
  · show dutiesOf g r = ∅
    unfold dutiesOf
    split
    · exact if_neg (by omega)
    · rw [if_neg (by omega), if_neg (by omega)]
  · obtain rfl : r = 1 := by omega
    exact h
theorem drop_done2 {g : GSem nD τ sig} : ∀ r, 2 ≤ r → (Rd D).duties g r = ∅ := by
  intro r h2
  show dutiesOf g r = ∅
  unfold dutiesOf
  split
  · exact if_neg (by omega)
  · rw [if_neg (by omega), if_neg (by omega)]

theorem expect_one {g : GSem nD τ sig} {r : ℕ} (h : dutiesOf g r = {0}) : (Rd D).expect g r = amountOf' g := by
  unfold Schedule.expect Schedule.amountOf
  rw [show (Rd D).duties g r = {0} from h]; exact Finset.sum_singleton _ _

theorem rest_one {g : GSem nD τ sig} {r : ℕ} (h : dutiesOf g r = {0}) :
    bigSep ((Rd D).duties g r \ ∅) (fun d => (Rd D).payload g r d) = (Rd D).payload g r 0 := by
  rw [show (Rd D).duties g r = {0} from h, Finset.sdiff_empty, bigSep_singleton]

/-- A wait for a cell's one-duty round: the round's payload, and the device at the next round. -/
theorem wait_core {w : TpuEff nD τ sig (Elt F) Λ₀ .tc PUnit} {sm : SemLoc sig} {k' N i r k : ℕ} {α : Type} {Q : α → sProp 𝕄} {kk : PUnit.{1} → Prog (TpuEff nD τ sig (Elt F) Λ₀ .tc) α} {X : sProp 𝕄}
    (hw : ∀ K : PUnit → sProp 𝕄, wpE (defs₀ (F := F)) 𝒱₀ (c : Thread nD τ) none Set.univ w K = waitSpec (c : Thread nD τ) Set.univ sm k' K)
    (hm : sm ∈ ownL) (hd : dutiesOf ((c : Thread nD τ), sm) r = {0}) (hN : amountOf' ((c : Thread nD τ), sm) = N) (hk : k' = N) (ha : Above c k i) (hi : i < 9)
    (hX : (Rd D).payload ((c : Thread nD τ), sm) r 0 = X) :
    iprop(Pers D c κ ∗ Led (F := F) c k ∗ atPos ER ((c : Thread nD τ), sm) r ∅ 0 ∗ cred (tallyAt ((c : Thread nD τ), sm) i N))
      ⊢ iprop(((Led (F := F) c k ∗ atPos ER ((c : Thread nD τ), sm) (r + 1) ∅ 0 ∗ reached ER ((c : Thread nD τ), sm) (r + 1) ∗ X)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hk hX
  iintro ⟨#HP, HL, Hat, Hc⟩ Hk
  unfold Led
  icases HL with ⟨⟨%W, HO⟩, HT⟩
  iapply (Rounds.wp_wait_rest_token 𝒱₀ ER (Rd D) (c : Thread nD τ) none (κ := κ ((c : Thread nD τ), sm)) hw (Set.mem_univ _) i
      (O := tallyL ((dueL c).drop k)) (W := W) (R := r) (m := 0) (T := ∅) (by rw [expect_one hd, hN, Nat.zero_add])) $$ [Hat Hc HO]
  · isplitr; · iapply (Pers_inv c hm); iexact HP
    isplitl [Hc]; · iexact Hc
    isplitl [HO]; · iexact HO
    isplitr; · iapply (mayWait ha hi sm); iexact HP
    iexact Hat
  iintro ⟨HO, Hat, Hr, Hpay⟩
  iapply Hk
  isplitl [HO HT]
  · isplitl [HO]; · iexists _; iexact HO
    iexact HT
  isplitl [Hat]; · iexact Hat
  isplitl [Hr]; · iexact Hr
  iapply (Entails.of_eq (rest_one hd)); iexact Hpay

theorem close_core {sm : SemLoc sig} {R : ℕ} (hm : sm ∈ ownL) (hR : ∀ r, R ≤ r → (Rd D).duties ((c : Thread nD τ), sm) r = ∅) :
    iprop(Pers D c κ ∗ atPos ER ((c : Thread nD τ), sm) R ∅ 0) ⊢ iprop(|={Set.univ}=> semVal ((c : Thread nD τ), sm) 0) := by
  iintro ⟨HP, Hat⟩
  iapply (Rounds.cell_close ER (Rd D) (Set.mem_univ (κ ((c : Thread nD τ), sm))) (fun h => h) hR)
  isplitl [HP]
  · iapply (Pers_inv c hm); iexact HP
  · iexact Hat

/-- The last wait on a landing cell of one round, its credit held since the launch. -/
theorem wait_recv {w : TpuEff nD τ sig (Elt F) Λ₀ .tc PUnit} {sm : SemLoc sig} {k' N i k j : ℕ} {l : List (SemLoc sig)} {α : Type} {Q : α → sProp 𝕄} {kk : PUnit.{1} → Prog (TpuEff nD τ sig (Elt F) Λ₀ .tc) α} {X : sProp 𝕄}
    (hw : ∀ K : PUnit → sProp 𝕄, wpE (defs₀ (F := F)) 𝒱₀ (c : Thread nD τ) none Set.univ w K = waitSpec (c : Thread nD τ) Set.univ sm k' K)
    (hj : (waitL (F := F) c).drop j = iprop(atPos ER ((c : Thread nD τ), sm) 0 ∅ 0 ∗ cred (tallyAt ((c : Thread nD τ), sm) i N)) :: (waitL (F := F) c).drop (j + 1))
    (hm : sm ∈ ownL) (hd : dutiesOf ((c : Thread nD τ), sm) 0 = {0}) (hd1 : dutiesOf ((c : Thread nD τ), sm) 1 = ∅) (hN : amountOf' ((c : Thread nD τ), sm) = N) (hk : k' = N) (ha : Above c k i) (hi : i < 9)
    (hX : (Rd D).payload ((c : Thread nD τ), sm) 0 0 = X) :
    iprop(Pers D c κ ∗ St (F := F) c k j l)
      ⊢ iprop(((St (F := F) c k (j + 1) (sm :: l) ∗ X)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  iintro ⟨#HP, HS⟩ Hk
  unfold St Wts
  rw [hj, sepL_cons]
  icases HS with ⟨HL, ⟨⟨Hat, Hc⟩, HW⟩, HD⟩
  iapply (wait_core (κ := κ) hw hm hd hN hk ha hi hX) $$ [HL Hat Hc]
  · isplitr; · iexact HP
    isplitl [HL]; · iexact HL
    isplitl [Hat]; · iexact Hat
    iexact Hc
  iintro ⟨HL, Hat, -, HX⟩
  imod (close_core (κ := κ) (D := D) hm (drop_done hd1)) $$ [Hat] with Hz
  · isplitr; · iexact HP
    iexact Hat
  iapply Hk
  isplitl [HL HW HD Hz]
  · isplitl [HL]; · iexact HL
    isplitl [HW]; · iexact HW
    unfold Dn; rw [sepL_cons]
    isplitl [Hz]; · iexact Hz
    iexact HD
  iexact HX

/-- The first of two waits on a landing cell. -/
theorem wait_first {w : TpuEff nD τ sig (Elt F) Λ₀ .tc PUnit} {sm : SemLoc sig} {k' N i k j : ℕ} {l : List (SemLoc sig)} {α : Type} {Q : α → sProp 𝕄} {kk : PUnit.{1} → Prog (TpuEff nD τ sig (Elt F) Λ₀ .tc) α} {X : sProp 𝕄}
    (hw : ∀ K : PUnit → sProp 𝕄, wpE (defs₀ (F := F)) 𝒱₀ (c : Thread nD τ) none Set.univ w K = waitSpec (c : Thread nD τ) Set.univ sm k' K)
    (hj : (waitL (F := F) c).drop j = iprop(atPos ER ((c : Thread nD τ), sm) 0 ∅ 0 ∗ cred (tallyAt ((c : Thread nD τ), sm) i N)) :: (waitL (F := F) c).drop (j + 1))
    (hm : sm ∈ ownL) (hd : dutiesOf ((c : Thread nD τ), sm) 0 = {0}) (hN : amountOf' ((c : Thread nD τ), sm) = N) (hk : k' = N) (ha : Above c k i) (hi : i < 9)
    (hX : (Rd D).payload ((c : Thread nD τ), sm) 0 0 = X) :
    iprop(Pers D c κ ∗ St (F := F) c k j l)
      ⊢ iprop(((St (F := F) c k (j + 1) l ∗ (atPos ER ((c : Thread nD τ), sm) 1 ∅ 0 ∗ reached ER ((c : Thread nD τ), sm) 1) ∗ X)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  iintro ⟨#HP, HS⟩ Hk
  unfold St Wts
  rw [hj, sepL_cons]
  icases HS with ⟨HL, ⟨⟨Hat, Hc⟩, HW⟩, HD⟩
  iapply (wait_core (κ := κ) hw hm hd hN hk ha hi hX) $$ [HL Hat Hc]
  · isplitr; · iexact HP
    isplitl [HL]; · iexact HL
    isplitl [Hat]; · iexact Hat
    iexact Hc
  iintro ⟨HL, Hat, Hr, HX⟩
  iapply Hk
  isplitl [HL HW HD]
  · isplitl [HL]; · iexact HL
    isplitl [HW]; · iexact HW
    iexact HD
  isplitl [Hat Hr]
  · isplitl [Hat]; · iexact Hat
    iexact Hr
  iexact HX

/-- The second of two waits on a landing cell. -/
theorem wait_second {w : TpuEff nD τ sig (Elt F) Λ₀ .tc PUnit} {sm : SemLoc sig} {k' N i k j : ℕ} {l : List (SemLoc sig)} {α : Type} {Q : α → sProp 𝕄} {kk : PUnit.{1} → Prog (TpuEff nD τ sig (Elt F) Λ₀ .tc) α} {X : sProp 𝕄}
    (hw : ∀ K : PUnit → sProp 𝕄, wpE (defs₀ (F := F)) 𝒱₀ (c : Thread nD τ) none Set.univ w K = waitSpec (c : Thread nD τ) Set.univ sm k' K)
    (hj : (waitL (F := F) c).drop j = cred (tallyAt ((c : Thread nD τ), sm) i N) :: (waitL (F := F) c).drop (j + 1))
    (hm : sm ∈ ownL) (hd : dutiesOf ((c : Thread nD τ), sm) 1 = {0}) (hN : amountOf' ((c : Thread nD τ), sm) = N) (hk : k' = N) (ha : Above c k i) (hi : i < 9)
    (hX : (Rd D).payload ((c : Thread nD τ), sm) 1 0 = X) :
    iprop(Pers D c κ ∗ St (F := F) c k j l ∗ atPos ER ((c : Thread nD τ), sm) 1 ∅ 0)
      ⊢ iprop(((St (F := F) c k (j + 1) (sm :: l) ∗ X)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  iintro ⟨#HP, HS, Hat⟩ Hk
  unfold St Wts
  rw [hj, sepL_cons]
  icases HS with ⟨HL, ⟨Hc, HW⟩, HD⟩
  iapply (wait_core (κ := κ) hw hm hd hN hk ha hi hX) $$ [HL Hat Hc]
  · isplitr; · iexact HP
    isplitl [HL]; · iexact HL
    isplitl [Hat]; · iexact Hat
    iexact Hc
  iintro ⟨HL, Hat, -, HX⟩
  imod (close_core (κ := κ) (D := D) hm drop_done2) $$ [Hat] with Hz
  · isplitr; · iexact HP
    iexact Hat
  iapply Hk
  isplitl [HL HW HD Hz]
  · isplitl [HL]; · iexact HL
    isplitl [HW]; · iexact HW
    unfold Dn; rw [sepL_cons]
    isplitl [Hz]; · iexact Hz
    iexact HD
  iexact HX

/-- The wait on a departure cell, its credit from the send. -/
theorem wait_sent {w : TpuEff nD τ sig (Elt F) Λ₀ .tc PUnit} {sm : SemLoc sig} {k' N k j : ℕ} {l : List (SemLoc sig)} {α : Type} {Q : α → sProp 𝕄} {kk : PUnit.{1} → Prog (TpuEff nD τ sig (Elt F) Λ₀ .tc) α} {X : sProp 𝕄}
    (hw : ∀ K : PUnit → sProp 𝕄, wpE (defs₀ (F := F)) 𝒱₀ (c : Thread nD τ) none Set.univ w K = waitSpec (c : Thread nD τ) Set.univ sm k' K)
    (hj : (waitL (F := F) c).drop j = atPos ER ((c : Thread nD τ), sm) 0 ∅ 0 :: (waitL (F := F) c).drop (j + 1))
    (hm : sm ∈ ownL) (hd : dutiesOf ((c : Thread nD τ), sm) 0 = {0}) (hd1 : dutiesOf ((c : Thread nD τ), sm) 1 = ∅) (hN : amountOf' ((c : Thread nD τ), sm) = N) (hk : k' = N) (ha : Above c k 0)
    (hX : (Rd D).payload ((c : Thread nD τ), sm) 0 0 = X) :
    iprop(Pers D c κ ∗ St (F := F) c k j l ∗ cred (tallyAt ((c : Thread nD τ), sm) 0 N))
      ⊢ iprop(((St (F := F) c k (j + 1) (sm :: l) ∗ X)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  iintro ⟨#HP, HS, Hc⟩ Hk
  unfold St Wts
  rw [hj, sepL_cons]
  icases HS with ⟨HL, ⟨Hat, HW⟩, HD⟩
  iapply (wait_core (κ := κ) hw hm hd hN hk ha (by decide) hX) $$ [HL Hat Hc]
  · isplitr; · iexact HP
    isplitl [HL]; · iexact HL
    isplitl [Hat]; · iexact Hat
    iexact Hc
  iintro ⟨HL, Hat, -, HX⟩
  imod (close_core (κ := κ) (D := D) hm (drop_done hd1)) $$ [Hat] with Hz
  · isplitr; · iexact HP
    iexact Hat
  iapply Hk
  isplitl [HL HW HD Hz]
  · isplitl [HL]; · iexact HL
    isplitl [HW]; · iexact HW
    unfold Dn; rw [sepL_cons]
    isplitl [Hz]; · iexact Hz
    iexact HD
  iexact HX

/-- A signal of one unit to device `n`'s cell, the `k`-th payment. -/
theorem signal_step {n p : Dev nD} (hn : n = p) {s : Sem sig} {u i k : ℕ} {d : Fin 3} {α : Type} {Q : α → sProp 𝕄} {kk : PUnit.{1} → Prog (TpuEff nD τ sig (Elt F) Λ₀ .tc) α} {κ' : ℕ}
    (hu : u = 1)
    (hdue : (dueL c).drop k = (((p : Thread nD τ), .reg s), i, 1) :: (dueL c).drop (k + 1))
    (htok : (tokL c).drop k = [(((p : Thread nD τ), .reg s), 0, d)] :: (tokL c).drop (k + 1))
    (hd : d ∈ dutiesOf ((p : Thread nD τ), .reg s) 0) :
    iprop(cellInv ER (Rd D) κ' ((p : Thread nD τ), .reg s) ∗ reached ER ((p : Thread nD τ), .reg s) 0 ∗ Led (F := F) c k ∗ (Rd D).payload ((p : Thread nD τ), .reg s) 0 d)
      ⊢ iprop((Led (F := F) c (k + 1) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) s u) kk) Q) := by
  subst hn hu
  iintro ⟨#HI, #Hr, HL, Hpay⟩ Hk
  unfold Led
  rw [hdue, htok, sepL_cons, sepL_cons]
  icases HL with ⟨⟨%W, HO⟩, ⟨Ht, -⟩, HT⟩
  iapply (Rounds.wp_signal 𝒱₀ ER (Rd D) (c : Thread nD τ) none (dst := (n : Thread nD τ)) (κ := κ') (r := 0) (d := d)
      hd rfl i (tallyL ((dueL c).drop (k + 1))) (add_comm _ _)) $$ [HO Ht Hpay]
  · isplitr; · iexact HI
    isplitl [HO]; · iexact HO
    isplitl [Ht]; · iexact Ht
    isplitl [Hpay]; · iexact Hpay
    iexact Hr
  iintro HO
  iapply Hk
  isplitl [HO]; · iexists W; iexact HO
  iexact HT

/-- A transfer to device `n`, the `k`-th payment: the source is lent, the destination given. -/
theorem send_step {n p : Dev nD} (hn : n = p) {s : Shape} {e : EltTy} {src dst : Memref sig .tc .vmem s e} {kS kR : DmaSem sig} {N i k r : ℕ}
    {hsc : dst.view.ref.isScScratch = false} {hsrc : src.view.WordExact} {hdst : dst.view.WordExact}
    {hsem : DmaTarget.Typed .vmem (.dma kR) (.remote (Dev.tc n : Thread nD τ) dst (.dma kS) hsc)}
    {α : Type} {Q : α → sProp 𝕄} {kk : PUnit.{1} → Prog (TpuEff nD τ sig (Elt F) Λ₀ .tc) α} {q : PosShare TreeShare} {fs : Buf (Elt F) (src.view.loc (c : Thread nD τ))} {g : Buf (Elt F) (dst.view.loc (p : Thread nD τ))}
    (hdue : (dueL c).drop k = (((p : Thread nD τ), .dma kR), i, N) :: (dueL c).drop (k + 1))
    (htok : (tokL c).drop k = [(((c : Thread nD τ), .dma kS), 0, 0), (((p : Thread nD τ), .dma kR), r, 0)] :: (tokL c).drop (k + 1))
    (hmS : SemLoc.dma kS ∈ ownL) (hmR : SemLoc.dma kR ∈ ownL) (hN : dst.view.dmaCredit = N)
    (hkS : amountOf' ((c : Thread nD τ), .dma kS) = N) (hkR : amountOf' ((p : Thread nD τ), .dma kR) = N)
    (hdS : dutiesOf ((c : Thread nD τ), .dma kS) 0 = {0}) (hdR : dutiesOf ((p : Thread nD τ), .dma kR) r = {0})
    (hpS : (Rd D).payload ((c : Thread nD τ), .dma kS) 0 0 = (src.view.loc (c : Thread nD τ) ↦[src.view.set]{q} fs))
    (hpR : (Rd D).payload ((p : Thread nD τ), .dma kR) r 0 = (dst.view.loc (p : Thread nD τ) ↦[dst.view.set]{fullShare} g))
    (hrd : src.view.read (Elt F) fs = dst.view.read (Elt F) g) :
    iprop(Pers D c κ ∗ reached ER ((p : Thread nD τ), .dma kR) r ∗ Led (F := F) c k ∗ (src.view.loc (c : Thread nD τ) ↦[src.view.set]{q} fs) ∗ any (F := F) p dst)
      ⊢ iprop(((Led (F := F) c (k + 1) ∗ cred (tallyAt ((c : Thread nD τ), .dma kS) 0 N)) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma src (.remote (Dev.tc n : Thread nD τ) dst (.dma kS) hsc) (.dma kR) hsrc hdst hsem) kk) Q) := by
  subst hn
  iintro ⟨#HP, #Hr, HL, Hs, ⟨%fd, Hd⟩⟩ Hk
  unfold Led
  rw [hdue, htok, sepL_cons, sepL_cons, sepL_cons]
  icases HL with ⟨⟨%W, HO⟩, ⟨Ht1, Ht2, -⟩, HT⟩
  iapply (Rounds.wp_send_pointsTo 𝒱₀ ER (Rd D) (c : Thread nD τ) none (κ₁ := κ ((c : Thread nD τ), .dma kS)) (κ₂ := κ ((n : Thread nD τ), .dma kR))
      (r₁ := 0) (r₂ := r) (d₁ := 0) (d₂ := 0) (fd := fd)
      (by rw [show (Rd D).duties ((c : Thread nD τ), .dma kS) 0 = {0} from hdS]; exact Finset.mem_singleton_self _)
      (by rw [show (Rd D).duties ((n : Thread nD τ), .dma kR) r = {0} from hdR]; exact Finset.mem_singleton_self _)
      i 0 N (show dst.view.amount (.dma kR) = N from hN) (show (Rd D).amount ((c : Thread nD τ), .dma kS) 0 0 = N from hkS)
      (show (Rd D).amount ((n : Thread nD τ), .dma kR) r 0 = N from hkR) (tallyL ((dueL c).drop (k + 1))) (add_comm _ _) (W := W)
      (Entails.of_eq hpS.symm)
      (by
        rw [hpR, hrd, View.write_read_eq_piecewise]
        exact Entails.of_eq (pointsTo_congr fun x hx => Finset.piecewise_eq_of_mem _ _ _ hx))) $$ [Hs Hd HO Ht1 Ht2]
  · isplitr; · iapply (Pers_inv c hmS); iexact HP
    isplitr; · iapply (Pers_inv n hmR); iexact HP
    isplitl [Hs]; · iexact Hs
    isplitl [Hd]; · iexact Hd
    isplitl [HO]; · iexact HO
    isplitl [Ht1]; · iexact Ht1
    isplitr; · iapply (Pers_reached hmS); iexact HP
    isplitl [Ht2]; · iexact Ht2
    iexact Hr
  iintro ⟨Hc, HO⟩
  iapply Hk
  isplitr [Hc]
  · isplitl [HO]; · iexists W; iexact HO
    iexact HT
  iexact Hc

end Step

end Cert.KernelIdeal.Talk

end
-- ==== Proof.Mem.lean ====
/-
  Loads and stores at a piece of a buffer, and the splitting of a buffer into its pieces.
-/
module

public import proofs.«01_k».proof.Proof.Steps
public import Idealize.ShloMosaic.Lib.Pipeline.Value
public import Idealize.ShloMosaic.Lib.ValueLayout

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-- The elements of a piece are those of the rectangle it squeezes. -/
theorem set_squeeze {s : Shape} {e : EltTy} (M : Memref sig .tc .vmem s e) (r : Rect s) (h : ∀ a, r.stride a = 1) (s' : Shape)
    (hq : r.shape.Squeezes s') : (M.access r).set = ((M.slice r h).squeeze s' hq).view.set :=
  (View.set_reshape (M.view.slice r) _).symm

/-- The elements a load of a rectangle reads are those of the piece the rectangle bounds. -/
theorem incl_slice {s : Shape} {e : EltTy} (M : Memref sig .tc .vmem s e) (r : Rect s) (h : ∀ a, r.stride a = 1) :
    M.view.setOn r.toLoadRect.set ⊆ (M.slice r h).view.set := by
  rw [show (M.slice r h).view.set = (M.view.slice r).set from rfl, View.set_slice]; exact Finset.Subset.refl _

theorem incl_squeeze {s : Shape} {e : EltTy} (M : Memref sig .tc .vmem s e) (r : Rect s) (h : ∀ a, r.stride a = 1) (s' : Shape)
    (hq : r.shape.Squeezes s') : M.view.setOn r.toLoadRect.set ⊆ ((M.slice r h).squeeze s' hq).view.set := by
  rw [← set_squeeze]; exact incl_slice M r h

/-- A store of a rectangle, at the contents the piece is to have. -/
theorem st_at {c : Dev nD} {s : Shape} {e : EltTy} {M : Memref sig .tc .vmem s e} {r : Rect s} {w : r.shape.Idx → Elt F e}
    {hx : (M.access r).Stores Finset.univ} {hm : (Finset.univ : Finset r.shape.Idx) = Finset.univ ∨ ∀ a, r.stride a = 1}
    {α : Type} {Q : α → sProp 𝕄} {kk : PUnit.{1} → Prog (TpuEff nD τ sig (Elt F) Λ₀ .tc) α}
    {S : Finset (Idx ((M.access r).loc (c : Thread nD τ)))} {f : Buf (Elt F) ((M.access r).loc (c : Thread nD τ))} (G : Buf (Elt F) ((M.access r).loc (c : Thread nD τ)))
    (hS : (M.access r).set = S) (hG : (M.access r).read (Elt F) G = w) :
    ((M.access r).loc (c : Thread nD τ) ↦[S]{fullShare} f)
      ⊢ iprop((((M.access r).loc (c : Thread nD τ) ↦[S]{fullShare} G) -∗ wp frame (wpE (defs₀ (F := F)) 𝒱₀ (c : Thread nD τ) none) Set.univ (kk ⟨⟩) Q)
          -∗ wp frame (wpE (defs₀ (F := F)) 𝒱₀ (c : Thread nD τ) none) Set.univ (.op (.store M r w Finset.univ hx hm) kk) Q) := by
  subst hS hG
  iintro H Hk
  iapply (wp_store 𝒱₀ (c : Thread nD τ) none Set.univ (f := f) (S := (M.access r).set) (Finset.Subset.refl _)) $$ H
  iintro H
  iapply Hk
  iapply (Entails.of_eq (pointsTo_congr (fun x hx => by
    rw [View.write_read_eq_piecewise]; exact Finset.piecewise_eq_of_mem _ _ _ hx))) $$ H

/-! ## What a transferred matrix reads as -/

/-- Slot 0 of the received route ids, at the staged ids, reads as they do. -/
theorem rd_r0 (A : Vec F S2048x1 .i32) : rM.view.read (Elt F) A = rc0.view.read (Elt F) (up A) := by
  rw [show rc0.view.read (Elt F) (up A) = _ from Memref.read_squeeze_slice _ _ _ _ (show S1x2048x1.ShapeCasts S2048x1 by decide) _]
  funext x
  obtain ⟨i, j, rfl⟩ : ∃ i j, x = ix2 i j := ⟨x 0, x 1, by funext a; match a with | 0 => rfl | 1 => rfl⟩
  rw [shapeCast_1ab_ab_apply]
  show A _ = A _
  congr 1
  funext a; match a with | 0 => exact Fin.ext (show i.val = 0 + 1 * i.val by omega) | 1 => exact Fin.ext (show j.val = 0 + 1 * j.val by omega)

/-- Slot 1 of the received route ids, at the staged ids, reads as they do. -/
theorem rd_r1 (A : Vec F S2048x1 .i32) : rM.view.read (Elt F) A = rc1.view.read (Elt F) (up A) := by
  rw [show rc1.view.read (Elt F) (up A) = _ from Memref.read_squeeze_slice _ _ _ _ (show S1x2048x1.ShapeCasts S2048x1 by decide) _]
  funext x
  obtain ⟨i, j, rfl⟩ : ∃ i j, x = ix2 i j := ⟨x 0, x 1, by funext a; match a with | 0 => rfl | 1 => rfl⟩
  rw [shapeCast_1ab_ab_apply]
  show A _ = A _
  congr 1
  funext a; match a with | 0 => exact Fin.ext (show i.val = 0 + 1 * i.val by omega) | 1 => exact Fin.ext (show j.val = 0 + 1 * j.val by omega)

/-- Slot 2 of the received route ids, at the staged ids, reads as they do. -/
theorem rd_r2 (A : Vec F S2048x1 .i32) : rM.view.read (Elt F) A = rc2.view.read (Elt F) (up A) := by
  rw [show rc2.view.read (Elt F) (up A) = _ from Memref.read_squeeze_slice _ _ _ _ (show S1x2048x1.ShapeCasts S2048x1 by decide) _]
  funext x
  obtain ⟨i, j, rfl⟩ : ∃ i j, x = ix2 i j := ⟨x 0, x 1, by funext a; match a with | 0 => rfl | 1 => rfl⟩
  rw [shapeCast_1ab_ab_apply]
  show A _ = A _
  congr 1
  funext a; match a with | 0 => exact Fin.ext (show i.val = 0 + 1 * i.val by omega) | 1 => exact Fin.ext (show j.val = 0 + 1 * j.val by omega)

/-- Slot 0 of the received tokens, at the staged tokens, reads as they do. -/
theorem rd_x0 (A : Vec F S2048x512 .bf16) : xM.view.read (Elt F) A = xg0.view.read (Elt F) (up A) := by
  rw [show xg0.view.read (Elt F) (up A) = _ from Memref.read_squeeze_slice _ _ _ _ (show S1x2048x512.ShapeCasts S2048x512 by decide) _]
  funext x
  obtain ⟨i, j, rfl⟩ : ∃ i j, x = ix2 i j := ⟨x 0, x 1, by funext a; match a with | 0 => rfl | 1 => rfl⟩
  rw [shapeCast_1ab_ab_apply]
  show A _ = A _
  congr 1
  funext a; match a with | 0 => exact Fin.ext (show i.val = 0 + 1 * i.val by omega) | 1 => exact Fin.ext (show j.val = 0 + 1 * j.val by omega)

/-- Slot 2 of the received tokens, at the staged tokens, reads as they do. -/
theorem rd_x2 (A : Vec F S2048x512 .bf16) : xM.view.read (Elt F) A = xg2.view.read (Elt F) (up A) := by
  rw [show xg2.view.read (Elt F) (up A) = _ from Memref.read_squeeze_slice _ _ _ _ (show S1x2048x512.ShapeCasts S2048x512 by decide) _]
  funext x
  obtain ⟨i, j, rfl⟩ : ∃ i j, x = ix2 i j := ⟨x 0, x 1, by funext a; match a with | 0 => rfl | 1 => rfl⟩
  rw [shapeCast_1ab_ab_apply]
  show A _ = A _
  congr 1
  funext a; match a with | 0 => exact Fin.ext (show i.val = 0 + 1 * i.val by omega) | 1 => exact Fin.ext (show j.val = 0 + 1 * j.val by omega)

/-! ## The pieces a device keeps for itself -/

/-- Slot 0 of the kept masks. -/
abbrev ks0 : Memref sig .tc .vmem S1x2048x8 .bf16 :=
  (Memref.whole cc0_scratch0 : Memref sig .tc .vmem S4x2048x8 .bf16).slice (Rect.unit (s := S4x2048x8) ![0, 0, 0] S1x2048x8.size inb_S4x2048x8_S1x2048x8_0_0_0) (fun _ => rfl)
/-- Slot 1 of the kept masks. -/
abbrev ks1 : Memref sig .tc .vmem S1x2048x8 .bf16 :=
  (Memref.whole cc0_scratch0 : Memref sig .tc .vmem S4x2048x8 .bf16).slice (Rect.unit (s := S4x2048x8) ![1, 0, 0] S1x2048x8.size inb_S4x2048x8_S1x2048x8_1_0_0) (fun _ => rfl)
/-- Slot 2 of the kept masks. -/
abbrev ks2 : Memref sig .tc .vmem S1x2048x8 .bf16 :=
  (Memref.whole cc0_scratch0 : Memref sig .tc .vmem S4x2048x8 .bf16).slice (Rect.unit (s := S4x2048x8) ![2, 0, 0] S1x2048x8.size inb_S4x2048x8_S1x2048x8_2_0_0) (fun _ => rfl)
/-- Slot 3 of the kept masks. -/
abbrev ks3 : Memref sig .tc .vmem S1x2048x8 .bf16 :=
  (Memref.whole cc0_scratch0 : Memref sig .tc .vmem S4x2048x8 .bf16).slice (Rect.unit (s := S4x2048x8) ![3, 0, 0] S1x2048x8.size inb_S4x2048x8_S1x2048x8_3_0_0) (fun _ => rfl)
/-- The left half of the columns for the opposite device; -/
abbrev dl : Memref sig .tc .vmem S2048x512 .bf16 :=
  (Memref.whole cc0_scratch2 : Memref sig .tc .vmem S2048x1024 .bf16).slice (Rect.unit (s := S2048x1024) ![0, 0] S2048x512.size inb_S2048x1024_S2048x512_0_0) (fun _ => rfl)
/-- the right half. -/
abbrev dh : Memref sig .tc .vmem S2048x512 .bf16 :=
  (Memref.whole cc0_scratch2 : Memref sig .tc .vmem S2048x1024 .bf16).slice (Rect.unit (s := S2048x1024) ![0, 512] S2048x512.size inb_S2048x1024_S2048x512_0_512) (fun _ => rfl)
/-- The left half of the columns for the right neighbour; -/
abbrev dp : Memref sig .tc .vmem S2048x512 .bf16 :=
  (Memref.whole cc0_scratch3 : Memref sig .tc .vmem S2048x512 .bf16).slice (Rect.unit (s := S2048x512) ![0, 0] S2048x512.size inb_S2048x512_S2048x512_0_0) (fun _ => rfl)
/-- the right half of the columns for the left neighbour. -/
abbrev dm : Memref sig .tc .vmem S2048x512 .bf16 :=
  (Memref.whole cc0_scratch4 : Memref sig .tc .vmem S2048x512 .bf16).slice (Rect.unit (s := S2048x512) ![0, 0] S2048x512.size inb_S2048x512_S2048x512_0_0) (fun _ => rfl)
/-- The left half of the columns of the device's own tokens; -/
abbrev wl : Memref sig .tc .vmem S2048x512 .bf16 :=
  (Memref.whole cc0_scratch5 : Memref sig .tc .vmem S2048x1024 .bf16).slice (Rect.unit (s := S2048x1024) ![0, 0] S2048x512.size inb_S2048x1024_S2048x512_0_0) (fun _ => rfl)
/-- the right half. -/
abbrev wh : Memref sig .tc .vmem S2048x512 .bf16 :=
  (Memref.whole cc0_scratch5 : Memref sig .tc .vmem S2048x1024 .bf16).slice (Rect.unit (s := S2048x1024) ![0, 512] S2048x512.size inb_S2048x1024_S2048x512_0_512) (fun _ => rfl)
/-- Slot 0 of the outgoing accumulators. -/
abbrev as0 : Memref sig .tc .vmem S1x2048x512 .bf16 :=
  (Memref.whole cc0_scratch6 : Memref sig .tc .vmem S2x2048x512 .bf16).slice (Rect.unit (s := S2x2048x512) ![0, 0, 0] S1x2048x512.size inb_S2x2048x512_S1x2048x512_0_0_0) (fun _ => rfl)
/-- Slot 1 of the outgoing accumulators. -/
abbrev as1 : Memref sig .tc .vmem S1x2048x512 .bf16 :=
  (Memref.whole cc0_scratch6 : Memref sig .tc .vmem S2x2048x512 .bf16).slice (Rect.unit (s := S2x2048x512) ![1, 0, 0] S1x2048x512.size inb_S2x2048x512_S1x2048x512_1_0_0) (fun _ => rfl)
/-- The quadrant of the result from row 0 and column 0. -/
abbrev ou00 : Memref sig .tc .vmem S1024x512 .f32 :=
  (Memref.whole cc0_stg4_0 : Memref sig .tc .vmem S2048x1024 .f32).slice (Rect.unit (s := S2048x1024) ![0, 0] S1024x512.size inb_S2048x1024_S1024x512_0_0) (fun _ => rfl)
/-- The quadrant of the result from row 0 and column 512. -/
abbrev ou01 : Memref sig .tc .vmem S1024x512 .f32 :=
  (Memref.whole cc0_stg4_0 : Memref sig .tc .vmem S2048x1024 .f32).slice (Rect.unit (s := S2048x1024) ![0, 512] S1024x512.size inb_S2048x1024_S1024x512_0_512) (fun _ => rfl)
/-- The quadrant of the result from row 1024 and column 0. -/
abbrev ou10 : Memref sig .tc .vmem S1024x512 .f32 :=
  (Memref.whole cc0_stg4_0 : Memref sig .tc .vmem S2048x1024 .f32).slice (Rect.unit (s := S2048x1024) ![1024, 0] S1024x512.size inb_S2048x1024_S1024x512_1024_0) (fun _ => rfl)
/-- The quadrant of the result from row 1024 and column 512. -/
abbrev ou11 : Memref sig .tc .vmem S1024x512 .f32 :=
  (Memref.whole cc0_stg4_0 : Memref sig .tc .vmem S2048x1024 .f32).slice (Rect.unit (s := S2048x1024) ![1024, 512] S1024x512.size inb_S2048x1024_S1024x512_1024_512) (fun _ => rfl)

/-! ## Buffers and their pieces -/

/-- Some contents at a set of elements. -/
def some_ {c : Dev nD} {b : Ref sig .tc} (S : Finset (Idx ((c : Thread nD τ).loc b))) : sProp 𝕄 :=
  iprop(∃ f, ((c : Thread nD τ).loc b) ↦[S]{fullShare} f)

theorem some_union {c : Dev nD} {b : Ref sig .tc} {S A B : Finset (Idx ((c : Thread nD τ).loc b))} (h : Disjoint A B) (hS : S = A ∪ B) :
    some_ (F := F) S ⊣⊢ iprop(some_ (F := F) A ∗ some_ (F := F) B) := by
  subst hS
  unfold some_
  constructor
  · iintro ⟨%f, H⟩
    icases (pointsTo_union h).1 $$ H with ⟨H1, H2⟩
    isplitl [H1]; · iexists f; iexact H1
    iexists f; iexact H2
  · iintro ⟨⟨%f, H1⟩, ⟨%g, H2⟩⟩
    iexists _
    iapply (pointsTo_join h)
    isplitl [H1]; · iexact H1
    iexact H2

theorem mem_sl {b : Ref sig .tc} (off size : Fin b.ty.shape.rank → ℕ) (inb : ∀ a, off a + size a ≤ b.ty.shape.size a) (i : b.ty.shape.Idx) :
    i ∈ ((View.whole b).slice (Rect.unit off size inb)).set ↔ ∀ a, off a ≤ (i a).val ∧ (i a).val < off a + size a := by
  rw [View.set_slice_whole, Rect.mem_set_unit]

theorem all2 {p : Fin 2 → Prop} : (∀ a, p a) ↔ p 0 ∧ p 1 := ⟨fun h => ⟨h 0, h 1⟩, fun ⟨h0, h1⟩ a => by match a with | 0 => exact h0 | 1 => exact h1⟩
theorem all3 {p : Fin 3 → Prop} : (∀ a, p a) ↔ p 0 ∧ p 1 ∧ p 2 :=
  ⟨fun h => ⟨h 0, h 1, h 2⟩, fun ⟨h0, h1, h2⟩ a => by match a with | 0 => exact h0 | 1 => exact h1 | 2 => exact h2⟩

theorem mem_ks0 (i : (cc0_scratch0 : Ref sig .tc).ty.Idx) : i ∈ ks0.view.set ↔ (0 ≤ (i 0).val ∧ (i 0).val < 0 + 1) ∧ (0 ≤ (i 1).val ∧ (i 1).val < 0 + 2048) ∧ (0 ≤ (i 2).val ∧ (i 2).val < 0 + 8) := (mem_sl (b := cc0_scratch0) _ _ _ i).trans all3
theorem mem_ks1 (i : (cc0_scratch0 : Ref sig .tc).ty.Idx) : i ∈ ks1.view.set ↔ (1 ≤ (i 0).val ∧ (i 0).val < 1 + 1) ∧ (0 ≤ (i 1).val ∧ (i 1).val < 0 + 2048) ∧ (0 ≤ (i 2).val ∧ (i 2).val < 0 + 8) := (mem_sl (b := cc0_scratch0) _ _ _ i).trans all3
theorem mem_ks2 (i : (cc0_scratch0 : Ref sig .tc).ty.Idx) : i ∈ ks2.view.set ↔ (2 ≤ (i 0).val ∧ (i 0).val < 2 + 1) ∧ (0 ≤ (i 1).val ∧ (i 1).val < 0 + 2048) ∧ (0 ≤ (i 2).val ∧ (i 2).val < 0 + 8) := (mem_sl (b := cc0_scratch0) _ _ _ i).trans all3
theorem mem_ks3 (i : (cc0_scratch0 : Ref sig .tc).ty.Idx) : i ∈ ks3.view.set ↔ (3 ≤ (i 0).val ∧ (i 0).val < 3 + 1) ∧ (0 ≤ (i 1).val ∧ (i 1).val < 0 + 2048) ∧ (0 ≤ (i 2).val ∧ (i 2).val < 0 + 8) := (mem_sl (b := cc0_scratch0) _ _ _ i).trans all3
theorem mem_xg0 (i : (cc0_scratch1 : Ref sig .tc).ty.Idx) : i ∈ xg0.view.set ↔ (0 ≤ (i 0).val ∧ (i 0).val < 0 + 1) ∧ (0 ≤ (i 1).val ∧ (i 1).val < 0 + 2048) ∧ (0 ≤ (i 2).val ∧ (i 2).val < 0 + 512) := by
  rw [show (xg0.view.set : Finset (cc0_scratch1 : Ref sig .tc).ty.Idx) = _ from (set_squeeze _ _ _ _ _).symm]
  exact (mem_sl (b := cc0_scratch1) _ _ _ i).trans all3
theorem mem_rc0 (i : (cc0_scratch9 : Ref sig .tc).ty.Idx) : i ∈ rc0.view.set ↔ (0 ≤ (i 0).val ∧ (i 0).val < 0 + 1) ∧ (0 ≤ (i 1).val ∧ (i 1).val < 0 + 2048) ∧ (0 ≤ (i 2).val ∧ (i 2).val < 0 + 1) := by
  rw [show (rc0.view.set : Finset (cc0_scratch9 : Ref sig .tc).ty.Idx) = _ from (set_squeeze _ _ _ _ _).symm]
  exact (mem_sl (b := cc0_scratch9) _ _ _ i).trans all3
theorem mem_xg1 (i : (cc0_scratch1 : Ref sig .tc).ty.Idx) : i ∈ xg1.view.set ↔ (1 ≤ (i 0).val ∧ (i 0).val < 1 + 1) ∧ (0 ≤ (i 1).val ∧ (i 1).val < 0 + 2048) ∧ (0 ≤ (i 2).val ∧ (i 2).val < 0 + 512) := by
  rw [show (xg1.view.set : Finset (cc0_scratch1 : Ref sig .tc).ty.Idx) = _ from (set_squeeze _ _ _ _ _).symm]
  exact (mem_sl (b := cc0_scratch1) _ _ _ i).trans all3
theorem mem_rc1 (i : (cc0_scratch9 : Ref sig .tc).ty.Idx) : i ∈ rc1.view.set ↔ (1 ≤ (i 0).val ∧ (i 0).val < 1 + 1) ∧ (0 ≤ (i 1).val ∧ (i 1).val < 0 + 2048) ∧ (0 ≤ (i 2).val ∧ (i 2).val < 0 + 1) := by
  rw [show (rc1.view.set : Finset (cc0_scratch9 : Ref sig .tc).ty.Idx) = _ from (set_squeeze _ _ _ _ _).symm]
  exact (mem_sl (b := cc0_scratch9) _ _ _ i).trans all3
theorem mem_xg2 (i : (cc0_scratch1 : Ref sig .tc).ty.Idx) : i ∈ xg2.view.set ↔ (2 ≤ (i 0).val ∧ (i 0).val < 2 + 1) ∧ (0 ≤ (i 1).val ∧ (i 1).val < 0 + 2048) ∧ (0 ≤ (i 2).val ∧ (i 2).val < 0 + 512) := by
  rw [show (xg2.view.set : Finset (cc0_scratch1 : Ref sig .tc).ty.Idx) = _ from (set_squeeze _ _ _ _ _).symm]
  exact (mem_sl (b := cc0_scratch1) _ _ _ i).trans all3
theorem mem_rc2 (i : (cc0_scratch9 : Ref sig .tc).ty.Idx) : i ∈ rc2.view.set ↔ (2 ≤ (i 0).val ∧ (i 0).val < 2 + 1) ∧ (0 ≤ (i 1).val ∧ (i 1).val < 0 + 2048) ∧ (0 ≤ (i 2).val ∧ (i 2).val < 0 + 1) := by
  rw [show (rc2.view.set : Finset (cc0_scratch9 : Ref sig .tc).ty.Idx) = _ from (set_squeeze _ _ _ _ _).symm]
  exact (mem_sl (b := cc0_scratch9) _ _ _ i).trans all3
theorem mem_dl (i : (cc0_scratch2 : Ref sig .tc).ty.Idx) : i ∈ dl.view.set ↔ (0 ≤ (i 0).val ∧ (i 0).val < 0 + 2048) ∧ (0 ≤ (i 1).val ∧ (i 1).val < 0 + 512) := (mem_sl (b := cc0_scratch2) _ _ _ i).trans all2
theorem mem_dh (i : (cc0_scratch2 : Ref sig .tc).ty.Idx) : i ∈ dh.view.set ↔ (0 ≤ (i 0).val ∧ (i 0).val < 0 + 2048) ∧ (512 ≤ (i 1).val ∧ (i 1).val < 512 + 512) := (mem_sl (b := cc0_scratch2) _ _ _ i).trans all2
theorem mem_wl (i : (cc0_scratch5 : Ref sig .tc).ty.Idx) : i ∈ wl.view.set ↔ (0 ≤ (i 0).val ∧ (i 0).val < 0 + 2048) ∧ (0 ≤ (i 1).val ∧ (i 1).val < 0 + 512) := (mem_sl (b := cc0_scratch5) _ _ _ i).trans all2
theorem mem_wh (i : (cc0_scratch5 : Ref sig .tc).ty.Idx) : i ∈ wh.view.set ↔ (0 ≤ (i 0).val ∧ (i 0).val < 0 + 2048) ∧ (512 ≤ (i 1).val ∧ (i 1).val < 512 + 512) := (mem_sl (b := cc0_scratch5) _ _ _ i).trans all2
theorem mem_dp (i : (cc0_scratch3 : Ref sig .tc).ty.Idx) : i ∈ dp.view.set ↔ (0 ≤ (i 0).val ∧ (i 0).val < 0 + 2048) ∧ (0 ≤ (i 1).val ∧ (i 1).val < 0 + 512) := (mem_sl (b := cc0_scratch3) _ _ _ i).trans all2
theorem mem_dm (i : (cc0_scratch4 : Ref sig .tc).ty.Idx) : i ∈ dm.view.set ↔ (0 ≤ (i 0).val ∧ (i 0).val < 0 + 2048) ∧ (0 ≤ (i 1).val ∧ (i 1).val < 0 + 512) := (mem_sl (b := cc0_scratch4) _ _ _ i).trans all2
theorem mem_as0 (i : (cc0_scratch6 : Ref sig .tc).ty.Idx) : i ∈ as0.view.set ↔ (0 ≤ (i 0).val ∧ (i 0).val < 0 + 1) ∧ (0 ≤ (i 1).val ∧ (i 1).val < 0 + 2048) ∧ (0 ≤ (i 2).val ∧ (i 2).val < 0 + 512) := (mem_sl (b := cc0_scratch6) _ _ _ i).trans all3
theorem mem_as1 (i : (cc0_scratch6 : Ref sig .tc).ty.Idx) : i ∈ as1.view.set ↔ (1 ≤ (i 0).val ∧ (i 0).val < 1 + 1) ∧ (0 ≤ (i 1).val ∧ (i 1).val < 0 + 2048) ∧ (0 ≤ (i 2).val ∧ (i 2).val < 0 + 512) := (mem_sl (b := cc0_scratch6) _ _ _ i).trans all3
theorem mem_ac00 (i : (cc0_scratch6 : Ref sig .tc).ty.Idx) : i ∈ ac00.view.set ↔ (0 ≤ (i 0).val ∧ (i 0).val < 0 + 1) ∧ (0 ≤ (i 1).val ∧ (i 1).val < 0 + 1024) ∧ (0 ≤ (i 2).val ∧ (i 2).val < 0 + 512) := by
  rw [show (ac00.view.set : Finset (cc0_scratch6 : Ref sig .tc).ty.Idx) = _ from (set_squeeze _ _ _ _ _).symm]
  exact (mem_sl (b := cc0_scratch6) _ _ _ i).trans all3
theorem mem_ac01 (i : (cc0_scratch6 : Ref sig .tc).ty.Idx) : i ∈ ac01.view.set ↔ (0 ≤ (i 0).val ∧ (i 0).val < 0 + 1) ∧ (1024 ≤ (i 1).val ∧ (i 1).val < 1024 + 1024) ∧ (0 ≤ (i 2).val ∧ (i 2).val < 0 + 512) := by
  rw [show (ac01.view.set : Finset (cc0_scratch6 : Ref sig .tc).ty.Idx) = _ from (set_squeeze _ _ _ _ _).symm]
  exact (mem_sl (b := cc0_scratch6) _ _ _ i).trans all3
theorem mem_ac10 (i : (cc0_scratch6 : Ref sig .tc).ty.Idx) : i ∈ ac10.view.set ↔ (1 ≤ (i 0).val ∧ (i 0).val < 1 + 1) ∧ (0 ≤ (i 1).val ∧ (i 1).val < 0 + 1024) ∧ (0 ≤ (i 2).val ∧ (i 2).val < 0 + 512) := by
  rw [show (ac10.view.set : Finset (cc0_scratch6 : Ref sig .tc).ty.Idx) = _ from (set_squeeze _ _ _ _ _).symm]
  exact (mem_sl (b := cc0_scratch6) _ _ _ i).trans all3
theorem mem_ac11 (i : (cc0_scratch6 : Ref sig .tc).ty.Idx) : i ∈ ac11.view.set ↔ (1 ≤ (i 0).val ∧ (i 0).val < 1 + 1) ∧ (1024 ≤ (i 1).val ∧ (i 1).val < 1024 + 1024) ∧ (0 ≤ (i 2).val ∧ (i 2).val < 0 + 512) := by
  rw [show (ac11.view.set : Finset (cc0_scratch6 : Ref sig .tc).ty.Idx) = _ from (set_squeeze _ _ _ _ _).symm]
  exact (mem_sl (b := cc0_scratch6) _ _ _ i).trans all3
theorem mem_rr00 (i : (cc0_scratch7 : Ref sig .tc).ty.Idx) : i ∈ rr00.view.set ↔ (0 ≤ (i 0).val ∧ (i 0).val < 0 + 1) ∧ (0 ≤ (i 1).val ∧ (i 1).val < 0 + 1024) ∧ (0 ≤ (i 2).val ∧ (i 2).val < 0 + 512) := by
  rw [show (rr00.view.set : Finset (cc0_scratch7 : Ref sig .tc).ty.Idx) = _ from (set_squeeze _ _ _ _ _).symm]
  exact (mem_sl (b := cc0_scratch7) _ _ _ i).trans all3
theorem mem_rr01 (i : (cc0_scratch7 : Ref sig .tc).ty.Idx) : i ∈ rr01.view.set ↔ (0 ≤ (i 0).val ∧ (i 0).val < 0 + 1) ∧ (1024 ≤ (i 1).val ∧ (i 1).val < 1024 + 1024) ∧ (0 ≤ (i 2).val ∧ (i 2).val < 0 + 512) := by
  rw [show (rr01.view.set : Finset (cc0_scratch7 : Ref sig .tc).ty.Idx) = _ from (set_squeeze _ _ _ _ _).symm]
  exact (mem_sl (b := cc0_scratch7) _ _ _ i).trans all3
theorem mem_rr10 (i : (cc0_scratch7 : Ref sig .tc).ty.Idx) : i ∈ rr10.view.set ↔ (1 ≤ (i 0).val ∧ (i 0).val < 1 + 1) ∧ (0 ≤ (i 1).val ∧ (i 1).val < 0 + 1024) ∧ (0 ≤ (i 2).val ∧ (i 2).val < 0 + 512) := by
  rw [show (rr10.view.set : Finset (cc0_scratch7 : Ref sig .tc).ty.Idx) = _ from (set_squeeze _ _ _ _ _).symm]
  exact (mem_sl (b := cc0_scratch7) _ _ _ i).trans all3
theorem mem_rr11 (i : (cc0_scratch7 : Ref sig .tc).ty.Idx) : i ∈ rr11.view.set ↔ (1 ≤ (i 0).val ∧ (i 0).val < 1 + 1) ∧ (1024 ≤ (i 1).val ∧ (i 1).val < 1024 + 1024) ∧ (0 ≤ (i 2).val ∧ (i 2).val < 0 + 512) := by
  rw [show (rr11.view.set : Finset (cc0_scratch7 : Ref sig .tc).ty.Idx) = _ from (set_squeeze _ _ _ _ _).symm]
  exact (mem_sl (b := cc0_scratch7) _ _ _ i).trans all3
theorem mem_rl00 (i : (cc0_scratch8 : Ref sig .tc).ty.Idx) : i ∈ rl00.view.set ↔ (0 ≤ (i 0).val ∧ (i 0).val < 0 + 1) ∧ (0 ≤ (i 1).val ∧ (i 1).val < 0 + 1024) ∧ (0 ≤ (i 2).val ∧ (i 2).val < 0 + 512) := by
  rw [show (rl00.view.set : Finset (cc0_scratch8 : Ref sig .tc).ty.Idx) = _ from (set_squeeze _ _ _ _ _).symm]
  exact (mem_sl (b := cc0_scratch8) _ _ _ i).trans all3
theorem mem_rl01 (i : (cc0_scratch8 : Ref sig .tc).ty.Idx) : i ∈ rl01.view.set ↔ (0 ≤ (i 0).val ∧ (i 0).val < 0 + 1) ∧ (1024 ≤ (i 1).val ∧ (i 1).val < 1024 + 1024) ∧ (0 ≤ (i 2).val ∧ (i 2).val < 0 + 512) := by
  rw [show (rl01.view.set : Finset (cc0_scratch8 : Ref sig .tc).ty.Idx) = _ from (set_squeeze _ _ _ _ _).symm]
  exact (mem_sl (b := cc0_scratch8) _ _ _ i).trans all3
theorem mem_rl10 (i : (cc0_scratch8 : Ref sig .tc).ty.Idx) : i ∈ rl10.view.set ↔ (1 ≤ (i 0).val ∧ (i 0).val < 1 + 1) ∧ (0 ≤ (i 1).val ∧ (i 1).val < 0 + 1024) ∧ (0 ≤ (i 2).val ∧ (i 2).val < 0 + 512) := by
  rw [show (rl10.view.set : Finset (cc0_scratch8 : Ref sig .tc).ty.Idx) = _ from (set_squeeze _ _ _ _ _).symm]
  exact (mem_sl (b := cc0_scratch8) _ _ _ i).trans all3
theorem mem_rl11 (i : (cc0_scratch8 : Ref sig .tc).ty.Idx) : i ∈ rl11.view.set ↔ (1 ≤ (i 0).val ∧ (i 0).val < 1 + 1) ∧ (1024 ≤ (i 1).val ∧ (i 1).val < 1024 + 1024) ∧ (0 ≤ (i 2).val ∧ (i 2).val < 0 + 512) := by
  rw [show (rl11.view.set : Finset (cc0_scratch8 : Ref sig .tc).ty.Idx) = _ from (set_squeeze _ _ _ _ _).symm]
  exact (mem_sl (b := cc0_scratch8) _ _ _ i).trans all3
theorem mem_ou00 (i : (cc0_stg4_0 : Ref sig .tc).ty.Idx) : i ∈ ou00.view.set ↔ (0 ≤ (i 0).val ∧ (i 0).val < 0 + 1024) ∧ (0 ≤ (i 1).val ∧ (i 1).val < 0 + 512) := (mem_sl (b := cc0_stg4_0) _ _ _ i).trans all2
theorem mem_ou01 (i : (cc0_stg4_0 : Ref sig .tc).ty.Idx) : i ∈ ou01.view.set ↔ (0 ≤ (i 0).val ∧ (i 0).val < 0 + 1024) ∧ (512 ≤ (i 1).val ∧ (i 1).val < 512 + 512) := (mem_sl (b := cc0_stg4_0) _ _ _ i).trans all2
theorem mem_ou10 (i : (cc0_stg4_0 : Ref sig .tc).ty.Idx) : i ∈ ou10.view.set ↔ (1024 ≤ (i 0).val ∧ (i 0).val < 1024 + 1024) ∧ (0 ≤ (i 1).val ∧ (i 1).val < 0 + 512) := (mem_sl (b := cc0_stg4_0) _ _ _ i).trans all2
theorem mem_ou11 (i : (cc0_stg4_0 : Ref sig .tc).ty.Idx) : i ∈ ou11.view.set ↔ (1024 ≤ (i 0).val ∧ (i 0).val < 1024 + 1024) ∧ (512 ≤ (i 1).val ∧ (i 1).val < 512 + 512) := (mem_sl (b := cc0_stg4_0) _ _ _ i).trans all2
theorem as0_eq : (as0.view.set : Finset (cc0_scratch6 : Ref sig .tc).ty.Idx) = ac00.view.set ∪ (ac01.view.set) := by
  ext i
  have h0 : (i 0).val < 2 := (i 0).isLt
  have h1 : (i 1).val < 2048 := (i 1).isLt
  have h2 : (i 2).val < 512 := (i 2).isLt
  exact ⟨fun h => (Finset.mem_union.trans (or_congr (mem_ac00 i) (mem_ac01 i))).mpr (by have := (mem_as0 i).mp h; omega), fun h => (mem_as0 i).mpr (by have := (Finset.mem_union.trans (or_congr (mem_ac00 i) (mem_ac01 i))).mp h; omega)⟩
theorem as0_eq_disj : Disjoint (ac00.view.set : Finset (cc0_scratch6 : Ref sig .tc).ty.Idx) ac01.view.set := by
  rw [Finset.disjoint_left]; intro i h1 h2
  have h1 := (mem_ac00 i).mp h1
  have h2 := (mem_ac01 i).mp h2
  omega

theorem as1_eq : (as1.view.set : Finset (cc0_scratch6 : Ref sig .tc).ty.Idx) = ac10.view.set ∪ (ac11.view.set) := by
  ext i
  have h0 : (i 0).val < 2 := (i 0).isLt
  have h1 : (i 1).val < 2048 := (i 1).isLt
  have h2 : (i 2).val < 512 := (i 2).isLt
  exact ⟨fun h => (Finset.mem_union.trans (or_congr (mem_ac10 i) (mem_ac11 i))).mpr (by have := (mem_as1 i).mp h; omega), fun h => (mem_as1 i).mpr (by have := (Finset.mem_union.trans (or_congr (mem_ac10 i) (mem_ac11 i))).mp h; omega)⟩
theorem as1_eq_disj : Disjoint (ac10.view.set : Finset (cc0_scratch6 : Ref sig .tc).ty.Idx) ac11.view.set := by
  rw [Finset.disjoint_left]; intro i h1 h2
  have h1 := (mem_ac10 i).mp h1
  have h2 := (mem_ac11 i).mp h2
  omega

theorem ks_d0 : Disjoint (ks0.view.set : Finset (cc0_scratch0 : Ref sig .tc).ty.Idx) (ks1.view.set ∪ (ks2.view.set ∪ (ks3.view.set))) := by
  rw [Finset.disjoint_left]; intro i h1 h2
  have h1 := (mem_ks0 i).mp h1
  have h2 := (Finset.mem_union.trans (or_congr (mem_ks1 i) (Finset.mem_union.trans (or_congr (mem_ks2 i) (mem_ks3 i))))).mp h2
  omega
theorem ks_d1 : Disjoint (ks1.view.set : Finset (cc0_scratch0 : Ref sig .tc).ty.Idx) (ks2.view.set ∪ (ks3.view.set)) := by
  rw [Finset.disjoint_left]; intro i h1 h2
  have h1 := (mem_ks1 i).mp h1
  have h2 := (Finset.mem_union.trans (or_congr (mem_ks2 i) (mem_ks3 i))).mp h2
  omega
theorem ks_d2 : Disjoint (ks2.view.set : Finset (cc0_scratch0 : Ref sig .tc).ty.Idx) (ks3.view.set) := by
  rw [Finset.disjoint_left]; intro i h1 h2
  have h1 := (mem_ks2 i).mp h1
  have h2 := (mem_ks3 i).mp h2
  omega
theorem ks_cover : (Finset.univ : Finset (cc0_scratch0 : Ref sig .tc).ty.Idx) = ks0.view.set ∪ (ks1.view.set ∪ (ks2.view.set ∪ (ks3.view.set))) := by
  ext i
  have h0 : (i 0).val < 4 := (i 0).isLt
  have h1 : (i 1).val < 2048 := (i 1).isLt
  have h2 : (i 2).val < 8 := (i 2).isLt
  exact ⟨fun _ => (Finset.mem_union.trans (or_congr (mem_ks0 i) (Finset.mem_union.trans (or_congr (mem_ks1 i) (Finset.mem_union.trans (or_congr (mem_ks2 i) (mem_ks3 i))))))).mpr (by omega), fun _ => Finset.mem_univ _⟩

theorem split_k (c : Dev nD) : some_ (F := F) (c := c) (b := cc0_scratch0) Finset.univ ⊣⊢ iprop(any (F := F) c ks0 ∗ any (F := F) c ks1 ∗ any (F := F) c ks2 ∗ any (F := F) c ks3) := by
  have d0 : Disjoint (ks0.view.set : Finset (cc0_scratch0 : Ref sig .tc).ty.Idx) (ks1.view.set ∪ (ks2.view.set ∪ (ks3.view.set))) := by
    rw [Finset.disjoint_left]; intro i h1 h2
    have h1 := (mem_ks0 i).mp h1
    have h2 := (Finset.mem_union.trans (or_congr (mem_ks1 i) (Finset.mem_union.trans (or_congr (mem_ks2 i) (mem_ks3 i))))).mp h2
    omega
  have d1 : Disjoint (ks1.view.set : Finset (cc0_scratch0 : Ref sig .tc).ty.Idx) (ks2.view.set ∪ (ks3.view.set)) := by
    rw [Finset.disjoint_left]; intro i h1 h2
    have h1 := (mem_ks1 i).mp h1
    have h2 := (Finset.mem_union.trans (or_congr (mem_ks2 i) (mem_ks3 i))).mp h2
    omega
  have d2 : Disjoint (ks2.view.set : Finset (cc0_scratch0 : Ref sig .tc).ty.Idx) (ks3.view.set) := by
    rw [Finset.disjoint_left]; intro i h1 h2
    have h1 := (mem_ks2 i).mp h1
    have h2 := (mem_ks3 i).mp h2
    omega
  have e : (Finset.univ : Finset (cc0_scratch0 : Ref sig .tc).ty.Idx) = ks0.view.set ∪ (ks1.view.set ∪ (ks2.view.set ∪ (ks3.view.set))) := by
    ext i
    have h0 : (i 0).val < 4 := (i 0).isLt
    have h1 : (i 1).val < 2048 := (i 1).isLt
    have h2 : (i 2).val < 8 := (i 2).isLt
    exact ⟨fun _ => (Finset.mem_union.trans (or_congr (mem_ks0 i) (Finset.mem_union.trans (or_congr (mem_ks1 i) (Finset.mem_union.trans (or_congr (mem_ks2 i) (mem_ks3 i))))))).mpr (by omega), fun _ => Finset.mem_univ _⟩
  refine (some_union d0 e).trans ?_
  refine (sep_congr_right (some_union d1 rfl)).trans ?_
  refine (sep_congr_right (sep_congr_right (some_union d2 rfl))).trans ?_
  exact ⟨Entails.rfl, Entails.rfl⟩

theorem split_xg (c : Dev nD) : some_ (F := F) (c := c) (b := cc0_scratch1) Finset.univ ⊣⊢ iprop(any (F := F) c xg0 ∗ any (F := F) c xg1 ∗ any (F := F) c xg2) := by
  have d0 : Disjoint (xg0.view.set : Finset (cc0_scratch1 : Ref sig .tc).ty.Idx) (xg1.view.set ∪ (xg2.view.set)) := by
    rw [Finset.disjoint_left]; intro i h1 h2
    have h1 := (mem_xg0 i).mp h1
    have h2 := (Finset.mem_union.trans (or_congr (mem_xg1 i) (mem_xg2 i))).mp h2
    omega
  have d1 : Disjoint (xg1.view.set : Finset (cc0_scratch1 : Ref sig .tc).ty.Idx) (xg2.view.set) := by
    rw [Finset.disjoint_left]; intro i h1 h2
    have h1 := (mem_xg1 i).mp h1
    have h2 := (mem_xg2 i).mp h2
    omega
  have e : (Finset.univ : Finset (cc0_scratch1 : Ref sig .tc).ty.Idx) = xg0.view.set ∪ (xg1.view.set ∪ (xg2.view.set)) := by
    ext i
    have h0 : (i 0).val < 3 := (i 0).isLt
    have h1 : (i 1).val < 2048 := (i 1).isLt
    have h2 : (i 2).val < 512 := (i 2).isLt
    exact ⟨fun _ => (Finset.mem_union.trans (or_congr (mem_xg0 i) (Finset.mem_union.trans (or_congr (mem_xg1 i) (mem_xg2 i))))).mpr (by omega), fun _ => Finset.mem_univ _⟩
  refine (some_union d0 e).trans ?_
  refine (sep_congr_right (some_union d1 rfl)).trans ?_
  exact ⟨Entails.rfl, Entails.rfl⟩

theorem split_d (c : Dev nD) : some_ (F := F) (c := c) (b := cc0_scratch2) Finset.univ ⊣⊢ iprop(any (F := F) c dl ∗ any (F := F) c dh) := by
  have d0 : Disjoint (dl.view.set : Finset (cc0_scratch2 : Ref sig .tc).ty.Idx) (dh.view.set) := by
    rw [Finset.disjoint_left]; intro i h1 h2
    have h1 := (mem_dl i).mp h1
    have h2 := (mem_dh i).mp h2
    omega
  have e : (Finset.univ : Finset (cc0_scratch2 : Ref sig .tc).ty.Idx) = dl.view.set ∪ (dh.view.set) := by
    ext i
    have h0 : (i 0).val < 2048 := (i 0).isLt
    have h1 : (i 1).val < 1024 := (i 1).isLt
    exact ⟨fun _ => (Finset.mem_union.trans (or_congr (mem_dl i) (mem_dh i))).mpr (by omega), fun _ => Finset.mem_univ _⟩
  refine (some_union d0 e).trans ?_
  exact ⟨Entails.rfl, Entails.rfl⟩

theorem split_dp (c : Dev nD) : some_ (F := F) (c := c) (b := cc0_scratch3) Finset.univ ⊣⊢ iprop(any (F := F) c dp) := by
  have e : (Finset.univ : Finset (cc0_scratch3 : Ref sig .tc).ty.Idx) = dp.view.set := by
    ext i
    have h0 : (i 0).val < 2048 := (i 0).isLt
    have h1 : (i 1).val < 512 := (i 1).isLt
    exact ⟨fun _ => (mem_dp i).mpr (by omega), fun _ => Finset.mem_univ _⟩
  rw [e]; exact ⟨Entails.rfl, Entails.rfl⟩

theorem split_dm (c : Dev nD) : some_ (F := F) (c := c) (b := cc0_scratch4) Finset.univ ⊣⊢ iprop(any (F := F) c dm) := by
  have e : (Finset.univ : Finset (cc0_scratch4 : Ref sig .tc).ty.Idx) = dm.view.set := by
    ext i
    have h0 : (i 0).val < 2048 := (i 0).isLt
    have h1 : (i 1).val < 512 := (i 1).isLt
    exact ⟨fun _ => (mem_dm i).mpr (by omega), fun _ => Finset.mem_univ _⟩
  rw [e]; exact ⟨Entails.rfl, Entails.rfl⟩

theorem split_w (c : Dev nD) : some_ (F := F) (c := c) (b := cc0_scratch5) Finset.univ ⊣⊢ iprop(any (F := F) c wl ∗ any (F := F) c wh) := by
  have d0 : Disjoint (wl.view.set : Finset (cc0_scratch5 : Ref sig .tc).ty.Idx) (wh.view.set) := by
    rw [Finset.disjoint_left]; intro i h1 h2
    have h1 := (mem_wl i).mp h1
    have h2 := (mem_wh i).mp h2
    omega
  have e : (Finset.univ : Finset (cc0_scratch5 : Ref sig .tc).ty.Idx) = wl.view.set ∪ (wh.view.set) := by
    ext i
    have h0 : (i 0).val < 2048 := (i 0).isLt
    have h1 : (i 1).val < 1024 := (i 1).isLt
    exact ⟨fun _ => (Finset.mem_union.trans (or_congr (mem_wl i) (mem_wh i))).mpr (by omega), fun _ => Finset.mem_univ _⟩
  refine (some_union d0 e).trans ?_
  exact ⟨Entails.rfl, Entails.rfl⟩

theorem split_as (c : Dev nD) : some_ (F := F) (c := c) (b := cc0_scratch6) Finset.univ ⊣⊢ iprop(any (F := F) c as0 ∗ any (F := F) c as1) := by
  have d0 : Disjoint (as0.view.set : Finset (cc0_scratch6 : Ref sig .tc).ty.Idx) (as1.view.set) := by
    rw [Finset.disjoint_left]; intro i h1 h2
    have h1 := (mem_as0 i).mp h1
    have h2 := (mem_as1 i).mp h2
    omega
  have e : (Finset.univ : Finset (cc0_scratch6 : Ref sig .tc).ty.Idx) = as0.view.set ∪ (as1.view.set) := by
    ext i
    have h0 : (i 0).val < 2 := (i 0).isLt
    have h1 : (i 1).val < 2048 := (i 1).isLt
    have h2 : (i 2).val < 512 := (i 2).isLt
    exact ⟨fun _ => (Finset.mem_union.trans (or_congr (mem_as0 i) (mem_as1 i))).mpr (by omega), fun _ => Finset.mem_univ _⟩
  refine (some_union d0 e).trans ?_
  exact ⟨Entails.rfl, Entails.rfl⟩

theorem split_ac (c : Dev nD) : some_ (F := F) (c := c) (b := cc0_scratch6) Finset.univ ⊣⊢ iprop(any (F := F) c ac00 ∗ any (F := F) c ac01 ∗ any (F := F) c ac10 ∗ any (F := F) c ac11) := by
  have d0 : Disjoint (ac00.view.set : Finset (cc0_scratch6 : Ref sig .tc).ty.Idx) (ac01.view.set ∪ (ac10.view.set ∪ (ac11.view.set))) := by
    rw [Finset.disjoint_left]; intro i h1 h2
    have h1 := (mem_ac00 i).mp h1
    have h2 := (Finset.mem_union.trans (or_congr (mem_ac01 i) (Finset.mem_union.trans (or_congr (mem_ac10 i) (mem_ac11 i))))).mp h2
    omega
  have d1 : Disjoint (ac01.view.set : Finset (cc0_scratch6 : Ref sig .tc).ty.Idx) (ac10.view.set ∪ (ac11.view.set)) := by
    rw [Finset.disjoint_left]; intro i h1 h2
    have h1 := (mem_ac01 i).mp h1
    have h2 := (Finset.mem_union.trans (or_congr (mem_ac10 i) (mem_ac11 i))).mp h2
    omega
  have d2 : Disjoint (ac10.view.set : Finset (cc0_scratch6 : Ref sig .tc).ty.Idx) (ac11.view.set) := by
    rw [Finset.disjoint_left]; intro i h1 h2
    have h1 := (mem_ac10 i).mp h1
    have h2 := (mem_ac11 i).mp h2
    omega
  have e : (Finset.univ : Finset (cc0_scratch6 : Ref sig .tc).ty.Idx) = ac00.view.set ∪ (ac01.view.set ∪ (ac10.view.set ∪ (ac11.view.set))) := by
    ext i
    have h0 : (i 0).val < 2 := (i 0).isLt
    have h1 : (i 1).val < 2048 := (i 1).isLt
    have h2 : (i 2).val < 512 := (i 2).isLt
    exact ⟨fun _ => (Finset.mem_union.trans (or_congr (mem_ac00 i) (Finset.mem_union.trans (or_congr (mem_ac01 i) (Finset.mem_union.trans (or_congr (mem_ac10 i) (mem_ac11 i))))))).mpr (by omega), fun _ => Finset.mem_univ _⟩
  refine (some_union d0 e).trans ?_
  refine (sep_congr_right (some_union d1 rfl)).trans ?_
  refine (sep_congr_right (sep_congr_right (some_union d2 rfl))).trans ?_
  exact ⟨Entails.rfl, Entails.rfl⟩

theorem split_rr (c : Dev nD) : some_ (F := F) (c := c) (b := cc0_scratch7) Finset.univ ⊣⊢ iprop(any (F := F) c rr00 ∗ any (F := F) c rr01 ∗ any (F := F) c rr10 ∗ any (F := F) c rr11) := by
  have d0 : Disjoint (rr00.view.set : Finset (cc0_scratch7 : Ref sig .tc).ty.Idx) (rr01.view.set ∪ (rr10.view.set ∪ (rr11.view.set))) := by
    rw [Finset.disjoint_left]; intro i h1 h2
    have h1 := (mem_rr00 i).mp h1
    have h2 := (Finset.mem_union.trans (or_congr (mem_rr01 i) (Finset.mem_union.trans (or_congr (mem_rr10 i) (mem_rr11 i))))).mp h2
    omega
  have d1 : Disjoint (rr01.view.set : Finset (cc0_scratch7 : Ref sig .tc).ty.Idx) (rr10.view.set ∪ (rr11.view.set)) := by
    rw [Finset.disjoint_left]; intro i h1 h2
    have h1 := (mem_rr01 i).mp h1
    have h2 := (Finset.mem_union.trans (or_congr (mem_rr10 i) (mem_rr11 i))).mp h2
    omega
  have d2 : Disjoint (rr10.view.set : Finset (cc0_scratch7 : Ref sig .tc).ty.Idx) (rr11.view.set) := by
    rw [Finset.disjoint_left]; intro i h1 h2
    have h1 := (mem_rr10 i).mp h1
    have h2 := (mem_rr11 i).mp h2
    omega
  have e : (Finset.univ : Finset (cc0_scratch7 : Ref sig .tc).ty.Idx) = rr00.view.set ∪ (rr01.view.set ∪ (rr10.view.set ∪ (rr11.view.set))) := by
    ext i
    have h0 : (i 0).val < 2 := (i 0).isLt
    have h1 : (i 1).val < 2048 := (i 1).isLt
    have h2 : (i 2).val < 512 := (i 2).isLt
    exact ⟨fun _ => (Finset.mem_union.trans (or_congr (mem_rr00 i) (Finset.mem_union.trans (or_congr (mem_rr01 i) (Finset.mem_union.trans (or_congr (mem_rr10 i) (mem_rr11 i))))))).mpr (by omega), fun _ => Finset.mem_univ _⟩
  refine (some_union d0 e).trans ?_
  refine (sep_congr_right (some_union d1 rfl)).trans ?_
  refine (sep_congr_right (sep_congr_right (some_union d2 rfl))).trans ?_
  exact ⟨Entails.rfl, Entails.rfl⟩

theorem split_rl (c : Dev nD) : some_ (F := F) (c := c) (b := cc0_scratch8) Finset.univ ⊣⊢ iprop(any (F := F) c rl00 ∗ any (F := F) c rl01 ∗ any (F := F) c rl10 ∗ any (F := F) c rl11) := by
  have d0 : Disjoint (rl00.view.set : Finset (cc0_scratch8 : Ref sig .tc).ty.Idx) (rl01.view.set ∪ (rl10.view.set ∪ (rl11.view.set))) := by
    rw [Finset.disjoint_left]; intro i h1 h2
    have h1 := (mem_rl00 i).mp h1
    have h2 := (Finset.mem_union.trans (or_congr (mem_rl01 i) (Finset.mem_union.trans (or_congr (mem_rl10 i) (mem_rl11 i))))).mp h2
    omega
  have d1 : Disjoint (rl01.view.set : Finset (cc0_scratch8 : Ref sig .tc).ty.Idx) (rl10.view.set ∪ (rl11.view.set)) := by
    rw [Finset.disjoint_left]; intro i h1 h2
    have h1 := (mem_rl01 i).mp h1
    have h2 := (Finset.mem_union.trans (or_congr (mem_rl10 i) (mem_rl11 i))).mp h2
    omega
  have d2 : Disjoint (rl10.view.set : Finset (cc0_scratch8 : Ref sig .tc).ty.Idx) (rl11.view.set) := by
    rw [Finset.disjoint_left]; intro i h1 h2
    have h1 := (mem_rl10 i).mp h1
    have h2 := (mem_rl11 i).mp h2
    omega
  have e : (Finset.univ : Finset (cc0_scratch8 : Ref sig .tc).ty.Idx) = rl00.view.set ∪ (rl01.view.set ∪ (rl10.view.set ∪ (rl11.view.set))) := by
    ext i
    have h0 : (i 0).val < 2 := (i 0).isLt
    have h1 : (i 1).val < 2048 := (i 1).isLt
    have h2 : (i 2).val < 512 := (i 2).isLt
    exact ⟨fun _ => (Finset.mem_union.trans (or_congr (mem_rl00 i) (Finset.mem_union.trans (or_congr (mem_rl01 i) (Finset.mem_union.trans (or_congr (mem_rl10 i) (mem_rl11 i))))))).mpr (by omega), fun _ => Finset.mem_univ _⟩
  refine (some_union d0 e).trans ?_
  refine (sep_congr_right (some_union d1 rfl)).trans ?_
  refine (sep_congr_right (sep_congr_right (some_union d2 rfl))).trans ?_
  exact ⟨Entails.rfl, Entails.rfl⟩

theorem split_rc (c : Dev nD) : some_ (F := F) (c := c) (b := cc0_scratch9) Finset.univ ⊣⊢ iprop(any (F := F) c rc0 ∗ any (F := F) c rc1 ∗ any (F := F) c rc2) := by
  have d0 : Disjoint (rc0.view.set : Finset (cc0_scratch9 : Ref sig .tc).ty.Idx) (rc1.view.set ∪ (rc2.view.set)) := by
    rw [Finset.disjoint_left]; intro i h1 h2
    have h1 := (mem_rc0 i).mp h1
    have h2 := (Finset.mem_union.trans (or_congr (mem_rc1 i) (mem_rc2 i))).mp h2
    omega
  have d1 : Disjoint (rc1.view.set : Finset (cc0_scratch9 : Ref sig .tc).ty.Idx) (rc2.view.set) := by
    rw [Finset.disjoint_left]; intro i h1 h2
    have h1 := (mem_rc1 i).mp h1
    have h2 := (mem_rc2 i).mp h2
    omega
  have e : (Finset.univ : Finset (cc0_scratch9 : Ref sig .tc).ty.Idx) = rc0.view.set ∪ (rc1.view.set ∪ (rc2.view.set)) := by
    ext i
    have h0 : (i 0).val < 3 := (i 0).isLt
    have h1 : (i 1).val < 2048 := (i 1).isLt
    have h2 : (i 2).val < 1 := (i 2).isLt
    exact ⟨fun _ => (Finset.mem_union.trans (or_congr (mem_rc0 i) (Finset.mem_union.trans (or_congr (mem_rc1 i) (mem_rc2 i))))).mpr (by omega), fun _ => Finset.mem_univ _⟩
  refine (some_union d0 e).trans ?_
  refine (sep_congr_right (some_union d1 rfl)).trans ?_
  exact ⟨Entails.rfl, Entails.rfl⟩

theorem split_ou (c : Dev nD) : some_ (F := F) (c := c) (b := cc0_stg4_0) Finset.univ ⊣⊢ iprop(any (F := F) c ou00 ∗ any (F := F) c ou10 ∗ any (F := F) c ou01 ∗ any (F := F) c ou11) := by
  have d0 : Disjoint (ou00.view.set : Finset (cc0_stg4_0 : Ref sig .tc).ty.Idx) (ou10.view.set ∪ (ou01.view.set ∪ (ou11.view.set))) := by
    rw [Finset.disjoint_left]; intro i h1 h2
    have h1 := (mem_ou00 i).mp h1
    have h2 := (Finset.mem_union.trans (or_congr (mem_ou10 i) (Finset.mem_union.trans (or_congr (mem_ou01 i) (mem_ou11 i))))).mp h2
    omega
  have d1 : Disjoint (ou10.view.set : Finset (cc0_stg4_0 : Ref sig .tc).ty.Idx) (ou01.view.set ∪ (ou11.view.set)) := by
    rw [Finset.disjoint_left]; intro i h1 h2
    have h1 := (mem_ou10 i).mp h1
    have h2 := (Finset.mem_union.trans (or_congr (mem_ou01 i) (mem_ou11 i))).mp h2
    omega
  have d2 : Disjoint (ou01.view.set : Finset (cc0_stg4_0 : Ref sig .tc).ty.Idx) (ou11.view.set) := by
    rw [Finset.disjoint_left]; intro i h1 h2
    have h1 := (mem_ou01 i).mp h1
    have h2 := (mem_ou11 i).mp h2
    omega
  have e : (Finset.univ : Finset (cc0_stg4_0 : Ref sig .tc).ty.Idx) = ou00.view.set ∪ (ou10.view.set ∪ (ou01.view.set ∪ (ou11.view.set))) := by
    ext i
    have h0 : (i 0).val < 2048 := (i 0).isLt
    have h1 : (i 1).val < 1024 := (i 1).isLt
    exact ⟨fun _ => (Finset.mem_union.trans (or_congr (mem_ou00 i) (Finset.mem_union.trans (or_congr (mem_ou10 i) (Finset.mem_union.trans (or_congr (mem_ou01 i) (mem_ou11 i))))))).mpr (by omega), fun _ => Finset.mem_univ _⟩
  refine (some_union d0 e).trans ?_
  refine (sep_congr_right (some_union d1 rfl)).trans ?_
  refine (sep_congr_right (sep_congr_right (some_union d2 rfl))).trans ?_
  exact ⟨Entails.rfl, Entails.rfl⟩

end Cert.KernelIdeal.Talk

end
-- ==== Proof.Wrap.lean ====
/-
  The kernel's waits, transfers and signals, one rule each, in program order.
-/
module

public import proofs.«01_k».proof.Proof.Mem
public import Idealize.ShloMosaic.Lib.Pipeline.Value
public import Idealize.ShloMosaic.Lib.ValueLayout

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.TalkSites (tallyL)

variable {F : FTy → Type} [FloatOps F]

local notation "𝕄" => MT nD τ sig ℕ (Elt F) ℕ UU ℕ

section Wrap

variable {D : Cont F} {c : Dev nD} {κ : GSem nD τ sig → ℕ}

theorem Nb_mem {g : GSem nD τ sig} (h : g ∈ nbL c) : Nb (F := F) c ⊢ reached (ER (F := F)) g 0 :=
  bigSepL_mem (l := nbL c) (Φ := fun g => reached (ER (F := F)) g 0) h

theorem Nb_intro : iprop(reached (ER (F := F)) (dC (rgt c) 34) 0 ∗ reached (ER (F := F)) (dC (rgt c) 8) 0 ∗ reached (ER (F := F)) (dC (rgt c) 9) 0 ∗ reached (ER (F := F)) (dC (rgt c) 17) 0 ∗ reached (ER (F := F)) (dC (rgt c) 18) 0 ∗ reached (ER (F := F)) (dC (rgt c) 19) 0 ∗ reached (ER (F := F)) (dC (rgt c) 20) 0 ∗ reached (ER (F := F)) (crLC (rgt c)) 0 ∗ reached (ER (F := F)) (dC (lft c) 35) 0 ∗ reached (ER (F := F)) (dC (lft c) 10) 0 ∗ reached (ER (F := F)) (dC (lft c) 27) 0 ∗ reached (ER (F := F)) (dC (lft c) 28) 0 ∗ reached (ER (F := F)) (dC (lft c) 29) 0 ∗ reached (ER (F := F)) (dC (lft c) 30) 0 ∗ reached (ER (F := F)) (crRC (lft c)) 0 ∗ reached (ER (F := F)) (dC (opp c) 36) 0) ⊢ Nb (F := F) c := by
  unfold Nb nbL
  rw [sepL_cons, sepL_cons, sepL_cons, sepL_cons, sepL_cons, sepL_cons, sepL_cons, sepL_cons, sepL_cons, sepL_cons, sepL_cons, sepL_cons, sepL_cons, sepL_cons, sepL_cons, sepL_cons]
  iintro ⟨H0, H1, H2, H3, H4, H5, H6, H7, H8, H9, H10, H11, H12, H13, H14, H15⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iapply (show (iprop(emp) : sProp 𝕄) ⊢ bigSepL [] (fun g => reached (ER (F := F)) g 0) from Entails.rfl); iempintro

/-- Wait 0. -/
theorem W0 {l : List (SemLoc sig)} {s : Shape} {e : EltTy} {src dst : Memref sig .tc .vmem s e} {hsrc : src.view.WordExact} {hdst : dst.view.WordExact} (hk : dst.view.dmaCredit = aR) {α : Type} {Q : α → sProp 𝕄} {kk : PUnit.{1} → Prog (TpuEff nD τ sig (Elt F) Λ₀ .tc) α} :
    iprop(Pers D c κ ∗ St (F := F) c 8 0 l) ⊢ iprop(((St (F := F) c 8 1 ((.dma 34) :: l) ∗ at_ c rc0 (up (D.rt (lft c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (34 : DmaSem sig) src dst hsrc hdst) kk) Q) :=
  wait_recv (κ := κ) (wpE_waitDma2_eq 𝒱₀ (c : Thread nD τ) none Set.univ) rfl (by decide) rfl rfl rfl hk (by revert c; decide) (by decide) rfl
/-- Wait 1. -/
theorem W1 {l : List (SemLoc sig)} {s : Shape} {e : EltTy} {src dst : Memref sig .tc .vmem s e} {hsrc : src.view.WordExact} {hdst : dst.view.WordExact} (hk : dst.view.dmaCredit = aR) {α : Type} {Q : α → sProp 𝕄} {kk : PUnit.{1} → Prog (TpuEff nD τ sig (Elt F) Λ₀ .tc) α} :
    iprop(Pers D c κ ∗ St (F := F) c 8 1 l) ⊢ iprop(((St (F := F) c 8 2 ((.dma 35) :: l) ∗ at_ c rc1 (up (D.rt (rgt c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (35 : DmaSem sig) src dst hsrc hdst) kk) Q) :=
  wait_recv (κ := κ) (wpE_waitDma2_eq 𝒱₀ (c : Thread nD τ) none Set.univ) rfl (by decide) rfl rfl rfl hk (by revert c; decide) (by decide) rfl
/-- Wait 2. -/
theorem W2 {l : List (SemLoc sig)} {s : Shape} {e : EltTy} {src dst : Memref sig .tc .vmem s e} {hsrc : src.view.WordExact} {hdst : dst.view.WordExact} (hk : dst.view.dmaCredit = aR) {α : Type} {Q : α → sProp 𝕄} {kk : PUnit.{1} → Prog (TpuEff nD τ sig (Elt F) Λ₀ .tc) α} :
    iprop(Pers D c κ ∗ St (F := F) c 8 2 l) ⊢ iprop(((St (F := F) c 8 3 ((.dma 36) :: l) ∗ at_ c rc2 (up (D.rt (opp c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (36 : DmaSem sig) src dst hsrc hdst) kk) Q) :=
  wait_recv (κ := κ) (wpE_waitDma2_eq 𝒱₀ (c : Thread nD τ) none Set.univ) rfl (by decide) rfl rfl rfl hk (by revert c; decide) (by decide) rfl
/-- Wait 3. -/
theorem W3 {l : List (SemLoc sig)} {s : Shape} {e : EltTy} {src dst : Memref sig .tc .vmem s e} {hsrc : src.view.WordExact} {hdst : dst.view.WordExact} (hk : dst.view.dmaCredit = aX) {α : Type} {Q : α → sProp 𝕄} {kk : PUnit.{1} → Prog (TpuEff nD τ sig (Elt F) Λ₀ .tc) α} :
    iprop(Pers D c κ ∗ St (F := F) c 8 3 l) ⊢ iprop(((St (F := F) c 8 4 ((.dma 8) :: l) ∗ at_ c xg0 (up (D.x (lft c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (8 : DmaSem sig) src dst hsrc hdst) kk) Q) :=
  wait_recv (κ := κ) (wpE_waitDma2_eq 𝒱₀ (c : Thread nD τ) none Set.univ) rfl (by decide) rfl rfl rfl hk (by revert c; decide) (by decide) rfl
/-- Wait 4. -/
theorem W4 {l : List (SemLoc sig)} {s : Shape} {e : EltTy} {src dst : Memref sig .tc .vmem s e} {hsrc : src.view.WordExact} {hdst : dst.view.WordExact} (hk : dst.view.dmaCredit = aX) {α : Type} {Q : α → sProp 𝕄} {kk : PUnit.{1} → Prog (TpuEff nD τ sig (Elt F) Λ₀ .tc) α} :
    iprop(Pers D c κ ∗ St (F := F) c 11 4 l) ⊢ iprop(((St (F := F) c 11 5 ((.dma 10) :: l) ∗ at_ c xg2 (up (D.x (rgt c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (10 : DmaSem sig) src dst hsrc hdst) kk) Q) :=
  wait_recv (κ := κ) (wpE_waitDma2_eq 𝒱₀ (c : Thread nD τ) none Set.univ) rfl (by decide) rfl rfl rfl hk (by revert c; decide) (by decide) rfl
/-- Wait 5. -/
theorem W5 {l : List (SemLoc sig)} {s : Shape} {e : EltTy} {src dst : Memref sig .tc .vmem s e} {hsrc : src.view.WordExact} {hdst : dst.view.WordExact} (hk : dst.view.dmaCredit = aX) {α : Type} {Q : α → sProp 𝕄} {kk : PUnit.{1} → Prog (TpuEff nD τ sig (Elt F) Λ₀ .tc) α} :
    iprop(Pers D c κ ∗ St (F := F) c 13 5 l) ⊢ iprop(((St (F := F) c 13 6 ((.dma 9) :: l) ∗ at_ c xg1 (up (D.x (lft (lft c))))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (9 : DmaSem sig) src dst hsrc hdst) kk) Q) :=
  wait_recv (κ := κ) (wpE_waitDma2_eq 𝒱₀ (c : Thread nD τ) none Set.univ) rfl (by decide) rfl rfl rfl hk (by revert c; decide) (by decide) rfl
/-- Wait 6. -/
theorem W6 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 13 6 l) ⊢ iprop(((St (F := F) c 13 7 l ∗ (atPos ER (dC c 17) 1 ∅ 0 ∗ reached ER (dC c 17) 1) ∗ at_ c rr00 (up (D.a0r (lft c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (17 : DmaSem sig) src dst hsrc hdst) kk) Q) :=
  wait_first (κ := κ) (wpE_waitDma2_eq 𝒱₀ (c : Thread nD τ) none Set.univ) rfl (by decide) rfl rfl hk (by revert c; decide) (by decide) rfl
/-- Wait 7. -/
theorem W7 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 13 7 l ∗ cred (tallyAt (dC c 11) 0 aH)) ⊢ iprop(((St (F := F) c 13 8 ((.dma 11) :: l) ∗ at_ c ac00 (up (D.a0r c))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (11 : DmaSem sig) src dst hsrc hdst) kk) Q) :=
  wait_sent (κ := κ) (wpE_waitDma2_eq 𝒱₀ (c : Thread nD τ) none Set.univ) rfl (by decide) rfl rfl rfl hk (by revert c; decide) rfl
/-- Wait 8. -/
theorem W8 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 14 8 l) ⊢ iprop(((St (F := F) c 14 9 l ∗ (atPos ER (dC c 18) 1 ∅ 0 ∗ reached ER (dC c 18) 1) ∗ at_ c rr01 (up (D.a0r (lft c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (18 : DmaSem sig) src dst hsrc hdst) kk) Q) :=
  wait_first (κ := κ) (wpE_waitDma2_eq 𝒱₀ (c : Thread nD τ) none Set.univ) rfl (by decide) rfl rfl hk (by revert c; decide) (by decide) rfl
/-- Wait 9. -/
theorem W9 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 14 9 l ∗ cred (tallyAt (dC c 12) 0 aH)) ⊢ iprop(((St (F := F) c 14 10 ((.dma 12) :: l) ∗ at_ c ac01 (up (D.a0r c))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (12 : DmaSem sig) src dst hsrc hdst) kk) Q) :=
  wait_sent (κ := κ) (wpE_waitDma2_eq 𝒱₀ (c : Thread nD τ) none Set.univ) rfl (by decide) rfl rfl rfl hk (by revert c; decide) rfl
/-- Wait 10. -/
theorem W10 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 16 10 l) ⊢ iprop(((St (F := F) c 16 11 l ∗ (atPos ER (dC c 27) 1 ∅ 0 ∗ reached ER (dC c 27) 1) ∗ at_ c rl00 (up (D.a0l (rgt c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (27 : DmaSem sig) src dst hsrc hdst) kk) Q) :=
  wait_first (κ := κ) (wpE_waitDma2_eq 𝒱₀ (c : Thread nD τ) none Set.univ) rfl (by decide) rfl rfl hk (by revert c; decide) (by decide) rfl
/-- Wait 11. -/
theorem W11 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 16 11 l ∗ cred (tallyAt (dC c 21) 0 aH)) ⊢ iprop(((St (F := F) c 16 12 ((.dma 21) :: l) ∗ at_ c ac10 (up (D.a0l c))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (21 : DmaSem sig) src dst hsrc hdst) kk) Q) :=
  wait_sent (κ := κ) (wpE_waitDma2_eq 𝒱₀ (c : Thread nD τ) none Set.univ) rfl (by decide) rfl rfl rfl hk (by revert c; decide) rfl
/-- Wait 12. -/
theorem W12 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 17 12 l) ⊢ iprop(((St (F := F) c 17 13 l ∗ (atPos ER (dC c 28) 1 ∅ 0 ∗ reached ER (dC c 28) 1) ∗ at_ c rl01 (up (D.a0l (rgt c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (28 : DmaSem sig) src dst hsrc hdst) kk) Q) :=
  wait_first (κ := κ) (wpE_waitDma2_eq 𝒱₀ (c : Thread nD τ) none Set.univ) rfl (by decide) rfl rfl hk (by revert c; decide) (by decide) rfl
/-- Wait 13. -/
theorem W13 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 17 13 l ∗ cred (tallyAt (dC c 22) 0 aH)) ⊢ iprop(((St (F := F) c 17 14 ((.dma 22) :: l) ∗ at_ c ac11 (up (D.a0l c))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (22 : DmaSem sig) src dst hsrc hdst) kk) Q) :=
  wait_sent (κ := κ) (wpE_waitDma2_eq 𝒱₀ (c : Thread nD τ) none Set.univ) rfl (by decide) rfl rfl rfl hk (by revert c; decide) rfl
/-- Wait 14. -/
theorem W14 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 19 14 l) ⊢ iprop(((St (F := F) c 19 15 ((.dma 19) :: l) ∗ at_ c rr10 (up (D.a1r (lft c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (19 : DmaSem sig) src dst hsrc hdst) kk) Q) :=
  wait_recv (κ := κ) (wpE_waitDma2_eq 𝒱₀ (c : Thread nD τ) none Set.univ) rfl (by decide) rfl rfl rfl hk (by revert c; decide) (by decide) rfl
/-- Wait 15. -/
theorem W15 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 19 15 l ∗ cred (tallyAt (dC c 13) 0 aH)) ⊢ iprop(((St (F := F) c 19 16 ((.dma 13) :: l) ∗ at_ c ac00 (up (D.a1r c))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (13 : DmaSem sig) src dst hsrc hdst) kk) Q) :=
  wait_sent (κ := κ) (wpE_waitDma2_eq 𝒱₀ (c : Thread nD τ) none Set.univ) rfl (by decide) rfl rfl rfl hk (by revert c; decide) rfl
/-- Wait 16. -/
theorem W16 {l : List (SemLoc sig)} {u : ℕ} (hk : u = 1) {α : Type} {Q : α → sProp 𝕄} {kk : PUnit.{1} → Prog (TpuEff nD τ sig (Elt F) Λ₀ .tc) α} :
    iprop(Pers D c κ ∗ St (F := F) c 19 16 l) ⊢ iprop(((St (F := F) c 19 17 ((.reg crR) :: l) ∗ crRPay (rgt c)) -∗ wp frame (wpE (defs₀ (F := F)) 𝒱₀ (c : Thread nD τ) none) Set.univ (kk ⟨⟩) Q) -∗ wp frame (wpE (defs₀ (F := F)) 𝒱₀ (c : Thread nD τ) none) Set.univ (.op (.semWait crR u) kk) Q) :=
  wait_recv (κ := κ) (wpE_semWait_eq 𝒱₀ (c : Thread nD τ) none Set.univ) rfl (by decide) rfl rfl rfl hk (by revert c; decide) (by decide) rfl
/-- Wait 17. -/
theorem W17 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 20 17 l) ⊢ iprop(((St (F := F) c 20 18 ((.dma 20) :: l) ∗ at_ c rr11 (up (D.a1r (lft c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (20 : DmaSem sig) src dst hsrc hdst) kk) Q) :=
  wait_recv (κ := κ) (wpE_waitDma2_eq 𝒱₀ (c : Thread nD τ) none Set.univ) rfl (by decide) rfl rfl rfl hk (by revert c; decide) (by decide) rfl
/-- Wait 18. -/
theorem W18 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 20 18 l ∗ cred (tallyAt (dC c 14) 0 aH)) ⊢ iprop(((St (F := F) c 20 19 ((.dma 14) :: l) ∗ at_ c ac01 (up (D.a1r c))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (14 : DmaSem sig) src dst hsrc hdst) kk) Q) :=
  wait_sent (κ := κ) (wpE_waitDma2_eq 𝒱₀ (c : Thread nD τ) none Set.univ) rfl (by decide) rfl rfl rfl hk (by revert c; decide) rfl
/-- Wait 19. -/
theorem W19 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 21 19 l) ⊢ iprop(((St (F := F) c 21 20 ((.dma 29) :: l) ∗ at_ c rl10 (up (D.a1l (rgt c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (29 : DmaSem sig) src dst hsrc hdst) kk) Q) :=
  wait_recv (κ := κ) (wpE_waitDma2_eq 𝒱₀ (c : Thread nD τ) none Set.univ) rfl (by decide) rfl rfl rfl hk (by revert c; decide) (by decide) rfl
/-- Wait 20. -/
theorem W20 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 21 20 l ∗ cred (tallyAt (dC c 23) 0 aH)) ⊢ iprop(((St (F := F) c 21 21 ((.dma 23) :: l) ∗ at_ c ac10 (up (D.a1l c))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (23 : DmaSem sig) src dst hsrc hdst) kk) Q) :=
  wait_sent (κ := κ) (wpE_waitDma2_eq 𝒱₀ (c : Thread nD τ) none Set.univ) rfl (by decide) rfl rfl rfl hk (by revert c; decide) rfl
/-- Wait 21. -/
theorem W21 {l : List (SemLoc sig)} {u : ℕ} (hk : u = 1) {α : Type} {Q : α → sProp 𝕄} {kk : PUnit.{1} → Prog (TpuEff nD τ sig (Elt F) Λ₀ .tc) α} :
    iprop(Pers D c κ ∗ St (F := F) c 21 21 l) ⊢ iprop(((St (F := F) c 21 22 ((.reg crL) :: l) ∗ crLPay (lft c)) -∗ wp frame (wpE (defs₀ (F := F)) 𝒱₀ (c : Thread nD τ) none) Set.univ (kk ⟨⟩) Q) -∗ wp frame (wpE (defs₀ (F := F)) 𝒱₀ (c : Thread nD τ) none) Set.univ (.op (.semWait crL u) kk) Q) :=
  wait_recv (κ := κ) (wpE_semWait_eq 𝒱₀ (c : Thread nD τ) none Set.univ) rfl (by decide) rfl rfl rfl hk (by revert c; decide) (by decide) rfl
/-- Wait 22. -/
theorem W22 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 22 22 l) ⊢ iprop(((St (F := F) c 22 23 ((.dma 30) :: l) ∗ at_ c rl11 (up (D.a1l (rgt c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (30 : DmaSem sig) src dst hsrc hdst) kk) Q) :=
  wait_recv (κ := κ) (wpE_waitDma2_eq 𝒱₀ (c : Thread nD τ) none Set.univ) rfl (by decide) rfl rfl rfl hk (by revert c; decide) (by decide) rfl
/-- Wait 23. -/
theorem W23 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 22 23 l ∗ cred (tallyAt (dC c 24) 0 aH)) ⊢ iprop(((St (F := F) c 22 24 ((.dma 24) :: l) ∗ at_ c ac11 (up (D.a1l c))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (24 : DmaSem sig) src dst hsrc hdst) kk) Q) :=
  wait_sent (κ := κ) (wpE_waitDma2_eq 𝒱₀ (c : Thread nD τ) none Set.univ) rfl (by decide) rfl rfl rfl hk (by revert c; decide) rfl
/-- Wait 24. -/
theorem W24 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 23 24 l ∗ atPos ER (dC c 17) 1 ∅ 0) ⊢ iprop(((St (F := F) c 23 25 ((.dma 17) :: l) ∗ at_ c rr00 (up (D.a2r (lft c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (17 : DmaSem sig) src dst hsrc hdst) kk) Q) :=
  wait_second (κ := κ) (wpE_waitDma2_eq 𝒱₀ (c : Thread nD τ) none Set.univ) rfl (by decide) rfl rfl hk (by revert c; decide) (by decide) rfl
/-- Wait 25. -/
theorem W25 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 23 25 l ∗ atPos ER (dC c 18) 1 ∅ 0) ⊢ iprop(((St (F := F) c 23 26 ((.dma 18) :: l) ∗ at_ c rr01 (up (D.a2r (lft c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (18 : DmaSem sig) src dst hsrc hdst) kk) Q) :=
  wait_second (κ := κ) (wpE_waitDma2_eq 𝒱₀ (c : Thread nD τ) none Set.univ) rfl (by decide) rfl rfl hk (by revert c; decide) (by decide) rfl
/-- Wait 26. -/
theorem W26 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 23 26 l ∗ atPos ER (dC c 27) 1 ∅ 0) ⊢ iprop(((St (F := F) c 23 27 ((.dma 27) :: l) ∗ at_ c rl00 (up (D.a2l (rgt c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (27 : DmaSem sig) src dst hsrc hdst) kk) Q) :=
  wait_second (κ := κ) (wpE_waitDma2_eq 𝒱₀ (c : Thread nD τ) none Set.univ) rfl (by decide) rfl rfl hk (by revert c; decide) (by decide) rfl
/-- Wait 27. -/
theorem W27 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 23 27 l ∗ atPos ER (dC c 28) 1 ∅ 0) ⊢ iprop(((St (F := F) c 23 28 ((.dma 28) :: l) ∗ at_ c rl01 (up (D.a2l (rgt c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (28 : DmaSem sig) src dst hsrc hdst) kk) Q) :=
  wait_second (κ := κ) (wpE_waitDma2_eq 𝒱₀ (c : Thread nD τ) none Set.univ) rfl (by decide) rfl rfl hk (by revert c; decide) (by decide) rfl
/-- Wait 28. -/
theorem W28 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 23 28 l ∗ cred (tallyAt (dC c 15) 0 aH)) ⊢ iprop(((St (F := F) c 23 29 ((.dma 15) :: l) ∗ at_ c ac00 (up (D.a2r c))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (15 : DmaSem sig) src dst hsrc hdst) kk) Q) :=
  wait_sent (κ := κ) (wpE_waitDma2_eq 𝒱₀ (c : Thread nD τ) none Set.univ) rfl (by decide) rfl rfl rfl hk (by revert c; decide) rfl
/-- Wait 29. -/
theorem W29 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 23 29 l ∗ cred (tallyAt (dC c 16) 0 aH)) ⊢ iprop(((St (F := F) c 23 30 ((.dma 16) :: l) ∗ at_ c ac01 (up (D.a2r c))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (16 : DmaSem sig) src dst hsrc hdst) kk) Q) :=
  wait_sent (κ := κ) (wpE_waitDma2_eq 𝒱₀ (c : Thread nD τ) none Set.univ) rfl (by decide) rfl rfl rfl hk (by revert c; decide) rfl
/-- Wait 30. -/
theorem W30 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 23 30 l ∗ cred (tallyAt (dC c 25) 0 aH)) ⊢ iprop(((St (F := F) c 23 31 ((.dma 25) :: l) ∗ at_ c ac10 (up (D.a2l c))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (25 : DmaSem sig) src dst hsrc hdst) kk) Q) :=
  wait_sent (κ := κ) (wpE_waitDma2_eq 𝒱₀ (c : Thread nD τ) none Set.univ) rfl (by decide) rfl rfl rfl hk (by revert c; decide) rfl
/-- Wait 31. -/
theorem W31 {l : List (SemLoc sig)} {s : Shape} {e : EltTy} {src dst : Memref sig .tc .vmem s e} {hsrc : src.view.WordExact} {hdst : dst.view.WordExact} (hk : dst.view.dmaCredit = aH) {α : Type} {Q : α → sProp 𝕄} {kk : PUnit.{1} → Prog (TpuEff nD τ sig (Elt F) Λ₀ .tc) α} :
    iprop(Pers D c κ ∗ St (F := F) c 23 31 l ∗ cred (tallyAt (dC c 26) 0 aH)) ⊢ iprop(((St (F := F) c 23 32 ((.dma 26) :: l) ∗ at_ c ac11 (up (D.a2l c))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (26 : DmaSem sig) src dst hsrc hdst) kk) Q) :=
  wait_sent (κ := κ) (wpE_waitDma2_eq 𝒱₀ (c : Thread nD τ) none Set.univ) rfl (by decide) rfl rfl rfl hk (by revert c; decide) rfl
/-- Wait 32. -/
theorem W32 {l : List (SemLoc sig)} {s : Shape} {e : EltTy} {src dst : Memref sig .tc .vmem s e} {hsrc : src.view.WordExact} {hdst : dst.view.WordExact} (hk : dst.view.dmaCredit = aX) {α : Type} {Q : α → sProp 𝕄} {kk : PUnit.{1} → Prog (TpuEff nD τ sig (Elt F) Λ₀ .tc) α} :
    iprop(Pers D c κ ∗ St (F := F) c 23 32 l ∗ cred (tallyAt (dC c 5) 0 aX)) ⊢ iprop(((St (F := F) c 23 33 ((.dma 5) :: l) ∗ atQ fullShare.left c xM (D.x c)) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (5 : DmaSem sig) src dst hsrc hdst) kk) Q) :=
  wait_sent (κ := κ) (wpE_waitDma2_eq 𝒱₀ (c : Thread nD τ) none Set.univ) rfl (by decide) rfl rfl rfl hk (by revert c; decide) rfl
/-- Wait 33. -/
theorem W33 {l : List (SemLoc sig)} {s : Shape} {e : EltTy} {src dst : Memref sig .tc .vmem s e} {hsrc : src.view.WordExact} {hdst : dst.view.WordExact} (hk : dst.view.dmaCredit = aX) {α : Type} {Q : α → sProp 𝕄} {kk : PUnit.{1} → Prog (TpuEff nD τ sig (Elt F) Λ₀ .tc) α} :
    iprop(Pers D c κ ∗ St (F := F) c 23 33 l ∗ cred (tallyAt (dC c 6) 0 aX)) ⊢ iprop(((St (F := F) c 23 34 ((.dma 6) :: l) ∗ atQ fullShare.left c xg0 (up (D.x (lft c)))) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (6 : DmaSem sig) src dst hsrc hdst) kk) Q) :=
  wait_sent (κ := κ) (wpE_waitDma2_eq 𝒱₀ (c : Thread nD τ) none Set.univ) rfl (by decide) rfl rfl rfl hk (by revert c; decide) rfl
/-- Wait 34. -/
theorem W34 {l : List (SemLoc sig)} {s : Shape} {e : EltTy} {src dst : Memref sig .tc .vmem s e} {hsrc : src.view.WordExact} {hdst : dst.view.WordExact} (hk : dst.view.dmaCredit = aX) {α : Type} {Q : α → sProp 𝕄} {kk : PUnit.{1} → Prog (TpuEff nD τ sig (Elt F) Λ₀ .tc) α} :
    iprop(Pers D c κ ∗ St (F := F) c 23 34 l ∗ cred (tallyAt (dC c 7) 0 aX)) ⊢ iprop(((St (F := F) c 23 35 ((.dma 7) :: l) ∗ atQ fullShare.right.left c xM (D.x c)) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (7 : DmaSem sig) src dst hsrc hdst) kk) Q) :=
  wait_sent (κ := κ) (wpE_waitDma2_eq 𝒱₀ (c : Thread nD τ) none Set.univ) rfl (by decide) rfl rfl rfl hk (by revert c; decide) rfl
/-- Wait 35. -/
theorem W35 {l : List (SemLoc sig)} {s : Shape} {e : EltTy} {src dst : Memref sig .tc .vmem s e} {hsrc : src.view.WordExact} {hdst : dst.view.WordExact} (hk : dst.view.dmaCredit = aR) {α : Type} {Q : α → sProp 𝕄} {kk : PUnit.{1} → Prog (TpuEff nD τ sig (Elt F) Λ₀ .tc) α} :
    iprop(Pers D c κ ∗ St (F := F) c 23 35 l ∗ cred (tallyAt (dC c 31) 0 aR)) ⊢ iprop(((St (F := F) c 23 36 ((.dma 31) :: l) ∗ atQ fullShare.left c rM (D.rt c)) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (31 : DmaSem sig) src dst hsrc hdst) kk) Q) :=
  wait_sent (κ := κ) (wpE_waitDma2_eq 𝒱₀ (c : Thread nD τ) none Set.univ) rfl (by decide) rfl rfl rfl hk (by revert c; decide) rfl
/-- Wait 36. -/
theorem W36 {l : List (SemLoc sig)} {s : Shape} {e : EltTy} {src dst : Memref sig .tc .vmem s e} {hsrc : src.view.WordExact} {hdst : dst.view.WordExact} (hk : dst.view.dmaCredit = aR) {α : Type} {Q : α → sProp 𝕄} {kk : PUnit.{1} → Prog (TpuEff nD τ sig (Elt F) Λ₀ .tc) α} :
    iprop(Pers D c κ ∗ St (F := F) c 23 36 l ∗ cred (tallyAt (dC c 32) 0 aR)) ⊢ iprop(((St (F := F) c 23 37 ((.dma 32) :: l) ∗ atQ fullShare.right.left c rM (D.rt c)) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (32 : DmaSem sig) src dst hsrc hdst) kk) Q) :=
  wait_sent (κ := κ) (wpE_waitDma2_eq 𝒱₀ (c : Thread nD τ) none Set.univ) rfl (by decide) rfl rfl rfl hk (by revert c; decide) rfl
/-- Wait 37. -/
theorem W37 {l : List (SemLoc sig)} {s : Shape} {e : EltTy} {src dst : Memref sig .tc .vmem s e} {hsrc : src.view.WordExact} {hdst : dst.view.WordExact} (hk : dst.view.dmaCredit = aR) {α : Type} {Q : α → sProp 𝕄} {kk : PUnit.{1} → Prog (TpuEff nD τ sig (Elt F) Λ₀ .tc) α} :
    iprop(Pers D c κ ∗ St (F := F) c 23 37 l ∗ cred (tallyAt (dC c 33) 0 aR)) ⊢ iprop(((St (F := F) c 23 38 ((.dma 33) :: l) ∗ atQ fullShare.right.right.left c rM (D.rt c)) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 (33 : DmaSem sig) src dst hsrc hdst) kk) Q) :=
  wait_sent (κ := κ) (wpE_waitDma2_eq 𝒱₀ (c : Thread nD τ) none Set.univ) rfl (by decide) rfl rfl rfl hk (by revert c; decide) rfl
/-- Payment 3. -/
theorem P3 {n : Dev nD} (hn : n = rgt c) {j : ℕ} {l : List (SemLoc sig)} {hsc : rc0.view.ref.isScScratch = false} {hsrc : rM.view.WordExact} {hdst : rc0.view.WordExact}
    {hsem : DmaTarget.Typed .vmem (.dma (34 : DmaSem sig)) (.remote (Dev.tc n : Thread nD τ) rc0 (.dma (31 : DmaSem sig)) hsc)} {α : Type} {Q : α → sProp 𝕄} {kk : PUnit.{1} → Prog (TpuEff nD τ sig (Elt F) Λ₀ .tc) α} :
    iprop(Pers D c κ ∗ Nb (F := F) c ∗ St (F := F) c 3 j l ∗ atQ fullShare.left c rM (D.rt c) ∗ any (F := F) (rgt c) rc0)
      ⊢ iprop(((St (F := F) c 4 j l ∗ cred (tallyAt (dC c 31) 0 aR)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma rM (.remote (Dev.tc n : Thread nD τ) rc0 (.dma (31 : DmaSem sig)) hsc) (.dma (34 : DmaSem sig)) hsrc hdst hsem) kk) Q) := by
  unfold St
  iintro ⟨#HP, #HN, ⟨HL, HW, HD⟩, Hs, Hd⟩ Hk
  iapply (send_step (c := c) (κ := κ) (D := D) (p := rgt c) hn (src := rM) (dst := rc0) (kS := 31) (kR := 34) (i := 2) (N := aR) (k := 3) (r := 0) (q := fullShare.left) (fs := D.rt c) (g := up (D.rt c)) rfl rfl (by decide) (by decide) rfl rfl rfl rfl rfl rfl
    (by show at_ (rgt c) rc0 (up (D.rt (lft (rgt c)))) = at_ (rgt c) rc0 (up (D.rt c)); rw [lft_rgt]) (rd_r0 _)) $$ [HL Hs Hd]
  · isplitr; · iexact HP
    isplitr
    · iapply (Nb_mem (c := c) (by unfold nbL; simp)); iexact HN
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 4. -/
theorem P4 {n : Dev nD} (hn : n = lft c) {j : ℕ} {l : List (SemLoc sig)} {hsc : rc1.view.ref.isScScratch = false} {hsrc : rM.view.WordExact} {hdst : rc1.view.WordExact}
    {hsem : DmaTarget.Typed .vmem (.dma (35 : DmaSem sig)) (.remote (Dev.tc n : Thread nD τ) rc1 (.dma (32 : DmaSem sig)) hsc)} {α : Type} {Q : α → sProp 𝕄} {kk : PUnit.{1} → Prog (TpuEff nD τ sig (Elt F) Λ₀ .tc) α} :
    iprop(Pers D c κ ∗ Nb (F := F) c ∗ St (F := F) c 4 j l ∗ atQ fullShare.right.left c rM (D.rt c) ∗ any (F := F) (lft c) rc1)
      ⊢ iprop(((St (F := F) c 5 j l ∗ cred (tallyAt (dC c 32) 0 aR)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma rM (.remote (Dev.tc n : Thread nD τ) rc1 (.dma (32 : DmaSem sig)) hsc) (.dma (35 : DmaSem sig)) hsrc hdst hsem) kk) Q) := by
  unfold St
  iintro ⟨#HP, #HN, ⟨HL, HW, HD⟩, Hs, Hd⟩ Hk
  iapply (send_step (c := c) (κ := κ) (D := D) (p := lft c) hn (src := rM) (dst := rc1) (kS := 32) (kR := 35) (i := 2) (N := aR) (k := 4) (r := 0) (q := fullShare.right.left) (fs := D.rt c) (g := up (D.rt c)) rfl rfl (by decide) (by decide) rfl rfl rfl rfl rfl rfl
    (by show at_ (lft c) rc1 (up (D.rt (rgt (lft c)))) = at_ (lft c) rc1 (up (D.rt c)); rw [rgt_lft]) (rd_r1 _)) $$ [HL Hs Hd]
  · isplitr; · iexact HP
    isplitr
    · iapply (Nb_mem (c := c) (by unfold nbL; simp)); iexact HN
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 5. -/
theorem P5 {n : Dev nD} (hn : n = opp c) {j : ℕ} {l : List (SemLoc sig)} {hsc : rc2.view.ref.isScScratch = false} {hsrc : rM.view.WordExact} {hdst : rc2.view.WordExact}
    {hsem : DmaTarget.Typed .vmem (.dma (36 : DmaSem sig)) (.remote (Dev.tc n : Thread nD τ) rc2 (.dma (33 : DmaSem sig)) hsc)} {α : Type} {Q : α → sProp 𝕄} {kk : PUnit.{1} → Prog (TpuEff nD τ sig (Elt F) Λ₀ .tc) α} :
    iprop(Pers D c κ ∗ Nb (F := F) c ∗ St (F := F) c 5 j l ∗ atQ fullShare.right.right.left c rM (D.rt c) ∗ any (F := F) (opp c) rc2)
      ⊢ iprop(((St (F := F) c 6 j l ∗ cred (tallyAt (dC c 33) 0 aR)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma rM (.remote (Dev.tc n : Thread nD τ) rc2 (.dma (33 : DmaSem sig)) hsc) (.dma (36 : DmaSem sig)) hsrc hdst hsem) kk) Q) := by
  unfold St
  iintro ⟨#HP, #HN, ⟨HL, HW, HD⟩, Hs, Hd⟩ Hk
  iapply (send_step (c := c) (κ := κ) (D := D) (p := opp c) hn (src := rM) (dst := rc2) (kS := 33) (kR := 36) (i := 2) (N := aR) (k := 5) (r := 0) (q := fullShare.right.right.left) (fs := D.rt c) (g := up (D.rt c)) rfl rfl (by decide) (by decide) rfl rfl rfl rfl rfl rfl
    (by show at_ (opp c) rc2 (up (D.rt (opp (opp c)))) = at_ (opp c) rc2 (up (D.rt c)); rw [opp_opp]) (rd_r2 _)) $$ [HL Hs Hd]
  · isplitr; · iexact HP
    isplitr
    · iapply (Nb_mem (c := c) (by unfold nbL; simp)); iexact HN
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 6. -/
theorem P6 {n : Dev nD} (hn : n = rgt c) {j : ℕ} {l : List (SemLoc sig)} {hsc : xg0.view.ref.isScScratch = false} {hsrc : xM.view.WordExact} {hdst : xg0.view.WordExact}
    {hsem : DmaTarget.Typed .vmem (.dma (8 : DmaSem sig)) (.remote (Dev.tc n : Thread nD τ) xg0 (.dma (5 : DmaSem sig)) hsc)} {α : Type} {Q : α → sProp 𝕄} {kk : PUnit.{1} → Prog (TpuEff nD τ sig (Elt F) Λ₀ .tc) α} :
    iprop(Pers D c κ ∗ Nb (F := F) c ∗ St (F := F) c 6 j l ∗ atQ fullShare.left c xM (D.x c) ∗ any (F := F) (rgt c) xg0)
      ⊢ iprop(((St (F := F) c 7 j l ∗ cred (tallyAt (dC c 5) 0 aX)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma xM (.remote (Dev.tc n : Thread nD τ) xg0 (.dma (5 : DmaSem sig)) hsc) (.dma (8 : DmaSem sig)) hsrc hdst hsem) kk) Q) := by
  unfold St
  iintro ⟨#HP, #HN, ⟨HL, HW, HD⟩, Hs, Hd⟩ Hk
  iapply (send_step (c := c) (κ := κ) (D := D) (p := rgt c) hn (src := xM) (dst := xg0) (kS := 5) (kR := 8) (i := 3) (N := aX) (k := 6) (r := 0) (q := fullShare.left) (fs := D.x c) (g := up (D.x c)) rfl rfl (by decide) (by decide) rfl rfl rfl rfl rfl rfl
    (by show at_ (rgt c) xg0 (up (D.x (lft (rgt c)))) = at_ (rgt c) xg0 (up (D.x c)); rw [lft_rgt]) (rd_x0 _)) $$ [HL Hs Hd]
  · isplitr; · iexact HP
    isplitr
    · iapply (Nb_mem (c := c) (by unfold nbL; simp)); iexact HN
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 7. -/
theorem P7 {n : Dev nD} (hn : n = lft c) {j : ℕ} {l : List (SemLoc sig)} {hsc : xg2.view.ref.isScScratch = false} {hsrc : xM.view.WordExact} {hdst : xg2.view.WordExact}
    {hsem : DmaTarget.Typed .vmem (.dma (10 : DmaSem sig)) (.remote (Dev.tc n : Thread nD τ) xg2 (.dma (7 : DmaSem sig)) hsc)} {α : Type} {Q : α → sProp 𝕄} {kk : PUnit.{1} → Prog (TpuEff nD τ sig (Elt F) Λ₀ .tc) α} :
    iprop(Pers D c κ ∗ Nb (F := F) c ∗ St (F := F) c 7 j l ∗ atQ fullShare.right.left c xM (D.x c) ∗ any (F := F) (lft c) xg2)
      ⊢ iprop(((St (F := F) c 8 j l ∗ cred (tallyAt (dC c 7) 0 aX)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma xM (.remote (Dev.tc n : Thread nD τ) xg2 (.dma (7 : DmaSem sig)) hsc) (.dma (10 : DmaSem sig)) hsrc hdst hsem) kk) Q) := by
  unfold St
  iintro ⟨#HP, #HN, ⟨HL, HW, HD⟩, Hs, Hd⟩ Hk
  iapply (send_step (c := c) (κ := κ) (D := D) (p := lft c) hn (src := xM) (dst := xg2) (kS := 7) (kR := 10) (i := 3) (N := aX) (k := 7) (r := 0) (q := fullShare.right.left) (fs := D.x c) (g := up (D.x c)) rfl rfl (by decide) (by decide) rfl rfl rfl rfl rfl rfl
    (by show at_ (lft c) xg2 (up (D.x (rgt (lft c)))) = at_ (lft c) xg2 (up (D.x c)); rw [rgt_lft]) (rd_x2 _)) $$ [HL Hs Hd]
  · isplitr; · iexact HP
    isplitr
    · iapply (Nb_mem (c := c) (by unfold nbL; simp)); iexact HN
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 8. -/
theorem P8 {n : Dev nD} (hn : n = rgt c) {j : ℕ} {l : List (SemLoc sig)} {hsc : xg1.view.ref.isScScratch = false} {hsrc : xg0.view.WordExact} {hdst : xg1.view.WordExact}
    {hsem : DmaTarget.Typed .vmem (.dma (9 : DmaSem sig)) (.remote (Dev.tc n : Thread nD τ) xg1 (.dma (6 : DmaSem sig)) hsc)} {α : Type} {Q : α → sProp 𝕄} {kk : PUnit.{1} → Prog (TpuEff nD τ sig (Elt F) Λ₀ .tc) α} :
    iprop(Pers D c κ ∗ Nb (F := F) c ∗ St (F := F) c 8 j l ∗ atQ fullShare.left c xg0 (up (D.x (lft c))) ∗ any (F := F) (rgt c) xg1)
      ⊢ iprop(((St (F := F) c 9 j l ∗ cred (tallyAt (dC c 6) 0 aX)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma xg0 (.remote (Dev.tc n : Thread nD τ) xg1 (.dma (6 : DmaSem sig)) hsc) (.dma (9 : DmaSem sig)) hsrc hdst hsem) kk) Q) := by
  unfold St
  iintro ⟨#HP, #HN, ⟨HL, HW, HD⟩, Hs, Hd⟩ Hk
  iapply (send_step (c := c) (κ := κ) (D := D) (p := rgt c) hn (src := xg0) (dst := xg1) (kS := 6) (kR := 9) (i := 4) (N := aX) (k := 8) (r := 0) (q := fullShare.left) (fs := up (D.x (lft c))) (g := up (D.x (lft c))) rfl rfl (by decide) (by decide) rfl rfl rfl rfl rfl rfl
    (by show at_ (rgt c) xg1 (up (D.x (lft (lft (rgt c))))) = at_ (rgt c) xg1 (up (D.x (lft c))); rw [lft_rgt]) (rfl)) $$ [HL Hs Hd]
  · isplitr; · iexact HP
    isplitr
    · iapply (Nb_mem (c := c) (by unfold nbL; simp)); iexact HN
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 9. -/
theorem P9 {n : Dev nD} (hn : n = rgt c) {j : ℕ} {l : List (SemLoc sig)} {hsc : rr00.view.ref.isScScratch = false} {hsrc : ac00.view.WordExact} {hdst : rr00.view.WordExact}
    {hsem : DmaTarget.Typed .vmem (.dma (17 : DmaSem sig)) (.remote (Dev.tc n : Thread nD τ) rr00 (.dma (11 : DmaSem sig)) hsc)} {α : Type} {Q : α → sProp 𝕄} {kk : PUnit.{1} → Prog (TpuEff nD τ sig (Elt F) Λ₀ .tc) α} :
    iprop(Pers D c κ ∗ Nb (F := F) c ∗ St (F := F) c 9 j l ∗ atQ fullShare c ac00 (up (D.a0r c)) ∗ any (F := F) (rgt c) rr00)
      ⊢ iprop(((St (F := F) c 10 j l ∗ cred (tallyAt (dC c 11) 0 aH)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma ac00 (.remote (Dev.tc n : Thread nD τ) rr00 (.dma (11 : DmaSem sig)) hsc) (.dma (17 : DmaSem sig)) hsrc hdst hsem) kk) Q) := by
  unfold St
  iintro ⟨#HP, #HN, ⟨HL, HW, HD⟩, Hs, Hd⟩ Hk
  iapply (send_step (c := c) (κ := κ) (D := D) (p := rgt c) hn (src := ac00) (dst := rr00) (kS := 11) (kR := 17) (i := 5) (N := aH) (k := 9) (r := 0) (q := fullShare) (fs := up (D.a0r c)) (g := up (D.a0r c)) rfl rfl (by decide) (by decide) rfl rfl rfl rfl rfl rfl
    (by show at_ (rgt c) rr00 (up (D.a0r (lft (rgt c)))) = at_ (rgt c) rr00 (up (D.a0r c)); rw [lft_rgt]) (rfl)) $$ [HL Hs Hd]
  · isplitr; · iexact HP
    isplitr
    · iapply (Nb_mem (c := c) (by unfold nbL; simp)); iexact HN
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 10. -/
theorem P10 {n : Dev nD} (hn : n = rgt c) {j : ℕ} {l : List (SemLoc sig)} {hsc : rr01.view.ref.isScScratch = false} {hsrc : ac01.view.WordExact} {hdst : rr01.view.WordExact}
    {hsem : DmaTarget.Typed .vmem (.dma (18 : DmaSem sig)) (.remote (Dev.tc n : Thread nD τ) rr01 (.dma (12 : DmaSem sig)) hsc)} {α : Type} {Q : α → sProp 𝕄} {kk : PUnit.{1} → Prog (TpuEff nD τ sig (Elt F) Λ₀ .tc) α} :
    iprop(Pers D c κ ∗ Nb (F := F) c ∗ St (F := F) c 10 j l ∗ atQ fullShare c ac01 (up (D.a0r c)) ∗ any (F := F) (rgt c) rr01)
      ⊢ iprop(((St (F := F) c 11 j l ∗ cred (tallyAt (dC c 12) 0 aH)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma ac01 (.remote (Dev.tc n : Thread nD τ) rr01 (.dma (12 : DmaSem sig)) hsc) (.dma (18 : DmaSem sig)) hsrc hdst hsem) kk) Q) := by
  unfold St
  iintro ⟨#HP, #HN, ⟨HL, HW, HD⟩, Hs, Hd⟩ Hk
  iapply (send_step (c := c) (κ := κ) (D := D) (p := rgt c) hn (src := ac01) (dst := rr01) (kS := 12) (kR := 18) (i := 5) (N := aH) (k := 10) (r := 0) (q := fullShare) (fs := up (D.a0r c)) (g := up (D.a0r c)) rfl rfl (by decide) (by decide) rfl rfl rfl rfl rfl rfl
    (by show at_ (rgt c) rr01 (up (D.a0r (lft (rgt c)))) = at_ (rgt c) rr01 (up (D.a0r c)); rw [lft_rgt]) (rfl)) $$ [HL Hs Hd]
  · isplitr; · iexact HP
    isplitr
    · iapply (Nb_mem (c := c) (by unfold nbL; simp)); iexact HN
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 11. -/
theorem P11 {n : Dev nD} (hn : n = lft c) {j : ℕ} {l : List (SemLoc sig)} {hsc : rl00.view.ref.isScScratch = false} {hsrc : ac10.view.WordExact} {hdst : rl00.view.WordExact}
    {hsem : DmaTarget.Typed .vmem (.dma (27 : DmaSem sig)) (.remote (Dev.tc n : Thread nD τ) rl00 (.dma (21 : DmaSem sig)) hsc)} {α : Type} {Q : α → sProp 𝕄} {kk : PUnit.{1} → Prog (TpuEff nD τ sig (Elt F) Λ₀ .tc) α} :
    iprop(Pers D c κ ∗ Nb (F := F) c ∗ St (F := F) c 11 j l ∗ atQ fullShare c ac10 (up (D.a0l c)) ∗ any (F := F) (lft c) rl00)
      ⊢ iprop(((St (F := F) c 12 j l ∗ cred (tallyAt (dC c 21) 0 aH)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma ac10 (.remote (Dev.tc n : Thread nD τ) rl00 (.dma (21 : DmaSem sig)) hsc) (.dma (27 : DmaSem sig)) hsrc hdst hsem) kk) Q) := by
  unfold St
  iintro ⟨#HP, #HN, ⟨HL, HW, HD⟩, Hs, Hd⟩ Hk
  iapply (send_step (c := c) (κ := κ) (D := D) (p := lft c) hn (src := ac10) (dst := rl00) (kS := 21) (kR := 27) (i := 5) (N := aH) (k := 11) (r := 0) (q := fullShare) (fs := up (D.a0l c)) (g := up (D.a0l c)) rfl rfl (by decide) (by decide) rfl rfl rfl rfl rfl rfl
    (by show at_ (lft c) rl00 (up (D.a0l (rgt (lft c)))) = at_ (lft c) rl00 (up (D.a0l c)); rw [rgt_lft]) (rfl)) $$ [HL Hs Hd]
  · isplitr; · iexact HP
    isplitr
    · iapply (Nb_mem (c := c) (by unfold nbL; simp)); iexact HN
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 12. -/
theorem P12 {n : Dev nD} (hn : n = lft c) {j : ℕ} {l : List (SemLoc sig)} {hsc : rl01.view.ref.isScScratch = false} {hsrc : ac11.view.WordExact} {hdst : rl01.view.WordExact}
    {hsem : DmaTarget.Typed .vmem (.dma (28 : DmaSem sig)) (.remote (Dev.tc n : Thread nD τ) rl01 (.dma (22 : DmaSem sig)) hsc)} {α : Type} {Q : α → sProp 𝕄} {kk : PUnit.{1} → Prog (TpuEff nD τ sig (Elt F) Λ₀ .tc) α} :
    iprop(Pers D c κ ∗ Nb (F := F) c ∗ St (F := F) c 12 j l ∗ atQ fullShare c ac11 (up (D.a0l c)) ∗ any (F := F) (lft c) rl01)
      ⊢ iprop(((St (F := F) c 13 j l ∗ cred (tallyAt (dC c 22) 0 aH)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma ac11 (.remote (Dev.tc n : Thread nD τ) rl01 (.dma (22 : DmaSem sig)) hsc) (.dma (28 : DmaSem sig)) hsrc hdst hsem) kk) Q) := by
  unfold St
  iintro ⟨#HP, #HN, ⟨HL, HW, HD⟩, Hs, Hd⟩ Hk
  iapply (send_step (c := c) (κ := κ) (D := D) (p := lft c) hn (src := ac11) (dst := rl01) (kS := 22) (kR := 28) (i := 5) (N := aH) (k := 12) (r := 0) (q := fullShare) (fs := up (D.a0l c)) (g := up (D.a0l c)) rfl rfl (by decide) (by decide) rfl rfl rfl rfl rfl rfl
    (by show at_ (lft c) rl01 (up (D.a0l (rgt (lft c)))) = at_ (lft c) rl01 (up (D.a0l c)); rw [rgt_lft]) (rfl)) $$ [HL Hs Hd]
  · isplitr; · iexact HP
    isplitr
    · iapply (Nb_mem (c := c) (by unfold nbL; simp)); iexact HN
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 13. -/
theorem P13 {n : Dev nD} (hn : n = rgt c) {j : ℕ} {l : List (SemLoc sig)} {hsc : rr10.view.ref.isScScratch = false} {hsrc : ac00.view.WordExact} {hdst : rr10.view.WordExact}
    {hsem : DmaTarget.Typed .vmem (.dma (19 : DmaSem sig)) (.remote (Dev.tc n : Thread nD τ) rr10 (.dma (13 : DmaSem sig)) hsc)} {α : Type} {Q : α → sProp 𝕄} {kk : PUnit.{1} → Prog (TpuEff nD τ sig (Elt F) Λ₀ .tc) α} :
    iprop(Pers D c κ ∗ Nb (F := F) c ∗ St (F := F) c 13 j l ∗ atQ fullShare c ac00 (up (D.a1r c)) ∗ any (F := F) (rgt c) rr10)
      ⊢ iprop(((St (F := F) c 14 j l ∗ cred (tallyAt (dC c 13) 0 aH)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma ac00 (.remote (Dev.tc n : Thread nD τ) rr10 (.dma (13 : DmaSem sig)) hsc) (.dma (19 : DmaSem sig)) hsrc hdst hsem) kk) Q) := by
  unfold St
  iintro ⟨#HP, #HN, ⟨HL, HW, HD⟩, Hs, Hd⟩ Hk
  iapply (send_step (c := c) (κ := κ) (D := D) (p := rgt c) hn (src := ac00) (dst := rr10) (kS := 13) (kR := 19) (i := 7) (N := aH) (k := 13) (r := 0) (q := fullShare) (fs := up (D.a1r c)) (g := up (D.a1r c)) rfl rfl (by decide) (by decide) rfl rfl rfl rfl rfl rfl
    (by show at_ (rgt c) rr10 (up (D.a1r (lft (rgt c)))) = at_ (rgt c) rr10 (up (D.a1r c)); rw [lft_rgt]) (rfl)) $$ [HL Hs Hd]
  · isplitr; · iexact HP
    isplitr
    · iapply (Nb_mem (c := c) (by unfold nbL; simp)); iexact HN
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 14. -/
theorem P14 {n : Dev nD} (hn : n = rgt c) {j : ℕ} {l : List (SemLoc sig)} {hsc : rr11.view.ref.isScScratch = false} {hsrc : ac01.view.WordExact} {hdst : rr11.view.WordExact}
    {hsem : DmaTarget.Typed .vmem (.dma (20 : DmaSem sig)) (.remote (Dev.tc n : Thread nD τ) rr11 (.dma (14 : DmaSem sig)) hsc)} {α : Type} {Q : α → sProp 𝕄} {kk : PUnit.{1} → Prog (TpuEff nD τ sig (Elt F) Λ₀ .tc) α} :
    iprop(Pers D c κ ∗ Nb (F := F) c ∗ St (F := F) c 14 j l ∗ atQ fullShare c ac01 (up (D.a1r c)) ∗ any (F := F) (rgt c) rr11)
      ⊢ iprop(((St (F := F) c 15 j l ∗ cred (tallyAt (dC c 14) 0 aH)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma ac01 (.remote (Dev.tc n : Thread nD τ) rr11 (.dma (14 : DmaSem sig)) hsc) (.dma (20 : DmaSem sig)) hsrc hdst hsem) kk) Q) := by
  unfold St
  iintro ⟨#HP, #HN, ⟨HL, HW, HD⟩, Hs, Hd⟩ Hk
  iapply (send_step (c := c) (κ := κ) (D := D) (p := rgt c) hn (src := ac01) (dst := rr11) (kS := 14) (kR := 20) (i := 7) (N := aH) (k := 14) (r := 0) (q := fullShare) (fs := up (D.a1r c)) (g := up (D.a1r c)) rfl rfl (by decide) (by decide) rfl rfl rfl rfl rfl rfl
    (by show at_ (rgt c) rr11 (up (D.a1r (lft (rgt c)))) = at_ (rgt c) rr11 (up (D.a1r c)); rw [lft_rgt]) (rfl)) $$ [HL Hs Hd]
  · isplitr; · iexact HP
    isplitr
    · iapply (Nb_mem (c := c) (by unfold nbL; simp)); iexact HN
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 16. -/
theorem P16 {n : Dev nD} (hn : n = lft c) {j : ℕ} {l : List (SemLoc sig)} {hsc : rl10.view.ref.isScScratch = false} {hsrc : ac10.view.WordExact} {hdst : rl10.view.WordExact}
    {hsem : DmaTarget.Typed .vmem (.dma (29 : DmaSem sig)) (.remote (Dev.tc n : Thread nD τ) rl10 (.dma (23 : DmaSem sig)) hsc)} {α : Type} {Q : α → sProp 𝕄} {kk : PUnit.{1} → Prog (TpuEff nD τ sig (Elt F) Λ₀ .tc) α} :
    iprop(Pers D c κ ∗ Nb (F := F) c ∗ St (F := F) c 16 j l ∗ atQ fullShare c ac10 (up (D.a1l c)) ∗ any (F := F) (lft c) rl10)
      ⊢ iprop(((St (F := F) c 17 j l ∗ cred (tallyAt (dC c 23) 0 aH)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma ac10 (.remote (Dev.tc n : Thread nD τ) rl10 (.dma (23 : DmaSem sig)) hsc) (.dma (29 : DmaSem sig)) hsrc hdst hsem) kk) Q) := by
  unfold St
  iintro ⟨#HP, #HN, ⟨HL, HW, HD⟩, Hs, Hd⟩ Hk
  iapply (send_step (c := c) (κ := κ) (D := D) (p := lft c) hn (src := ac10) (dst := rl10) (kS := 23) (kR := 29) (i := 7) (N := aH) (k := 16) (r := 0) (q := fullShare) (fs := up (D.a1l c)) (g := up (D.a1l c)) rfl rfl (by decide) (by decide) rfl rfl rfl rfl rfl rfl
    (by show at_ (lft c) rl10 (up (D.a1l (rgt (lft c)))) = at_ (lft c) rl10 (up (D.a1l c)); rw [rgt_lft]) (rfl)) $$ [HL Hs Hd]
  · isplitr; · iexact HP
    isplitr
    · iapply (Nb_mem (c := c) (by unfold nbL; simp)); iexact HN
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 17. -/
theorem P17 {n : Dev nD} (hn : n = lft c) {j : ℕ} {l : List (SemLoc sig)} {hsc : rl11.view.ref.isScScratch = false} {hsrc : ac11.view.WordExact} {hdst : rl11.view.WordExact}
    {hsem : DmaTarget.Typed .vmem (.dma (30 : DmaSem sig)) (.remote (Dev.tc n : Thread nD τ) rl11 (.dma (24 : DmaSem sig)) hsc)} {α : Type} {Q : α → sProp 𝕄} {kk : PUnit.{1} → Prog (TpuEff nD τ sig (Elt F) Λ₀ .tc) α} :
    iprop(Pers D c κ ∗ Nb (F := F) c ∗ St (F := F) c 17 j l ∗ atQ fullShare c ac11 (up (D.a1l c)) ∗ any (F := F) (lft c) rl11)
      ⊢ iprop(((St (F := F) c 18 j l ∗ cred (tallyAt (dC c 24) 0 aH)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma ac11 (.remote (Dev.tc n : Thread nD τ) rl11 (.dma (24 : DmaSem sig)) hsc) (.dma (30 : DmaSem sig)) hsrc hdst hsem) kk) Q) := by
  unfold St
  iintro ⟨#HP, #HN, ⟨HL, HW, HD⟩, Hs, Hd⟩ Hk
  iapply (send_step (c := c) (κ := κ) (D := D) (p := lft c) hn (src := ac11) (dst := rl11) (kS := 24) (kR := 30) (i := 7) (N := aH) (k := 17) (r := 0) (q := fullShare) (fs := up (D.a1l c)) (g := up (D.a1l c)) rfl rfl (by decide) (by decide) rfl rfl rfl rfl rfl rfl
    (by show at_ (lft c) rl11 (up (D.a1l (rgt (lft c)))) = at_ (lft c) rl11 (up (D.a1l c)); rw [rgt_lft]) (rfl)) $$ [HL Hs Hd]
  · isplitr; · iexact HP
    isplitr
    · iapply (Nb_mem (c := c) (by unfold nbL; simp)); iexact HN
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 19. -/
theorem P19 {n : Dev nD} (hn : n = rgt c) {j : ℕ} {l : List (SemLoc sig)} {hsc : rr00.view.ref.isScScratch = false} {hsrc : ac00.view.WordExact} {hdst : rr00.view.WordExact}
    {hsem : DmaTarget.Typed .vmem (.dma (17 : DmaSem sig)) (.remote (Dev.tc n : Thread nD τ) rr00 (.dma (15 : DmaSem sig)) hsc)} {α : Type} {Q : α → sProp 𝕄} {kk : PUnit.{1} → Prog (TpuEff nD τ sig (Elt F) Λ₀ .tc) α} :
    iprop(Pers D c κ ∗ St (F := F) c 19 j l ∗ atQ fullShare c ac00 (up (D.a2r c)) ∗ any (F := F) (rgt c) rr00 ∗ reached ER (dC (rgt c) 17) 1)
      ⊢ iprop(((St (F := F) c 20 j l ∗ cred (tallyAt (dC c 15) 0 aH)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma ac00 (.remote (Dev.tc n : Thread nD τ) rr00 (.dma (15 : DmaSem sig)) hsc) (.dma (17 : DmaSem sig)) hsrc hdst hsem) kk) Q) := by
  unfold St
  iintro ⟨#HP, ⟨HL, HW, HD⟩, Hs, Hd, #Hr⟩ Hk
  iapply (send_step (c := c) (κ := κ) (D := D) (p := rgt c) hn (src := ac00) (dst := rr00) (kS := 15) (kR := 17) (i := 8) (N := aH) (k := 19) (r := 1) (q := fullShare) (fs := up (D.a2r c)) (g := up (D.a2r c)) rfl rfl (by decide) (by decide) rfl rfl rfl rfl rfl rfl
    (by show at_ (rgt c) rr00 (up (D.a2r (lft (rgt c)))) = at_ (rgt c) rr00 (up (D.a2r c)); rw [lft_rgt]) (rfl)) $$ [HL Hs Hd]
  · isplitr; · iexact HP
    isplitr
    · iexact Hr
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 20. -/
theorem P20 {n : Dev nD} (hn : n = rgt c) {j : ℕ} {l : List (SemLoc sig)} {hsc : rr01.view.ref.isScScratch = false} {hsrc : ac01.view.WordExact} {hdst : rr01.view.WordExact}
    {hsem : DmaTarget.Typed .vmem (.dma (18 : DmaSem sig)) (.remote (Dev.tc n : Thread nD τ) rr01 (.dma (16 : DmaSem sig)) hsc)} {α : Type} {Q : α → sProp 𝕄} {kk : PUnit.{1} → Prog (TpuEff nD τ sig (Elt F) Λ₀ .tc) α} :
    iprop(Pers D c κ ∗ St (F := F) c 20 j l ∗ atQ fullShare c ac01 (up (D.a2r c)) ∗ any (F := F) (rgt c) rr01 ∗ reached ER (dC (rgt c) 18) 1)
      ⊢ iprop(((St (F := F) c 21 j l ∗ cred (tallyAt (dC c 16) 0 aH)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma ac01 (.remote (Dev.tc n : Thread nD τ) rr01 (.dma (16 : DmaSem sig)) hsc) (.dma (18 : DmaSem sig)) hsrc hdst hsem) kk) Q) := by
  unfold St
  iintro ⟨#HP, ⟨HL, HW, HD⟩, Hs, Hd, #Hr⟩ Hk
  iapply (send_step (c := c) (κ := κ) (D := D) (p := rgt c) hn (src := ac01) (dst := rr01) (kS := 16) (kR := 18) (i := 8) (N := aH) (k := 20) (r := 1) (q := fullShare) (fs := up (D.a2r c)) (g := up (D.a2r c)) rfl rfl (by decide) (by decide) rfl rfl rfl rfl rfl rfl
    (by show at_ (rgt c) rr01 (up (D.a2r (lft (rgt c)))) = at_ (rgt c) rr01 (up (D.a2r c)); rw [lft_rgt]) (rfl)) $$ [HL Hs Hd]
  · isplitr; · iexact HP
    isplitr
    · iexact Hr
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 21. -/
theorem P21 {n : Dev nD} (hn : n = lft c) {j : ℕ} {l : List (SemLoc sig)} {hsc : rl00.view.ref.isScScratch = false} {hsrc : ac10.view.WordExact} {hdst : rl00.view.WordExact}
    {hsem : DmaTarget.Typed .vmem (.dma (27 : DmaSem sig)) (.remote (Dev.tc n : Thread nD τ) rl00 (.dma (25 : DmaSem sig)) hsc)} {α : Type} {Q : α → sProp 𝕄} {kk : PUnit.{1} → Prog (TpuEff nD τ sig (Elt F) Λ₀ .tc) α} :
    iprop(Pers D c κ ∗ St (F := F) c 21 j l ∗ atQ fullShare c ac10 (up (D.a2l c)) ∗ any (F := F) (lft c) rl00 ∗ reached ER (dC (lft c) 27) 1)
      ⊢ iprop(((St (F := F) c 22 j l ∗ cred (tallyAt (dC c 25) 0 aH)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma ac10 (.remote (Dev.tc n : Thread nD τ) rl00 (.dma (25 : DmaSem sig)) hsc) (.dma (27 : DmaSem sig)) hsrc hdst hsem) kk) Q) := by
  unfold St
  iintro ⟨#HP, ⟨HL, HW, HD⟩, Hs, Hd, #Hr⟩ Hk
  iapply (send_step (c := c) (κ := κ) (D := D) (p := lft c) hn (src := ac10) (dst := rl00) (kS := 25) (kR := 27) (i := 8) (N := aH) (k := 21) (r := 1) (q := fullShare) (fs := up (D.a2l c)) (g := up (D.a2l c)) rfl rfl (by decide) (by decide) rfl rfl rfl rfl rfl rfl
    (by show at_ (lft c) rl00 (up (D.a2l (rgt (lft c)))) = at_ (lft c) rl00 (up (D.a2l c)); rw [rgt_lft]) (rfl)) $$ [HL Hs Hd]
  · isplitr; · iexact HP
    isplitr
    · iexact Hr
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 22. -/
theorem P22 {n : Dev nD} (hn : n = lft c) {j : ℕ} {l : List (SemLoc sig)} {hsc : rl01.view.ref.isScScratch = false} {hsrc : ac11.view.WordExact} {hdst : rl01.view.WordExact}
    {hsem : DmaTarget.Typed .vmem (.dma (28 : DmaSem sig)) (.remote (Dev.tc n : Thread nD τ) rl01 (.dma (26 : DmaSem sig)) hsc)} {α : Type} {Q : α → sProp 𝕄} {kk : PUnit.{1} → Prog (TpuEff nD τ sig (Elt F) Λ₀ .tc) α} :
    iprop(Pers D c κ ∗ St (F := F) c 22 j l ∗ atQ fullShare c ac11 (up (D.a2l c)) ∗ any (F := F) (lft c) rl01 ∗ reached ER (dC (lft c) 28) 1)
      ⊢ iprop(((St (F := F) c 23 j l ∗ cred (tallyAt (dC c 26) 0 aH)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma ac11 (.remote (Dev.tc n : Thread nD τ) rl01 (.dma (26 : DmaSem sig)) hsc) (.dma (28 : DmaSem sig)) hsrc hdst hsem) kk) Q) := by
  unfold St
  iintro ⟨#HP, ⟨HL, HW, HD⟩, Hs, Hd, #Hr⟩ Hk
  iapply (send_step (c := c) (κ := κ) (D := D) (p := lft c) hn (src := ac11) (dst := rl01) (kS := 26) (kR := 28) (i := 8) (N := aH) (k := 22) (r := 1) (q := fullShare) (fs := up (D.a2l c)) (g := up (D.a2l c)) rfl rfl (by decide) (by decide) rfl rfl rfl rfl rfl rfl
    (by show at_ (lft c) rl01 (up (D.a2l (rgt (lft c)))) = at_ (lft c) rl01 (up (D.a2l c)); rw [rgt_lft]) (rfl)) $$ [HL Hs Hd]
  · isplitr; · iexact HP
    isplitr
    · iexact Hr
    isplitl [HL]; · iexact HL
    isplitl [Hs]; · iexact Hs
    iexact Hd
  iintro ⟨HL, Hc⟩
  iapply Hk
  isplitr [Hc]
  · isplitl [HL]; · iexact HL
    isplitl [HW]; · iexact HW
    iexact HD
  iexact Hc
/-- Payment 15: the credit. -/
theorem P15 {n : Dev nD} (hn : n = lft c) {u : ℕ} (hu : u = 1) {j : ℕ} {l : List (SemLoc sig)} {α : Type} {Q : α → sProp 𝕄} {kk : PUnit.{1} → Prog (TpuEff nD τ sig (Elt F) Λ₀ .tc) α} :
    iprop(Pers D c κ ∗ Nb (F := F) c ∗ St (F := F) c 15 j l ∗ crRPay c)
      ⊢ iprop((St (F := F) c 16 j l -∗ wp frame (wpE (defs₀ (F := F)) 𝒱₀ (c : Thread nD τ) none) Set.univ (kk ⟨⟩) Q) -∗ wp frame (wpE (defs₀ (F := F)) 𝒱₀ (c : Thread nD τ) none) Set.univ (.op (.semSignal (n : Thread nD τ) crR u) kk) Q) := by
  unfold St
  iintro ⟨#HP, #HN, ⟨HL, HW, HD⟩, Hs⟩ Hk
  iapply (signal_step (D := D) (κ' := κ (crRC (lft c))) hn (s := crR) (i := 6) (k := 15) (d := 0) hu rfl rfl (show (0 : Fin 3) ∈ ({0} : Finset (Fin 3)) by decide)) $$ [HL Hs]
  · isplitr; · iapply (Pers_inv (lft c) (by decide)); iexact HP
    isplitr
    · iapply (Nb_mem (c := c) (g := crRC (lft c)) (by unfold nbL; simp)); iexact HN
    isplitl [HL]; · iexact HL
    rw [show (Rd D).payload ((((lft c : Dev nD)) : Thread nD τ), .reg crR) 0 0 = crRPay (rgt (lft c)) from rfl, rgt_lft]
    iexact Hs
  iintro HL
  iapply Hk
  isplitl [HL]; · iexact HL
  isplitl [HW]; · iexact HW
  iexact HD
/-- Payment 18: the credit. -/
theorem P18 {n : Dev nD} (hn : n = rgt c) {u : ℕ} (hu : u = 1) {j : ℕ} {l : List (SemLoc sig)} {α : Type} {Q : α → sProp 𝕄} {kk : PUnit.{1} → Prog (TpuEff nD τ sig (Elt F) Λ₀ .tc) α} :
    iprop(Pers D c κ ∗ Nb (F := F) c ∗ St (F := F) c 18 j l ∗ crLPay c)
      ⊢ iprop((St (F := F) c 19 j l -∗ wp frame (wpE (defs₀ (F := F)) 𝒱₀ (c : Thread nD τ) none) Set.univ (kk ⟨⟩) Q) -∗ wp frame (wpE (defs₀ (F := F)) 𝒱₀ (c : Thread nD τ) none) Set.univ (.op (.semSignal (n : Thread nD τ) crL u) kk) Q) := by
  unfold St
  iintro ⟨#HP, #HN, ⟨HL, HW, HD⟩, Hs⟩ Hk
  iapply (signal_step (D := D) (κ' := κ (crLC (rgt c))) hn (s := crL) (i := 6) (k := 18) (d := 0) hu rfl rfl (show (0 : Fin 3) ∈ ({0} : Finset (Fin 3)) by decide)) $$ [HL Hs]
  · isplitr; · iapply (Pers_inv (rgt c) (by decide)); iexact HP
    isplitr
    · iapply (Nb_mem (c := c) (g := crLC (rgt c)) (by unfold nbL; simp)); iexact HN
    isplitl [HL]; · iexact HL
    rw [show (Rd D).payload ((((rgt c : Dev nD)) : Thread nD τ), .reg crL) 0 0 = crLPay (lft (rgt c)) from rfl, lft_rgt]
    iexact Hs
  iintro HL
  iapply Hk
  isplitl [HL]; · iexact HL
  isplitl [HW]; · iexact HW
  iexact HD
/-- Payment 0: the barrier signal to `lft c`, with the pieces that device will write here. -/
theorem P0 {n : Dev nD} (hn : n = lft c) {u : ℕ} (hu : u = 1) {j : ℕ} {l : List (SemLoc sig)} {α : Type} {Q : α → sProp 𝕄} {kk : PUnit.{1} → Prog (TpuEff nD τ sig (Elt F) Λ₀ .tc) α} :
    iprop(Pers D c κ ∗ reached ER (barC (lft c)) 0 ∗ St (F := F) c 0 j l ∗ any (F := F) c rc0 ∗ any (F := F) c xg0 ∗ any (F := F) c xg1 ∗ any (F := F) c rr00 ∗ any (F := F) c rr01 ∗ any (F := F) c rr10 ∗ any (F := F) c rr11)
      ⊢ iprop((St (F := F) c 1 j l -∗ wp frame (wpE (defs₀ (F := F)) 𝒱₀ (c : Thread nD τ) none) Set.univ (kk ⟨⟩) Q) -∗ wp frame (wpE (defs₀ (F := F)) 𝒱₀ (c : Thread nD τ) none) Set.univ (.op (.semSignal (n : Thread nD τ) barS u) kk) Q) := by
  unfold St
  iintro ⟨#HP, #Hr, ⟨HL, HW, HD⟩, Hrc0, Hxg0, Hxg1, Hrr00, Hrr01, Hrr10, Hrr11⟩ Hk
  iapply (signal_step (D := D) (κ' := κ (barC (lft c))) hn (s := barS) (i := 1) (k := 0) (d := 0) hu rfl rfl (show (0 : Fin 3) ∈ ({0, 1, 2} : Finset (Fin 3)) by decide)) $$ [HL Hrc0 Hxg0 Hxg1 Hrr00 Hrr01 Hrr10 Hrr11]
  · isplitr; · iapply (Pers_bar (lft c)); iexact HP
    isplitr; · iexact Hr
    isplitl [HL]; · iexact HL
    rw [show (Rd D).payload ((((lft c : Dev nD)) : Thread nD τ), .reg barS) 0 0 = barPay (rgt (lft c)) 0 from rfl, rgt_lft]
    unfold barPay; dsimp only
    isplitl [Hrc0]; · iexact Hrc0
    isplitl [Hxg0]; · iexact Hxg0
    isplitl [Hxg1]; · iexact Hxg1
    isplitl [Hrr00]; · iexact Hrr00
    isplitl [Hrr01]; · iexact Hrr01
    isplitl [Hrr10]; · iexact Hrr10
    isplitl [Hrr11]; · iexact Hrr11
    isplitr; · iapply (Pers_reached (c := c) (sm := .dma 34) (by decide)); iexact HP
    isplitr; · iapply (Pers_reached (c := c) (sm := .dma 8) (by decide)); iexact HP
    isplitr; · iapply (Pers_reached (c := c) (sm := .dma 9) (by decide)); iexact HP
    isplitr; · iapply (Pers_reached (c := c) (sm := .dma 17) (by decide)); iexact HP
    isplitr; · iapply (Pers_reached (c := c) (sm := .dma 18) (by decide)); iexact HP
    isplitr; · iapply (Pers_reached (c := c) (sm := .dma 19) (by decide)); iexact HP
    isplitr; · iapply (Pers_reached (c := c) (sm := .dma 20) (by decide)); iexact HP
    iapply (Pers_reached (c := c) (sm := .reg crL) (by decide)); iexact HP
  iintro HL
  iapply Hk
  isplitl [HL]; · iexact HL
  isplitl [HW]; · iexact HW
  iexact HD
/-- Payment 1: the barrier signal to `rgt c`, with the pieces that device will write here. -/
theorem P1 {n : Dev nD} (hn : n = rgt c) {u : ℕ} (hu : u = 1) {j : ℕ} {l : List (SemLoc sig)} {α : Type} {Q : α → sProp 𝕄} {kk : PUnit.{1} → Prog (TpuEff nD τ sig (Elt F) Λ₀ .tc) α} :
    iprop(Pers D c κ ∗ reached ER (barC (rgt c)) 0 ∗ St (F := F) c 1 j l ∗ any (F := F) c rc1 ∗ any (F := F) c xg2 ∗ any (F := F) c rl00 ∗ any (F := F) c rl01 ∗ any (F := F) c rl10 ∗ any (F := F) c rl11)
      ⊢ iprop((St (F := F) c 2 j l -∗ wp frame (wpE (defs₀ (F := F)) 𝒱₀ (c : Thread nD τ) none) Set.univ (kk ⟨⟩) Q) -∗ wp frame (wpE (defs₀ (F := F)) 𝒱₀ (c : Thread nD τ) none) Set.univ (.op (.semSignal (n : Thread nD τ) barS u) kk) Q) := by
  unfold St
  iintro ⟨#HP, #Hr, ⟨HL, HW, HD⟩, Hrc1, Hxg2, Hrl00, Hrl01, Hrl10, Hrl11⟩ Hk
  iapply (signal_step (D := D) (κ' := κ (barC (rgt c))) hn (s := barS) (i := 1) (k := 1) (d := 1) hu rfl rfl (show (1 : Fin 3) ∈ ({0, 1, 2} : Finset (Fin 3)) by decide)) $$ [HL Hrc1 Hxg2 Hrl00 Hrl01 Hrl10 Hrl11]
  · isplitr; · iapply (Pers_bar (rgt c)); iexact HP
    isplitr; · iexact Hr
    isplitl [HL]; · iexact HL
    rw [show (Rd D).payload ((((rgt c : Dev nD)) : Thread nD τ), .reg barS) 0 1 = barPay (lft (rgt c)) 1 from rfl, lft_rgt]
    unfold barPay; dsimp only
    isplitl [Hrc1]; · iexact Hrc1
    isplitl [Hxg2]; · iexact Hxg2
    isplitl [Hrl00]; · iexact Hrl00
    isplitl [Hrl01]; · iexact Hrl01
    isplitl [Hrl10]; · iexact Hrl10
    isplitl [Hrl11]; · iexact Hrl11
    isplitr; · iapply (Pers_reached (c := c) (sm := .dma 35) (by decide)); iexact HP
    isplitr; · iapply (Pers_reached (c := c) (sm := .dma 10) (by decide)); iexact HP
    isplitr; · iapply (Pers_reached (c := c) (sm := .dma 27) (by decide)); iexact HP
    isplitr; · iapply (Pers_reached (c := c) (sm := .dma 28) (by decide)); iexact HP
    isplitr; · iapply (Pers_reached (c := c) (sm := .dma 29) (by decide)); iexact HP
    isplitr; · iapply (Pers_reached (c := c) (sm := .dma 30) (by decide)); iexact HP
    iapply (Pers_reached (c := c) (sm := .reg crR) (by decide)); iexact HP
  iintro HL
  iapply Hk
  isplitl [HL]; · iexact HL
  isplitl [HW]; · iexact HW
  iexact HD
/-- Payment 2: the barrier signal to `opp c`, with the pieces that device will write here. -/
theorem P2 {n : Dev nD} (hn : n = opp c) {u : ℕ} (hu : u = 1) {j : ℕ} {l : List (SemLoc sig)} {α : Type} {Q : α → sProp 𝕄} {kk : PUnit.{1} → Prog (TpuEff nD τ sig (Elt F) Λ₀ .tc) α} :
    iprop(Pers D c κ ∗ reached ER (barC (opp c)) 0 ∗ St (F := F) c 2 j l ∗ any (F := F) c rc2)
      ⊢ iprop((St (F := F) c 3 j l -∗ wp frame (wpE (defs₀ (F := F)) 𝒱₀ (c : Thread nD τ) none) Set.univ (kk ⟨⟩) Q) -∗ wp frame (wpE (defs₀ (F := F)) 𝒱₀ (c : Thread nD τ) none) Set.univ (.op (.semSignal (n : Thread nD τ) barS u) kk) Q) := by
  unfold St
  iintro ⟨#HP, #Hr, ⟨HL, HW, HD⟩, Hrc2⟩ Hk
  iapply (signal_step (D := D) (κ' := κ (barC (opp c))) hn (s := barS) (i := 1) (k := 2) (d := 2) hu rfl rfl (show (2 : Fin 3) ∈ ({0, 1, 2} : Finset (Fin 3)) by decide)) $$ [HL Hrc2]
  · isplitr; · iapply (Pers_bar (opp c)); iexact HP
    isplitr; · iexact Hr
    isplitl [HL]; · iexact HL
    rw [show (Rd D).payload ((((opp c : Dev nD)) : Thread nD τ), .reg barS) 0 2 = barPay (opp (opp c)) 2 from rfl, opp_opp]
    unfold barPay; dsimp only
    isplitl [Hrc2]; · iexact Hrc2
    iapply (Pers_reached (c := c) (sm := .dma 36) (by decide)); iexact HP
  iintro HL
  iapply Hk
  isplitl [HL]; · iexact HL
  isplitl [HW]; · iexact HW
  iexact HD
theorem bar3 : bigSep ((Rd D).duties (barC c) 0 \ ∅) (fun d => (Rd D).payload (barC c) 0 d)
    = iprop(barPay (F := F) (rgt c) 0 ∗ barPay (F := F) (lft c) 1 ∗ barPay (F := F) (opp c) 2) := by
  rw [show (Rd D).duties (barC c) 0 = ({0, 1, 2} : Finset (Fin 3)) from rfl, Finset.sdiff_empty,
    bigSep_insert (by decide), bigSep_insert (by decide), bigSep_singleton]
  rw [show (Rd D).payload (barC c) 0 0 = barPay (rgt c) 0 from rfl, show (Rd D).payload (barC c) 0 1 = barPay (lft c) 1 from rfl,
    show (Rd D).payload (barC c) 0 2 = barPay (opp c) 2 from rfl]
  rfl

/-- The barrier: every neighbour's pieces that this device will write. -/
theorem Wbar {u : ℕ} (hu : u = 3) {α : Type} {Q : α → sProp 𝕄} {kk : PUnit.{1} → Prog (TpuEff nD τ sig (Elt F) Λ₀ .tc) α} :
    iprop(Pers D c κ ∗ St (F := F) c 3 0 [] ∗ atPos ER (barC c) 0 ∅ 0 ∗ cred (tallyAt (barC c) 1 3))
      ⊢ iprop(((St (F := F) c 3 0 [] ∗ atPos ER (barC c) 1 ∅ 0 ∗ Nb (F := F) c ∗ any (F := F) (rgt c) rc0 ∗ any (F := F) (rgt c) xg0 ∗ any (F := F) (rgt c) xg1 ∗ any (F := F) (rgt c) rr00 ∗ any (F := F) (rgt c) rr01 ∗ any (F := F) (rgt c) rr10 ∗ any (F := F) (rgt c) rr11 ∗ any (F := F) (lft c) rc1 ∗ any (F := F) (lft c) xg2 ∗ any (F := F) (lft c) rl00 ∗ any (F := F) (lft c) rl01 ∗ any (F := F) (lft c) rl10 ∗ any (F := F) (lft c) rl11 ∗ any (F := F) (opp c) rc2) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS u) kk) Q) := by
  subst hu
  unfold St Led
  iintro ⟨#HP, ⟨⟨⟨%W, HO⟩, HT⟩, HW, HD⟩, Hat, Hc⟩ Hk
  iapply (Rounds.wp_wait_rest_token 𝒱₀ ER (Rd D) (c : Thread nD τ) none (κ := κ (barC c)) (wpE_semWait_eq 𝒱₀ (c : Thread nD τ) none Set.univ) (Set.mem_univ _) 1
      (O := tallyL ((dueL c).drop 3)) (W := W) (R := 0) (m := 0) (T := ∅) (by
        rw [Nat.zero_add]; rfl)) $$ [Hat Hc HO]
  · isplitr; · iapply (Pers_bar c); iexact HP
    isplitl [Hc]; · iexact Hc
    isplitl [HO]; · iexact HO
    isplitr; · iapply (mayWait (by revert c; decide) (by decide) (.reg barS)); iexact HP
    iexact Hat
  iintro ⟨HO, Hat, -, Hpay⟩
  ihave Hpay := (Entails.of_eq (bar3 (D := D) (c := c))) $$ Hpay
  unfold barPay; dsimp only
  icases Hpay with ⟨⟨Arc0, Axg0, Axg1, Arr00, Arr01, Arr10, Arr11, #R0, #R1, #R2, #R3, #R4, #R5, #R6, #R7⟩, ⟨Arc1, Axg2, Arl00, Arl01, Arl10, Arl11, #S0, #S1, #S2, #S3, #S4, #S5, #S6⟩, ⟨Arc2, #T0⟩⟩
  iapply Hk
  isplitl [HO HT HW HD]
  · isplitl [HO HT]
    · isplitl [HO]; · iexists _; iexact HO
      iexact HT
    isplitl [HW]; · iexact HW
    iexact HD
  isplitl [Hat]; · iexact Hat
  isplitr
  · iapply Nb_intro
    isplitr; · iexact R0
    isplitr; · iexact R1
    isplitr; · iexact R2
    isplitr; · iexact R3
    isplitr; · iexact R4
    isplitr; · iexact R5
    isplitr; · iexact R6
    isplitr; · iexact R7
    isplitr; · iexact S0
    isplitr; · iexact S1
    isplitr; · iexact S2
    isplitr; · iexact S3
    isplitr; · iexact S4
    isplitr; · iexact S5
    isplitr; · iexact S6
    iexact T0
  isplitl [Arc0]; · iexact Arc0
  isplitl [Axg0]; · iexact Axg0
  isplitl [Axg1]; · iexact Axg1
  isplitl [Arr00]; · iexact Arr00
  isplitl [Arr01]; · iexact Arr01
  isplitl [Arr10]; · iexact Arr10
  isplitl [Arr11]; · iexact Arr11
  isplitl [Arc1]; · iexact Arc1
  isplitl [Axg2]; · iexact Axg2
  isplitl [Arl00]; · iexact Arl00
  isplitl [Arl01]; · iexact Arl01
  isplitl [Arl10]; · iexact Arl10
  isplitl [Arl11]; · iexact Arl11
  iexact Arc2

end Wrap

end Cert.KernelIdeal.Talk

end
-- ==== Proof.Vals.lean ====
/-
  The values the body computes, one per value that passes from part to part, and what it stores.
-/
module

public import proofs.«01_k».proof.Proof.Wrap
public import Idealize.ShloMosaic.Lib.Pipeline.Value
public import Idealize.ShloMosaic.Lib.ValueLayout

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-- What a load of a rectangle of a buffer reads. -/
abbrev rd {s : Shape} {e : EltTy} (M : Memref sig .tc .vmem s e) (r : Rect s) (f : M.view.ty.Contents (Elt F)) : r.toLoadRect.shape.Idx → Elt F e :=
  M.view.readAt (Elt F) r.toLoadRect f

/-- The staged expert weights; -/
abbrev wM : Memref sig .tc .vmem S8x512x1024 .bf16 := Memref.whole cc0_stg1_0
/-- the staged triangle of ones; -/
abbrev tM : Memref sig .tc .vmem S2048x2048 .bf16 := Memref.whole cc0_stg3_0
/-- the four kept masks. -/
abbrev kM : Memref sig .tc .vmem S4x2048x8 .bf16 := Memref.whole cc0_scratch0

variable (D : Cont F) {c : Dev nD}

def V1_1 (c : Dev nD) : BitVec 32 := (Scalar.remsi (Scalar.divsi (Dev.word c) 1#32) 4#32)
def V1_2 (c : Dev nD) : BitVec 32 := (Scalar.remsi (Scalar.subi (Scalar.addi (Scalar.remsi (Scalar.divsi (Dev.word c) 1#32) 4#32) 4#32) 1#32) 4#32)
def V1_3 (c : Dev nD) : BitVec 32 := (Scalar.remsi (Scalar.addi (Scalar.remsi (Scalar.divsi (Dev.word c) 1#32) 4#32) 1#32) 4#32)
def V1_4 (c : Dev nD) : BitVec 32 := (Scalar.remsi (Scalar.addi (Scalar.remsi (Scalar.divsi (Dev.word c) 1#32) 4#32) 2#32) 4#32)
def V3_0 (c : Dev nD) : IVec S1x8 32 := k0_pay1 (V1_1 c)
def V3_1 (dRt : Dev nD → Vec F S2048x1 .i32) (c : Dev nD) : FVec F S8 .f32 := k0_pay2 (V1_1 c) (rd (Memref.whole cc0_stg2_0 : Memref sig .tc .vmem S2048x1 .i32) (Rect.unit (s := S2048x1) ![0, 0] S2048x1.size inb_S2048x1_S2048x1_0_0) ((dRt c)))
def V4_0 (dRt : Dev nD → Vec F S2048x1 .i32) (c : Dev nD) : FVec F S1x8 .f32 := k0_pay3 (V3_1 dRt c)
def V4_1 (dRt : Dev nD → Vec F S2048x1 .i32) (c : Dev nD) : FVec F S1x8 .f32 := k0_pay4 (V3_0 c) (rd (Memref.whole cc0_scratch9 : Memref sig .tc .vmem S3x2048x1 .i32) (Rect.unit (s := S3x2048x1) ![1, 0, 0] S1x2048x1.size inb_S3x2048x1_S1x2048x1_1_0_0) ((up (dRt (rgt c)))))
def V4_2 (dRt : Dev nD → Vec F S2048x1 .i32) (c : Dev nD) : FVec F S1x8 .f32 := k0_pay5 (V3_0 c) (rd (Memref.whole cc0_scratch9 : Memref sig .tc .vmem S3x2048x1 .i32) (Rect.unit (s := S3x2048x1) ![2, 0, 0] S1x2048x1.size inb_S3x2048x1_S1x2048x1_2_0_0) ((up (dRt (opp c)))))
def V4_3 (dRt : Dev nD → Vec F S2048x1 .i32) (c : Dev nD) : FVec F S1x8 .f32 := k0_pay6 (V3_0 c) (rd (Memref.whole cc0_scratch9 : Memref sig .tc .vmem S3x2048x1 .i32) (Rect.unit (s := S3x2048x1) ![0, 0, 0] S1x2048x1.size inb_S3x2048x1_S1x2048x1_0_0_0) ((up (dRt (lft c)))))
def V4_4 (c : Dev nD) : BitVec 32 := (Scalar.remsi (Scalar.addi (V1_1 c) 0#32) 4#32)
def V4_5 (dRt : Dev nD → Vec F S2048x1 .i32) (c : Dev nD) : FVec F S1x8 .f32 := k0_pay7 (V1_1 c) (V3_0 c) (rd (Memref.whole cc0_scratch9 : Memref sig .tc .vmem S3x2048x1 .i32) (Rect.unit (s := S3x2048x1) ![1, 0, 0] S1x2048x1.size inb_S3x2048x1_S1x2048x1_1_0_0) ((up (dRt (rgt c)))))
def V4_6 (c : Dev nD) : BitVec 32 := (Scalar.addi (V1_1 c) 2#32)
def V4_7 (c : Dev nD) : BitVec 32 := 4#32
def V5_0 (c : Dev nD) : BitVec 32 := (Scalar.remsi (Scalar.addi (V1_1 c) 1#32) 4#32)
def V6_0 (dRt : Dev nD → Vec F S2048x1 .i32) (dTri : Dev nD → Vec F S2048x2048 .bf16) (c : Dev nD) : FVec F S2048x8 .f32 := k0_pay10 (V1_1 c) (V3_0 c) (V4_0 dRt c) (V4_2 dRt c) (V4_3 dRt c) (V5_0 c) (rd (Memref.whole cc0_scratch9 : Memref sig .tc .vmem S3x2048x1 .i32) (Rect.unit (s := S3x2048x1) ![1, 0, 0] S1x2048x1.size inb_S3x2048x1_S1x2048x1_1_0_0) ((up (dRt (rgt c))))) (rd (Memref.whole cc0_stg3_0 : Memref sig .tc .vmem S2048x2048 .bf16) (Rect.unit (s := S2048x2048) ![0, 0] S2048x2048.size inb_S2048x2048_S2048x2048_0_0) ((dTri c)))
def V6_1 (dRt : Dev nD → Vec F S2048x1 .i32) (c : Dev nD) : IVec S2048x8 1 := k0_pay11 (V3_0 c) (rd (Memref.whole cc0_scratch9 : Memref sig .tc .vmem S3x2048x1 .i32) (Rect.unit (s := S3x2048x1) ![1, 0, 0] S1x2048x1.size inb_S3x2048x1_S1x2048x1_1_0_0) ((up (dRt (rgt c)))))
def V6_2 (c : Dev nD) : F .f32 := (Scalar.ofBits .f32 0x434C0000#32)
def V7_0 (dRt : Dev nD → Vec F S2048x1 .i32) (c : Dev nD) : FVec F S1x8 .f32 := k0_pay13 (V1_1 c) (V4_0 dRt c) (V4_1 dRt c) (V4_3 dRt c)
def V7_1 (dRt : Dev nD → Vec F S2048x1 .i32) (c : Dev nD) : IVec S2048x8 1 := k0_pay14 (V3_0 c) (rd (Memref.whole cc0_scratch9 : Memref sig .tc .vmem S3x2048x1 .i32) (Rect.unit (s := S3x2048x1) ![2, 0, 0] S1x2048x1.size inb_S3x2048x1_S1x2048x1_2_0_0) ((up (dRt (opp c)))))
def V8_0 (c : Dev nD) : BitVec 32 := (Scalar.remsi (Scalar.addi (V1_1 c) 3#32) 4#32)
def V8_1 (dRt : Dev nD → Vec F S2048x1 .i32) (c : Dev nD) : FVec F S1x8 .f32 := k0_pay16 (V1_1 c) (V4_0 dRt c) (V4_1 dRt c)
def V8_2 (c : Dev nD) : BitVec 32 := (Scalar.addi (V1_1 c) 2#32)
def V10_0 (dX : Dev nD → Vec F S2048x512 .bf16) (c : Dev nD) : FVec F S2048x512 .bf16 := k0_pay18 (rd (Memref.whole cc0_scratch1 : Memref sig .tc .vmem S3x2048x512 .bf16) (Rect.unit (s := S3x2048x512) ![0, 0, 0] S1x2048x512.size inb_S3x2048x512_S1x2048x512_0_0_0) ((up (dX (lft c)))))
def V10_1 (dX : Dev nD → Vec F S2048x512 .bf16) (dW : Dev nD → Vec F S8x512x1024 .bf16) (dKG : Dev nD → Vec F S4x2048x8 .bf16) (c : Dev nD) : FVec F S2048x512 .f32 := k0_pay19 (rd (Memref.whole cc0_scratch1 : Memref sig .tc .vmem S3x2048x512 .bf16) (Rect.unit (s := S3x2048x512) ![0, 0, 0] S1x2048x512.size inb_S3x2048x512_S1x2048x512_0_0_0) ((up (dX (lft c))))) (rd (Memref.whole cc0_scratch0 : Memref sig .tc .vmem S4x2048x8 .bf16) (Rect.unit (s := S4x2048x8) ![0, 0, 0] S1x2048x1.size inb_S4x2048x8_S1x2048x1_0_0_0) ((dKG c))) (rd (Memref.whole cc0_stg1_0 : Memref sig .tc .vmem S8x512x1024 .bf16) (Rect.unit (s := S8x512x1024) ![0, 0, 0] S1x512x512.size inb_S8x512x1024_S1x512x512_0_0_0) ((dW c))) (rd (Memref.whole cc0_scratch0 : Memref sig .tc .vmem S4x2048x8 .bf16) (Rect.unit (s := S4x2048x8) ![0, 0, 1] S1x2048x1.size inb_S4x2048x8_S1x2048x1_0_0_1) ((dKG c))) (rd (Memref.whole cc0_stg1_0 : Memref sig .tc .vmem S8x512x1024 .bf16) (Rect.unit (s := S8x512x1024) ![1, 0, 0] S1x512x512.size inb_S8x512x1024_S1x512x512_1_0_0) ((dW c)))
def V11_0 (dX : Dev nD → Vec F S2048x512 .bf16) (dW : Dev nD → Vec F S8x512x1024 .bf16) (dKG : Dev nD → Vec F S4x2048x8 .bf16) (c : Dev nD) : FVec F S2048x512 .f32 := (k0_pay20 (V10_0 dX c) (V10_1 dX dW dKG c) (rd (Memref.whole cc0_scratch0 : Memref sig .tc .vmem S4x2048x8 .bf16) (Rect.unit (s := S4x2048x8) ![0, 0, 2] S1x2048x1.size inb_S4x2048x8_S1x2048x1_0_0_2) ((dKG c))) (rd (Memref.whole cc0_stg1_0 : Memref sig .tc .vmem S8x512x1024 .bf16) (Rect.unit (s := S8x512x1024) ![2, 0, 0] S1x512x512.size inb_S8x512x1024_S1x512x512_2_0_0) ((dW c))) (rd (Memref.whole cc0_scratch0 : Memref sig .tc .vmem S4x2048x8 .bf16) (Rect.unit (s := S4x2048x8) ![0, 0, 3] S1x2048x1.size inb_S4x2048x8_S1x2048x1_0_0_3) ((dKG c))) (rd (Memref.whole cc0_stg1_0 : Memref sig .tc .vmem S8x512x1024 .bf16) (Rect.unit (s := S8x512x1024) ![3, 0, 0] S1x512x512.size inb_S8x512x1024_S1x512x512_3_0_0) ((dW c))) (rd (Memref.whole cc0_scratch0 : Memref sig .tc .vmem S4x2048x8 .bf16) (Rect.unit (s := S4x2048x8) ![0, 0, 4] S1x2048x1.size inb_S4x2048x8_S1x2048x1_0_0_4) ((dKG c))) (rd (Memref.whole cc0_stg1_0 : Memref sig .tc .vmem S8x512x1024 .bf16) (Rect.unit (s := S8x512x1024) ![4, 0, 0] S1x512x512.size inb_S8x512x1024_S1x512x512_4_0_0) ((dW c))) (rd (Memref.whole cc0_scratch0 : Memref sig .tc .vmem S4x2048x8 .bf16) (Rect.unit (s := S4x2048x8) ![0, 0, 5] S1x2048x1.size inb_S4x2048x8_S1x2048x1_0_0_5) ((dKG c))) (rd (Memref.whole cc0_stg1_0 : Memref sig .tc .vmem S8x512x1024 .bf16) (Rect.unit (s := S8x512x1024) ![5, 0, 0] S1x512x512.size inb_S8x512x1024_S1x512x512_5_0_0) ((dW c))))
def V13_0 (dX : Dev nD → Vec F S2048x512 .bf16) (c : Dev nD) : FVec F S2048x512 .bf16 := k0_pay22 (rd (Memref.whole cc0_scratch1 : Memref sig .tc .vmem S3x2048x512 .bf16) (Rect.unit (s := S3x2048x512) ![2, 0, 0] S1x2048x512.size inb_S3x2048x512_S1x2048x512_2_0_0) ((up (dX (rgt c)))))
def V13_1 (dX : Dev nD → Vec F S2048x512 .bf16) (dW : Dev nD → Vec F S8x512x1024 .bf16) (dKG : Dev nD → Vec F S4x2048x8 .bf16) (c : Dev nD) : FVec F S2048x512 .f32 := k0_pay23 (rd (Memref.whole cc0_scratch1 : Memref sig .tc .vmem S3x2048x512 .bf16) (Rect.unit (s := S3x2048x512) ![2, 0, 0] S1x2048x512.size inb_S3x2048x512_S1x2048x512_2_0_0) ((up (dX (rgt c))))) (rd (Memref.whole cc0_scratch0 : Memref sig .tc .vmem S4x2048x8 .bf16) (Rect.unit (s := S4x2048x8) ![2, 0, 0] S1x2048x1.size inb_S4x2048x8_S1x2048x1_2_0_0) ((dKG c))) (rd (Memref.whole cc0_stg1_0 : Memref sig .tc .vmem S8x512x1024 .bf16) (Rect.unit (s := S8x512x1024) ![0, 0, 512] S1x512x512.size inb_S8x512x1024_S1x512x512_0_0_512) ((dW c)))
def V13_2 (dKG : Dev nD → Vec F S4x2048x8 .bf16) (c : Dev nD) : FVec F S2048x1 .bf16 := k0_pay24 (rd (Memref.whole cc0_scratch0 : Memref sig .tc .vmem S4x2048x8 .bf16) (Rect.unit (s := S4x2048x8) ![2, 0, 1] S1x2048x1.size inb_S4x2048x8_S1x2048x1_2_0_1) ((dKG c)))
def V14_0 (dX : Dev nD → Vec F S2048x512 .bf16) (dW : Dev nD → Vec F S8x512x1024 .bf16) (dKG : Dev nD → Vec F S4x2048x8 .bf16) (c : Dev nD) : FVec F S2048x512 .f32 := k0_pay25 (V13_0 dX c) (V13_1 dX dW dKG c) (V13_2 dKG c) (rd (Memref.whole cc0_stg1_0 : Memref sig .tc .vmem S8x512x1024 .bf16) (Rect.unit (s := S8x512x1024) ![1, 0, 512] S1x512x512.size inb_S8x512x1024_S1x512x512_1_0_512) ((dW c))) (rd (Memref.whole cc0_scratch0 : Memref sig .tc .vmem S4x2048x8 .bf16) (Rect.unit (s := S4x2048x8) ![2, 0, 2] S1x2048x1.size inb_S4x2048x8_S1x2048x1_2_0_2) ((dKG c))) (rd (Memref.whole cc0_stg1_0 : Memref sig .tc .vmem S8x512x1024 .bf16) (Rect.unit (s := S8x512x1024) ![2, 0, 512] S1x512x512.size inb_S8x512x1024_S1x512x512_2_0_512) ((dW c))) (rd (Memref.whole cc0_scratch0 : Memref sig .tc .vmem S4x2048x8 .bf16) (Rect.unit (s := S4x2048x8) ![2, 0, 3] S1x2048x1.size inb_S4x2048x8_S1x2048x1_2_0_3) ((dKG c))) (rd (Memref.whole cc0_stg1_0 : Memref sig .tc .vmem S8x512x1024 .bf16) (Rect.unit (s := S8x512x1024) ![3, 0, 512] S1x512x512.size inb_S8x512x1024_S1x512x512_3_0_512) ((dW c))) (rd (Memref.whole cc0_scratch0 : Memref sig .tc .vmem S4x2048x8 .bf16) (Rect.unit (s := S4x2048x8) ![2, 0, 4] S1x2048x1.size inb_S4x2048x8_S1x2048x1_2_0_4) ((dKG c))) (rd (Memref.whole cc0_stg1_0 : Memref sig .tc .vmem S8x512x1024 .bf16) (Rect.unit (s := S8x512x1024) ![4, 0, 512] S1x512x512.size inb_S8x512x1024_S1x512x512_4_0_512) ((dW c)))
def V14_1 (dKG : Dev nD → Vec F S4x2048x8 .bf16) (c : Dev nD) : FVec F S2048x1 .bf16 := k0_pay26 (rd (Memref.whole cc0_scratch0 : Memref sig .tc .vmem S4x2048x8 .bf16) (Rect.unit (s := S4x2048x8) ![2, 0, 5] S1x2048x1.size inb_S4x2048x8_S1x2048x1_2_0_5) ((dKG c)))
def V16_0 (dX : Dev nD → Vec F S2048x512 .bf16) (c : Dev nD) : FVec F S2048x512 .bf16 := k0_pay28 (rd (Memref.whole cc0_stg0_0 : Memref sig .tc .vmem S2048x512 .bf16) (Rect.unit (s := S2048x512) ![0, 0] S2048x512.size inb_S2048x512_S2048x512_0_0) ((dX c)))
def V16_1 (dX : Dev nD → Vec F S2048x512 .bf16) (dW : Dev nD → Vec F S8x512x1024 .bf16) (dKG : Dev nD → Vec F S4x2048x8 .bf16) (c : Dev nD) : FVec F S2048x512 .f32 := k0_pay29 (rd (Memref.whole cc0_stg0_0 : Memref sig .tc .vmem S2048x512 .bf16) (Rect.unit (s := S2048x512) ![0, 0] S2048x512.size inb_S2048x512_S2048x512_0_0) ((dX c))) (rd (Memref.whole cc0_scratch0 : Memref sig .tc .vmem S4x2048x8 .bf16) (Rect.unit (s := S4x2048x8) ![3, 0, 0] S1x2048x1.size inb_S4x2048x8_S1x2048x1_3_0_0) ((dKG c))) (rd (Memref.whole cc0_stg1_0 : Memref sig .tc .vmem S8x512x1024 .bf16) (Rect.unit (s := S8x512x1024) ![0, 0, 0] S1x512x512.size inb_S8x512x1024_S1x512x512_0_0_0) ((dW c)))
def V16_2 (dX : Dev nD → Vec F S2048x512 .bf16) (dKG : Dev nD → Vec F S4x2048x8 .bf16) (c : Dev nD) : FVec F S2048x512 .bf16 := k0_pay30 (rd (Memref.whole cc0_stg0_0 : Memref sig .tc .vmem S2048x512 .bf16) (Rect.unit (s := S2048x512) ![0, 0] S2048x512.size inb_S2048x512_S2048x512_0_0) ((dX c))) (rd (Memref.whole cc0_scratch0 : Memref sig .tc .vmem S4x2048x8 .bf16) (Rect.unit (s := S4x2048x8) ![3, 0, 1] S1x2048x1.size inb_S4x2048x8_S1x2048x1_3_0_1) ((dKG c)))
def V17_0 (dX : Dev nD → Vec F S2048x512 .bf16) (dW : Dev nD → Vec F S8x512x1024 .bf16) (dKG : Dev nD → Vec F S4x2048x8 .bf16) (c : Dev nD) : FVec F S2048x512 .f32 := k0_pay31 (V16_0 dX c) (V16_1 dX dW dKG c) (V16_2 dX dKG c) (rd (Memref.whole cc0_stg1_0 : Memref sig .tc .vmem S8x512x1024 .bf16) (Rect.unit (s := S8x512x1024) ![1, 0, 0] S1x512x512.size inb_S8x512x1024_S1x512x512_1_0_0) ((dW c))) (rd (Memref.whole cc0_scratch0 : Memref sig .tc .vmem S4x2048x8 .bf16) (Rect.unit (s := S4x2048x8) ![3, 0, 2] S1x2048x1.size inb_S4x2048x8_S1x2048x1_3_0_2) ((dKG c))) (rd (Memref.whole cc0_stg1_0 : Memref sig .tc .vmem S8x512x1024 .bf16) (Rect.unit (s := S8x512x1024) ![2, 0, 0] S1x512x512.size inb_S8x512x1024_S1x512x512_2_0_0) ((dW c))) (rd (Memref.whole cc0_scratch0 : Memref sig .tc .vmem S4x2048x8 .bf16) (Rect.unit (s := S4x2048x8) ![3, 0, 3] S1x2048x1.size inb_S4x2048x8_S1x2048x1_3_0_3) ((dKG c))) (rd (Memref.whole cc0_stg1_0 : Memref sig .tc .vmem S8x512x1024 .bf16) (Rect.unit (s := S8x512x1024) ![3, 0, 0] S1x512x512.size inb_S8x512x1024_S1x512x512_3_0_0) ((dW c))) (rd (Memref.whole cc0_scratch0 : Memref sig .tc .vmem S4x2048x8 .bf16) (Rect.unit (s := S4x2048x8) ![3, 0, 4] S1x2048x1.size inb_S4x2048x8_S1x2048x1_3_0_4) ((dKG c))) (rd (Memref.whole cc0_stg1_0 : Memref sig .tc .vmem S8x512x1024 .bf16) (Rect.unit (s := S8x512x1024) ![4, 0, 0] S1x512x512.size inb_S8x512x1024_S1x512x512_4_0_0) ((dW c)))
def V17_1 (dX : Dev nD → Vec F S2048x512 .bf16) (dKG : Dev nD → Vec F S4x2048x8 .bf16) (c : Dev nD) : FVec F S2048x512 .bf16 := k0_pay32 (V16_0 dX c) (rd (Memref.whole cc0_scratch0 : Memref sig .tc .vmem S4x2048x8 .bf16) (Rect.unit (s := S4x2048x8) ![3, 0, 5] S1x2048x1.size inb_S4x2048x8_S1x2048x1_3_0_5) ((dKG c)))
def V19_0 (dX : Dev nD → Vec F S2048x512 .bf16) (c : Dev nD) : FVec F S2048x512 .bf16 := k0_pay34 (rd (Memref.whole cc0_scratch1 : Memref sig .tc .vmem S3x2048x512 .bf16) (Rect.unit (s := S3x2048x512) ![1, 0, 0] S1x2048x512.size inb_S3x2048x512_S1x2048x512_1_0_0) ((up (dX (lft (lft c))))))
def V19_1 (dX : Dev nD → Vec F S2048x512 .bf16) (dW : Dev nD → Vec F S8x512x1024 .bf16) (dKG : Dev nD → Vec F S4x2048x8 .bf16) (c : Dev nD) : FVec F S2048x512 .f32 := k0_pay35 (rd (Memref.whole cc0_scratch1 : Memref sig .tc .vmem S3x2048x512 .bf16) (Rect.unit (s := S3x2048x512) ![1, 0, 0] S1x2048x512.size inb_S3x2048x512_S1x2048x512_1_0_0) ((up (dX (lft (lft c)))))) (rd (Memref.whole cc0_scratch0 : Memref sig .tc .vmem S4x2048x8 .bf16) (Rect.unit (s := S4x2048x8) ![1, 0, 0] S1x2048x1.size inb_S4x2048x8_S1x2048x1_1_0_0) ((dKG c))) (rd (Memref.whole cc0_stg1_0 : Memref sig .tc .vmem S8x512x1024 .bf16) (Rect.unit (s := S8x512x1024) ![0, 0, 0] S1x512x512.size inb_S8x512x1024_S1x512x512_0_0_0) ((dW c))) (rd (Memref.whole cc0_scratch0 : Memref sig .tc .vmem S4x2048x8 .bf16) (Rect.unit (s := S4x2048x8) ![1, 0, 1] S1x2048x1.size inb_S4x2048x8_S1x2048x1_1_0_1) ((dKG c))) (rd (Memref.whole cc0_stg1_0 : Memref sig .tc .vmem S8x512x1024 .bf16) (Rect.unit (s := S8x512x1024) ![1, 0, 0] S1x512x512.size inb_S8x512x1024_S1x512x512_1_0_0) ((dW c))) (rd (Memref.whole cc0_scratch0 : Memref sig .tc .vmem S4x2048x8 .bf16) (Rect.unit (s := S4x2048x8) ![1, 0, 2] S1x2048x1.size inb_S4x2048x8_S1x2048x1_1_0_2) ((dKG c))) (rd (Memref.whole cc0_stg1_0 : Memref sig .tc .vmem S8x512x1024 .bf16) (Rect.unit (s := S8x512x1024) ![2, 0, 0] S1x512x512.size inb_S8x512x1024_S1x512x512_2_0_0) ((dW c)))
def V19_2 (dKG : Dev nD → Vec F S4x2048x8 .bf16) (c : Dev nD) : FVec F S2048x512 .bf16 := k0_pay36 (rd (Memref.whole cc0_scratch0 : Memref sig .tc .vmem S4x2048x8 .bf16) (Rect.unit (s := S4x2048x8) ![1, 0, 3] S1x2048x1.size inb_S4x2048x8_S1x2048x1_1_0_3) ((dKG c)))
def V20_0 (dX : Dev nD → Vec F S2048x512 .bf16) (dW : Dev nD → Vec F S8x512x1024 .bf16) (dKG : Dev nD → Vec F S4x2048x8 .bf16) (c : Dev nD) : FVec F S2048x512 .f32 := k0_pay37 (V19_0 dX c) (V19_1 dX dW dKG c) (V19_2 dKG c) (rd (Memref.whole cc0_stg1_0 : Memref sig .tc .vmem S8x512x1024 .bf16) (Rect.unit (s := S8x512x1024) ![3, 0, 0] S1x512x512.size inb_S8x512x1024_S1x512x512_3_0_0) ((dW c))) (rd (Memref.whole cc0_scratch0 : Memref sig .tc .vmem S4x2048x8 .bf16) (Rect.unit (s := S4x2048x8) ![1, 0, 4] S1x2048x1.size inb_S4x2048x8_S1x2048x1_1_0_4) ((dKG c))) (rd (Memref.whole cc0_stg1_0 : Memref sig .tc .vmem S8x512x1024 .bf16) (Rect.unit (s := S8x512x1024) ![4, 0, 0] S1x512x512.size inb_S8x512x1024_S1x512x512_4_0_0) ((dW c))) (rd (Memref.whole cc0_scratch0 : Memref sig .tc .vmem S4x2048x8 .bf16) (Rect.unit (s := S4x2048x8) ![1, 0, 5] S1x2048x1.size inb_S4x2048x8_S1x2048x1_1_0_5) ((dKG c))) (rd (Memref.whole cc0_stg1_0 : Memref sig .tc .vmem S8x512x1024 .bf16) (Rect.unit (s := S8x512x1024) ![5, 0, 0] S1x512x512.size inb_S8x512x1024_S1x512x512_5_0_0) ((dW c))) (rd (Memref.whole cc0_scratch0 : Memref sig .tc .vmem S4x2048x8 .bf16) (Rect.unit (s := S4x2048x8) ![1, 0, 6] S1x2048x1.size inb_S4x2048x8_S1x2048x1_1_0_6) ((dKG c))) (rd (Memref.whole cc0_stg1_0 : Memref sig .tc .vmem S8x512x1024 .bf16) (Rect.unit (s := S8x512x1024) ![6, 0, 0] S1x512x512.size inb_S8x512x1024_S1x512x512_6_0_0) ((dW c)))
def V20_1 (dKG : Dev nD → Vec F S4x2048x8 .bf16) (c : Dev nD) : FVec F S2048x512 .bf16 := k0_pay38 (rd (Memref.whole cc0_scratch0 : Memref sig .tc .vmem S4x2048x8 .bf16) (Rect.unit (s := S4x2048x8) ![1, 0, 7] S1x2048x1.size inb_S4x2048x8_S1x2048x1_1_0_7) ((dKG c)))
def V21_0 (dDG : Dev nD → Vec F S2048x1024 .bf16) (c : Dev nD) : Vec F S2048x512 .bf16 := (rd (Memref.whole cc0_scratch2 : Memref sig .tc .vmem S2048x1024 .bf16) (Rect.unit (s := S2048x1024) ![0, 0] S2048x512.size inb_S2048x1024_S2048x512_0_0) ((dDG c)))
def V21_1 (dA0r : Dev nD → Vec F S2048x512 .bf16) (c : Dev nD) : FVec F S1024x512 .bf16 := k0_pay40 (rd (Memref.whole cc0_scratch7 : Memref sig .tc .vmem S2x2048x512 .bf16) (Rect.unit (s := S2x2048x512) ![0, 0, 0] S1x1024x512.size inb_S2x2048x512_S1x1024x512_0_0_0) ((up (dA0r (lft c)))))
def V21_2 (dDG : Dev nD → Vec F S2048x1024 .bf16) (c : Dev nD) : FVec F S1024x512 .bf16 := k0_pay41 (rd (Memref.whole cc0_scratch2 : Memref sig .tc .vmem S2048x1024 .bf16) (Rect.unit (s := S2048x1024) ![0, 0] S2048x512.size inb_S2048x1024_S2048x512_0_0) ((dDG c)))
def V23_0 (dX : Dev nD → Vec F S2048x512 .bf16) (c : Dev nD) : FVec F S2048x512 .bf16 := k0_pay44 (rd (Memref.whole cc0_scratch1 : Memref sig .tc .vmem S3x2048x512 .bf16) (Rect.unit (s := S3x2048x512) ![1, 0, 0] S1x2048x512.size inb_S3x2048x512_S1x2048x512_1_0_0) ((up (dX (lft (lft c))))))
def V23_1 (c : Dev nD) : FVec F S2048x512 .f32 := k0_pay45 (F := F)
def V23_2 (dX : Dev nD → Vec F S2048x512 .bf16) (dKG : Dev nD → Vec F S4x2048x8 .bf16) (c : Dev nD) : FVec F S2048x512 .bf16 := k0_pay46 (rd (Memref.whole cc0_scratch1 : Memref sig .tc .vmem S3x2048x512 .bf16) (Rect.unit (s := S3x2048x512) ![1, 0, 0] S1x2048x512.size inb_S3x2048x512_S1x2048x512_1_0_0) ((up (dX (lft (lft c)))))) (rd (Memref.whole cc0_scratch0 : Memref sig .tc .vmem S4x2048x8 .bf16) (Rect.unit (s := S4x2048x8) ![1, 0, 0] S1x2048x1.size inb_S4x2048x8_S1x2048x1_1_0_0) ((dKG c)))
def V24_0 (dX : Dev nD → Vec F S2048x512 .bf16) (dW : Dev nD → Vec F S8x512x1024 .bf16) (dKG : Dev nD → Vec F S4x2048x8 .bf16) (c : Dev nD) : FVec F S2048x512 .f32 := k0_pay47 (V23_0 dX c) (V23_1 c) (V23_2 dX dKG c) (rd (Memref.whole cc0_stg1_0 : Memref sig .tc .vmem S8x512x1024 .bf16) (Rect.unit (s := S8x512x1024) ![0, 0, 512] S1x512x512.size inb_S8x512x1024_S1x512x512_0_0_512) ((dW c))) (rd (Memref.whole cc0_scratch0 : Memref sig .tc .vmem S4x2048x8 .bf16) (Rect.unit (s := S4x2048x8) ![1, 0, 1] S1x2048x1.size inb_S4x2048x8_S1x2048x1_1_0_1) ((dKG c))) (rd (Memref.whole cc0_stg1_0 : Memref sig .tc .vmem S8x512x1024 .bf16) (Rect.unit (s := S8x512x1024) ![1, 0, 512] S1x512x512.size inb_S8x512x1024_S1x512x512_1_0_512) ((dW c))) (rd (Memref.whole cc0_scratch0 : Memref sig .tc .vmem S4x2048x8 .bf16) (Rect.unit (s := S4x2048x8) ![1, 0, 2] S1x2048x1.size inb_S4x2048x8_S1x2048x1_1_0_2) ((dKG c))) (rd (Memref.whole cc0_stg1_0 : Memref sig .tc .vmem S8x512x1024 .bf16) (Rect.unit (s := S8x512x1024) ![2, 0, 512] S1x512x512.size inb_S8x512x1024_S1x512x512_2_0_512) ((dW c))) (rd (Memref.whole cc0_scratch0 : Memref sig .tc .vmem S4x2048x8 .bf16) (Rect.unit (s := S4x2048x8) ![1, 0, 3] S1x2048x1.size inb_S4x2048x8_S1x2048x1_1_0_3) ((dKG c))) (rd (Memref.whole cc0_stg1_0 : Memref sig .tc .vmem S8x512x1024 .bf16) (Rect.unit (s := S8x512x1024) ![3, 0, 512] S1x512x512.size inb_S8x512x1024_S1x512x512_3_0_512) ((dW c)))
def V24_1 (dX : Dev nD → Vec F S2048x512 .bf16) (dKG : Dev nD → Vec F S4x2048x8 .bf16) (c : Dev nD) : FVec F S2048x512 .bf16 := k0_pay48 (V23_0 dX c) (rd (Memref.whole cc0_scratch0 : Memref sig .tc .vmem S4x2048x8 .bf16) (Rect.unit (s := S4x2048x8) ![1, 0, 4] S1x2048x1.size inb_S4x2048x8_S1x2048x1_1_0_4) ((dKG c)))
def V26_0 (dDG : Dev nD → Vec F S2048x1024 .bf16) (c : Dev nD) : Vec F S2048x512 .bf16 := (rd (Memref.whole cc0_scratch2 : Memref sig .tc .vmem S2048x1024 .bf16) (Rect.unit (s := S2048x1024) ![0, 512] S2048x512.size inb_S2048x1024_S2048x512_0_512) ((dDG c)))
def V27_0 (dDG : Dev nD → Vec F S2048x1024 .bf16) (dA0l : Dev nD → Vec F S2048x512 .bf16) (c : Dev nD) : FVec F S1x1024x512 .bf16 := (k0_pay51 (V26_0 dDG c) (rd (Memref.whole cc0_scratch8 : Memref sig .tc .vmem S2x2048x512 .bf16) (Rect.unit (s := S2x2048x512) ![0, 1024, 0] S1x1024x512.size inb_S2x2048x512_S1x1024x512_0_1024_0) ((up (dA0l (rgt c))))))
def V28_0 (dX : Dev nD → Vec F S2048x512 .bf16) (c : Dev nD) : FVec F S2048x512 .bf16 := k0_pay52 (rd (Memref.whole cc0_scratch1 : Memref sig .tc .vmem S3x2048x512 .bf16) (Rect.unit (s := S3x2048x512) ![2, 0, 0] S1x2048x512.size inb_S3x2048x512_S1x2048x512_2_0_0) ((up (dX (rgt c)))))
def V28_1 (dX : Dev nD → Vec F S2048x512 .bf16) (dW : Dev nD → Vec F S8x512x1024 .bf16) (dKG : Dev nD → Vec F S4x2048x8 .bf16) (c : Dev nD) : FVec F S2048x512 .f32 := k0_pay53 (rd (Memref.whole cc0_scratch1 : Memref sig .tc .vmem S3x2048x512 .bf16) (Rect.unit (s := S3x2048x512) ![2, 0, 0] S1x2048x512.size inb_S3x2048x512_S1x2048x512_2_0_0) ((up (dX (rgt c))))) (rd (Memref.whole cc0_scratch0 : Memref sig .tc .vmem S4x2048x8 .bf16) (Rect.unit (s := S4x2048x8) ![2, 0, 0] S1x2048x1.size inb_S4x2048x8_S1x2048x1_2_0_0) ((dKG c))) (rd (Memref.whole cc0_stg1_0 : Memref sig .tc .vmem S8x512x1024 .bf16) (Rect.unit (s := S8x512x1024) ![0, 0, 0] S1x512x512.size inb_S8x512x1024_S1x512x512_0_0_0) ((dW c)))
def V28_2 (dX : Dev nD → Vec F S2048x512 .bf16) (dKG : Dev nD → Vec F S4x2048x8 .bf16) (c : Dev nD) : FVec F S2048x512 .bf16 := k0_pay54 (rd (Memref.whole cc0_scratch1 : Memref sig .tc .vmem S3x2048x512 .bf16) (Rect.unit (s := S3x2048x512) ![2, 0, 0] S1x2048x512.size inb_S3x2048x512_S1x2048x512_2_0_0) ((up (dX (rgt c))))) (rd (Memref.whole cc0_scratch0 : Memref sig .tc .vmem S4x2048x8 .bf16) (Rect.unit (s := S4x2048x8) ![2, 0, 1] S1x2048x1.size inb_S4x2048x8_S1x2048x1_2_0_1) ((dKG c)))
def V29_0 (dX : Dev nD → Vec F S2048x512 .bf16) (dW : Dev nD → Vec F S8x512x1024 .bf16) (dKG : Dev nD → Vec F S4x2048x8 .bf16) (c : Dev nD) : FVec F S2048x512 .f32 := k0_pay55 (V28_0 dX c) (V28_1 dX dW dKG c) (V28_2 dX dKG c) (rd (Memref.whole cc0_stg1_0 : Memref sig .tc .vmem S8x512x1024 .bf16) (Rect.unit (s := S8x512x1024) ![1, 0, 0] S1x512x512.size inb_S8x512x1024_S1x512x512_1_0_0) ((dW c))) (rd (Memref.whole cc0_scratch0 : Memref sig .tc .vmem S4x2048x8 .bf16) (Rect.unit (s := S4x2048x8) ![2, 0, 2] S1x2048x1.size inb_S4x2048x8_S1x2048x1_2_0_2) ((dKG c))) (rd (Memref.whole cc0_stg1_0 : Memref sig .tc .vmem S8x512x1024 .bf16) (Rect.unit (s := S8x512x1024) ![2, 0, 0] S1x512x512.size inb_S8x512x1024_S1x512x512_2_0_0) ((dW c))) (rd (Memref.whole cc0_scratch0 : Memref sig .tc .vmem S4x2048x8 .bf16) (Rect.unit (s := S4x2048x8) ![2, 0, 3] S1x2048x1.size inb_S4x2048x8_S1x2048x1_2_0_3) ((dKG c))) (rd (Memref.whole cc0_stg1_0 : Memref sig .tc .vmem S8x512x1024 .bf16) (Rect.unit (s := S8x512x1024) ![3, 0, 0] S1x512x512.size inb_S8x512x1024_S1x512x512_3_0_0) ((dW c))) (rd (Memref.whole cc0_scratch0 : Memref sig .tc .vmem S4x2048x8 .bf16) (Rect.unit (s := S4x2048x8) ![2, 0, 4] S1x2048x1.size inb_S4x2048x8_S1x2048x1_2_0_4) ((dKG c))) (rd (Memref.whole cc0_stg1_0 : Memref sig .tc .vmem S8x512x1024 .bf16) (Rect.unit (s := S8x512x1024) ![4, 0, 0] S1x512x512.size inb_S8x512x1024_S1x512x512_4_0_0) ((dW c)))
def V29_1 (dX : Dev nD → Vec F S2048x512 .bf16) (dKG : Dev nD → Vec F S4x2048x8 .bf16) (c : Dev nD) : FVec F S2048x512 .bf16 := k0_pay56 (V28_0 dX c) (rd (Memref.whole cc0_scratch0 : Memref sig .tc .vmem S4x2048x8 .bf16) (Rect.unit (s := S4x2048x8) ![2, 0, 5] S1x2048x1.size inb_S4x2048x8_S1x2048x1_2_0_5) ((dKG c)))
def V30_0 (dPG : Dev nD → Vec F S2048x512 .bf16) (c : Dev nD) : Vec F S2048x512 .bf16 := (rd (Memref.whole cc0_scratch3 : Memref sig .tc .vmem S2048x512 .bf16) (Rect.unit (s := S2048x512) ![0, 0] S2048x512.size inb_S2048x512_S2048x512_0_0) ((dPG c)))
def V33_0 (dX : Dev nD → Vec F S2048x512 .bf16) (c : Dev nD) : FVec F S2048x512 .bf16 := k0_pay60 (rd (Memref.whole cc0_scratch1 : Memref sig .tc .vmem S3x2048x512 .bf16) (Rect.unit (s := S3x2048x512) ![0, 0, 0] S1x2048x512.size inb_S3x2048x512_S1x2048x512_0_0_0) ((up (dX (lft c)))))
def V33_1 (dX : Dev nD → Vec F S2048x512 .bf16) (dW : Dev nD → Vec F S8x512x1024 .bf16) (dKG : Dev nD → Vec F S4x2048x8 .bf16) (c : Dev nD) : FVec F S2048x512 .f32 := k0_pay61 (rd (Memref.whole cc0_scratch1 : Memref sig .tc .vmem S3x2048x512 .bf16) (Rect.unit (s := S3x2048x512) ![0, 0, 0] S1x2048x512.size inb_S3x2048x512_S1x2048x512_0_0_0) ((up (dX (lft c))))) (rd (Memref.whole cc0_scratch0 : Memref sig .tc .vmem S4x2048x8 .bf16) (Rect.unit (s := S4x2048x8) ![0, 0, 0] S1x2048x1.size inb_S4x2048x8_S1x2048x1_0_0_0) ((dKG c))) (rd (Memref.whole cc0_stg1_0 : Memref sig .tc .vmem S8x512x1024 .bf16) (Rect.unit (s := S8x512x1024) ![0, 0, 512] S1x512x512.size inb_S8x512x1024_S1x512x512_0_0_512) ((dW c))) (rd (Memref.whole cc0_scratch0 : Memref sig .tc .vmem S4x2048x8 .bf16) (Rect.unit (s := S4x2048x8) ![0, 0, 1] S1x2048x1.size inb_S4x2048x8_S1x2048x1_0_0_1) ((dKG c))) (rd (Memref.whole cc0_stg1_0 : Memref sig .tc .vmem S8x512x1024 .bf16) (Rect.unit (s := S8x512x1024) ![1, 0, 512] S1x512x512.size inb_S8x512x1024_S1x512x512_1_0_512) ((dW c))) (rd (Memref.whole cc0_scratch0 : Memref sig .tc .vmem S4x2048x8 .bf16) (Rect.unit (s := S4x2048x8) ![0, 0, 2] S1x2048x1.size inb_S4x2048x8_S1x2048x1_0_0_2) ((dKG c))) (rd (Memref.whole cc0_stg1_0 : Memref sig .tc .vmem S8x512x1024 .bf16) (Rect.unit (s := S8x512x1024) ![2, 0, 512] S1x512x512.size inb_S8x512x1024_S1x512x512_2_0_512) ((dW c)))
def V34_0 (dX : Dev nD → Vec F S2048x512 .bf16) (dW : Dev nD → Vec F S8x512x1024 .bf16) (dKG : Dev nD → Vec F S4x2048x8 .bf16) (c : Dev nD) : FVec F S2048x512 .f32 := (k0_pay62 (V33_0 dX c) (V33_1 dX dW dKG c) (rd (Memref.whole cc0_scratch0 : Memref sig .tc .vmem S4x2048x8 .bf16) (Rect.unit (s := S4x2048x8) ![0, 0, 3] S1x2048x1.size inb_S4x2048x8_S1x2048x1_0_0_3) ((dKG c))) (rd (Memref.whole cc0_stg1_0 : Memref sig .tc .vmem S8x512x1024 .bf16) (Rect.unit (s := S8x512x1024) ![3, 0, 512] S1x512x512.size inb_S8x512x1024_S1x512x512_3_0_512) ((dW c))) (rd (Memref.whole cc0_scratch0 : Memref sig .tc .vmem S4x2048x8 .bf16) (Rect.unit (s := S4x2048x8) ![0, 0, 4] S1x2048x1.size inb_S4x2048x8_S1x2048x1_0_0_4) ((dKG c))) (rd (Memref.whole cc0_stg1_0 : Memref sig .tc .vmem S8x512x1024 .bf16) (Rect.unit (s := S8x512x1024) ![4, 0, 512] S1x512x512.size inb_S8x512x1024_S1x512x512_4_0_512) ((dW c))) (rd (Memref.whole cc0_scratch0 : Memref sig .tc .vmem S4x2048x8 .bf16) (Rect.unit (s := S4x2048x8) ![0, 0, 5] S1x2048x1.size inb_S4x2048x8_S1x2048x1_0_0_5) ((dKG c))) (rd (Memref.whole cc0_stg1_0 : Memref sig .tc .vmem S8x512x1024 .bf16) (Rect.unit (s := S8x512x1024) ![5, 0, 512] S1x512x512.size inb_S8x512x1024_S1x512x512_5_0_512) ((dW c))) (rd (Memref.whole cc0_scratch0 : Memref sig .tc .vmem S4x2048x8 .bf16) (Rect.unit (s := S4x2048x8) ![0, 0, 6] S1x2048x1.size inb_S4x2048x8_S1x2048x1_0_0_6) ((dKG c))) (rd (Memref.whole cc0_stg1_0 : Memref sig .tc .vmem S8x512x1024 .bf16) (Rect.unit (s := S8x512x1024) ![6, 0, 512] S1x512x512.size inb_S8x512x1024_S1x512x512_6_0_512) ((dW c))))
def V35_0 (dMG : Dev nD → Vec F S2048x512 .bf16) (c : Dev nD) : Vec F S2048x512 .bf16 := (rd (Memref.whole cc0_scratch4 : Memref sig .tc .vmem S2048x512 .bf16) (Rect.unit (s := S2048x512) ![0, 0] S2048x512.size inb_S2048x512_S2048x512_0_0) ((dMG c)))
def V37_0 (dX : Dev nD → Vec F S2048x512 .bf16) (c : Dev nD) : FVec F S2048x512 .bf16 := k0_pay66 (rd (Memref.whole cc0_stg0_0 : Memref sig .tc .vmem S2048x512 .bf16) (Rect.unit (s := S2048x512) ![0, 0] S2048x512.size inb_S2048x512_S2048x512_0_0) ((dX c)))
def V37_1 (c : Dev nD) : FVec F S2048x512 .f32 := k0_pay67 (F := F)
def V37_2 (dKG : Dev nD → Vec F S4x2048x8 .bf16) (c : Dev nD) : FVec F S2048x512 .bf16 := k0_pay68 (rd (Memref.whole cc0_scratch0 : Memref sig .tc .vmem S4x2048x8 .bf16) (Rect.unit (s := S4x2048x8) ![3, 0, 0] S1x2048x1.size inb_S4x2048x8_S1x2048x1_3_0_0) ((dKG c)))
def V38_0 (dX : Dev nD → Vec F S2048x512 .bf16) (dW : Dev nD → Vec F S8x512x1024 .bf16) (dKG : Dev nD → Vec F S4x2048x8 .bf16) (c : Dev nD) : FVec F S2048x512 .f32 := k0_pay69 (V37_0 dX c) (V37_1 c) (V37_2 dKG c) (rd (Memref.whole cc0_stg1_0 : Memref sig .tc .vmem S8x512x1024 .bf16) (Rect.unit (s := S8x512x1024) ![0, 0, 512] S1x512x512.size inb_S8x512x1024_S1x512x512_0_0_512) ((dW c))) (rd (Memref.whole cc0_scratch0 : Memref sig .tc .vmem S4x2048x8 .bf16) (Rect.unit (s := S4x2048x8) ![3, 0, 1] S1x2048x1.size inb_S4x2048x8_S1x2048x1_3_0_1) ((dKG c))) (rd (Memref.whole cc0_stg1_0 : Memref sig .tc .vmem S8x512x1024 .bf16) (Rect.unit (s := S8x512x1024) ![1, 0, 512] S1x512x512.size inb_S8x512x1024_S1x512x512_1_0_512) ((dW c))) (rd (Memref.whole cc0_scratch0 : Memref sig .tc .vmem S4x2048x8 .bf16) (Rect.unit (s := S4x2048x8) ![3, 0, 2] S1x2048x1.size inb_S4x2048x8_S1x2048x1_3_0_2) ((dKG c))) (rd (Memref.whole cc0_stg1_0 : Memref sig .tc .vmem S8x512x1024 .bf16) (Rect.unit (s := S8x512x1024) ![2, 0, 512] S1x512x512.size inb_S8x512x1024_S1x512x512_2_0_512) ((dW c))) (rd (Memref.whole cc0_scratch0 : Memref sig .tc .vmem S4x2048x8 .bf16) (Rect.unit (s := S4x2048x8) ![3, 0, 3] S1x2048x1.size inb_S4x2048x8_S1x2048x1_3_0_3) ((dKG c))) (rd (Memref.whole cc0_stg1_0 : Memref sig .tc .vmem S8x512x1024 .bf16) (Rect.unit (s := S8x512x1024) ![3, 0, 512] S1x512x512.size inb_S8x512x1024_S1x512x512_3_0_512) ((dW c)))
def V38_1 (dKG : Dev nD → Vec F S4x2048x8 .bf16) (c : Dev nD) : FVec F S2048x512 .bf16 := k0_pay70 (rd (Memref.whole cc0_scratch0 : Memref sig .tc .vmem S4x2048x8 .bf16) (Rect.unit (s := S4x2048x8) ![3, 0, 4] S1x2048x1.size inb_S4x2048x8_S1x2048x1_3_0_4) ((dKG c)))
def V39_0 (dX : Dev nD → Vec F S2048x512 .bf16) (dW : Dev nD → Vec F S8x512x1024 .bf16) (dKG : Dev nD → Vec F S4x2048x8 .bf16) (c : Dev nD) : FVec F S2048x512 .bf16 := (k0_pay71 (V37_0 dX c) (V38_0 dX dW dKG c) (V38_1 dKG c) (rd (Memref.whole cc0_stg1_0 : Memref sig .tc .vmem S8x512x1024 .bf16) (Rect.unit (s := S8x512x1024) ![4, 0, 512] S1x512x512.size inb_S8x512x1024_S1x512x512_4_0_512) ((dW c))) (rd (Memref.whole cc0_scratch0 : Memref sig .tc .vmem S4x2048x8 .bf16) (Rect.unit (s := S4x2048x8) ![3, 0, 5] S1x2048x1.size inb_S4x2048x8_S1x2048x1_3_0_5) ((dKG c))) (rd (Memref.whole cc0_stg1_0 : Memref sig .tc .vmem S8x512x1024 .bf16) (Rect.unit (s := S8x512x1024) ![5, 0, 512] S1x512x512.size inb_S8x512x1024_S1x512x512_5_0_512) ((dW c))) (rd (Memref.whole cc0_scratch0 : Memref sig .tc .vmem S4x2048x8 .bf16) (Rect.unit (s := S4x2048x8) ![3, 0, 6] S1x2048x1.size inb_S4x2048x8_S1x2048x1_3_0_6) ((dKG c))) (rd (Memref.whole cc0_stg1_0 : Memref sig .tc .vmem S8x512x1024 .bf16) (Rect.unit (s := S8x512x1024) ![6, 0, 512] S1x512x512.size inb_S8x512x1024_S1x512x512_6_0_512) ((dW c))) (rd (Memref.whole cc0_scratch0 : Memref sig .tc .vmem S4x2048x8 .bf16) (Rect.unit (s := S4x2048x8) ![3, 0, 7] S1x2048x1.size inb_S4x2048x8_S1x2048x1_3_0_7) ((dKG c))) (rd (Memref.whole cc0_stg1_0 : Memref sig .tc .vmem S8x512x1024 .bf16) (Rect.unit (s := S8x512x1024) ![7, 0, 512] S1x512x512.size inb_S8x512x1024_S1x512x512_7_0_512) ((dW c))))
def V40_0 (dA2r : Dev nD → Vec F S2048x512 .bf16) (c : Dev nD) : FVec F S1024x512 .bf16 := (k0_pay73 (rd (Memref.whole cc0_scratch7 : Memref sig .tc .vmem S2x2048x512 .bf16) (Rect.unit (s := S2x2048x512) ![0, 1024, 0] S1x1024x512.size inb_S2x2048x512_S1x1024x512_0_1024_0) ((up (dA2r (lft c))))))

/-- Every store writes what its buffer is said to hold. -/
structure Good : Prop where
  g0 : ∀ c : Dev nD, ((Memref.whole cc0_scratch0 : Memref sig .tc .vmem S4x2048x8 .bf16).access (Rect.unit (s := S4x2048x8) ![3, 0, 0] S1x2048x8.size inb_S4x2048x8_S1x2048x8_3_0_0)).read (Elt F) (D.kG c) = (k0_pay8 (V1_1 c) (V3_0 c) (V4_2 D.rt c) (V4_3 D.rt c) (V4_4 c) (V4_5 D.rt c) (V4_6 c) (V4_7 c) (rd (Memref.whole cc0_stg2_0 : Memref sig .tc .vmem S2048x1 .i32) (Rect.unit (s := S2048x1) ![0, 0] S2048x1.size inb_S2048x1_S2048x1_0_0) ((D.rt c))) (rd (Memref.whole cc0_stg3_0 : Memref sig .tc .vmem S2048x2048 .bf16) (Rect.unit (s := S2048x2048) ![0, 0] S2048x2048.size inb_S2048x2048_S2048x2048_0_0) ((D.tri c))))
  g1 : ∀ c : Dev nD, ((Memref.whole cc0_scratch0 : Memref sig .tc .vmem S4x2048x8 .bf16).access (Rect.unit (s := S4x2048x8) ![2, 0, 0] S1x2048x8.size inb_S4x2048x8_S1x2048x8_2_0_0)).read (Elt F) (D.kG c) = (k0_pay12 (V6_0 D.rt D.tri c) (V6_1 D.rt c) (V6_2 c))
  g2 : ∀ c : Dev nD, ((Memref.whole cc0_scratch0 : Memref sig .tc .vmem S4x2048x8 .bf16).access (Rect.unit (s := S4x2048x8) ![1, 0, 0] S1x2048x8.size inb_S4x2048x8_S1x2048x8_1_0_0)).read (Elt F) (D.kG c) = (k0_pay15 (V7_0 D.rt c) (V7_1 D.rt c) (rd (Memref.whole cc0_stg3_0 : Memref sig .tc .vmem S2048x2048 .bf16) (Rect.unit (s := S2048x2048) ![0, 0] S2048x2048.size inb_S2048x2048_S2048x2048_0_0) ((D.tri c))))
  g3 : ∀ c : Dev nD, ((Memref.whole cc0_scratch0 : Memref sig .tc .vmem S4x2048x8 .bf16).access (Rect.unit (s := S4x2048x8) ![0, 0, 0] S1x2048x8.size inb_S4x2048x8_S1x2048x8_0_0_0)).read (Elt F) (D.kG c) = (k0_pay17 (V3_0 c) (V4_2 D.rt c) (V8_0 c) (V8_1 D.rt c) (V8_2 c) (rd (Memref.whole cc0_scratch9 : Memref sig .tc .vmem S3x2048x1 .i32) (Rect.unit (s := S3x2048x1) ![0, 0, 0] S1x2048x1.size inb_S3x2048x1_S1x2048x1_0_0_0) ((up (D.rt (lft c))))) (rd (Memref.whole cc0_stg3_0 : Memref sig .tc .vmem S2048x2048 .bf16) (Rect.unit (s := S2048x2048) ![0, 0] S2048x2048.size inb_S2048x2048_S2048x2048_0_0) ((D.tri c))))
  g4 : ∀ c : Dev nD, ((Memref.whole cc0_scratch6 : Memref sig .tc .vmem S2x2048x512 .bf16).access (Rect.unit (s := S2x2048x512) ![0, 0, 0] S1x2048x512.size inb_S2x2048x512_S1x2048x512_0_0_0)).read (Elt F) (up (D.a0r c)) = (k0_pay21 (V10_0 D.x c) (V11_0 D.x D.w D.kG c) (rd (Memref.whole cc0_scratch0 : Memref sig .tc .vmem S4x2048x8 .bf16) (Rect.unit (s := S4x2048x8) ![0, 0, 6] S1x2048x1.size inb_S4x2048x8_S1x2048x1_0_0_6) ((D.kG c))) (rd (Memref.whole cc0_stg1_0 : Memref sig .tc .vmem S8x512x1024 .bf16) (Rect.unit (s := S8x512x1024) ![6, 0, 0] S1x512x512.size inb_S8x512x1024_S1x512x512_6_0_0) ((D.w c))) (rd (Memref.whole cc0_scratch0 : Memref sig .tc .vmem S4x2048x8 .bf16) (Rect.unit (s := S4x2048x8) ![0, 0, 7] S1x2048x1.size inb_S4x2048x8_S1x2048x1_0_0_7) ((D.kG c))) (rd (Memref.whole cc0_stg1_0 : Memref sig .tc .vmem S8x512x1024 .bf16) (Rect.unit (s := S8x512x1024) ![7, 0, 0] S1x512x512.size inb_S8x512x1024_S1x512x512_7_0_0) ((D.w c))))
  g5 : ∀ c : Dev nD, ((Memref.whole cc0_scratch6 : Memref sig .tc .vmem S2x2048x512 .bf16).access (Rect.unit (s := S2x2048x512) ![1, 0, 0] S1x2048x512.size inb_S2x2048x512_S1x2048x512_1_0_0)).read (Elt F) (up (D.a0l c)) = (k0_pay27 (V13_0 D.x c) (V14_0 D.x D.w D.kG c) (V14_1 D.kG c) (rd (Memref.whole cc0_stg1_0 : Memref sig .tc .vmem S8x512x1024 .bf16) (Rect.unit (s := S8x512x1024) ![5, 0, 512] S1x512x512.size inb_S8x512x1024_S1x512x512_5_0_512) ((D.w c))) (rd (Memref.whole cc0_scratch0 : Memref sig .tc .vmem S4x2048x8 .bf16) (Rect.unit (s := S4x2048x8) ![2, 0, 6] S1x2048x1.size inb_S4x2048x8_S1x2048x1_2_0_6) ((D.kG c))) (rd (Memref.whole cc0_stg1_0 : Memref sig .tc .vmem S8x512x1024 .bf16) (Rect.unit (s := S8x512x1024) ![6, 0, 512] S1x512x512.size inb_S8x512x1024_S1x512x512_6_0_512) ((D.w c))) (rd (Memref.whole cc0_scratch0 : Memref sig .tc .vmem S4x2048x8 .bf16) (Rect.unit (s := S4x2048x8) ![2, 0, 7] S1x2048x1.size inb_S4x2048x8_S1x2048x1_2_0_7) ((D.kG c))) (rd (Memref.whole cc0_stg1_0 : Memref sig .tc .vmem S8x512x1024 .bf16) (Rect.unit (s := S8x512x1024) ![7, 0, 512] S1x512x512.size inb_S8x512x1024_S1x512x512_7_0_512) ((D.w c))))
  g6 : ∀ c : Dev nD, ((Memref.whole cc0_scratch5 : Memref sig .tc .vmem S2048x1024 .bf16).access (Rect.unit (s := S2048x1024) ![0, 0] S2048x512.size inb_S2048x1024_S2048x512_0_0)).read (Elt F) (D.wG c) = (k0_pay33 (V16_0 D.x c) (V17_0 D.x D.w D.kG c) (V17_1 D.x D.kG c) (rd (Memref.whole cc0_stg1_0 : Memref sig .tc .vmem S8x512x1024 .bf16) (Rect.unit (s := S8x512x1024) ![5, 0, 0] S1x512x512.size inb_S8x512x1024_S1x512x512_5_0_0) ((D.w c))) (rd (Memref.whole cc0_scratch0 : Memref sig .tc .vmem S4x2048x8 .bf16) (Rect.unit (s := S4x2048x8) ![3, 0, 6] S1x2048x1.size inb_S4x2048x8_S1x2048x1_3_0_6) ((D.kG c))) (rd (Memref.whole cc0_stg1_0 : Memref sig .tc .vmem S8x512x1024 .bf16) (Rect.unit (s := S8x512x1024) ![6, 0, 0] S1x512x512.size inb_S8x512x1024_S1x512x512_6_0_0) ((D.w c))) (rd (Memref.whole cc0_scratch0 : Memref sig .tc .vmem S4x2048x8 .bf16) (Rect.unit (s := S4x2048x8) ![3, 0, 7] S1x2048x1.size inb_S4x2048x8_S1x2048x1_3_0_7) ((D.kG c))) (rd (Memref.whole cc0_stg1_0 : Memref sig .tc .vmem S8x512x1024 .bf16) (Rect.unit (s := S8x512x1024) ![7, 0, 0] S1x512x512.size inb_S8x512x1024_S1x512x512_7_0_0) ((D.w c))))
  g7 : ∀ c : Dev nD, ((Memref.whole cc0_scratch2 : Memref sig .tc .vmem S2048x1024 .bf16).access (Rect.unit (s := S2048x1024) ![0, 0] S2048x512.size inb_S2048x1024_S2048x512_0_0)).read (Elt F) (D.dG c) = (k0_pay39 (V19_0 D.x c) (V20_0 D.x D.w D.kG c) (V20_1 D.kG c) (rd (Memref.whole cc0_stg1_0 : Memref sig .tc .vmem S8x512x1024 .bf16) (Rect.unit (s := S8x512x1024) ![7, 0, 0] S1x512x512.size inb_S8x512x1024_S1x512x512_7_0_0) ((D.w c))))
  g8 : ∀ c : Dev nD, ((Memref.whole cc0_scratch6 : Memref sig .tc .vmem S2x2048x512 .bf16).access (Rect.unit (s := S2x2048x512) ![0, 0, 0] S1x1024x512.size inb_S2x2048x512_S1x1024x512_0_0_0)).read (Elt F) (up (D.a1r c)) = (k0_pay42 (V21_1 D.a0r c) (V21_2 D.dG c))
  g9 : ∀ c : Dev nD, ((Memref.whole cc0_scratch6 : Memref sig .tc .vmem S2x2048x512 .bf16).access (Rect.unit (s := S2x2048x512) ![0, 1024, 0] S1x1024x512.size inb_S2x2048x512_S1x1024x512_0_1024_0)).read (Elt F) (up (D.a1r c)) = (k0_pay43 (V21_0 D.dG c) (rd (Memref.whole cc0_scratch7 : Memref sig .tc .vmem S2x2048x512 .bf16) (Rect.unit (s := S2x2048x512) ![0, 1024, 0] S1x1024x512.size inb_S2x2048x512_S1x1024x512_0_1024_0) ((up (D.a0r (lft c))))))
  g10 : ∀ c : Dev nD, ((Memref.whole cc0_scratch2 : Memref sig .tc .vmem S2048x1024 .bf16).access (Rect.unit (s := S2048x1024) ![0, 512] S2048x512.size inb_S2048x1024_S2048x512_0_512)).read (Elt F) (D.dG c) = (k0_pay49 (V23_0 D.x c) (V24_0 D.x D.w D.kG c) (V24_1 D.x D.kG c) (rd (Memref.whole cc0_stg1_0 : Memref sig .tc .vmem S8x512x1024 .bf16) (Rect.unit (s := S8x512x1024) ![4, 0, 512] S1x512x512.size inb_S8x512x1024_S1x512x512_4_0_512) ((D.w c))) (rd (Memref.whole cc0_scratch0 : Memref sig .tc .vmem S4x2048x8 .bf16) (Rect.unit (s := S4x2048x8) ![1, 0, 5] S1x2048x1.size inb_S4x2048x8_S1x2048x1_1_0_5) ((D.kG c))) (rd (Memref.whole cc0_stg1_0 : Memref sig .tc .vmem S8x512x1024 .bf16) (Rect.unit (s := S8x512x1024) ![5, 0, 512] S1x512x512.size inb_S8x512x1024_S1x512x512_5_0_512) ((D.w c))) (rd (Memref.whole cc0_scratch0 : Memref sig .tc .vmem S4x2048x8 .bf16) (Rect.unit (s := S4x2048x8) ![1, 0, 6] S1x2048x1.size inb_S4x2048x8_S1x2048x1_1_0_6) ((D.kG c))) (rd (Memref.whole cc0_stg1_0 : Memref sig .tc .vmem S8x512x1024 .bf16) (Rect.unit (s := S8x512x1024) ![6, 0, 512] S1x512x512.size inb_S8x512x1024_S1x512x512_6_0_512) ((D.w c))) (rd (Memref.whole cc0_scratch0 : Memref sig .tc .vmem S4x2048x8 .bf16) (Rect.unit (s := S4x2048x8) ![1, 0, 7] S1x2048x1.size inb_S4x2048x8_S1x2048x1_1_0_7) ((D.kG c))) (rd (Memref.whole cc0_stg1_0 : Memref sig .tc .vmem S8x512x1024 .bf16) (Rect.unit (s := S8x512x1024) ![7, 0, 512] S1x512x512.size inb_S8x512x1024_S1x512x512_7_0_512) ((D.w c))))
  g11 : ∀ c : Dev nD, ((Memref.whole cc0_scratch6 : Memref sig .tc .vmem S2x2048x512 .bf16).access (Rect.unit (s := S2x2048x512) ![1, 0, 0] S1x1024x512.size inb_S2x2048x512_S1x1024x512_1_0_0)).read (Elt F) (up (D.a1l c)) = (k0_pay50 (rd (Memref.whole cc0_scratch2 : Memref sig .tc .vmem S2048x1024 .bf16) (Rect.unit (s := S2048x1024) ![0, 512] S2048x512.size inb_S2048x1024_S2048x512_0_512) ((D.dG c))) (rd (Memref.whole cc0_scratch8 : Memref sig .tc .vmem S2x2048x512 .bf16) (Rect.unit (s := S2x2048x512) ![0, 0, 0] S1x1024x512.size inb_S2x2048x512_S1x1024x512_0_0_0) ((up (D.a0l (rgt c))))))
  g12 : ∀ c : Dev nD, ((Memref.whole cc0_scratch6 : Memref sig .tc .vmem S2x2048x512 .bf16).access (Rect.unit (s := S2x2048x512) ![1, 1024, 0] S1x1024x512.size inb_S2x2048x512_S1x1024x512_1_1024_0)).read (Elt F) (up (D.a1l c)) = (V27_0 D.dG D.a0l c)
  g13 : ∀ c : Dev nD, ((Memref.whole cc0_scratch3 : Memref sig .tc .vmem S2048x512 .bf16).access (Rect.unit (s := S2048x512) ![0, 0] S2048x512.size inb_S2048x512_S2048x512_0_0)).read (Elt F) (D.pG c) = (k0_pay57 (V28_0 D.x c) (V29_0 D.x D.w D.kG c) (V29_1 D.x D.kG c) (rd (Memref.whole cc0_stg1_0 : Memref sig .tc .vmem S8x512x1024 .bf16) (Rect.unit (s := S8x512x1024) ![5, 0, 0] S1x512x512.size inb_S8x512x1024_S1x512x512_5_0_0) ((D.w c))) (rd (Memref.whole cc0_scratch0 : Memref sig .tc .vmem S4x2048x8 .bf16) (Rect.unit (s := S4x2048x8) ![2, 0, 6] S1x2048x1.size inb_S4x2048x8_S1x2048x1_2_0_6) ((D.kG c))) (rd (Memref.whole cc0_stg1_0 : Memref sig .tc .vmem S8x512x1024 .bf16) (Rect.unit (s := S8x512x1024) ![6, 0, 0] S1x512x512.size inb_S8x512x1024_S1x512x512_6_0_0) ((D.w c))) (rd (Memref.whole cc0_scratch0 : Memref sig .tc .vmem S4x2048x8 .bf16) (Rect.unit (s := S4x2048x8) ![2, 0, 7] S1x2048x1.size inb_S4x2048x8_S1x2048x1_2_0_7) ((D.kG c))) (rd (Memref.whole cc0_stg1_0 : Memref sig .tc .vmem S8x512x1024 .bf16) (Rect.unit (s := S8x512x1024) ![7, 0, 0] S1x512x512.size inb_S8x512x1024_S1x512x512_7_0_0) ((D.w c))))
  g14 : ∀ c : Dev nD, ((Memref.whole cc0_scratch6 : Memref sig .tc .vmem S2x2048x512 .bf16).access (Rect.unit (s := S2x2048x512) ![0, 0, 0] S1x1024x512.size inb_S2x2048x512_S1x1024x512_0_0_0)).read (Elt F) (up (D.a2r c)) = (k0_pay58 (V30_0 D.pG c) (rd (Memref.whole cc0_scratch7 : Memref sig .tc .vmem S2x2048x512 .bf16) (Rect.unit (s := S2x2048x512) ![1, 0, 0] S1x1024x512.size inb_S2x2048x512_S1x1024x512_1_0_0) ((up (D.a1r (lft c))))))
  g15 : ∀ c : Dev nD, ((Memref.whole cc0_scratch6 : Memref sig .tc .vmem S2x2048x512 .bf16).access (Rect.unit (s := S2x2048x512) ![0, 1024, 0] S1x1024x512.size inb_S2x2048x512_S1x1024x512_0_1024_0)).read (Elt F) (up (D.a2r c)) = (k0_pay59 (V30_0 D.pG c) (rd (Memref.whole cc0_scratch7 : Memref sig .tc .vmem S2x2048x512 .bf16) (Rect.unit (s := S2x2048x512) ![1, 1024, 0] S1x1024x512.size inb_S2x2048x512_S1x1024x512_1_1024_0) ((up (D.a1r (lft c))))))
  g16 : ∀ c : Dev nD, ((Memref.whole cc0_scratch4 : Memref sig .tc .vmem S2048x512 .bf16).access (Rect.unit (s := S2048x512) ![0, 0] S2048x512.size inb_S2048x512_S2048x512_0_0)).read (Elt F) (D.mG c) = (k0_pay63 (V33_0 D.x c) (V34_0 D.x D.w D.kG c) (rd (Memref.whole cc0_scratch0 : Memref sig .tc .vmem S4x2048x8 .bf16) (Rect.unit (s := S4x2048x8) ![0, 0, 7] S1x2048x1.size inb_S4x2048x8_S1x2048x1_0_0_7) ((D.kG c))) (rd (Memref.whole cc0_stg1_0 : Memref sig .tc .vmem S8x512x1024 .bf16) (Rect.unit (s := S8x512x1024) ![7, 0, 512] S1x512x512.size inb_S8x512x1024_S1x512x512_7_0_512) ((D.w c))))
  g17 : ∀ c : Dev nD, ((Memref.whole cc0_scratch6 : Memref sig .tc .vmem S2x2048x512 .bf16).access (Rect.unit (s := S2x2048x512) ![1, 0, 0] S1x1024x512.size inb_S2x2048x512_S1x1024x512_1_0_0)).read (Elt F) (up (D.a2l c)) = (k0_pay64 (V35_0 D.mG c) (rd (Memref.whole cc0_scratch8 : Memref sig .tc .vmem S2x2048x512 .bf16) (Rect.unit (s := S2x2048x512) ![1, 0, 0] S1x1024x512.size inb_S2x2048x512_S1x1024x512_1_0_0) ((up (D.a1l (rgt c))))))
  g18 : ∀ c : Dev nD, ((Memref.whole cc0_scratch6 : Memref sig .tc .vmem S2x2048x512 .bf16).access (Rect.unit (s := S2x2048x512) ![1, 1024, 0] S1x1024x512.size inb_S2x2048x512_S1x1024x512_1_1024_0)).read (Elt F) (up (D.a2l c)) = (k0_pay65 (V35_0 D.mG c) (rd (Memref.whole cc0_scratch8 : Memref sig .tc .vmem S2x2048x512 .bf16) (Rect.unit (s := S2x2048x512) ![1, 1024, 0] S1x1024x512.size inb_S2x2048x512_S1x1024x512_1_1024_0) ((up (D.a1l (rgt c))))))
  g19 : ∀ c : Dev nD, ((Memref.whole cc0_scratch5 : Memref sig .tc .vmem S2048x1024 .bf16).access (Rect.unit (s := S2048x1024) ![0, 512] S2048x512.size inb_S2048x1024_S2048x512_0_512)).read (Elt F) (D.wG c) = (V39_0 D.x D.w D.kG c)
  g20 : ∀ c : Dev nD, ((Memref.whole cc0_stg4_0 : Memref sig .tc .vmem S2048x1024 .f32).access (Rect.unit (s := S2048x1024) ![0, 0] S1024x512.size inb_S2048x1024_S1024x512_0_0)).read (Elt F) (D.oG c) = (k0_pay72 (rd (Memref.whole cc0_scratch7 : Memref sig .tc .vmem S2x2048x512 .bf16) (Rect.unit (s := S2x2048x512) ![0, 0, 0] S1x1024x512.size inb_S2x2048x512_S1x1024x512_0_0_0) ((up (D.a2r (lft c))))) (rd (Memref.whole cc0_scratch5 : Memref sig .tc .vmem S2048x1024 .bf16) (Rect.unit (s := S2048x1024) ![0, 0] S1024x512.size inb_S2048x1024_S1024x512_0_0) ((D.wG c))))
  g21 : ∀ c : Dev nD, ((Memref.whole cc0_stg4_0 : Memref sig .tc .vmem S2048x1024 .f32).access (Rect.unit (s := S2048x1024) ![1024, 0] S1024x512.size inb_S2048x1024_S1024x512_1024_0)).read (Elt F) (D.oG c) = (k0_pay74 (V40_0 D.a2r c) (rd (Memref.whole cc0_scratch5 : Memref sig .tc .vmem S2048x1024 .bf16) (Rect.unit (s := S2048x1024) ![1024, 0] S1024x512.size inb_S2048x1024_S1024x512_1024_0) ((D.wG c))))
  g22 : ∀ c : Dev nD, ((Memref.whole cc0_stg4_0 : Memref sig .tc .vmem S2048x1024 .f32).access (Rect.unit (s := S2048x1024) ![0, 512] S1024x512.size inb_S2048x1024_S1024x512_0_512)).read (Elt F) (D.oG c) = (k0_pay75 (rd (Memref.whole cc0_scratch8 : Memref sig .tc .vmem S2x2048x512 .bf16) (Rect.unit (s := S2x2048x512) ![0, 0, 0] S1x1024x512.size inb_S2x2048x512_S1x1024x512_0_0_0) ((up (D.a2l (rgt c))))) (rd (Memref.whole cc0_scratch5 : Memref sig .tc .vmem S2048x1024 .bf16) (Rect.unit (s := S2048x1024) ![0, 512] S1024x512.size inb_S2048x1024_S1024x512_0_512) ((D.wG c))))
  g23 : ∀ c : Dev nD, ((Memref.whole cc0_stg4_0 : Memref sig .tc .vmem S2048x1024 .f32).access (Rect.unit (s := S2048x1024) ![1024, 512] S1024x512.size inb_S2048x1024_S1024x512_1024_512)).read (Elt F) (D.oG c) = (k0_pay76 (rd (Memref.whole cc0_scratch8 : Memref sig .tc .vmem S2x2048x512 .bf16) (Rect.unit (s := S2x2048x512) ![0, 1024, 0] S1x1024x512.size inb_S2x2048x512_S1x1024x512_0_1024_0) ((up (D.a2l (rgt c))))) (rd (Memref.whole cc0_scratch5 : Memref sig .tc .vmem S2048x1024 .bf16) (Rect.unit (s := S2048x1024) ![1024, 512] S1024x512.size inb_S2048x1024_S1024x512_1024_512) ((D.wG c))))

theorem as0_split (c : Dev nD) (A : Buf (Elt F) ((c : Thread nD τ).loc cc0_scratch6)) : (at_ c as0 A : sProp 𝕄) ⊣⊢ iprop(at_ (F := F) c ac00 A ∗ at_ c ac01 A) := by
  have h : ((((c : Thread nD τ).loc cc0_scratch6) ↦[ac00.view.set ∪ ac01.view.set]{fullShare} A : sProp 𝕄)) ⊣⊢ _ := pointsTo_union as0_eq_disj
  rw [← as0_eq] at h; exact h
theorem as1_split (c : Dev nD) (A : Buf (Elt F) ((c : Thread nD τ).loc cc0_scratch6)) : (at_ c as1 A : sProp 𝕄) ⊣⊢ iprop(at_ (F := F) c ac10 A ∗ at_ c ac11 A) := by
  have h : ((((c : Thread nD τ).loc cc0_scratch6) ↦[ac10.view.set ∪ ac11.view.set]{fullShare} A : sProp 𝕄)) ⊣⊢ _ := pointsTo_union as1_eq_disj
  rw [← as1_eq] at h; exact h
/-- A load of a smaller rectangle reads inside the piece. -/
theorem incl_sub {s : Shape} {e : EltTy} (M : Memref sig .tc .vmem s e) {off size off' size' : Fin s.rank → ℕ} {inb : ∀ a, off a + size a ≤ s.size a} {inb' : ∀ a, off' a + size' a ≤ s.size a}
    (h : ∀ a, (Rect.unit (s := s) off' size' inb').stride a = 1) (hh : ∀ a, off' a ≤ off a ∧ off a + size a ≤ off' a + size' a) :
    M.view.setOn (Rect.unit (s := s) off size inb).toLoadRect.set ⊆ (M.slice (Rect.unit (s := s) off' size' inb') h).view.set := by
  refine Finset.Subset.trans (Finset.map_subset_map.mpr fun i hi => ?_) (incl_slice M _ h)
  have hi := Rect.mem_set_unit.mp hi
  exact Rect.mem_set_unit.mpr fun a => by have := hi a; have := hh a; omega
theorem crR_intro (c : Dev nD) : iprop(any (F := F) c rr00 ∗ any (F := F) c rr01 ∗ reached ER (dC c 17) 1 ∗ reached ER (dC c 18) 1) ⊢ crRPay (F := F) c := .rfl
theorem crL_intro (c : Dev nD) : iprop(any (F := F) c rl00 ∗ any (F := F) c rl01 ∗ reached ER (dC c 27) 1 ∗ reached ER (dC c 28) 1) ⊢ crLPay (F := F) c := .rfl
theorem crR_elim (c : Dev nD) : crRPay (F := F) c ⊢ iprop(any (F := F) c rr00 ∗ any (F := F) c rr01 ∗ reached ER (dC c 17) 1 ∗ reached ER (dC c 18) 1) := .rfl
theorem crL_elim (c : Dev nD) : crLPay (F := F) c ⊢ iprop(any (F := F) c rl00 ∗ any (F := F) c rl01 ∗ reached ER (dC c 27) 1 ∗ reached ER (dC c 28) 1) := .rfl
theorem share_split (c : Dev nD) {s : Shape} {e : EltTy} (P : Memref sig .tc .vmem s e) (f : Buf (Elt F) (P.view.loc (c : Thread nD τ))) :
    (at_ c P f : sProp 𝕄) ⊣⊢ iprop(atQ fullShare.left c P f ∗ atQ fullShare.right c P f) :=
  pointsTo_share (PosShare.mem_left_op_right fullShare)
theorem k_join (c : Dev nD) (A : Buf (Elt F) ((c : Thread nD τ).loc cc0_scratch0)) :
    iprop(at_ c ks0 A ∗ at_ (F := F) c ks1 A ∗ at_ c ks2 A ∗ at_ c ks3 A) ⊢ (at_ c kM A : sProp 𝕄) := by
  have e : (kM.view.set : Finset (cc0_scratch0 : Ref sig .tc).ty.Idx) = _ := (View.set_whole _).trans ks_cover
  show _ ⊢ (((c : Thread nD τ).loc cc0_scratch0) ↦[kM.view.set]{fullShare} A : sProp 𝕄)
  rw [e]
  iintro ⟨H0, H1, H2, H3⟩
  iapply (pointsTo_union ks_d0).2
  isplitl [H0]; · iexact H0
  iapply (pointsTo_union ks_d1).2
  isplitl [H1]; · iexact H1
  iapply (pointsTo_union ks_d2).2
  isplitl [H2]; · iexact H2
  iexact H3

end Cert.KernelIdeal.Talk

end
-- ==== Proof.Parts1.lean ====
/-
  The body, parts 1 to 5: each part takes the pieces it reads and writes and gives them back with what it computed.
-/
module

public import proofs.«01_k».proof.Proof.Vals
public import Idealize.ShloMosaic.Lib.Pipeline.Value
public import Idealize.ShloMosaic.Lib.ValueLayout

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable {D : Cont F} {c : Dev nD} {κ : GSem nD τ sig → ℕ}

/-- Part 1 of the body. -/
theorem part1_run {Q : (Σ' (d0 : Dev nD) (v2 : BitVec 32) (v5 : BitVec 32) (v7 : BitVec 32), BitVec 32) → sProp 𝕄} :
    iprop(Pers D c κ ∗ St (F := F) c 0 0 [] ∗ reached (ER (F := F)) (barC (lft c)) 0 ∗ any (F := F) c rc0 ∗ any (F := F) c xg0 ∗ any (F := F) c xg1 ∗ any (F := F) c rr00 ∗ any (F := F) c rr01 ∗ any (F := F) c rr10 ∗ any (F := F) c rr11 ∗ reached (ER (F := F)) (barC (rgt c)) 0 ∗ any (F := F) c rc1 ∗ any (F := F) c xg2 ∗ any (F := F) c rl00 ∗ any (F := F) c rl01 ∗ any (F := F) c rl10 ∗ any (F := F) c rl11 ∗ reached (ER (F := F)) (barC (opp c)) 0 ∗ any (F := F) c rc2 ∗ atPos ER (barC c) 0 ∅ 0 ∗ cred (tallyAt (barC c) 1 3) ∗ atQ fullShare.left c rM (D.rt c))
      ⊢ iprop((iprop(St (F := F) c 4 0 [] ∗ atPos ER (barC c) 1 ∅ 0 ∗ any (F := F) (rgt c) xg0 ∗ any (F := F) (rgt c) xg1 ∗ any (F := F) (rgt c) rr00 ∗ any (F := F) (rgt c) rr01 ∗ any (F := F) (rgt c) rr10 ∗ any (F := F) (rgt c) rr11 ∗ any (F := F) (lft c) rc1 ∗ any (F := F) (lft c) xg2 ∗ any (F := F) (lft c) rl00 ∗ any (F := F) (lft c) rl01 ∗ any (F := F) (lft c) rl10 ∗ any (F := F) (lft c) rl11 ∗ any (F := F) (opp c) rc2 ∗ cred (tallyAt (dC c 31) 0 aR) ∗ Nb (F := F) c) -∗ Q ⟨c, (V1_1 c), (V1_2 c), (V1_3 c), (V1_4 c)⟩)
          -∗ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 ) Q) := by
  unfold V1_1 V1_2 V1_3 V1_4
  simp only [k0_part1_eq_skeleton]; unfold k0_part1_skel
  simp only [semSignalWord, semWaitWord, Prog.lift, Prog.bind_op, Prog.bind_ret, Prog.pure_eq_ret, Prog.bind_assoc, wp_deviceId]
  iintro ⟨#HP, HSt, Hblft, Hrc0, Hxg0, Hxg1, Hrr00, Hrr01, Hrr10, Hrr11, Hbrgt, Hrc1, Hxg2, Hrl00, Hrl01, Hrl10, Hrl11, Hbopp, Hrc2, Hbat, Hbcr, Hr_l⟩ Hk
  iapply (P0 (κ := κ) (D := D) (dev1_eq c) rfl) $$ [Hblft HSt Hrc0 Hxg0 Hxg1 Hrr00 Hrr01 Hrr10 Hrr11]
  · isplitr; · iexact HP
    isplitl [Hblft]; · iexact Hblft
    isplitl [HSt]; · iexact HSt
    isplitl [Hrc0]; · iexact Hrc0
    isplitl [Hxg0]; · iexact Hxg0
    isplitl [Hxg1]; · iexact Hxg1
    isplitl [Hrr00]; · iexact Hrr00
    isplitl [Hrr01]; · iexact Hrr01
    isplitl [Hrr10]; · iexact Hrr10
    iexact Hrr11
  iintro HSt
  iapply (P1 (κ := κ) (D := D) (dev2_eq c) rfl) $$ [Hbrgt HSt Hrc1 Hxg2 Hrl00 Hrl01 Hrl10 Hrl11]
  · isplitr; · iexact HP
    isplitl [Hbrgt]; · iexact Hbrgt
    isplitl [HSt]; · iexact HSt
    isplitl [Hrc1]; · iexact Hrc1
    isplitl [Hxg2]; · iexact Hxg2
    isplitl [Hrl00]; · iexact Hrl00
    isplitl [Hrl01]; · iexact Hrl01
    isplitl [Hrl10]; · iexact Hrl10
    iexact Hrl11
  iintro HSt
  iapply (P2 (κ := κ) (D := D) (dev3_eq c) rfl) $$ [Hbopp HSt Hrc2]
  · isplitr; · iexact HP
    isplitl [Hbopp]; · iexact Hbopp
    isplitl [HSt]; · iexact HSt
    iexact Hrc2
  iintro HSt
  iapply (Wbar (κ := κ) (D := D) rfl) $$ [HSt Hbat Hbcr]
  · isplitr; · iexact HP
    isplitl [HSt]; · iexact HSt
    isplitl [Hbat]; · iexact Hbat
    iexact Hbcr
  iintro ⟨HSt, Hbat, #HN, Hrgt_rc0, Hrgt_xg0, Hrgt_xg1, Hrgt_rr00, Hrgt_rr01, Hrgt_rr10, Hrgt_rr11, Hlft_rc1, Hlft_xg2, Hlft_rl00, Hlft_rl01, Hlft_rl10, Hlft_rl11, Hopp_rc2⟩
  iapply (P3 (κ := κ) (dev4_eq c)) $$ [HSt Hr_l Hrgt_rc0]
  · isplitr; · iexact HP
    isplitr; · iexact HN
    isplitl [HSt]; · iexact HSt
    isplitl [Hr_l]; · iexact Hr_l
    iexact Hrgt_rc0
  iintro ⟨HSt, Hc31⟩
  rw [wp_ret]; imodintro
  iapply Hk
  isplitl [HSt]; · iexact HSt
  isplitl [Hbat]; · iexact Hbat
  isplitl [Hrgt_xg0]; · iexact Hrgt_xg0
  isplitl [Hrgt_xg1]; · iexact Hrgt_xg1
  isplitl [Hrgt_rr00]; · iexact Hrgt_rr00
  isplitl [Hrgt_rr01]; · iexact Hrgt_rr01
  isplitl [Hrgt_rr10]; · iexact Hrgt_rr10
  isplitl [Hrgt_rr11]; · iexact Hrgt_rr11
  isplitl [Hlft_rc1]; · iexact Hlft_rc1
  isplitl [Hlft_xg2]; · iexact Hlft_xg2
  isplitl [Hlft_rl00]; · iexact Hlft_rl00
  isplitl [Hlft_rl01]; · iexact Hlft_rl01
  isplitl [Hlft_rl10]; · iexact Hlft_rl10
  isplitl [Hlft_rl11]; · iexact Hlft_rl11
  isplitl [Hopp_rc2]; · iexact Hopp_rc2
  isplitl [Hc31]; · iexact Hc31
  iexact HN

/-- Part 2 of the body. -/
theorem part2_run {l : List (SemLoc sig)} {Q : (PUnit) → sProp 𝕄} :
    iprop(Pers D c κ ∗ Nb (F := F) c ∗ St (F := F) c 4 0 l ∗ atQ fullShare.right.left c rM (D.rt c) ∗ any (F := F) (lft c) rc1 ∗ atQ fullShare.right.right.left c rM (D.rt c) ∗ any (F := F) (opp c) rc2 ∗ atQ fullShare.left c xM (D.x c) ∗ any (F := F) (rgt c) xg0)
      ⊢ iprop((iprop(St (F := F) c 7 0 l ∗ cred (tallyAt (dC c 32) 0 aR) ∗ cred (tallyAt (dC c 33) 0 aR) ∗ cred (tallyAt (dC c 5) 0 aX)) -∗ Q ⟨⟩)
          -∗ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 c (V1_2 c) (V1_3 c) (V1_4 c)) Q) := by
  simp only [k0_part2_eq_skeleton]; unfold k0_part2_skel
  simp only [semSignalWord, semWaitWord, Prog.lift, Prog.bind_op, Prog.bind_ret, Prog.pure_eq_ret, Prog.bind_assoc, wp_deviceId]
  iintro ⟨#HP, #HN, HSt, Hr_rl, Hlft_rc1, Hr_rrl, Hopp_rc2, Hx_l, Hrgt_xg0⟩ Hk
  iapply (P4 (κ := κ) (dev5_eq c)) $$ [HSt Hr_rl Hlft_rc1]
  · isplitr; · iexact HP
    isplitr; · iexact HN
    isplitl [HSt]; · iexact HSt
    isplitl [Hr_rl]; · iexact Hr_rl
    iexact Hlft_rc1
  iintro ⟨HSt, Hc32⟩
  iapply (P5 (κ := κ) (dev6_eq c)) $$ [HSt Hr_rrl Hopp_rc2]
  · isplitr; · iexact HP
    isplitr; · iexact HN
    isplitl [HSt]; · iexact HSt
    isplitl [Hr_rrl]; · iexact Hr_rrl
    iexact Hopp_rc2
  iintro ⟨HSt, Hc33⟩
  iapply (P6 (κ := κ) (dev7_eq c)) $$ [HSt Hx_l Hrgt_xg0]
  · isplitr; · iexact HP
    isplitr; · iexact HN
    isplitl [HSt]; · iexact HSt
    isplitl [Hx_l]; · iexact Hx_l
    iexact Hrgt_xg0
  iintro ⟨HSt, Hc5⟩
  rw [wp_ret]; imodintro
  iapply Hk
  isplitl [HSt]; · iexact HSt
  isplitl [Hc32]; · iexact Hc32
  isplitl [Hc33]; · iexact Hc33
  iexact Hc5

/-- Part 3 of the body. -/
theorem part3_run {l : List (SemLoc sig)} {Q : (Σ' (v78 : IVec S1x8 32), FVec F S8 .f32) → sProp 𝕄} :
    iprop(Pers D c κ ∗ Nb (F := F) c ∗ St (F := F) c 7 0 l ∗ atQ fullShare.right.left c xM (D.x c) ∗ any (F := F) (lft c) xg2 ∗ atQ fullShare.right.right.right c rM (D.rt c))
      ⊢ iprop((iprop(St (F := F) c 8 3 ((.dma 36) :: ((.dma 35) :: ((.dma 34) :: l))) ∗ atQ fullShare.right.right.right c rM (D.rt c) ∗ cred (tallyAt (dC c 7) 0 aX) ∗ at_ c rc0 (up (D.rt (lft c))) ∗ at_ c rc1 (up (D.rt (rgt c))) ∗ at_ c rc2 (up (D.rt (opp c)))) -∗ Q ⟨(V3_0 c), (V3_1 D.rt c)⟩)
          -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 c (V1_1 c) (V1_2 c) (V1_3 c) (V1_4 c)) Q) := by
  unfold V3_0 V3_1
  simp only [k0_part3_eq_skeleton]; unfold k0_part3_skel
  simp only [semSignalWord, semWaitWord, Prog.lift, Prog.bind_op, Prog.bind_ret, Prog.pure_eq_ret, Prog.bind_assoc, wp_deviceId]
  iintro ⟨#HP, #HN, HSt, Hx_rl, Hlft_xg2, Hr_rrr⟩ Hk
  iapply (P7 (κ := κ) (dev8_eq c)) $$ [HSt Hx_rl Hlft_xg2]
  · isplitr; · iexact HP
    isplitr; · iexact HN
    isplitl [HSt]; · iexact HSt
    isplitl [Hx_rl]; · iexact Hx_rl
    iexact Hlft_xg2
  iintro ⟨HSt, Hc7⟩
  iapply (W0 (κ := κ) (src := rM) (dst := rc0) rfl) $$ [HSt ]
  · isplitr; · iexact HP
    iexact HSt
  iintro ⟨HSt, Hrc0⟩
  iapply (W1 (κ := κ) (src := rM) (dst := rc1) rfl) $$ [HSt ]
  · isplitr; · iexact HP
    iexact HSt
  iintro ⟨HSt, Hrc1⟩
  iapply (W2 (κ := κ) (src := rM) (dst := rc2) rfl) $$ [HSt ]
  · isplitr; · iexact HP
    iexact HSt
  iintro ⟨HSt, Hrc2⟩
  iapply (wp_load 𝒱₀ (c : Thread nD τ) none Set.univ (m := (Memref.whole cc0_stg2_0 : Memref sig .tc .vmem S2048x1 .i32)) (S := rM.view.set) (f := (D.rt c)) (View.setOn_subset_set _ _)) $$ Hr_rrr; iintro Hr_rrr
  rw [wp_ret]; imodintro
  iapply Hk
  isplitl [HSt]; · iexact HSt
  isplitl [Hr_rrr]; · iexact Hr_rrr
  isplitl [Hc7]; · iexact Hc7
  isplitl [Hrc0]; · iexact Hrc0
  isplitl [Hrc1]; · iexact Hrc1
  iexact Hrc2

/-- Part 4 of the body. -/
theorem part4_run {Q : (Σ' (v87 : FVec F S1x8 .f32) (v96 : FVec F S1x8 .f32) (v105 : FVec F S1x8 .f32) (v114 : FVec F S1x8 .f32) (v116 : BitVec 32) (v124 : FVec F S1x8 .f32) (v125 : BitVec 32), BitVec 32) → sProp 𝕄} :
    iprop(at_ c rc1 (up (D.rt (rgt c))) ∗ at_ c rc2 (up (D.rt (opp c))) ∗ at_ c rc0 (up (D.rt (lft c))))
      ⊢ iprop((iprop(at_ c rc1 (up (D.rt (rgt c))) ∗ at_ c rc2 (up (D.rt (opp c))) ∗ at_ c rc0 (up (D.rt (lft c)))) -∗ Q ⟨(V4_0 D.rt c), (V4_1 D.rt c), (V4_2 D.rt c), (V4_3 D.rt c), (V4_4 c), (V4_5 D.rt c), (V4_6 c), (V4_7 c)⟩)
          -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_1 c) (V3_0 c) (V3_1 D.rt c)) Q) := by
  unfold V4_0 V4_1 V4_2 V4_3 V4_4 V4_5 V4_6 V4_7
  simp only [k0_part4_eq_skeleton]; unfold k0_part4_skel
  simp only [semSignalWord, semWaitWord, Prog.lift, Prog.bind_op, Prog.bind_ret, Prog.pure_eq_ret, Prog.bind_assoc, wp_deviceId]
  iintro ⟨Hrc1, Hrc2, Hrc0⟩ Hk
  iapply (wp_load 𝒱₀ (c : Thread nD τ) none Set.univ (m := (Memref.whole cc0_scratch9 : Memref sig .tc .vmem S3x2048x1 .i32)) (S := rc1.view.set) (f := (up (D.rt (rgt c)))) (incl_squeeze _ _ _ _ _)) $$ Hrc1; iintro Hrc1
  iapply (wp_load 𝒱₀ (c : Thread nD τ) none Set.univ (m := (Memref.whole cc0_scratch9 : Memref sig .tc .vmem S3x2048x1 .i32)) (S := rc2.view.set) (f := (up (D.rt (opp c)))) (incl_squeeze _ _ _ _ _)) $$ Hrc2; iintro Hrc2
  iapply (wp_load 𝒱₀ (c : Thread nD τ) none Set.univ (m := (Memref.whole cc0_scratch9 : Memref sig .tc .vmem S3x2048x1 .i32)) (S := rc0.view.set) (f := (up (D.rt (lft c)))) (incl_squeeze _ _ _ _ _)) $$ Hrc0; iintro Hrc0
  rw [wp_ret]; imodintro
  iapply Hk
  isplitl [Hrc1]; · iexact Hrc1
  isplitl [Hrc2]; · iexact Hrc2
  iexact Hrc0

/-- Part 5 of the body. -/
theorem part5_run (hg : Good D) {Q : (BitVec 32) → sProp 𝕄} :
    iprop(atQ fullShare.right.right.right c rM (D.rt c) ∗ at_ c tM (D.tri c) ∗ any (F := F) c ks3)
      ⊢ iprop((iprop(atQ fullShare.right.right.right c rM (D.rt c) ∗ at_ c tM (D.tri c) ∗ at_ c ks3 (D.kG c)) -∗ Q (V5_0 c))
          -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_1 c) (V3_0 c) (V4_2 D.rt c) (V4_3 D.rt c) (V4_4 c) (V4_5 D.rt c) (V4_6 c) (V4_7 c)) Q) := by
  unfold V5_0
  simp only [k0_part5_eq_skeleton]; unfold k0_part5_skel
  simp only [semSignalWord, semWaitWord, Prog.lift, Prog.bind_op, Prog.bind_ret, Prog.pure_eq_ret, Prog.bind_assoc, wp_deviceId]
  iintro ⟨Hr_rrr, Ht, Hks3⟩ Hk
  iapply (wp_load 𝒱₀ (c : Thread nD τ) none Set.univ (m := (Memref.whole cc0_stg2_0 : Memref sig .tc .vmem S2048x1 .i32)) (S := rM.view.set) (f := (D.rt c)) (View.setOn_subset_set _ _)) $$ Hr_rrr; iintro Hr_rrr
  iapply (wp_load 𝒱₀ (c : Thread nD τ) none Set.univ (m := (Memref.whole cc0_stg3_0 : Memref sig .tc .vmem S2048x2048 .bf16)) (S := tM.view.set) (f := (D.tri c)) (View.setOn_subset_set _ _)) $$ Ht; iintro Ht
  icases Hks3 with ⟨%fks3, Hks3⟩
  iapply (wp_load 𝒱₀ (c : Thread nD τ) none Set.univ (m := (Memref.whole cc0_scratch0 : Memref sig .tc .vmem S4x2048x8 .bf16)) (S := ks3.view.set) (f := fks3) (incl_slice _ _ _)) $$ Hks3; iintro Hks3
  iapply (st_at (c := c) (M := (Memref.whole cc0_scratch0 : Memref sig .tc .vmem S4x2048x8 .bf16)) (r := (Rect.unit (s := S4x2048x8) ![3, 0, 0] S1x2048x8.size inb_S4x2048x8_S1x2048x8_3_0_0)) (S := ks3.view.set) (D.kG c) rfl (hg.g0 c)) $$ Hks3; iintro Hks3
  rw [wp_ret]; imodintro
  iapply Hk
  isplitl [Hr_rrr]; · iexact Hr_rrr
  isplitl [Ht]; · iexact Ht
  iexact Hks3

end Cert.KernelIdeal.Talk

end
-- ==== Proof.Parts2.lean ====
/-
  The body, parts 6 to 12: each part takes the pieces it reads and writes and gives them back with what it computed.
-/
module

public import proofs.«01_k».proof.Proof.Vals
public import Idealize.ShloMosaic.Lib.Pipeline.Value
public import Idealize.ShloMosaic.Lib.ValueLayout

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable {D : Cont F} {c : Dev nD} {κ : GSem nD τ sig → ℕ}

/-- Part 6 of the body. -/
theorem part6_run {Q : (Σ' (v203 : FVec F S2048x8 .f32) (v205 : IVec S2048x8 1), F .f32) → sProp 𝕄} :
    iprop(at_ c rc1 (up (D.rt (rgt c))) ∗ at_ c tM (D.tri c))
      ⊢ iprop((iprop(at_ c rc1 (up (D.rt (rgt c))) ∗ at_ c tM (D.tri c)) -∗ Q ⟨(V6_0 D.rt D.tri c), (V6_1 D.rt c), (V6_2 c)⟩)
          -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_1 c) (V3_0 c) (V4_0 D.rt c) (V4_2 D.rt c) (V4_3 D.rt c) (V5_0 c)) Q) := by
  unfold V6_0 V6_1 V6_2
  simp only [k0_part6_eq_skeleton]; unfold k0_part6_skel
  simp only [semSignalWord, semWaitWord, Prog.lift, Prog.bind_op, Prog.bind_ret, Prog.pure_eq_ret, Prog.bind_assoc, wp_deviceId]
  iintro ⟨Hrc1, Ht⟩ Hk
  iapply (wp_load 𝒱₀ (c : Thread nD τ) none Set.univ (m := (Memref.whole cc0_scratch9 : Memref sig .tc .vmem S3x2048x1 .i32)) (S := rc1.view.set) (f := (up (D.rt (rgt c)))) (incl_squeeze _ _ _ _ _)) $$ Hrc1; iintro Hrc1
  iapply (wp_load 𝒱₀ (c : Thread nD τ) none Set.univ (m := (Memref.whole cc0_stg3_0 : Memref sig .tc .vmem S2048x2048 .bf16)) (S := tM.view.set) (f := (D.tri c)) (View.setOn_subset_set _ _)) $$ Ht; iintro Ht
  rw [wp_ret]; imodintro
  iapply Hk
  isplitl [Hrc1]; · iexact Hrc1
  iexact Ht

/-- Part 7 of the body. -/
theorem part7_run (hg : Good D) {Q : (Σ' (v238 : FVec F S1x8 .f32), IVec S2048x8 1) → sProp 𝕄} :
    iprop(any (F := F) c ks2 ∗ at_ c rc2 (up (D.rt (opp c))))
      ⊢ iprop((iprop(at_ c ks2 (D.kG c) ∗ at_ c rc2 (up (D.rt (opp c)))) -∗ Q ⟨(V7_0 D.rt c), (V7_1 D.rt c)⟩)
          -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_1 c) (V3_0 c) (V4_0 D.rt c) (V4_1 D.rt c) (V4_3 D.rt c) (V6_0 D.rt D.tri c) (V6_1 D.rt c) (V6_2 c)) Q) := by
  unfold V7_0 V7_1
  simp only [k0_part7_eq_skeleton]; unfold k0_part7_skel
  simp only [semSignalWord, semWaitWord, Prog.lift, Prog.bind_op, Prog.bind_ret, Prog.pure_eq_ret, Prog.bind_assoc, wp_deviceId]
  iintro ⟨Hks2, Hrc2⟩ Hk
  icases Hks2 with ⟨%fks2, Hks2⟩
  iapply (wp_load 𝒱₀ (c : Thread nD τ) none Set.univ (m := (Memref.whole cc0_scratch0 : Memref sig .tc .vmem S4x2048x8 .bf16)) (S := ks2.view.set) (f := fks2) (incl_slice _ _ _)) $$ Hks2; iintro Hks2
  iapply (st_at (c := c) (M := (Memref.whole cc0_scratch0 : Memref sig .tc .vmem S4x2048x8 .bf16)) (r := (Rect.unit (s := S4x2048x8) ![2, 0, 0] S1x2048x8.size inb_S4x2048x8_S1x2048x8_2_0_0)) (S := ks2.view.set) (D.kG c) rfl (hg.g1 c)) $$ Hks2; iintro Hks2
  iapply (wp_load 𝒱₀ (c : Thread nD τ) none Set.univ (m := (Memref.whole cc0_scratch9 : Memref sig .tc .vmem S3x2048x1 .i32)) (S := rc2.view.set) (f := (up (D.rt (opp c)))) (incl_squeeze _ _ _ _ _)) $$ Hrc2; iintro Hrc2
  rw [wp_ret]; imodintro
  iapply Hk
  isplitl [Hks2]; · iexact Hks2
  iexact Hrc2

/-- Part 8 of the body. -/
theorem part8_run (hg : Good D) {Q : (Σ' (v266 : BitVec 32) (v281 : FVec F S1x8 .f32), BitVec 32) → sProp 𝕄} :
    iprop(at_ c tM (D.tri c) ∗ any (F := F) c ks1)
      ⊢ iprop((iprop(at_ c tM (D.tri c) ∗ at_ c ks1 (D.kG c)) -∗ Q ⟨(V8_0 c), (V8_1 D.rt c), (V8_2 c)⟩)
          -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_1 c) (V4_0 D.rt c) (V4_1 D.rt c) (V7_0 D.rt c) (V7_1 D.rt c)) Q) := by
  unfold V8_0 V8_1 V8_2
  simp only [k0_part8_eq_skeleton]; unfold k0_part8_skel
  simp only [semSignalWord, semWaitWord, Prog.lift, Prog.bind_op, Prog.bind_ret, Prog.pure_eq_ret, Prog.bind_assoc, wp_deviceId]
  iintro ⟨Ht, Hks1⟩ Hk
  iapply (wp_load 𝒱₀ (c : Thread nD τ) none Set.univ (m := (Memref.whole cc0_stg3_0 : Memref sig .tc .vmem S2048x2048 .bf16)) (S := tM.view.set) (f := (D.tri c)) (View.setOn_subset_set _ _)) $$ Ht; iintro Ht
  icases Hks1 with ⟨%fks1, Hks1⟩
  iapply (wp_load 𝒱₀ (c : Thread nD τ) none Set.univ (m := (Memref.whole cc0_scratch0 : Memref sig .tc .vmem S4x2048x8 .bf16)) (S := ks1.view.set) (f := fks1) (incl_slice _ _ _)) $$ Hks1; iintro Hks1
  iapply (st_at (c := c) (M := (Memref.whole cc0_scratch0 : Memref sig .tc .vmem S4x2048x8 .bf16)) (r := (Rect.unit (s := S4x2048x8) ![1, 0, 0] S1x2048x8.size inb_S4x2048x8_S1x2048x8_1_0_0)) (S := ks1.view.set) (D.kG c) rfl (hg.g2 c)) $$ Hks1; iintro Hks1
  rw [wp_ret]; imodintro
  iapply Hk
  isplitl [Ht]; · iexact Ht
  iexact Hks1

/-- Part 9 of the body. -/
theorem part9_run (hg : Good D) {Q : (PUnit) → sProp 𝕄} :
    iprop(at_ c rc0 (up (D.rt (lft c))) ∗ at_ c tM (D.tri c) ∗ any (F := F) c ks0 ∗ at_ c ks1 (D.kG c) ∗ at_ c ks2 (D.kG c) ∗ at_ c ks3 (D.kG c))
      ⊢ iprop((iprop(at_ c rc0 (up (D.rt (lft c))) ∗ at_ c tM (D.tri c) ∗ at_ c kM (D.kG c)) -∗ Q ⟨⟩)
          -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_3 c) (V3_0 c) (V4_2 D.rt c) (V8_0 c) (V8_1 D.rt c) (V8_2 c)) Q) := by
  simp only [k0_part9_eq_skeleton]; unfold k0_part9_skel
  simp only [semSignalWord, semWaitWord, Prog.lift, Prog.bind_op, Prog.bind_ret, Prog.pure_eq_ret, Prog.bind_assoc, wp_deviceId]
  iintro ⟨Hrc0, Ht, Hks0, Hks1, Hks2, Hks3⟩ Hk
  iapply (wp_load 𝒱₀ (c : Thread nD τ) none Set.univ (m := (Memref.whole cc0_scratch9 : Memref sig .tc .vmem S3x2048x1 .i32)) (S := rc0.view.set) (f := (up (D.rt (lft c)))) (incl_squeeze _ _ _ _ _)) $$ Hrc0; iintro Hrc0
  iapply (wp_load 𝒱₀ (c : Thread nD τ) none Set.univ (m := (Memref.whole cc0_stg3_0 : Memref sig .tc .vmem S2048x2048 .bf16)) (S := tM.view.set) (f := (D.tri c)) (View.setOn_subset_set _ _)) $$ Ht; iintro Ht
  icases Hks0 with ⟨%fks0, Hks0⟩
  iapply (wp_load 𝒱₀ (c : Thread nD τ) none Set.univ (m := (Memref.whole cc0_scratch0 : Memref sig .tc .vmem S4x2048x8 .bf16)) (S := ks0.view.set) (f := fks0) (incl_slice _ _ _)) $$ Hks0; iintro Hks0
  iapply (st_at (c := c) (M := (Memref.whole cc0_scratch0 : Memref sig .tc .vmem S4x2048x8 .bf16)) (r := (Rect.unit (s := S4x2048x8) ![0, 0, 0] S1x2048x8.size inb_S4x2048x8_S1x2048x8_0_0_0)) (S := ks0.view.set) (D.kG c) rfl (hg.g3 c)) $$ Hks0; iintro Hks0
  ihave Hkk := (k_join (F := F) c (D.kG c)) $$ [Hks0 Hks1 Hks2 Hks3]
  · isplitl [Hks0]; · iexact Hks0
    isplitl [Hks1]; · iexact Hks1
    isplitl [Hks2]; · iexact Hks2
    iexact Hks3
  rw [wp_ret]; imodintro
  iapply Hk
  isplitl [Hrc0]; · iexact Hrc0
  isplitl [Ht]; · iexact Ht
  iexact Hkk

/-- Part 10 of the body. -/
theorem part10_run {l : List (SemLoc sig)} {Q : (Σ' (v332 : FVec F S2048x512 .bf16), FVec F S2048x512 .f32) → sProp 𝕄} :
    iprop(Pers D c κ ∗ Nb (F := F) c ∗ St (F := F) c 8 3 l ∗ any (F := F) (rgt c) xg1 ∗ at_ c kM (D.kG c) ∗ at_ c wM (D.w c))
      ⊢ iprop((iprop(St (F := F) c 9 4 ((.dma 8) :: l) ∗ at_ c kM (D.kG c) ∗ at_ c wM (D.w c) ∗ atQ fullShare.right c xg0 (up (D.x (lft c))) ∗ cred (tallyAt (dC c 6) 0 aX)) -∗ Q ⟨(V10_0 D.x c), (V10_1 D.x D.w D.kG c)⟩)
          -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 c (V1_3 c)) Q) := by
  unfold V10_0 V10_1
  simp only [k0_part10_eq_skeleton]; unfold k0_part10_skel
  simp only [semSignalWord, semWaitWord, Prog.lift, Prog.bind_op, Prog.bind_ret, Prog.pure_eq_ret, Prog.bind_assoc, wp_deviceId]
  iintro ⟨#HP, #HN, HSt, Hrgt_xg1, Hkk, Hw⟩ Hk
  iapply (W3 (κ := κ) (src := xM) (dst := xg0) rfl) $$ [HSt ]
  · isplitr; · iexact HP
    iexact HSt
  iintro ⟨HSt, Hxg0⟩
  icases (share_split (F := F) c xg0 _).1 $$ Hxg0 with ⟨Hxg0_l, Hxg0_r⟩
  iapply (P8 (κ := κ) (dev9_eq c)) $$ [HSt Hxg0_l Hrgt_xg1]
  · isplitr; · iexact HP
    isplitr; · iexact HN
    isplitl [HSt]; · iexact HSt
    isplitl [Hxg0_l]; · iexact Hxg0_l
    iexact Hrgt_xg1
  iintro ⟨HSt, Hc6⟩
  iapply (wp_load 𝒱₀ (c : Thread nD τ) none Set.univ (m := (Memref.whole cc0_scratch1 : Memref sig .tc .vmem S3x2048x512 .bf16)) (S := xg0.view.set) (f := (up (D.x (lft c)))) (incl_squeeze _ _ _ _ _)) $$ Hxg0_r; iintro Hxg0_r
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  rw [wp_ret]; imodintro
  iapply Hk
  isplitl [HSt]; · iexact HSt
  isplitl [Hkk]; · iexact Hkk
  isplitl [Hw]; · iexact Hw
  isplitl [Hxg0_r]; · iexact Hxg0_r
  iexact Hc6

/-- Part 11 of the body. -/
theorem part11_run {Q : (FVec F S2048x512 .f32) → sProp 𝕄} :
    iprop(at_ c kM (D.kG c) ∗ at_ c wM (D.w c))
      ⊢ iprop((iprop(at_ c kM (D.kG c) ∗ at_ c wM (D.w c)) -∗ Q (V11_0 D.x D.w D.kG c))
          -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V10_0 D.x c) (V10_1 D.x D.w D.kG c)) Q) := by
  unfold V11_0
  simp only [k0_part11_eq_skeleton]; unfold k0_part11_skel
  simp only [semSignalWord, semWaitWord, Prog.lift, Prog.bind_op, Prog.bind_ret, Prog.pure_eq_ret, Prog.bind_assoc, wp_deviceId]
  iintro ⟨Hkk, Hw⟩ Hk
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  rw [wp_ret]; imodintro
  iapply Hk
  isplitl [Hkk]; · iexact Hkk
  iexact Hw

/-- Part 12 of the body. -/
theorem part12_run (hg : Good D) {l : List (SemLoc sig)} {Q : (PUnit) → sProp 𝕄} :
    iprop(Pers D c κ ∗ Nb (F := F) c ∗ St (F := F) c 9 4 l ∗ at_ c kM (D.kG c) ∗ at_ c wM (D.w c) ∗ any (F := F) c as0 ∗ any (F := F) (rgt c) rr00)
      ⊢ iprop((iprop(St (F := F) c 10 4 l ∗ at_ c kM (D.kG c) ∗ at_ c wM (D.w c) ∗ at_ c ac01 (up (D.a0r c)) ∗ cred (tallyAt (dC c 11) 0 aH)) -∗ Q ⟨⟩)
          -∗ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 c (V1_3 c) (V10_0 D.x c) (V11_0 D.x D.w D.kG c)) Q) := by
  simp only [k0_part12_eq_skeleton]; unfold k0_part12_skel
  simp only [semSignalWord, semWaitWord, Prog.lift, Prog.bind_op, Prog.bind_ret, Prog.pure_eq_ret, Prog.bind_assoc, wp_deviceId]
  iintro ⟨#HP, #HN, HSt, Hkk, Hw, Has0, Hrgt_rr00⟩ Hk
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  icases Has0 with ⟨%fas0, Has0⟩
  iapply (wp_load 𝒱₀ (c : Thread nD τ) none Set.univ (m := (Memref.whole cc0_scratch6 : Memref sig .tc .vmem S2x2048x512 .bf16)) (S := as0.view.set) (f := fas0) (incl_slice _ _ _)) $$ Has0; iintro Has0
  iapply (st_at (c := c) (M := (Memref.whole cc0_scratch6 : Memref sig .tc .vmem S2x2048x512 .bf16)) (r := (Rect.unit (s := S2x2048x512) ![0, 0, 0] S1x2048x512.size inb_S2x2048x512_S1x2048x512_0_0_0)) (S := as0.view.set) (up (D.a0r c)) rfl (hg.g4 c)) $$ Has0; iintro Has0
  icases (as0_split (F := F) c (up (D.a0r c))).1 $$ Has0 with ⟨Hac00, Hac01⟩
  iapply (P9 (κ := κ) (dev10_eq c)) $$ [HSt Hac00 Hrgt_rr00]
  · isplitr; · iexact HP
    isplitr; · iexact HN
    isplitl [HSt]; · iexact HSt
    isplitl [Hac00]; · iexact Hac00
    iexact Hrgt_rr00
  iintro ⟨HSt, Hc11⟩
  rw [wp_ret]; imodintro
  iapply Hk
  isplitl [HSt]; · iexact HSt
  isplitl [Hkk]; · iexact Hkk
  isplitl [Hw]; · iexact Hw
  isplitl [Hac01]; · iexact Hac01
  iexact Hc11

end Cert.KernelIdeal.Talk

end
-- ==== Proof.Parts3.lean ====
/-
  The body, parts 13 to 18: each part takes the pieces it reads and writes and gives them back with what it computed.
-/
module

public import proofs.«01_k».proof.Proof.Vals
public import Idealize.ShloMosaic.Lib.Pipeline.Value
public import Idealize.ShloMosaic.Lib.ValueLayout

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable {D : Cont F} {c : Dev nD} {κ : GSem nD τ sig → ℕ}

/-- Part 13 of the body. -/
theorem part13_run {l : List (SemLoc sig)} {Q : (Σ' (v429 : FVec F S2048x512 .bf16) (v438 : FVec F S2048x512 .f32), FVec F S2048x1 .bf16) → sProp 𝕄} :
    iprop(Pers D c κ ∗ Nb (F := F) c ∗ St (F := F) c 10 4 l ∗ at_ c ac01 (up (D.a0r c)) ∗ any (F := F) (rgt c) rr01 ∗ at_ c kM (D.kG c) ∗ at_ c wM (D.w c))
      ⊢ iprop((iprop(St (F := F) c 11 5 ((.dma 10) :: l) ∗ at_ c kM (D.kG c) ∗ at_ c wM (D.w c) ∗ cred (tallyAt (dC c 12) 0 aH) ∗ at_ c xg2 (up (D.x (rgt c)))) -∗ Q ⟨(V13_0 D.x c), (V13_1 D.x D.w D.kG c), (V13_2 D.kG c)⟩)
          -∗ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 c (V1_2 c) (V1_3 c)) Q) := by
  unfold V13_0 V13_1 V13_2
  simp only [k0_part13_eq_skeleton]; unfold k0_part13_skel
  simp only [semSignalWord, semWaitWord, Prog.lift, Prog.bind_op, Prog.bind_ret, Prog.pure_eq_ret, Prog.bind_assoc, wp_deviceId]
  iintro ⟨#HP, #HN, HSt, Hac01, Hrgt_rr01, Hkk, Hw⟩ Hk
  iapply (P10 (κ := κ) (dev11_eq c)) $$ [HSt Hac01 Hrgt_rr01]
  · isplitr; · iexact HP
    isplitr; · iexact HN
    isplitl [HSt]; · iexact HSt
    isplitl [Hac01]; · iexact Hac01
    iexact Hrgt_rr01
  iintro ⟨HSt, Hc12⟩
  iapply (W4 (κ := κ) (src := xM) (dst := xg2) rfl) $$ [HSt ]
  · isplitr; · iexact HP
    iexact HSt
  iintro ⟨HSt, Hxg2⟩
  iapply (wp_load 𝒱₀ (c : Thread nD τ) none Set.univ (m := (Memref.whole cc0_scratch1 : Memref sig .tc .vmem S3x2048x512 .bf16)) (S := xg2.view.set) (f := (up (D.x (rgt c)))) (incl_squeeze _ _ _ _ _)) $$ Hxg2; iintro Hxg2
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  rw [wp_ret]; imodintro
  iapply Hk
  isplitl [HSt]; · iexact HSt
  isplitl [Hkk]; · iexact Hkk
  isplitl [Hw]; · iexact Hw
  isplitl [Hc12]; · iexact Hc12
  iexact Hxg2

/-- Part 14 of the body. -/
theorem part14_run {Q : (Σ' (v470 : FVec F S2048x512 .f32), FVec F S2048x1 .bf16) → sProp 𝕄} :
    iprop(at_ c wM (D.w c) ∗ at_ c kM (D.kG c))
      ⊢ iprop((iprop(at_ c wM (D.w c) ∗ at_ c kM (D.kG c)) -∗ Q ⟨(V14_0 D.x D.w D.kG c), (V14_1 D.kG c)⟩)
          -∗ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V13_0 D.x c) (V13_1 D.x D.w D.kG c) (V13_2 D.kG c)) Q) := by
  unfold V14_0 V14_1
  simp only [k0_part14_eq_skeleton]; unfold k0_part14_skel
  simp only [semSignalWord, semWaitWord, Prog.lift, Prog.bind_op, Prog.bind_ret, Prog.pure_eq_ret, Prog.bind_assoc, wp_deviceId]
  iintro ⟨Hw, Hkk⟩ Hk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  rw [wp_ret]; imodintro
  iapply Hk
  isplitl [Hw]; · iexact Hw
  iexact Hkk

/-- Part 15 of the body. -/
theorem part15_run (hg : Good D) {Q : (PUnit) → sProp 𝕄} :
    iprop(at_ c wM (D.w c) ∗ at_ c kM (D.kG c) ∗ any (F := F) c as1)
      ⊢ iprop((iprop(at_ c wM (D.w c) ∗ at_ c kM (D.kG c) ∗ at_ c ac10 (up (D.a0l c)) ∗ at_ c ac11 (up (D.a0l c))) -∗ Q ⟨⟩)
          -∗ wp frame (wpE (defs₀ (F := F)) 𝒱₀ (c : Thread nD τ) none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_2 c) (V13_0 D.x c) (V14_0 D.x D.w D.kG c) (V14_1 D.kG c)) Q) := by
  simp only [k0_part15_eq_skeleton]; unfold k0_part15_skel
  simp only [semSignalWord, semWaitWord, Prog.lift, Prog.bind_op, Prog.bind_ret, Prog.pure_eq_ret, Prog.bind_assoc, wp_deviceId]
  iintro ⟨Hw, Hkk, Has1⟩ Hk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  icases Has1 with ⟨%fas1, Has1⟩
  iapply (wp_load 𝒱₀ (c : Thread nD τ) none Set.univ (m := (Memref.whole cc0_scratch6 : Memref sig .tc .vmem S2x2048x512 .bf16)) (S := as1.view.set) (f := fas1) (incl_slice _ _ _)) $$ Has1; iintro Has1
  iapply (st_at (c := c) (M := (Memref.whole cc0_scratch6 : Memref sig .tc .vmem S2x2048x512 .bf16)) (r := (Rect.unit (s := S2x2048x512) ![1, 0, 0] S1x2048x512.size inb_S2x2048x512_S1x2048x512_1_0_0)) (S := as1.view.set) (up (D.a0l c)) rfl (hg.g5 c)) $$ Has1; iintro Has1
  icases (as1_split (F := F) c (up (D.a0l c))).1 $$ Has1 with ⟨Hac10, Hac11⟩
  rw [wp_ret]; imodintro
  iapply Hk
  isplitl [Hw]; · iexact Hw
  isplitl [Hkk]; · iexact Hkk
  isplitl [Hac10]; · iexact Hac10
  iexact Hac11

/-- Part 16 of the body. -/
theorem part16_run {l : List (SemLoc sig)} {Q : (Σ' (v520 : FVec F S2048x512 .bf16) (v529 : FVec F S2048x512 .f32), FVec F S2048x512 .bf16) → sProp 𝕄} :
    iprop(Pers D c κ ∗ Nb (F := F) c ∗ St (F := F) c 11 5 l ∗ at_ c ac10 (up (D.a0l c)) ∗ any (F := F) (lft c) rl00 ∗ at_ c ac11 (up (D.a0l c)) ∗ any (F := F) (lft c) rl01 ∗ atQ fullShare.right.right c xM (D.x c) ∗ at_ c kM (D.kG c) ∗ at_ c wM (D.w c))
      ⊢ iprop((iprop(St (F := F) c 13 5 l ∗ atQ fullShare.right.right c xM (D.x c) ∗ at_ c kM (D.kG c) ∗ at_ c wM (D.w c) ∗ cred (tallyAt (dC c 21) 0 aH) ∗ cred (tallyAt (dC c 22) 0 aH)) -∗ Q ⟨(V16_0 D.x c), (V16_1 D.x D.w D.kG c), (V16_2 D.x D.kG c)⟩)
          -∗ wp frame (wpE (defs₀ (F := F)) 𝒱₀ (c : Thread nD τ) none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 c (V1_2 c)) Q) := by
  unfold V16_0 V16_1 V16_2
  simp only [k0_part16_eq_skeleton]; unfold k0_part16_skel
  simp only [semSignalWord, semWaitWord, Prog.lift, Prog.bind_op, Prog.bind_ret, Prog.pure_eq_ret, Prog.bind_assoc, wp_deviceId]
  iintro ⟨#HP, #HN, HSt, Hac10, Hlft_rl00, Hac11, Hlft_rl01, Hx_rr, Hkk, Hw⟩ Hk
  iapply (P11 (κ := κ) (dev12_eq c)) $$ [HSt Hac10 Hlft_rl00]
  · isplitr; · iexact HP
    isplitr; · iexact HN
    isplitl [HSt]; · iexact HSt
    isplitl [Hac10]; · iexact Hac10
    iexact Hlft_rl00
  iintro ⟨HSt, Hc21⟩
  iapply (P12 (κ := κ) (dev13_eq c)) $$ [HSt Hac11 Hlft_rl01]
  · isplitr; · iexact HP
    isplitr; · iexact HN
    isplitl [HSt]; · iexact HSt
    isplitl [Hac11]; · iexact Hac11
    iexact Hlft_rl01
  iintro ⟨HSt, Hc22⟩
  iapply (wp_load 𝒱₀ (c : Thread nD τ) none Set.univ (m := (Memref.whole cc0_stg0_0 : Memref sig .tc .vmem S2048x512 .bf16)) (S := xM.view.set) (f := (D.x c)) (View.setOn_subset_set _ _)) $$ Hx_rr; iintro Hx_rr
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  rw [wp_ret]; imodintro
  iapply Hk
  isplitl [HSt]; · iexact HSt
  isplitl [Hx_rr]; · iexact Hx_rr
  isplitl [Hkk]; · iexact Hkk
  isplitl [Hw]; · iexact Hw
  isplitl [Hc21]; · iexact Hc21
  iexact Hc22

/-- Part 17 of the body. -/
theorem part17_run {Q : (Σ' (v561 : FVec F S2048x512 .f32), FVec F S2048x512 .bf16) → sProp 𝕄} :
    iprop(at_ c wM (D.w c) ∗ at_ c kM (D.kG c))
      ⊢ iprop((iprop(at_ c wM (D.w c) ∗ at_ c kM (D.kG c)) -∗ Q ⟨(V17_0 D.x D.w D.kG c), (V17_1 D.x D.kG c)⟩)
          -∗ wp frame (wpE (defs₀ (F := F)) 𝒱₀ (c : Thread nD τ) none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V16_0 D.x c) (V16_1 D.x D.w D.kG c) (V16_2 D.x D.kG c)) Q) := by
  unfold V17_0 V17_1
  simp only [k0_part17_eq_skeleton]; unfold k0_part17_skel
  simp only [semSignalWord, semWaitWord, Prog.lift, Prog.bind_op, Prog.bind_ret, Prog.pure_eq_ret, Prog.bind_assoc, wp_deviceId]
  iintro ⟨Hw, Hkk⟩ Hk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  rw [wp_ret]; imodintro
  iapply Hk
  isplitl [Hw]; · iexact Hw
  iexact Hkk

/-- Part 18 of the body. -/
theorem part18_run (hg : Good D) {Q : (PUnit) → sProp 𝕄} :
    iprop(at_ c wM (D.w c) ∗ at_ c kM (D.kG c) ∗ any (F := F) c wl)
      ⊢ iprop((iprop(at_ c wM (D.w c) ∗ at_ c kM (D.kG c) ∗ at_ c wl (D.wG c)) -∗ Q ⟨⟩)
          -∗ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_3 c) (V16_0 D.x c) (V17_0 D.x D.w D.kG c) (V17_1 D.x D.kG c)) Q) := by
  simp only [k0_part18_eq_skeleton]; unfold k0_part18_skel
  simp only [semSignalWord, semWaitWord, Prog.lift, Prog.bind_op, Prog.bind_ret, Prog.pure_eq_ret, Prog.bind_assoc, wp_deviceId]
  iintro ⟨Hw, Hkk, Hwl⟩ Hk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  icases Hwl with ⟨%fwl, Hwl⟩
  iapply (wp_load 𝒱₀ (c : Thread nD τ) none Set.univ (m := (Memref.whole cc0_scratch5 : Memref sig .tc .vmem S2048x1024 .bf16)) (S := wl.view.set) (f := fwl) (incl_slice _ _ _)) $$ Hwl; iintro Hwl
  iapply (st_at (c := c) (M := (Memref.whole cc0_scratch5 : Memref sig .tc .vmem S2048x1024 .bf16)) (r := (Rect.unit (s := S2048x1024) ![0, 0] S2048x512.size inb_S2048x1024_S2048x512_0_0)) (S := wl.view.set) (D.wG c) rfl (hg.g6 c)) $$ Hwl; iintro Hwl
  rw [wp_ret]; imodintro
  iapply Hk
  isplitl [Hw]; · iexact Hw
  isplitl [Hkk]; · iexact Hkk
  iexact Hwl

end Cert.KernelIdeal.Talk

end
-- ==== Proof.Parts4.lean ====
/-
  The body, parts 19 to 23: each part takes the pieces it reads and writes and gives them back with what it computed.
-/
module

public import proofs.«01_k».proof.Proof.Vals
public import Idealize.ShloMosaic.Lib.Pipeline.Value
public import Idealize.ShloMosaic.Lib.ValueLayout

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable {D : Cont F} {c : Dev nD} {κ : GSem nD τ sig → ℕ}

/-- Part 19 of the body. -/
theorem part19_run {l : List (SemLoc sig)} {Q : (Σ' (v599 : FVec F S2048x512 .bf16) (v624 : FVec F S2048x512 .f32), FVec F S2048x512 .bf16) → sProp 𝕄} :
    iprop(Pers D c κ ∗ St (F := F) c 13 5 l ∗ at_ c kM (D.kG c) ∗ at_ c wM (D.w c))
      ⊢ iprop((iprop(St (F := F) c 13 6 ((.dma 9) :: l) ∗ at_ c kM (D.kG c) ∗ at_ c wM (D.w c) ∗ at_ c xg1 (up (D.x (lft (lft c))))) -∗ Q ⟨(V19_0 D.x c), (V19_1 D.x D.w D.kG c), (V19_2 D.kG c)⟩)
          -∗ wp frame (wpE (defs₀ (F := F)) 𝒱₀ (c : Thread nD τ) none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 ) Q) := by
  unfold V19_0 V19_1 V19_2
  simp only [k0_part19_eq_skeleton]; unfold k0_part19_skel
  simp only [semSignalWord, semWaitWord, Prog.lift, Prog.bind_op, Prog.bind_ret, Prog.pure_eq_ret, Prog.bind_assoc, wp_deviceId]
  iintro ⟨#HP, HSt, Hkk, Hw⟩ Hk
  iapply (W5 (κ := κ) (src := xg0) (dst := xg1) rfl) $$ [HSt ]
  · isplitr; · iexact HP
    iexact HSt
  iintro ⟨HSt, Hxg1⟩
  iapply (wp_load 𝒱₀ (c : Thread nD τ) none Set.univ (m := (Memref.whole cc0_scratch1 : Memref sig .tc .vmem S3x2048x512 .bf16)) (S := xg1.view.set) (f := (up (D.x (lft (lft c))))) (incl_squeeze _ _ _ _ _)) $$ Hxg1; iintro Hxg1
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  rw [wp_ret]; imodintro
  iapply Hk
  isplitl [HSt]; · iexact HSt
  isplitl [Hkk]; · iexact Hkk
  isplitl [Hw]; · iexact Hw
  iexact Hxg1

/-- Part 20 of the body. -/
theorem part20_run {Q : (Σ' (v656 : FVec F S2048x512 .f32), FVec F S2048x512 .bf16) → sProp 𝕄} :
    iprop(at_ c wM (D.w c) ∗ at_ c kM (D.kG c))
      ⊢ iprop((iprop(at_ c wM (D.w c) ∗ at_ c kM (D.kG c)) -∗ Q ⟨(V20_0 D.x D.w D.kG c), (V20_1 D.kG c)⟩)
          -∗ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V19_0 D.x c) (V19_1 D.x D.w D.kG c) (V19_2 D.kG c)) Q) := by
  unfold V20_0 V20_1
  simp only [k0_part20_eq_skeleton]; unfold k0_part20_skel
  simp only [semSignalWord, semWaitWord, Prog.lift, Prog.bind_op, Prog.bind_ret, Prog.pure_eq_ret, Prog.bind_assoc, wp_deviceId]
  iintro ⟨Hw, Hkk⟩ Hk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  rw [wp_ret]; imodintro
  iapply Hk
  isplitl [Hw]; · iexact Hw
  iexact Hkk

/-- Part 21 of the body. -/
theorem part21_run (hg : Good D) {l : List (SemLoc sig)} {Q : (Σ' (v669 : Vec F S2048x512 .bf16) (v685 : FVec F S1024x512 .bf16), FVec F S1024x512 .bf16) → sProp 𝕄} :
    iprop(Pers D c κ ∗ St (F := F) c 13 6 l ∗ at_ c wM (D.w c) ∗ any (F := F) c dl ∗ cred (tallyAt (dC c 11) 0 aH))
      ⊢ iprop((iprop(St (F := F) c 13 8 ((.dma 11) :: l) ∗ at_ c wM (D.w c) ∗ at_ c dl (D.dG c) ∗ atPos ER (dC c 17) 1 ∅ 0 ∗ reached (ER (F := F)) (dC c 17) 1 ∗ at_ c rr00 (up (D.a0r (lft c))) ∗ at_ c ac00 (up (D.a0r c))) -∗ Q ⟨(V21_0 D.dG c), (V21_1 D.a0r c), (V21_2 D.dG c)⟩)
          -∗ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_3 c) (V19_0 D.x c) (V20_0 D.x D.w D.kG c) (V20_1 D.kG c)) Q) := by
  unfold V21_0 V21_1 V21_2
  simp only [k0_part21_eq_skeleton]; unfold k0_part21_skel
  simp only [semSignalWord, semWaitWord, Prog.lift, Prog.bind_op, Prog.bind_ret, Prog.pure_eq_ret, Prog.bind_assoc, wp_deviceId]
  iintro ⟨#HP, HSt, Hw, Hdl, Hc11⟩ Hk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  icases Hdl with ⟨%fdl, Hdl⟩
  iapply (wp_load 𝒱₀ (c : Thread nD τ) none Set.univ (m := (Memref.whole cc0_scratch2 : Memref sig .tc .vmem S2048x1024 .bf16)) (S := dl.view.set) (f := fdl) (incl_slice _ _ _)) $$ Hdl; iintro Hdl
  iapply (st_at (c := c) (M := (Memref.whole cc0_scratch2 : Memref sig .tc .vmem S2048x1024 .bf16)) (r := (Rect.unit (s := S2048x1024) ![0, 0] S2048x512.size inb_S2048x1024_S2048x512_0_0)) (S := dl.view.set) (D.dG c) rfl (hg.g7 c)) $$ Hdl; iintro Hdl
  iapply (wp_load 𝒱₀ (c : Thread nD τ) none Set.univ (m := (Memref.whole cc0_scratch2 : Memref sig .tc .vmem S2048x1024 .bf16)) (S := dl.view.set) (f := (D.dG c)) (incl_slice _ _ _)) $$ Hdl; iintro Hdl
  iapply (W6 (κ := κ) (src := ac00) (dst := rr00) rfl) $$ [HSt ]
  · isplitr; · iexact HP
    iexact HSt
  iintro ⟨HSt, ⟨HA17, HR17⟩, Hrr00⟩
  iapply (W7 (κ := κ) (src := rr00) (dst := ac00) rfl) $$ [HSt Hc11]
  · isplitr; · iexact HP
    isplitl [HSt]; · iexact HSt
    iexact Hc11
  iintro ⟨HSt, Hac00⟩
  iapply (wp_load 𝒱₀ (c : Thread nD τ) none Set.univ (m := (Memref.whole cc0_scratch7 : Memref sig .tc .vmem S2x2048x512 .bf16)) (S := rr00.view.set) (f := (up (D.a0r (lft c)))) (incl_squeeze _ _ _ _ _)) $$ Hrr00; iintro Hrr00
  rw [wp_ret]; imodintro
  iapply Hk
  isplitl [HSt]; · iexact HSt
  isplitl [Hw]; · iexact Hw
  isplitl [Hdl]; · iexact Hdl
  isplitl [HA17]; · iexact HA17
  isplitl [HR17]; · iexact HR17
  isplitl [Hrr00]; · iexact Hrr00
  iexact Hac00

/-- Part 22 of the body. -/
theorem part22_run (hg : Good D) {l : List (SemLoc sig)} {Q : (PUnit) → sProp 𝕄} :
    iprop(Pers D c κ ∗ Nb (F := F) c ∗ St (F := F) c 13 8 l ∗ at_ c ac00 (up (D.a0r c)) ∗ any (F := F) (rgt c) rr10)
      ⊢ iprop((iprop(St (F := F) c 14 9 l ∗ cred (tallyAt (dC c 13) 0 aH) ∗ atPos ER (dC c 18) 1 ∅ 0 ∗ reached (ER (F := F)) (dC c 18) 1 ∗ at_ c rr01 (up (D.a0r (lft c)))) -∗ Q ⟨⟩)
          -∗ wp frame (wpE (defs₀ (F := F)) 𝒱₀ (c : Thread nD τ) none) Set.univ (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 c (V1_3 c) (V21_1 D.a0r c) (V21_2 D.dG c)) Q) := by
  simp only [k0_part22_eq_skeleton]; unfold k0_part22_skel
  simp only [semSignalWord, semWaitWord, Prog.lift, Prog.bind_op, Prog.bind_ret, Prog.pure_eq_ret, Prog.bind_assoc, wp_deviceId]
  iintro ⟨#HP, #HN, HSt, Hac00, Hrgt_rr10⟩ Hk
  iapply (wp_load 𝒱₀ (c : Thread nD τ) none Set.univ (m := (Memref.whole cc0_scratch6 : Memref sig .tc .vmem S2x2048x512 .bf16)) (S := ac00.view.set) (f := (up (D.a0r c))) (incl_squeeze _ _ _ _ _)) $$ Hac00; iintro Hac00
  iapply (st_at (c := c) (M := (Memref.whole cc0_scratch6 : Memref sig .tc .vmem S2x2048x512 .bf16)) (r := (Rect.unit (s := S2x2048x512) ![0, 0, 0] S1x1024x512.size inb_S2x2048x512_S1x1024x512_0_0_0)) (S := ac00.view.set) (up (D.a1r c)) (set_squeeze _ _ _ _ _) (hg.g8 c)) $$ Hac00; iintro Hac00
  iapply (P13 (κ := κ) (dev14_eq c)) $$ [HSt Hac00 Hrgt_rr10]
  · isplitr; · iexact HP
    isplitr; · iexact HN
    isplitl [HSt]; · iexact HSt
    isplitl [Hac00]; · iexact Hac00
    iexact Hrgt_rr10
  iintro ⟨HSt, Hc13⟩
  iapply (W8 (κ := κ) (src := ac01) (dst := rr01) rfl) $$ [HSt ]
  · isplitr; · iexact HP
    iexact HSt
  iintro ⟨HSt, ⟨HA18, HR18⟩, Hrr01⟩
  rw [wp_ret]; imodintro
  iapply Hk
  isplitl [HSt]; · iexact HSt
  isplitl [Hc13]; · iexact Hc13
  isplitl [HA18]; · iexact HA18
  isplitl [HR18]; · iexact HR18
  iexact Hrr01

/-- Part 23 of the body. -/
theorem part23_run (hg : Good D) {l : List (SemLoc sig)} {Q : (Σ' (v735 : FVec F S2048x512 .bf16) (v736 : FVec F S2048x512 .f32), FVec F S2048x512 .bf16) → sProp 𝕄} :
    iprop(Pers D c κ ∗ Nb (F := F) c ∗ St (F := F) c 14 9 l ∗ cred (tallyAt (dC c 12) 0 aH) ∗ at_ c rr01 (up (D.a0r (lft c))) ∗ any (F := F) (rgt c) rr11 ∗ at_ c rr00 (up (D.a0r (lft c))) ∗ reached (ER (F := F)) (dC c 17) 1 ∗ reached (ER (F := F)) (dC c 18) 1 ∗ at_ c xg1 (up (D.x (lft (lft c)))) ∗ at_ c kM (D.kG c))
      ⊢ iprop((iprop(St (F := F) c 16 10 ((.dma 12) :: l) ∗ at_ c xg1 (up (D.x (lft (lft c)))) ∗ at_ c kM (D.kG c) ∗ cred (tallyAt (dC c 14) 0 aH)) -∗ Q ⟨(V23_0 D.x c), (V23_1 c), (V23_2 D.x D.kG c)⟩)
          -∗ wp frame (wpE (defs₀ (F := F)) 𝒱₀ (c : Thread nD τ) none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 c (V1_2 c) (V1_3 c) (V21_0 D.dG c)) Q) := by
  unfold V23_0 V23_1 V23_2
  simp only [k0_part23_eq_skeleton]; unfold k0_part23_skel
  simp only [semSignalWord, semWaitWord, Prog.lift, Prog.bind_op, Prog.bind_ret, Prog.pure_eq_ret, Prog.bind_assoc, wp_deviceId]
  iintro ⟨#HP, #HN, HSt, Hc12, Hrr01, Hrgt_rr11, Hrr00, HR17, HR18, Hxg1, Hkk⟩ Hk
  iapply (W9 (κ := κ) (src := rr01) (dst := ac01) rfl) $$ [HSt Hc12]
  · isplitr; · iexact HP
    isplitl [HSt]; · iexact HSt
    iexact Hc12
  iintro ⟨HSt, Hac01⟩
  iapply (wp_load 𝒱₀ (c : Thread nD τ) none Set.univ (m := (Memref.whole cc0_scratch7 : Memref sig .tc .vmem S2x2048x512 .bf16)) (S := rr01.view.set) (f := (up (D.a0r (lft c)))) (incl_squeeze _ _ _ _ _)) $$ Hrr01; iintro Hrr01
  iapply (wp_load 𝒱₀ (c : Thread nD τ) none Set.univ (m := (Memref.whole cc0_scratch6 : Memref sig .tc .vmem S2x2048x512 .bf16)) (S := ac01.view.set) (f := (up (D.a0r c))) (incl_squeeze _ _ _ _ _)) $$ Hac01; iintro Hac01
  iapply (st_at (c := c) (M := (Memref.whole cc0_scratch6 : Memref sig .tc .vmem S2x2048x512 .bf16)) (r := (Rect.unit (s := S2x2048x512) ![0, 1024, 0] S1x1024x512.size inb_S2x2048x512_S1x1024x512_0_1024_0)) (S := ac01.view.set) (up (D.a1r c)) (set_squeeze _ _ _ _ _) (hg.g9 c)) $$ Hac01; iintro Hac01
  iapply (P14 (κ := κ) (dev15_eq c)) $$ [HSt Hac01 Hrgt_rr11]
  · isplitr; · iexact HP
    isplitr; · iexact HN
    isplitl [HSt]; · iexact HSt
    isplitl [Hac01]; · iexact Hac01
    iexact Hrgt_rr11
  iintro ⟨HSt, Hc14⟩
  iapply (P15 (κ := κ) (D := D) (dev16_eq c) rfl) $$ [HSt Hrr00 Hrr01 HR17 HR18]
  · isplitr; · iexact HP
    isplitr; · iexact HN
    isplitl [HSt]; · iexact HSt
    iapply (crR_intro (F := F) c)
    isplitl [Hrr00]; · iexists _; iexact Hrr00
    isplitl [Hrr01]; · iexists _; iexact Hrr01
    isplitl [HR17]; · iexact HR17
    iexact HR18
  iintro HSt
  iapply (wp_load 𝒱₀ (c : Thread nD τ) none Set.univ (m := (Memref.whole cc0_scratch1 : Memref sig .tc .vmem S3x2048x512 .bf16)) (S := xg1.view.set) (f := (up (D.x (lft (lft c))))) (incl_squeeze _ _ _ _ _)) $$ Hxg1; iintro Hxg1
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  rw [wp_ret]; imodintro
  iapply Hk
  isplitl [HSt]; · iexact HSt
  isplitl [Hxg1]; · iexact Hxg1
  isplitl [Hkk]; · iexact Hkk
  iexact Hc14

end Cert.KernelIdeal.Talk

end
-- ==== Proof.Parts5.lean ====
/-
  The body, parts 24 to 30: each part takes the pieces it reads and writes and gives them back with what it computed.
-/
module

public import proofs.«01_k».proof.Proof.Vals
public import Idealize.ShloMosaic.Lib.Pipeline.Value
public import Idealize.ShloMosaic.Lib.ValueLayout

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable {D : Cont F} {c : Dev nD} {κ : GSem nD τ sig → ℕ}

/-- Part 24 of the body. -/
theorem part24_run {Q : (Σ' (v768 : FVec F S2048x512 .f32), FVec F S2048x512 .bf16) → sProp 𝕄} :
    iprop(at_ c wM (D.w c) ∗ at_ c kM (D.kG c))
      ⊢ iprop((iprop(at_ c wM (D.w c) ∗ at_ c kM (D.kG c)) -∗ Q ⟨(V24_0 D.x D.w D.kG c), (V24_1 D.x D.kG c)⟩)
          -∗ wp frame (wpE (defs₀ (F := F)) 𝒱₀ (c : Thread nD τ) none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V23_0 D.x c) (V23_1 c) (V23_2 D.x D.kG c)) Q) := by
  unfold V24_0 V24_1
  simp only [k0_part24_eq_skeleton]; unfold k0_part24_skel
  simp only [semSignalWord, semWaitWord, Prog.lift, Prog.bind_op, Prog.bind_ret, Prog.pure_eq_ret, Prog.bind_assoc, wp_deviceId]
  iintro ⟨Hw, Hkk⟩ Hk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  rw [wp_ret]; imodintro
  iapply Hk
  isplitl [Hw]; · iexact Hw
  iexact Hkk

/-- Part 25 of the body. -/
theorem part25_run (hg : Good D) {Q : (PUnit) → sProp 𝕄} :
    iprop(at_ c wM (D.w c) ∗ at_ c kM (D.kG c) ∗ any (F := F) c dh)
      ⊢ iprop((iprop(at_ c wM (D.w c) ∗ at_ c kM (D.kG c) ∗ at_ c dh (D.dG c)) -∗ Q ⟨⟩)
          -∗ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V23_0 D.x c) (V24_0 D.x D.w D.kG c) (V24_1 D.x D.kG c)) Q) := by
  simp only [k0_part25_eq_skeleton]; unfold k0_part25_skel
  simp only [semSignalWord, semWaitWord, Prog.lift, Prog.bind_op, Prog.bind_ret, Prog.pure_eq_ret, Prog.bind_assoc, wp_deviceId]
  iintro ⟨Hw, Hkk, Hdh⟩ Hk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  icases Hdh with ⟨%fdh, Hdh⟩
  iapply (wp_load 𝒱₀ (c : Thread nD τ) none Set.univ (m := (Memref.whole cc0_scratch2 : Memref sig .tc .vmem S2048x1024 .bf16)) (S := dh.view.set) (f := fdh) (incl_slice _ _ _)) $$ Hdh; iintro Hdh
  iapply (st_at (c := c) (M := (Memref.whole cc0_scratch2 : Memref sig .tc .vmem S2048x1024 .bf16)) (r := (Rect.unit (s := S2048x1024) ![0, 512] S2048x512.size inb_S2048x1024_S2048x512_0_512)) (S := dh.view.set) (D.dG c) rfl (hg.g10 c)) $$ Hdh; iintro Hdh
  rw [wp_ret]; imodintro
  iapply Hk
  isplitl [Hw]; · iexact Hw
  isplitl [Hkk]; · iexact Hkk
  iexact Hdh

/-- Part 26 of the body. -/
theorem part26_run (hg : Good D) {l : List (SemLoc sig)} {Q : (Vec F S2048x512 .bf16) → sProp 𝕄} :
    iprop(Pers D c κ ∗ St (F := F) c 16 10 l ∗ at_ c dh (D.dG c) ∗ cred (tallyAt (dC c 21) 0 aH))
      ⊢ iprop((iprop(St (F := F) c 16 12 ((.dma 21) :: l) ∗ at_ c dh (D.dG c) ∗ atPos ER (dC c 27) 1 ∅ 0 ∗ reached (ER (F := F)) (dC c 27) 1 ∗ at_ c rl00 (up (D.a0l (rgt c))) ∗ at_ c ac10 (up (D.a1l c))) -∗ Q (V26_0 D.dG c))
          -∗ wp frame (wpE (defs₀ (F := F)) 𝒱₀ (c : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_2 c)) Q) := by
  unfold V26_0
  simp only [k0_part26_eq_skeleton]; unfold k0_part26_skel
  simp only [semSignalWord, semWaitWord, Prog.lift, Prog.bind_op, Prog.bind_ret, Prog.pure_eq_ret, Prog.bind_assoc, wp_deviceId]
  iintro ⟨#HP, HSt, Hdh, Hc21⟩ Hk
  iapply (wp_load 𝒱₀ (c : Thread nD τ) none Set.univ (m := (Memref.whole cc0_scratch2 : Memref sig .tc .vmem S2048x1024 .bf16)) (S := dh.view.set) (f := (D.dG c)) (incl_slice _ _ _)) $$ Hdh; iintro Hdh
  iapply (W10 (κ := κ) (src := ac10) (dst := rl00) rfl) $$ [HSt ]
  · isplitr; · iexact HP
    iexact HSt
  iintro ⟨HSt, ⟨HA27, HR27⟩, Hrl00⟩
  iapply (W11 (κ := κ) (src := rl00) (dst := ac10) rfl) $$ [HSt Hc21]
  · isplitr; · iexact HP
    isplitl [HSt]; · iexact HSt
    iexact Hc21
  iintro ⟨HSt, Hac10⟩
  iapply (wp_load 𝒱₀ (c : Thread nD τ) none Set.univ (m := (Memref.whole cc0_scratch8 : Memref sig .tc .vmem S2x2048x512 .bf16)) (S := rl00.view.set) (f := (up (D.a0l (rgt c)))) (incl_squeeze _ _ _ _ _)) $$ Hrl00; iintro Hrl00
  iapply (wp_load 𝒱₀ (c : Thread nD τ) none Set.univ (m := (Memref.whole cc0_scratch6 : Memref sig .tc .vmem S2x2048x512 .bf16)) (S := ac10.view.set) (f := (up (D.a0l c))) (incl_squeeze _ _ _ _ _)) $$ Hac10; iintro Hac10
  iapply (st_at (c := c) (M := (Memref.whole cc0_scratch6 : Memref sig .tc .vmem S2x2048x512 .bf16)) (r := (Rect.unit (s := S2x2048x512) ![1, 0, 0] S1x1024x512.size inb_S2x2048x512_S1x1024x512_1_0_0)) (S := ac10.view.set) (up (D.a1l c)) (set_squeeze _ _ _ _ _) (hg.g11 c)) $$ Hac10; iintro Hac10
  rw [wp_ret]; imodintro
  iapply Hk
  isplitl [HSt]; · iexact HSt
  isplitl [Hdh]; · iexact Hdh
  isplitl [HA27]; · iexact HA27
  isplitl [HR27]; · iexact HR27
  isplitl [Hrl00]; · iexact Hrl00
  iexact Hac10

/-- Part 27 of the body. -/
theorem part27_run {l : List (SemLoc sig)} {Q : (FVec F S1x1024x512 .bf16) → sProp 𝕄} :
    iprop(Pers D c κ ∗ Nb (F := F) c ∗ St (F := F) c 16 12 l ∗ at_ c ac10 (up (D.a1l c)) ∗ any (F := F) (lft c) rl10 ∗ cred (tallyAt (dC c 22) 0 aH))
      ⊢ iprop((iprop(St (F := F) c 17 14 ((.dma 22) :: l) ∗ cred (tallyAt (dC c 23) 0 aH) ∗ atPos ER (dC c 28) 1 ∅ 0 ∗ reached (ER (F := F)) (dC c 28) 1 ∗ at_ c rl01 (up (D.a0l (rgt c))) ∗ at_ c ac11 (up (D.a0l c))) -∗ Q (V27_0 D.dG D.a0l c))
          -∗ wp frame (wpE (defs₀ (F := F)) 𝒱₀ (c : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 c (V1_2 c) (V26_0 D.dG c)) Q) := by
  unfold V27_0
  simp only [k0_part27_eq_skeleton]; unfold k0_part27_skel
  simp only [semSignalWord, semWaitWord, Prog.lift, Prog.bind_op, Prog.bind_ret, Prog.pure_eq_ret, Prog.bind_assoc, wp_deviceId]
  iintro ⟨#HP, #HN, HSt, Hac10, Hlft_rl10, Hc22⟩ Hk
  iapply (P16 (κ := κ) (dev17_eq c)) $$ [HSt Hac10 Hlft_rl10]
  · isplitr; · iexact HP
    isplitr; · iexact HN
    isplitl [HSt]; · iexact HSt
    isplitl [Hac10]; · iexact Hac10
    iexact Hlft_rl10
  iintro ⟨HSt, Hc23⟩
  iapply (W12 (κ := κ) (src := ac11) (dst := rl01) rfl) $$ [HSt ]
  · isplitr; · iexact HP
    iexact HSt
  iintro ⟨HSt, ⟨HA28, HR28⟩, Hrl01⟩
  iapply (W13 (κ := κ) (src := rl01) (dst := ac11) rfl) $$ [HSt Hc22]
  · isplitr; · iexact HP
    isplitl [HSt]; · iexact HSt
    iexact Hc22
  iintro ⟨HSt, Hac11⟩
  iapply (wp_load 𝒱₀ (c : Thread nD τ) none Set.univ (m := (Memref.whole cc0_scratch8 : Memref sig .tc .vmem S2x2048x512 .bf16)) (S := rl01.view.set) (f := (up (D.a0l (rgt c)))) (incl_squeeze _ _ _ _ _)) $$ Hrl01; iintro Hrl01
  iapply (wp_load 𝒱₀ (c : Thread nD τ) none Set.univ (m := (Memref.whole cc0_scratch6 : Memref sig .tc .vmem S2x2048x512 .bf16)) (S := ac11.view.set) (f := (up (D.a0l c))) (incl_squeeze _ _ _ _ _)) $$ Hac11; iintro Hac11
  rw [wp_ret]; imodintro
  iapply Hk
  isplitl [HSt]; · iexact HSt
  isplitl [Hc23]; · iexact Hc23
  isplitl [HA28]; · iexact HA28
  isplitl [HR28]; · iexact HR28
  isplitl [Hrl01]; · iexact Hrl01
  iexact Hac11

/-- Part 28 of the body. -/
theorem part28_run (hg : Good D) {l : List (SemLoc sig)} {Q : (Σ' (v871 : FVec F S2048x512 .bf16) (v880 : FVec F S2048x512 .f32), FVec F S2048x512 .bf16) → sProp 𝕄} :
    iprop(Pers D c κ ∗ Nb (F := F) c ∗ St (F := F) c 17 14 l ∗ at_ c ac11 (up (D.a0l c)) ∗ any (F := F) (lft c) rl11 ∗ at_ c rl00 (up (D.a0l (rgt c))) ∗ at_ c rl01 (up (D.a0l (rgt c))) ∗ reached (ER (F := F)) (dC c 27) 1 ∗ reached (ER (F := F)) (dC c 28) 1 ∗ at_ c xg2 (up (D.x (rgt c))) ∗ at_ c kM (D.kG c) ∗ at_ c wM (D.w c))
      ⊢ iprop((iprop(St (F := F) c 19 14 l ∗ at_ c xg2 (up (D.x (rgt c))) ∗ at_ c kM (D.kG c) ∗ at_ c wM (D.w c) ∗ cred (tallyAt (dC c 24) 0 aH)) -∗ Q ⟨(V28_0 D.x c), (V28_1 D.x D.w D.kG c), (V28_2 D.x D.kG c)⟩)
          -∗ wp frame (wpE (defs₀ (F := F)) 𝒱₀ (c : Thread nD τ) none) Set.univ (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 c (V1_2 c) (V1_3 c) (V27_0 D.dG D.a0l c)) Q) := by
  unfold V28_0 V28_1 V28_2
  simp only [k0_part28_eq_skeleton]; unfold k0_part28_skel
  simp only [semSignalWord, semWaitWord, Prog.lift, Prog.bind_op, Prog.bind_ret, Prog.pure_eq_ret, Prog.bind_assoc, wp_deviceId]
  iintro ⟨#HP, #HN, HSt, Hac11, Hlft_rl11, Hrl00, Hrl01, HR27, HR28, Hxg2, Hkk, Hw⟩ Hk
  iapply (st_at (c := c) (M := (Memref.whole cc0_scratch6 : Memref sig .tc .vmem S2x2048x512 .bf16)) (r := (Rect.unit (s := S2x2048x512) ![1, 1024, 0] S1x1024x512.size inb_S2x2048x512_S1x1024x512_1_1024_0)) (S := ac11.view.set) (up (D.a1l c)) (set_squeeze _ _ _ _ _) (hg.g12 c)) $$ Hac11; iintro Hac11
  iapply (P17 (κ := κ) (dev18_eq c)) $$ [HSt Hac11 Hlft_rl11]
  · isplitr; · iexact HP
    isplitr; · iexact HN
    isplitl [HSt]; · iexact HSt
    isplitl [Hac11]; · iexact Hac11
    iexact Hlft_rl11
  iintro ⟨HSt, Hc24⟩
  iapply (P18 (κ := κ) (D := D) (dev19_eq c) rfl) $$ [HSt Hrl00 Hrl01 HR27 HR28]
  · isplitr; · iexact HP
    isplitr; · iexact HN
    isplitl [HSt]; · iexact HSt
    iapply (crL_intro (F := F) c)
    isplitl [Hrl00]; · iexists _; iexact Hrl00
    isplitl [Hrl01]; · iexists _; iexact Hrl01
    isplitl [HR27]; · iexact HR27
    iexact HR28
  iintro HSt
  iapply (wp_load 𝒱₀ (c : Thread nD τ) none Set.univ (m := (Memref.whole cc0_scratch1 : Memref sig .tc .vmem S3x2048x512 .bf16)) (S := xg2.view.set) (f := (up (D.x (rgt c)))) (incl_squeeze _ _ _ _ _)) $$ Hxg2; iintro Hxg2
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  rw [wp_ret]; imodintro
  iapply Hk
  isplitl [HSt]; · iexact HSt
  isplitl [Hxg2]; · iexact Hxg2
  isplitl [Hkk]; · iexact Hkk
  isplitl [Hw]; · iexact Hw
  iexact Hc24

/-- Part 29 of the body. -/
theorem part29_run {Q : (Σ' (v912 : FVec F S2048x512 .f32), FVec F S2048x512 .bf16) → sProp 𝕄} :
    iprop(at_ c wM (D.w c) ∗ at_ c kM (D.kG c))
      ⊢ iprop((iprop(at_ c wM (D.w c) ∗ at_ c kM (D.kG c)) -∗ Q ⟨(V29_0 D.x D.w D.kG c), (V29_1 D.x D.kG c)⟩)
          -∗ wp frame (wpE (defs₀ (F := F)) 𝒱₀ (c : Thread nD τ) none) Set.univ (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V28_0 D.x c) (V28_1 D.x D.w D.kG c) (V28_2 D.x D.kG c)) Q) := by
  unfold V29_0 V29_1
  simp only [k0_part29_eq_skeleton]; unfold k0_part29_skel
  simp only [semSignalWord, semWaitWord, Prog.lift, Prog.bind_op, Prog.bind_ret, Prog.pure_eq_ret, Prog.bind_assoc, wp_deviceId]
  iintro ⟨Hw, Hkk⟩ Hk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  rw [wp_ret]; imodintro
  iapply Hk
  isplitl [Hw]; · iexact Hw
  iexact Hkk

/-- Part 30 of the body. -/
theorem part30_run (hg : Good D) {Q : (Vec F S2048x512 .bf16) → sProp 𝕄} :
    iprop(at_ c wM (D.w c) ∗ at_ c kM (D.kG c) ∗ any (F := F) c dp)
      ⊢ iprop((iprop(at_ c wM (D.w c) ∗ at_ c kM (D.kG c) ∗ at_ c dp (D.pG c)) -∗ Q (V30_0 D.pG c))
          -∗ wp frame (wpE (defs₀ (F := F)) 𝒱₀ (c : Thread nD τ) none) Set.univ (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_3 c) (V28_0 D.x c) (V29_0 D.x D.w D.kG c) (V29_1 D.x D.kG c)) Q) := by
  unfold V30_0
  simp only [k0_part30_eq_skeleton]; unfold k0_part30_skel
  simp only [semSignalWord, semWaitWord, Prog.lift, Prog.bind_op, Prog.bind_ret, Prog.pure_eq_ret, Prog.bind_assoc, wp_deviceId]
  iintro ⟨Hw, Hkk, Hdp⟩ Hk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  icases Hdp with ⟨%fdp, Hdp⟩
  iapply (wp_load 𝒱₀ (c : Thread nD τ) none Set.univ (m := (Memref.whole cc0_scratch3 : Memref sig .tc .vmem S2048x512 .bf16)) (S := dp.view.set) (f := fdp) (incl_slice _ _ _)) $$ Hdp; iintro Hdp
  iapply (st_at (c := c) (M := (Memref.whole cc0_scratch3 : Memref sig .tc .vmem S2048x512 .bf16)) (r := (Rect.unit (s := S2048x512) ![0, 0] S2048x512.size inb_S2048x512_S2048x512_0_0)) (S := dp.view.set) (D.pG c) rfl (hg.g13 c)) $$ Hdp; iintro Hdp
  iapply (wp_load 𝒱₀ (c : Thread nD τ) none Set.univ (m := (Memref.whole cc0_scratch3 : Memref sig .tc .vmem S2048x512 .bf16)) (S := dp.view.set) (f := (D.pG c)) (incl_slice _ _ _)) $$ Hdp; iintro Hdp
  rw [wp_ret]; imodintro
  iapply Hk
  isplitl [Hw]; · iexact Hw
  isplitl [Hkk]; · iexact Hkk
  iexact Hdp

end Cert.KernelIdeal.Talk

end
-- ==== Proof.Parts6.lean ====
/-
  The body, parts 31 to 36: each part takes the pieces it reads and writes and gives them back with what it computed.
-/
module

public import proofs.«01_k».proof.Proof.Vals
public import Idealize.ShloMosaic.Lib.Pipeline.Value
public import Idealize.ShloMosaic.Lib.ValueLayout

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable {D : Cont F} {c : Dev nD} {κ : GSem nD τ sig → ℕ}

/-- Part 31 of the body. -/
theorem part31_run (hg : Good D) {l : List (SemLoc sig)} {Q : (PUnit) → sProp 𝕄} :
    iprop(Pers D c κ ∗ St (F := F) c 19 14 l ∗ cred (tallyAt (dC c 13) 0 aH))
      ⊢ iprop((iprop(St (F := F) c 20 17 ((.reg crR) :: ((.dma 13) :: ((.dma 19) :: l))) ∗ at_ c rr10 (up (D.a1r (lft c))) ∗ any (F := F) (rgt c) rr01 ∗ reached (ER (F := F)) (dC (rgt c) 18) 1 ∗ cred (tallyAt (dC c 15) 0 aH)) -∗ Q ⟨⟩)
          -∗ wp frame (wpE (defs₀ (F := F)) 𝒱₀ (c : Thread nD τ) none) Set.univ (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 c (V1_3 c) (V30_0 D.pG c)) Q) := by
  simp only [k0_part31_eq_skeleton]; unfold k0_part31_skel
  simp only [semSignalWord, semWaitWord, Prog.lift, Prog.bind_op, Prog.bind_ret, Prog.pure_eq_ret, Prog.bind_assoc, wp_deviceId]
  iintro ⟨#HP, HSt, Hc13⟩ Hk
  iapply (W14 (κ := κ) (src := ac00) (dst := rr10) rfl) $$ [HSt ]
  · isplitr; · iexact HP
    iexact HSt
  iintro ⟨HSt, Hrr10⟩
  iapply (W15 (κ := κ) (src := rr10) (dst := ac00) rfl) $$ [HSt Hc13]
  · isplitr; · iexact HP
    isplitl [HSt]; · iexact HSt
    iexact Hc13
  iintro ⟨HSt, Hac00⟩
  iapply (W16 (κ := κ) (D := D) rfl) $$ [HSt]
  · isplitr; · iexact HP
    iexact HSt
  iintro ⟨HSt, HX⟩
  icases (crR_elim (F := F) (rgt c)) $$ HX with ⟨Hrgt_rr00, Hrgt_rr01, HRR17, HRR18⟩
  iapply (wp_load 𝒱₀ (c : Thread nD τ) none Set.univ (m := (Memref.whole cc0_scratch7 : Memref sig .tc .vmem S2x2048x512 .bf16)) (S := rr10.view.set) (f := (up (D.a1r (lft c)))) (incl_squeeze _ _ _ _ _)) $$ Hrr10; iintro Hrr10
  iapply (wp_load 𝒱₀ (c : Thread nD τ) none Set.univ (m := (Memref.whole cc0_scratch6 : Memref sig .tc .vmem S2x2048x512 .bf16)) (S := ac00.view.set) (f := (up (D.a1r c))) (incl_squeeze _ _ _ _ _)) $$ Hac00; iintro Hac00
  iapply (st_at (c := c) (M := (Memref.whole cc0_scratch6 : Memref sig .tc .vmem S2x2048x512 .bf16)) (r := (Rect.unit (s := S2x2048x512) ![0, 0, 0] S1x1024x512.size inb_S2x2048x512_S1x1024x512_0_0_0)) (S := ac00.view.set) (up (D.a2r c)) (set_squeeze _ _ _ _ _) (hg.g14 c)) $$ Hac00; iintro Hac00
  iapply (P19 (κ := κ) (dev20_eq c)) $$ [HSt Hac00 Hrgt_rr00 HRR17]
  · isplitr; · iexact HP
    isplitl [HSt]; · iexact HSt
    isplitl [Hac00]; · iexact Hac00
    isplitl [Hrgt_rr00]; · iexact Hrgt_rr00
    iexact HRR17
  iintro ⟨HSt, Hc15⟩
  rw [wp_ret]; imodintro
  iapply Hk
  isplitl [HSt]; · iexact HSt
  isplitl [Hrr10]; · iexact Hrr10
  isplitl [Hrgt_rr01]; · iexact Hrgt_rr01
  isplitl [HRR18]; · iexact HRR18
  iexact Hc15

/-- Part 32 of the body. -/
theorem part32_run (hg : Good D) {l : List (SemLoc sig)} {Q : (PUnit) → sProp 𝕄} :
    iprop(Pers D c κ ∗ St (F := F) c 20 17 l ∗ cred (tallyAt (dC c 14) 0 aH))
      ⊢ iprop((iprop(St (F := F) c 20 19 ((.dma 14) :: ((.dma 20) :: l)) ∗ at_ c rr11 (up (D.a1r (lft c))) ∗ at_ c ac01 (up (D.a2r c))) -∗ Q ⟨⟩)
          -∗ wp frame (wpE (defs₀ (F := F)) 𝒱₀ (c : Thread nD τ) none) Set.univ (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_3 c) (V30_0 D.pG c)) Q) := by
  simp only [k0_part32_eq_skeleton]; unfold k0_part32_skel
  simp only [semSignalWord, semWaitWord, Prog.lift, Prog.bind_op, Prog.bind_ret, Prog.pure_eq_ret, Prog.bind_assoc, wp_deviceId]
  iintro ⟨#HP, HSt, Hc14⟩ Hk
  iapply (W17 (κ := κ) (src := ac01) (dst := rr11) rfl) $$ [HSt ]
  · isplitr; · iexact HP
    iexact HSt
  iintro ⟨HSt, Hrr11⟩
  iapply (W18 (κ := κ) (src := rr11) (dst := ac01) rfl) $$ [HSt Hc14]
  · isplitr; · iexact HP
    isplitl [HSt]; · iexact HSt
    iexact Hc14
  iintro ⟨HSt, Hac01⟩
  iapply (wp_load 𝒱₀ (c : Thread nD τ) none Set.univ (m := (Memref.whole cc0_scratch7 : Memref sig .tc .vmem S2x2048x512 .bf16)) (S := rr11.view.set) (f := (up (D.a1r (lft c)))) (incl_squeeze _ _ _ _ _)) $$ Hrr11; iintro Hrr11
  iapply (wp_load 𝒱₀ (c : Thread nD τ) none Set.univ (m := (Memref.whole cc0_scratch6 : Memref sig .tc .vmem S2x2048x512 .bf16)) (S := ac01.view.set) (f := (up (D.a1r c))) (incl_squeeze _ _ _ _ _)) $$ Hac01; iintro Hac01
  iapply (st_at (c := c) (M := (Memref.whole cc0_scratch6 : Memref sig .tc .vmem S2x2048x512 .bf16)) (r := (Rect.unit (s := S2x2048x512) ![0, 1024, 0] S1x1024x512.size inb_S2x2048x512_S1x1024x512_0_1024_0)) (S := ac01.view.set) (up (D.a2r c)) (set_squeeze _ _ _ _ _) (hg.g15 c)) $$ Hac01; iintro Hac01
  rw [wp_ret]; imodintro
  iapply Hk
  isplitl [HSt]; · iexact HSt
  isplitl [Hrr11]; · iexact Hrr11
  iexact Hac01

/-- Part 33 of the body. -/
theorem part33_run {l : List (SemLoc sig)} {Q : (Σ' (v1005 : FVec F S2048x512 .bf16), FVec F S2048x512 .f32) → sProp 𝕄} :
    iprop(Pers D c κ ∗ St (F := F) c 20 19 l ∗ at_ c ac01 (up (D.a2r c)) ∗ any (F := F) (rgt c) rr01 ∗ reached (ER (F := F)) (dC (rgt c) 18) 1 ∗ atQ fullShare.right c xg0 (up (D.x (lft c))) ∗ at_ c kM (D.kG c) ∗ at_ c wM (D.w c))
      ⊢ iprop((iprop(St (F := F) c 21 19 l ∗ atQ fullShare.right c xg0 (up (D.x (lft c))) ∗ at_ c kM (D.kG c) ∗ at_ c wM (D.w c) ∗ cred (tallyAt (dC c 16) 0 aH)) -∗ Q ⟨(V33_0 D.x c), (V33_1 D.x D.w D.kG c)⟩)
          -∗ wp frame (wpE (defs₀ (F := F)) 𝒱₀ (c : Thread nD τ) none) Set.univ (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 c) Q) := by
  unfold V33_0 V33_1
  simp only [k0_part33_eq_skeleton]; unfold k0_part33_skel
  simp only [semSignalWord, semWaitWord, Prog.lift, Prog.bind_op, Prog.bind_ret, Prog.pure_eq_ret, Prog.bind_assoc, wp_deviceId]
  iintro ⟨#HP, HSt, Hac01, Hrgt_rr01, HRR18, Hxg0_r, Hkk, Hw⟩ Hk
  iapply (P20 (κ := κ) (dev21_eq c)) $$ [HSt Hac01 Hrgt_rr01 HRR18]
  · isplitr; · iexact HP
    isplitl [HSt]; · iexact HSt
    isplitl [Hac01]; · iexact Hac01
    isplitl [Hrgt_rr01]; · iexact Hrgt_rr01
    iexact HRR18
  iintro ⟨HSt, Hc16⟩
  iapply (wp_load 𝒱₀ (c : Thread nD τ) none Set.univ (m := (Memref.whole cc0_scratch1 : Memref sig .tc .vmem S3x2048x512 .bf16)) (S := xg0.view.set) (f := (up (D.x (lft c)))) (incl_squeeze _ _ _ _ _)) $$ Hxg0_r; iintro Hxg0_r
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  rw [wp_ret]; imodintro
  iapply Hk
  isplitl [HSt]; · iexact HSt
  isplitl [Hxg0_r]; · iexact Hxg0_r
  isplitl [Hkk]; · iexact Hkk
  isplitl [Hw]; · iexact Hw
  iexact Hc16

/-- Part 34 of the body. -/
theorem part34_run {Q : (FVec F S2048x512 .f32) → sProp 𝕄} :
    iprop(at_ c kM (D.kG c) ∗ at_ c wM (D.w c))
      ⊢ iprop((iprop(at_ c kM (D.kG c) ∗ at_ c wM (D.w c)) -∗ Q (V34_0 D.x D.w D.kG c))
          -∗ wp frame (wpE (defs₀ (F := F)) 𝒱₀ (c : Thread nD τ) none) Set.univ (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V33_0 D.x c) (V33_1 D.x D.w D.kG c)) Q) := by
  unfold V34_0
  simp only [k0_part34_eq_skeleton]; unfold k0_part34_skel
  simp only [semSignalWord, semWaitWord, Prog.lift, Prog.bind_op, Prog.bind_ret, Prog.pure_eq_ret, Prog.bind_assoc, wp_deviceId]
  iintro ⟨Hkk, Hw⟩ Hk
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  rw [wp_ret]; imodintro
  iapply Hk
  isplitl [Hkk]; · iexact Hkk
  iexact Hw

/-- Part 35 of the body. -/
theorem part35_run (hg : Good D) {l : List (SemLoc sig)} {Q : (Vec F S2048x512 .bf16) → sProp 𝕄} :
    iprop(Pers D c κ ∗ St (F := F) c 21 19 l ∗ at_ c kM (D.kG c) ∗ at_ c wM (D.w c) ∗ any (F := F) c dm ∗ cred (tallyAt (dC c 23) 0 aH))
      ⊢ iprop((iprop(St (F := F) c 21 21 ((.dma 23) :: ((.dma 29) :: l)) ∗ at_ c kM (D.kG c) ∗ at_ c wM (D.w c) ∗ at_ c dm (D.mG c) ∗ at_ c rl10 (up (D.a1l (rgt c))) ∗ at_ c ac10 (up (D.a1l c))) -∗ Q (V35_0 D.mG c))
          -∗ wp frame (wpE (defs₀ (F := F)) 𝒱₀ (c : Thread nD τ) none) Set.univ (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_2 c) (V33_0 D.x c) (V34_0 D.x D.w D.kG c)) Q) := by
  unfold V35_0
  simp only [k0_part35_eq_skeleton]; unfold k0_part35_skel
  simp only [semSignalWord, semWaitWord, Prog.lift, Prog.bind_op, Prog.bind_ret, Prog.pure_eq_ret, Prog.bind_assoc, wp_deviceId]
  iintro ⟨#HP, HSt, Hkk, Hw, Hdm, Hc23⟩ Hk
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  icases Hdm with ⟨%fdm, Hdm⟩
  iapply (wp_load 𝒱₀ (c : Thread nD τ) none Set.univ (m := (Memref.whole cc0_scratch4 : Memref sig .tc .vmem S2048x512 .bf16)) (S := dm.view.set) (f := fdm) (incl_slice _ _ _)) $$ Hdm; iintro Hdm
  iapply (st_at (c := c) (M := (Memref.whole cc0_scratch4 : Memref sig .tc .vmem S2048x512 .bf16)) (r := (Rect.unit (s := S2048x512) ![0, 0] S2048x512.size inb_S2048x512_S2048x512_0_0)) (S := dm.view.set) (D.mG c) rfl (hg.g16 c)) $$ Hdm; iintro Hdm
  iapply (wp_load 𝒱₀ (c : Thread nD τ) none Set.univ (m := (Memref.whole cc0_scratch4 : Memref sig .tc .vmem S2048x512 .bf16)) (S := dm.view.set) (f := (D.mG c)) (incl_slice _ _ _)) $$ Hdm; iintro Hdm
  iapply (W19 (κ := κ) (src := ac10) (dst := rl10) rfl) $$ [HSt ]
  · isplitr; · iexact HP
    iexact HSt
  iintro ⟨HSt, Hrl10⟩
  iapply (W20 (κ := κ) (src := rl10) (dst := ac10) rfl) $$ [HSt Hc23]
  · isplitr; · iexact HP
    isplitl [HSt]; · iexact HSt
    iexact Hc23
  iintro ⟨HSt, Hac10⟩
  rw [wp_ret]; imodintro
  iapply Hk
  isplitl [HSt]; · iexact HSt
  isplitl [Hkk]; · iexact Hkk
  isplitl [Hw]; · iexact Hw
  isplitl [Hdm]; · iexact Hdm
  isplitl [Hrl10]; · iexact Hrl10
  iexact Hac10

/-- Part 36 of the body. -/
theorem part36_run (hg : Good D) {l : List (SemLoc sig)} {Q : (PUnit) → sProp 𝕄} :
    iprop(Pers D c κ ∗ St (F := F) c 21 21 l ∗ at_ c rl10 (up (D.a1l (rgt c))) ∗ at_ c ac10 (up (D.a1l c)))
      ⊢ iprop((iprop(St (F := F) c 22 23 ((.dma 30) :: ((.reg crL) :: l)) ∗ at_ c rl10 (up (D.a1l (rgt c))) ∗ any (F := F) (lft c) rl01 ∗ reached (ER (F := F)) (dC (lft c) 28) 1 ∗ cred (tallyAt (dC c 25) 0 aH) ∗ at_ c rl11 (up (D.a1l (rgt c)))) -∗ Q ⟨⟩)
          -∗ wp frame (wpE (defs₀ (F := F)) 𝒱₀ (c : Thread nD τ) none) Set.univ (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 c (V1_2 c) (V35_0 D.mG c)) Q) := by
  simp only [k0_part36_eq_skeleton]; unfold k0_part36_skel
  simp only [semSignalWord, semWaitWord, Prog.lift, Prog.bind_op, Prog.bind_ret, Prog.pure_eq_ret, Prog.bind_assoc, wp_deviceId]
  iintro ⟨#HP, HSt, Hrl10, Hac10⟩ Hk
  iapply (W21 (κ := κ) (D := D) rfl) $$ [HSt]
  · isplitr; · iexact HP
    iexact HSt
  iintro ⟨HSt, HX⟩
  icases (crL_elim (F := F) (lft c)) $$ HX with ⟨Hlft_rl00, Hlft_rl01, HRR27, HRR28⟩
  iapply (wp_load 𝒱₀ (c : Thread nD τ) none Set.univ (m := (Memref.whole cc0_scratch8 : Memref sig .tc .vmem S2x2048x512 .bf16)) (S := rl10.view.set) (f := (up (D.a1l (rgt c)))) (incl_squeeze _ _ _ _ _)) $$ Hrl10; iintro Hrl10
  iapply (wp_load 𝒱₀ (c : Thread nD τ) none Set.univ (m := (Memref.whole cc0_scratch6 : Memref sig .tc .vmem S2x2048x512 .bf16)) (S := ac10.view.set) (f := (up (D.a1l c))) (incl_squeeze _ _ _ _ _)) $$ Hac10; iintro Hac10
  iapply (st_at (c := c) (M := (Memref.whole cc0_scratch6 : Memref sig .tc .vmem S2x2048x512 .bf16)) (r := (Rect.unit (s := S2x2048x512) ![1, 0, 0] S1x1024x512.size inb_S2x2048x512_S1x1024x512_1_0_0)) (S := ac10.view.set) (up (D.a2l c)) (set_squeeze _ _ _ _ _) (hg.g17 c)) $$ Hac10; iintro Hac10
  iapply (P21 (κ := κ) (dev22_eq c)) $$ [HSt Hac10 Hlft_rl00 HRR27]
  · isplitr; · iexact HP
    isplitl [HSt]; · iexact HSt
    isplitl [Hac10]; · iexact Hac10
    isplitl [Hlft_rl00]; · iexact Hlft_rl00
    iexact HRR27
  iintro ⟨HSt, Hc25⟩
  iapply (W22 (κ := κ) (src := ac11) (dst := rl11) rfl) $$ [HSt ]
  · isplitr; · iexact HP
    iexact HSt
  iintro ⟨HSt, Hrl11⟩
  rw [wp_ret]; imodintro
  iapply Hk
  isplitl [HSt]; · iexact HSt
  isplitl [Hrl10]; · iexact Hrl10
  isplitl [Hlft_rl01]; · iexact Hlft_rl01
  isplitl [HRR28]; · iexact HRR28
  isplitl [Hc25]; · iexact Hc25
  iexact Hrl11

end Cert.KernelIdeal.Talk

end
-- ==== Proof.Parts7.lean ====
/-
  The body, parts 37 to 43: each part takes the pieces it reads and writes and gives them back with what it computed.
-/
module

public import proofs.«01_k».proof.Proof.Vals
public import Idealize.ShloMosaic.Lib.Pipeline.Value
public import Idealize.ShloMosaic.Lib.ValueLayout

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable {D : Cont F} {c : Dev nD} {κ : GSem nD τ sig → ℕ}

/-- Part 37 of the body. -/
theorem part37_run (hg : Good D) {l : List (SemLoc sig)} {Q : (Σ' (v1139 : FVec F S2048x512 .bf16) (v1140 : FVec F S2048x512 .f32), FVec F S2048x512 .bf16) → sProp 𝕄} :
    iprop(Pers D c κ ∗ St (F := F) c 22 23 l ∗ cred (tallyAt (dC c 24) 0 aH) ∗ at_ c rl11 (up (D.a1l (rgt c))) ∗ any (F := F) (lft c) rl01 ∗ reached (ER (F := F)) (dC (lft c) 28) 1 ∗ atQ fullShare.right.right c xM (D.x c) ∗ at_ c kM (D.kG c))
      ⊢ iprop((iprop(St (F := F) c 23 24 ((.dma 24) :: l) ∗ at_ c rl11 (up (D.a1l (rgt c))) ∗ atQ fullShare.right.right c xM (D.x c) ∗ at_ c kM (D.kG c) ∗ cred (tallyAt (dC c 26) 0 aH)) -∗ Q ⟨(V37_0 D.x c), (V37_1 c), (V37_2 D.kG c)⟩)
          -∗ wp frame (wpE (defs₀ (F := F)) 𝒱₀ (c : Thread nD τ) none) Set.univ (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 c (V1_2 c) (V35_0 D.mG c)) Q) := by
  unfold V37_0 V37_1 V37_2
  simp only [k0_part37_eq_skeleton]; unfold k0_part37_skel
  simp only [semSignalWord, semWaitWord, Prog.lift, Prog.bind_op, Prog.bind_ret, Prog.pure_eq_ret, Prog.bind_assoc, wp_deviceId]
  iintro ⟨#HP, HSt, Hc24, Hrl11, Hlft_rl01, HRR28, Hx_rr, Hkk⟩ Hk
  iapply (W23 (κ := κ) (src := rl11) (dst := ac11) rfl) $$ [HSt Hc24]
  · isplitr; · iexact HP
    isplitl [HSt]; · iexact HSt
    iexact Hc24
  iintro ⟨HSt, Hac11⟩
  iapply (wp_load 𝒱₀ (c : Thread nD τ) none Set.univ (m := (Memref.whole cc0_scratch8 : Memref sig .tc .vmem S2x2048x512 .bf16)) (S := rl11.view.set) (f := (up (D.a1l (rgt c)))) (incl_squeeze _ _ _ _ _)) $$ Hrl11; iintro Hrl11
  iapply (wp_load 𝒱₀ (c : Thread nD τ) none Set.univ (m := (Memref.whole cc0_scratch6 : Memref sig .tc .vmem S2x2048x512 .bf16)) (S := ac11.view.set) (f := (up (D.a1l c))) (incl_squeeze _ _ _ _ _)) $$ Hac11; iintro Hac11
  iapply (st_at (c := c) (M := (Memref.whole cc0_scratch6 : Memref sig .tc .vmem S2x2048x512 .bf16)) (r := (Rect.unit (s := S2x2048x512) ![1, 1024, 0] S1x1024x512.size inb_S2x2048x512_S1x1024x512_1_1024_0)) (S := ac11.view.set) (up (D.a2l c)) (set_squeeze _ _ _ _ _) (hg.g18 c)) $$ Hac11; iintro Hac11
  iapply (P22 (κ := κ) (dev23_eq c)) $$ [HSt Hac11 Hlft_rl01 HRR28]
  · isplitr; · iexact HP
    isplitl [HSt]; · iexact HSt
    isplitl [Hac11]; · iexact Hac11
    isplitl [Hlft_rl01]; · iexact Hlft_rl01
    iexact HRR28
  iintro ⟨HSt, Hc26⟩
  iapply (wp_load 𝒱₀ (c : Thread nD τ) none Set.univ (m := (Memref.whole cc0_stg0_0 : Memref sig .tc .vmem S2048x512 .bf16)) (S := xM.view.set) (f := (D.x c)) (View.setOn_subset_set _ _)) $$ Hx_rr; iintro Hx_rr
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  rw [wp_ret]; imodintro
  iapply Hk
  isplitl [HSt]; · iexact HSt
  isplitl [Hrl11]; · iexact Hrl11
  isplitl [Hx_rr]; · iexact Hx_rr
  isplitl [Hkk]; · iexact Hkk
  iexact Hc26

/-- Part 38 of the body. -/
theorem part38_run {Q : (Σ' (v1172 : FVec F S2048x512 .f32), FVec F S2048x512 .bf16) → sProp 𝕄} :
    iprop(at_ c wM (D.w c) ∗ at_ c kM (D.kG c))
      ⊢ iprop((iprop(at_ c wM (D.w c) ∗ at_ c kM (D.kG c)) -∗ Q ⟨(V38_0 D.x D.w D.kG c), (V38_1 D.kG c)⟩)
          -∗ wp frame (wpE (defs₀ (F := F)) 𝒱₀ (c : Thread nD τ) none) Set.univ (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V37_0 D.x c) (V37_1 c) (V37_2 D.kG c)) Q) := by
  unfold V38_0 V38_1
  simp only [k0_part38_eq_skeleton]; unfold k0_part38_skel
  simp only [semSignalWord, semWaitWord, Prog.lift, Prog.bind_op, Prog.bind_ret, Prog.pure_eq_ret, Prog.bind_assoc, wp_deviceId]
  iintro ⟨Hw, Hkk⟩ Hk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  rw [wp_ret]; imodintro
  iapply Hk
  isplitl [Hw]; · iexact Hw
  iexact Hkk

/-- Part 39 of the body. -/
theorem part39_run {Q : (FVec F S2048x512 .bf16) → sProp 𝕄} :
    iprop(at_ c wM (D.w c) ∗ at_ c kM (D.kG c) ∗ any (F := F) c wh)
      ⊢ iprop((iprop(at_ c wM (D.w c) ∗ at_ c kM (D.kG c) ∗ any (F := F) c wh) -∗ Q (V39_0 D.x D.w D.kG c))
          -∗ wp frame (wpE (defs₀ (F := F)) 𝒱₀ (c : Thread nD τ) none) Set.univ (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V37_0 D.x c) (V38_0 D.x D.w D.kG c) (V38_1 D.kG c)) Q) := by
  unfold V39_0
  simp only [k0_part39_eq_skeleton]; unfold k0_part39_skel
  simp only [semSignalWord, semWaitWord, Prog.lift, Prog.bind_op, Prog.bind_ret, Prog.pure_eq_ret, Prog.bind_assoc, wp_deviceId]
  iintro ⟨Hw, Hkk, Hwh⟩ Hk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  iapply (wp_load 𝒱₀ (c : Thread nD τ) none Set.univ (m := (Memref.whole cc0_scratch0 : Memref sig .tc .vmem S4x2048x8 .bf16)) (S := kM.view.set) (f := (D.kG c)) (View.setOn_subset_set _ _)) $$ Hkk; iintro Hkk
  iapply (wp_load 𝒱₀ (c : Thread nD τ) none Set.univ (m := (Memref.whole cc0_stg1_0 : Memref sig .tc .vmem S8x512x1024 .bf16)) (S := wM.view.set) (f := (D.w c)) (View.setOn_subset_set _ _)) $$ Hw; iintro Hw
  icases Hwh with ⟨%fwh, Hwh⟩
  iapply (wp_load 𝒱₀ (c : Thread nD τ) none Set.univ (m := (Memref.whole cc0_scratch5 : Memref sig .tc .vmem S2048x1024 .bf16)) (S := wh.view.set) (f := fwh) (incl_slice _ _ _)) $$ Hwh; iintro Hwh
  rw [wp_ret]; imodintro
  iapply Hk
  isplitl [Hw]; · iexact Hw
  isplitl [Hkk]; · iexact Hkk
  iexists _; iexact Hwh

/-- Part 40 of the body. -/
theorem part40_run (hg : Good D) {l : List (SemLoc sig)} {Q : (FVec F S1024x512 .bf16) → sProp 𝕄} :
    iprop(Pers D c κ ∗ St (F := F) c 23 24 l ∗ any (F := F) c wh ∗ atPos ER (dC c 17) 1 ∅ 0 ∗ at_ c wl (D.wG c) ∗ any (F := F) c ou00 ∗ atPos ER (dC c 18) 1 ∅ 0)
      ⊢ iprop((iprop(St (F := F) c 23 26 ((.dma 18) :: ((.dma 17) :: l)) ∗ at_ c wh (D.wG c) ∗ at_ c wl (D.wG c) ∗ at_ c ou00 (D.oG c) ∗ at_ c rr00 (up (D.a2r (lft c))) ∗ at_ c rr01 (up (D.a2r (lft c)))) -∗ Q (V40_0 D.a2r c))
          -∗ wp frame (wpE (defs₀ (F := F)) 𝒱₀ (c : Thread nD τ) none) Set.univ (k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_3 c) (V39_0 D.x D.w D.kG c)) Q) := by
  unfold V40_0
  simp only [k0_part40_eq_skeleton]; unfold k0_part40_skel
  simp only [semSignalWord, semWaitWord, Prog.lift, Prog.bind_op, Prog.bind_ret, Prog.pure_eq_ret, Prog.bind_assoc, wp_deviceId]
  iintro ⟨#HP, HSt, Hwh, HA17, Hwl, Hou00, HA18⟩ Hk
  icases Hwh with ⟨%fwh, Hwh⟩
  iapply (st_at (c := c) (M := (Memref.whole cc0_scratch5 : Memref sig .tc .vmem S2048x1024 .bf16)) (r := (Rect.unit (s := S2048x1024) ![0, 512] S2048x512.size inb_S2048x1024_S2048x512_0_512)) (S := wh.view.set) (D.wG c) rfl (hg.g19 c)) $$ Hwh; iintro Hwh
  iapply (W24 (κ := κ) (src := ac00) (dst := rr00) rfl) $$ [HSt HA17]
  · isplitr; · iexact HP
    isplitl [HSt]; · iexact HSt
    iexact HA17
  iintro ⟨HSt, Hrr00⟩
  iapply (wp_load 𝒱₀ (c : Thread nD τ) none Set.univ (m := (Memref.whole cc0_scratch7 : Memref sig .tc .vmem S2x2048x512 .bf16)) (S := rr00.view.set) (f := (up (D.a2r (lft c)))) (incl_squeeze _ _ _ _ _)) $$ Hrr00; iintro Hrr00
  iapply (wp_load 𝒱₀ (c : Thread nD τ) none Set.univ (m := (Memref.whole cc0_scratch5 : Memref sig .tc .vmem S2048x1024 .bf16)) (S := wl.view.set) (f := (D.wG c)) (incl_sub _ _ (by decide))) $$ Hwl; iintro Hwl
  icases Hou00 with ⟨%fou00, Hou00⟩
  iapply (wp_load 𝒱₀ (c : Thread nD τ) none Set.univ (m := (Memref.whole cc0_stg4_0 : Memref sig .tc .vmem S2048x1024 .f32)) (S := ou00.view.set) (f := fou00) (incl_slice _ _ _)) $$ Hou00; iintro Hou00
  iapply (st_at (c := c) (M := (Memref.whole cc0_stg4_0 : Memref sig .tc .vmem S2048x1024 .f32)) (r := (Rect.unit (s := S2048x1024) ![0, 0] S1024x512.size inb_S2048x1024_S1024x512_0_0)) (S := ou00.view.set) (D.oG c) rfl (hg.g20 c)) $$ Hou00; iintro Hou00
  iapply (W25 (κ := κ) (src := ac01) (dst := rr01) rfl) $$ [HSt HA18]
  · isplitr; · iexact HP
    isplitl [HSt]; · iexact HSt
    iexact HA18
  iintro ⟨HSt, Hrr01⟩
  iapply (wp_load 𝒱₀ (c : Thread nD τ) none Set.univ (m := (Memref.whole cc0_scratch7 : Memref sig .tc .vmem S2x2048x512 .bf16)) (S := rr01.view.set) (f := (up (D.a2r (lft c)))) (incl_squeeze _ _ _ _ _)) $$ Hrr01; iintro Hrr01
  rw [wp_ret]; imodintro
  iapply Hk
  isplitl [HSt]; · iexact HSt
  isplitl [Hwh]; · iexact Hwh
  isplitl [Hwl]; · iexact Hwl
  isplitl [Hou00]; · iexact Hou00
  isplitl [Hrr00]; · iexact Hrr00
  iexact Hrr01

/-- Part 41 of the body. -/
theorem part41_run (hg : Good D) {l : List (SemLoc sig)} {Q : (PUnit) → sProp 𝕄} :
    iprop(Pers D c κ ∗ St (F := F) c 23 26 l ∗ at_ c wl (D.wG c) ∗ any (F := F) c ou10 ∗ atPos ER (dC c 27) 1 ∅ 0 ∗ at_ c wh (D.wG c) ∗ any (F := F) c ou01 ∗ atPos ER (dC c 28) 1 ∅ 0)
      ⊢ iprop((iprop(St (F := F) c 23 28 ((.dma 28) :: ((.dma 27) :: l)) ∗ at_ c wl (D.wG c) ∗ at_ c ou10 (D.oG c) ∗ at_ c wh (D.wG c) ∗ at_ c ou01 (D.oG c) ∗ at_ c rl00 (up (D.a2l (rgt c))) ∗ at_ c rl01 (up (D.a2l (rgt c)))) -∗ Q ⟨⟩)
          -∗ wp frame (wpE (defs₀ (F := F)) 𝒱₀ (c : Thread nD τ) none) Set.univ (k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 (V1_2 c) (V40_0 D.a2r c)) Q) := by
  simp only [k0_part41_eq_skeleton]; unfold k0_part41_skel
  simp only [semSignalWord, semWaitWord, Prog.lift, Prog.bind_op, Prog.bind_ret, Prog.pure_eq_ret, Prog.bind_assoc, wp_deviceId]
  iintro ⟨#HP, HSt, Hwl, Hou10, HA27, Hwh, Hou01, HA28⟩ Hk
  iapply (wp_load 𝒱₀ (c : Thread nD τ) none Set.univ (m := (Memref.whole cc0_scratch5 : Memref sig .tc .vmem S2048x1024 .bf16)) (S := wl.view.set) (f := (D.wG c)) (incl_sub _ _ (by decide))) $$ Hwl; iintro Hwl
  icases Hou10 with ⟨%fou10, Hou10⟩
  iapply (wp_load 𝒱₀ (c : Thread nD τ) none Set.univ (m := (Memref.whole cc0_stg4_0 : Memref sig .tc .vmem S2048x1024 .f32)) (S := ou10.view.set) (f := fou10) (incl_slice _ _ _)) $$ Hou10; iintro Hou10
  iapply (st_at (c := c) (M := (Memref.whole cc0_stg4_0 : Memref sig .tc .vmem S2048x1024 .f32)) (r := (Rect.unit (s := S2048x1024) ![1024, 0] S1024x512.size inb_S2048x1024_S1024x512_1024_0)) (S := ou10.view.set) (D.oG c) rfl (hg.g21 c)) $$ Hou10; iintro Hou10
  iapply (W26 (κ := κ) (src := ac10) (dst := rl00) rfl) $$ [HSt HA27]
  · isplitr; · iexact HP
    isplitl [HSt]; · iexact HSt
    iexact HA27
  iintro ⟨HSt, Hrl00⟩
  iapply (wp_load 𝒱₀ (c : Thread nD τ) none Set.univ (m := (Memref.whole cc0_scratch8 : Memref sig .tc .vmem S2x2048x512 .bf16)) (S := rl00.view.set) (f := (up (D.a2l (rgt c)))) (incl_squeeze _ _ _ _ _)) $$ Hrl00; iintro Hrl00
  iapply (wp_load 𝒱₀ (c : Thread nD τ) none Set.univ (m := (Memref.whole cc0_scratch5 : Memref sig .tc .vmem S2048x1024 .bf16)) (S := wh.view.set) (f := (D.wG c)) (incl_sub _ _ (by decide))) $$ Hwh; iintro Hwh
  icases Hou01 with ⟨%fou01, Hou01⟩
  iapply (wp_load 𝒱₀ (c : Thread nD τ) none Set.univ (m := (Memref.whole cc0_stg4_0 : Memref sig .tc .vmem S2048x1024 .f32)) (S := ou01.view.set) (f := fou01) (incl_slice _ _ _)) $$ Hou01; iintro Hou01
  iapply (st_at (c := c) (M := (Memref.whole cc0_stg4_0 : Memref sig .tc .vmem S2048x1024 .f32)) (r := (Rect.unit (s := S2048x1024) ![0, 512] S1024x512.size inb_S2048x1024_S1024x512_0_512)) (S := ou01.view.set) (D.oG c) rfl (hg.g22 c)) $$ Hou01; iintro Hou01
  iapply (W27 (κ := κ) (src := ac11) (dst := rl01) rfl) $$ [HSt HA28]
  · isplitr; · iexact HP
    isplitl [HSt]; · iexact HSt
    iexact HA28
  iintro ⟨HSt, Hrl01⟩
  rw [wp_ret]; imodintro
  iapply Hk
  isplitl [HSt]; · iexact HSt
  isplitl [Hwl]; · iexact Hwl
  isplitl [Hou10]; · iexact Hou10
  isplitl [Hwh]; · iexact Hwh
  isplitl [Hou01]; · iexact Hou01
  isplitl [Hrl00]; · iexact Hrl00
  iexact Hrl01

/-- Part 42 of the body. -/
theorem part42_run (hg : Good D) {l : List (SemLoc sig)} {Q : (PUnit) → sProp 𝕄} :
    iprop(Pers D c κ ∗ St (F := F) c 23 28 l ∗ at_ c rl01 (up (D.a2l (rgt c))) ∗ at_ c wh (D.wG c) ∗ any (F := F) c ou11 ∗ cred (tallyAt (dC c 15) 0 aH) ∗ cred (tallyAt (dC c 16) 0 aH))
      ⊢ iprop((iprop(St (F := F) c 23 30 ((.dma 16) :: ((.dma 15) :: l)) ∗ at_ c rl01 (up (D.a2l (rgt c))) ∗ at_ c wh (D.wG c) ∗ at_ c ou11 (D.oG c) ∗ at_ c ac00 (up (D.a2r c)) ∗ at_ c ac01 (up (D.a2r c))) -∗ Q ⟨⟩)
          -∗ wp frame (wpE (defs₀ (F := F)) 𝒱₀ (c : Thread nD τ) none) Set.univ (k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 ) Q) := by
  simp only [k0_part42_eq_skeleton]; unfold k0_part42_skel
  simp only [semSignalWord, semWaitWord, Prog.lift, Prog.bind_op, Prog.bind_ret, Prog.pure_eq_ret, Prog.bind_assoc, wp_deviceId]
  iintro ⟨#HP, HSt, Hrl01, Hwh, Hou11, Hc15, Hc16⟩ Hk
  iapply (wp_load 𝒱₀ (c : Thread nD τ) none Set.univ (m := (Memref.whole cc0_scratch8 : Memref sig .tc .vmem S2x2048x512 .bf16)) (S := rl01.view.set) (f := (up (D.a2l (rgt c)))) (incl_squeeze _ _ _ _ _)) $$ Hrl01; iintro Hrl01
  iapply (wp_load 𝒱₀ (c : Thread nD τ) none Set.univ (m := (Memref.whole cc0_scratch5 : Memref sig .tc .vmem S2048x1024 .bf16)) (S := wh.view.set) (f := (D.wG c)) (incl_sub _ _ (by decide))) $$ Hwh; iintro Hwh
  icases Hou11 with ⟨%fou11, Hou11⟩
  iapply (wp_load 𝒱₀ (c : Thread nD τ) none Set.univ (m := (Memref.whole cc0_stg4_0 : Memref sig .tc .vmem S2048x1024 .f32)) (S := ou11.view.set) (f := fou11) (incl_slice _ _ _)) $$ Hou11; iintro Hou11
  iapply (st_at (c := c) (M := (Memref.whole cc0_stg4_0 : Memref sig .tc .vmem S2048x1024 .f32)) (r := (Rect.unit (s := S2048x1024) ![1024, 512] S1024x512.size inb_S2048x1024_S1024x512_1024_512)) (S := ou11.view.set) (D.oG c) rfl (hg.g23 c)) $$ Hou11; iintro Hou11
  iapply (W28 (κ := κ) (src := rr00) (dst := ac00) rfl) $$ [HSt Hc15]
  · isplitr; · iexact HP
    isplitl [HSt]; · iexact HSt
    iexact Hc15
  iintro ⟨HSt, Hac00⟩
  iapply (W29 (κ := κ) (src := rr01) (dst := ac01) rfl) $$ [HSt Hc16]
  · isplitr; · iexact HP
    isplitl [HSt]; · iexact HSt
    iexact Hc16
  iintro ⟨HSt, Hac01⟩
  rw [wp_ret]; imodintro
  iapply Hk
  isplitl [HSt]; · iexact HSt
  isplitl [Hrl01]; · iexact Hrl01
  isplitl [Hwh]; · iexact Hwh
  isplitl [Hou11]; · iexact Hou11
  isplitl [Hac00]; · iexact Hac00
  iexact Hac01

/-- Part 43 of the body. -/
theorem part43_run {l : List (SemLoc sig)} {Q : (PUnit) → sProp 𝕄} :
    iprop(Pers D c κ ∗ St (F := F) c 23 30 l ∗ cred (tallyAt (dC c 25) 0 aH) ∗ cred (tallyAt (dC c 26) 0 aH) ∗ cred (tallyAt (dC c 5) 0 aX) ∗ cred (tallyAt (dC c 6) 0 aX) ∗ cred (tallyAt (dC c 7) 0 aX))
      ⊢ iprop((iprop(St (F := F) c 23 35 ((.dma 7) :: ((.dma 6) :: ((.dma 5) :: ((.dma 26) :: ((.dma 25) :: l))))) ∗ at_ c ac10 (up (D.a2l c)) ∗ at_ c ac11 (up (D.a2l c)) ∗ atQ fullShare.left c xM (D.x c) ∗ atQ fullShare.left c xg0 (up (D.x (lft c))) ∗ atQ fullShare.right.left c xM (D.x c)) -∗ Q ⟨⟩)
          -∗ wp frame (wpE (defs₀ (F := F)) 𝒱₀ (c : Thread nD τ) none) Set.univ (k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 ) Q) := by
  simp only [k0_part43_eq_skeleton]; unfold k0_part43_skel
  simp only [semSignalWord, semWaitWord, Prog.lift, Prog.bind_op, Prog.bind_ret, Prog.pure_eq_ret, Prog.bind_assoc, wp_deviceId]
  iintro ⟨#HP, HSt, Hc25, Hc26, Hc5, Hc6, Hc7⟩ Hk
  iapply (W30 (κ := κ) (src := rl00) (dst := ac10) rfl) $$ [HSt Hc25]
  · isplitr; · iexact HP
    isplitl [HSt]; · iexact HSt
    iexact Hc25
  iintro ⟨HSt, Hac10⟩
  iapply (W31 (κ := κ) (src := rl01) (dst := ac11) rfl) $$ [HSt Hc26]
  · isplitr; · iexact HP
    isplitl [HSt]; · iexact HSt
    iexact Hc26
  iintro ⟨HSt, Hac11⟩
  iapply (W32 (κ := κ) (src := xg0) (dst := xM) rfl) $$ [HSt Hc5]
  · isplitr; · iexact HP
    isplitl [HSt]; · iexact HSt
    iexact Hc5
  iintro ⟨HSt, Hx_l⟩
  iapply (W33 (κ := κ) (src := xg1) (dst := xg0) rfl) $$ [HSt Hc6]
  · isplitr; · iexact HP
    isplitl [HSt]; · iexact HSt
    iexact Hc6
  iintro ⟨HSt, Hxg0_l⟩
  iapply (W34 (κ := κ) (src := xg2) (dst := xM) rfl) $$ [HSt Hc7]
  · isplitr; · iexact HP
    isplitl [HSt]; · iexact HSt
    iexact Hc7
  iintro ⟨HSt, Hx_rl⟩
  rw [wp_ret]; imodintro
  iapply Hk
  isplitl [HSt]; · iexact HSt
  isplitl [Hac10]; · iexact Hac10
  isplitl [Hac11]; · iexact Hac11
  isplitl [Hx_l]; · iexact Hx_l
  isplitl [Hxg0_l]; · iexact Hxg0_l
  iexact Hx_rl

end Cert.KernelIdeal.Talk

end
-- ==== Proof.Body.lean ====
/-
  The whole body: its 44 parts in order, from what a device holds at the start to what it holds at the end.
-/
module

public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6
public import proofs.«01_k».proof.Proof.Parts7
public import Idealize.ShloMosaic.Lib.Pipeline.Value
public import Idealize.ShloMosaic.Lib.ValueLayout

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (D : Cont F) (c : Dev nD) {κ : GSem nD τ sig → ℕ}

/-- What the body takes besides the cells. -/
def Start : sProp 𝕄 := iprop(atQ fullShare.left c xM (D.x c) ∗ atQ fullShare.right.left c xM (D.x c) ∗ atQ fullShare.right.right c xM (D.x c) ∗ atQ fullShare.left c rM (D.rt c) ∗ atQ fullShare.right.left c rM (D.rt c) ∗ atQ fullShare.right.right.left c rM (D.rt c) ∗ atQ fullShare.right.right.right c rM (D.rt c) ∗ at_ c wM (D.w c) ∗ at_ c tM (D.tri c) ∗ any (F := F) c ks0 ∗ any (F := F) c ks1 ∗ any (F := F) c ks2 ∗ any (F := F) c ks3 ∗ any (F := F) c xg0 ∗ any (F := F) c xg1 ∗ any (F := F) c xg2 ∗ any (F := F) c dl ∗ any (F := F) c dh ∗ any (F := F) c dp ∗ any (F := F) c dm ∗ any (F := F) c wl ∗ any (F := F) c wh ∗ any (F := F) c as0 ∗ any (F := F) c as1 ∗ any (F := F) c rc0 ∗ any (F := F) c rc1 ∗ any (F := F) c rc2 ∗ any (F := F) c ou00 ∗ any (F := F) c ou01 ∗ any (F := F) c ou10 ∗ any (F := F) c ou11 ∗ any (F := F) c rr00 ∗ any (F := F) c rr01 ∗ any (F := F) c rr10 ∗ any (F := F) c rr11 ∗ any (F := F) c rl00 ∗ any (F := F) c rl01 ∗ any (F := F) c rl10 ∗ any (F := F) c rl11 ∗ atPos ER (barC c) 0 ∅ 0 ∗ cred (tallyAt (barC c) 1 3) ∗ reached (ER (F := F)) (barC (lft c)) 0 ∗ reached (ER (F := F)) (barC (rgt c)) 0 ∗ reached (ER (F := F)) (barC (opp c)) 0)

/-- What it gives back. -/
def Finish : sProp 𝕄 := iprop(atQ fullShare.right.right c xM (D.x c) ∗ atQ fullShare.right.right.right c rM (D.rt c) ∗ at_ c wM (D.w c) ∗ at_ c tM (D.tri c) ∗ at_ c dl (D.dG c) ∗ at_ c dh (D.dG c) ∗ at_ c dp (D.pG c) ∗ at_ c dm (D.mG c) ∗ at_ c wl (D.wG c) ∗ at_ c wh (D.wG c) ∗ at_ c ou00 (D.oG c) ∗ at_ c ou01 (D.oG c) ∗ at_ c ou10 (D.oG c) ∗ at_ c ou11 (D.oG c) ∗ atPos ER (barC c) 1 ∅ 0 ∗ atQ fullShare.left c rM (D.rt c) ∗ atQ fullShare.right.left c rM (D.rt c) ∗ at_ c rc0 (up (D.rt (lft c))) ∗ at_ c rc1 (up (D.rt (rgt c))) ∗ at_ c rc2 (up (D.rt (opp c))) ∗ at_ c kM (D.kG c) ∗ atQ fullShare.right c xg0 (up (D.x (lft c))) ∗ at_ c xg2 (up (D.x (rgt c))) ∗ at_ c xg1 (up (D.x (lft (lft c)))) ∗ at_ c rr10 (up (D.a1r (lft c))) ∗ at_ c rr11 (up (D.a1r (lft c))) ∗ at_ c rl10 (up (D.a1l (rgt c))) ∗ at_ c rl11 (up (D.a1l (rgt c))) ∗ at_ c rr00 (up (D.a2r (lft c))) ∗ at_ c rr01 (up (D.a2r (lft c))) ∗ at_ c rl00 (up (D.a2l (rgt c))) ∗ at_ c rl01 (up (D.a2l (rgt c))) ∗ at_ c ac00 (up (D.a2r c)) ∗ at_ c ac01 (up (D.a2r c)) ∗ at_ c ac10 (up (D.a2l c)) ∗ at_ c ac11 (up (D.a2l c)) ∗ atQ fullShare.left c xM (D.x c) ∗ atQ fullShare.left c xg0 (up (D.x (lft c))) ∗ atQ fullShare.right.left c xM (D.x c))

/-- The cells a device has waited out, the last first. -/
abbrev doneL : List (SemLoc sig) := (.dma 33) :: (.dma 32) :: (.dma 31) :: (.dma 7) :: (.dma 6) :: (.dma 5) :: (.dma 26) :: (.dma 25) :: (.dma 16) :: (.dma 15) :: (.dma 28) :: (.dma 27) :: (.dma 18) :: (.dma 17) :: (.dma 24) :: (.dma 30) :: (.reg crL) :: (.dma 23) :: (.dma 29) :: (.dma 14) :: (.dma 20) :: (.reg crR) :: (.dma 13) :: (.dma 19) :: (.dma 22) :: (.dma 21) :: (.dma 12) :: (.dma 11) :: (.dma 9) :: (.dma 10) :: (.dma 8) :: (.dma 36) :: (.dma 35) :: (.dma 34) :: []

variable {D c}

/-- A program in sequence: the rest runs on what the first gives. -/
theorem bind_run {α β : Type} {p : Prog (TpuEff nD τ sig (Elt F) Λ₀ .tc) α} {k : α → Prog (TpuEff nD τ sig (Elt F) Λ₀ .tc) β} {Q : β → sProp 𝕄} :
    wp frame (wpE (defs₀ (F := F)) 𝒱₀ (c : Thread nD τ) none) Set.univ p (fun a => wp frame (wpE (defs₀ (F := F)) 𝒱₀ (c : Thread nD τ) none) Set.univ (k a) Q)
      ⊢ wp frame (wpE (defs₀ (F := F)) 𝒱₀ (c : Thread nD τ) none) Set.univ (p >>= k) Q :=
  Entails.of_eq (wp_bind ..).symm

set_option maxHeartbeats 4000000 in
/-- The first 44 parts. -/
theorem part44_run (hg : Good D) {Q : PUnit.{1} → sProp 𝕄} :
    iprop(Pers D c κ ∗ St (F := F) c 0 0 [] ∗ Start D c)
      ⊢ iprop((iprop(St (F := F) c 23 37 (doneL.tail) ∗ cred (tallyAt (dC c 33) 0 aR) ∗ Finish D c) -∗ Q ⟨⟩)
          -∗ wp frame (wpE (defs₀ (F := F)) 𝒱₀ (c : Thread nD τ) none) Set.univ (k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19) Q) := by
  simp only [k0_part44_eq_skeleton]; unfold k0_part44_skel Start Finish
  simp only [Prog.lift, Prog.bind_op, Prog.bind_ret, Prog.pure_eq_ret]
  iintro ⟨#HP, HSt, Hx_l, Hx_rl, Hx_rr, Hr_l, Hr_rl, Hr_rrl, Hr_rrr, Hw, Ht, Hks0, Hks1, Hks2, Hks3, Hxg0, Hxg1, Hxg2, Hdl, Hdh, Hdp, Hdm, Hwl, Hwh, Has0, Has1, Hrc0, Hrc1, Hrc2, Hou00, Hou01, Hou10, Hou11, Hrr00, Hrr01, Hrr10, Hrr11, Hrl00, Hrl01, Hrl10, Hrl11, Hbat, Hbcr, #Hblft, #Hbrgt, #Hbopp⟩ Hk
  iapply bind_run
  iapply (part1_run (κ := κ) (D := D) (c := c)) $$ [HSt Hrc0 Hxg0 Hxg1 Hrr00 Hrr01 Hrr10 Hrr11 Hrc1 Hxg2 Hrl00 Hrl01 Hrl10 Hrl11 Hrc2 Hbat Hbcr Hr_l]
  · isplitr; · iexact HP
    isplitl [HSt]; · iexact HSt
    isplitr; · iexact Hblft
    isplitl [Hrc0]; · iexact Hrc0
    isplitl [Hxg0]; · iexact Hxg0
    isplitl [Hxg1]; · iexact Hxg1
    isplitl [Hrr00]; · iexact Hrr00
    isplitl [Hrr01]; · iexact Hrr01
    isplitl [Hrr10]; · iexact Hrr10
    isplitl [Hrr11]; · iexact Hrr11
    isplitr; · iexact Hbrgt
    isplitl [Hrc1]; · iexact Hrc1
    isplitl [Hxg2]; · iexact Hxg2
    isplitl [Hrl00]; · iexact Hrl00
    isplitl [Hrl01]; · iexact Hrl01
    isplitl [Hrl10]; · iexact Hrl10
    isplitl [Hrl11]; · iexact Hrl11
    isplitr; · iexact Hbopp
    isplitl [Hrc2]; · iexact Hrc2
    isplitl [Hbat]; · iexact Hbat
    isplitl [Hbcr]; · iexact Hbcr
    iexact Hr_l
  iintro ⟨HSt, Hbat, Hrgt_xg0, Hrgt_xg1, Hrgt_rr00, Hrgt_rr01, Hrgt_rr10, Hrgt_rr11, Hlft_rc1, Hlft_xg2, Hlft_rl00, Hlft_rl01, Hlft_rl10, Hlft_rl11, Hopp_rc2, Hc31, #HN⟩
  dsimp only
  iapply bind_run
  iapply (part2_run (κ := κ) (D := D) (c := c)) $$ [HSt Hr_rl Hlft_rc1 Hr_rrl Hopp_rc2 Hx_l Hrgt_xg0]
  · isplitr; · iexact HP
    isplitr; · iexact HN
    isplitl [HSt]; · iexact HSt
    isplitl [Hr_rl]; · iexact Hr_rl
    isplitl [Hlft_rc1]; · iexact Hlft_rc1
    isplitl [Hr_rrl]; · iexact Hr_rrl
    isplitl [Hopp_rc2]; · iexact Hopp_rc2
    isplitl [Hx_l]; · iexact Hx_l
    iexact Hrgt_xg0
  iintro ⟨HSt, Hc32, Hc33, Hc5⟩
  iapply bind_run
  iapply (part3_run (κ := κ) (D := D) (c := c)) $$ [HSt Hx_rl Hlft_xg2 Hr_rrr]
  · isplitr; · iexact HP
    isplitr; · iexact HN
    isplitl [HSt]; · iexact HSt
    isplitl [Hx_rl]; · iexact Hx_rl
    isplitl [Hlft_xg2]; · iexact Hlft_xg2
    iexact Hr_rrr
  iintro ⟨HSt, Hr_rrr, Hc7, Hrc0, Hrc1, Hrc2⟩
  dsimp only
  iapply bind_run
  iapply (part4_run (D := D) (c := c)) $$ [Hrc1 Hrc2 Hrc0]
  · isplitl [Hrc1]; · iexact Hrc1
    isplitl [Hrc2]; · iexact Hrc2
    iexact Hrc0
  iintro ⟨Hrc1, Hrc2, Hrc0⟩
  dsimp only
  iapply bind_run
  iapply (part5_run hg (D := D) (c := c)) $$ [Hr_rrr Ht Hks3]
  · isplitl [Hr_rrr]; · iexact Hr_rrr
    isplitl [Ht]; · iexact Ht
    iexact Hks3
  iintro ⟨Hr_rrr, Ht, Hks3⟩
  dsimp only
  iapply bind_run
  iapply (part6_run (D := D) (c := c)) $$ [Hrc1 Ht]
  · isplitl [Hrc1]; · iexact Hrc1
    iexact Ht
  iintro ⟨Hrc1, Ht⟩
  dsimp only
  iapply bind_run
  iapply (part7_run hg (D := D) (c := c)) $$ [Hks2 Hrc2]
  · isplitl [Hks2]; · iexact Hks2
    iexact Hrc2
  iintro ⟨Hks2, Hrc2⟩
  dsimp only
  iapply bind_run
  iapply (part8_run hg (D := D) (c := c)) $$ [Ht Hks1]
  · isplitl [Ht]; · iexact Ht
    iexact Hks1
  iintro ⟨Ht, Hks1⟩
  dsimp only
  iapply bind_run
  iapply (part9_run hg (D := D) (c := c)) $$ [Hrc0 Ht Hks0 Hks1 Hks2 Hks3]
  · isplitl [Hrc0]; · iexact Hrc0
    isplitl [Ht]; · iexact Ht
    isplitl [Hks0]; · iexact Hks0
    isplitl [Hks1]; · iexact Hks1
    isplitl [Hks2]; · iexact Hks2
    iexact Hks3
  iintro ⟨Hrc0, Ht, Hkk⟩
  iapply bind_run
  iapply (part10_run (κ := κ) (D := D) (c := c)) $$ [HSt Hrgt_xg1 Hkk Hw]
  · isplitr; · iexact HP
    isplitr; · iexact HN
    isplitl [HSt]; · iexact HSt
    isplitl [Hrgt_xg1]; · iexact Hrgt_xg1
    isplitl [Hkk]; · iexact Hkk
    iexact Hw
  iintro ⟨HSt, Hkk, Hw, Hxg0_r, Hc6⟩
  dsimp only
  iapply bind_run
  iapply (part11_run (D := D) (c := c)) $$ [Hkk Hw]
  · isplitl [Hkk]; · iexact Hkk
    iexact Hw
  iintro ⟨Hkk, Hw⟩
  dsimp only
  iapply bind_run
  iapply (part12_run hg (κ := κ) (D := D) (c := c)) $$ [HSt Hkk Hw Has0 Hrgt_rr00]
  · isplitr; · iexact HP
    isplitr; · iexact HN
    isplitl [HSt]; · iexact HSt
    isplitl [Hkk]; · iexact Hkk
    isplitl [Hw]; · iexact Hw
    isplitl [Has0]; · iexact Has0
    iexact Hrgt_rr00
  iintro ⟨HSt, Hkk, Hw, Hac01, Hc11⟩
  iapply bind_run
  iapply (part13_run (κ := κ) (D := D) (c := c)) $$ [HSt Hac01 Hrgt_rr01 Hkk Hw]
  · isplitr; · iexact HP
    isplitr; · iexact HN
    isplitl [HSt]; · iexact HSt
    isplitl [Hac01]; · iexact Hac01
    isplitl [Hrgt_rr01]; · iexact Hrgt_rr01
    isplitl [Hkk]; · iexact Hkk
    iexact Hw
  iintro ⟨HSt, Hkk, Hw, Hc12, Hxg2⟩
  dsimp only
  iapply bind_run
  iapply (part14_run (D := D) (c := c)) $$ [Hw Hkk]
  · isplitl [Hw]; · iexact Hw
    iexact Hkk
  iintro ⟨Hw, Hkk⟩
  dsimp only
  iapply bind_run
  iapply (part15_run hg (D := D) (c := c)) $$ [Hw Hkk Has1]
  · isplitl [Hw]; · iexact Hw
    isplitl [Hkk]; · iexact Hkk
    iexact Has1
  iintro ⟨Hw, Hkk, Hac10, Hac11⟩
  iapply bind_run
  iapply (part16_run (κ := κ) (D := D) (c := c)) $$ [HSt Hac10 Hlft_rl00 Hac11 Hlft_rl01 Hx_rr Hkk Hw]
  · isplitr; · iexact HP
    isplitr; · iexact HN
    isplitl [HSt]; · iexact HSt
    isplitl [Hac10]; · iexact Hac10
    isplitl [Hlft_rl00]; · iexact Hlft_rl00
    isplitl [Hac11]; · iexact Hac11
    isplitl [Hlft_rl01]; · iexact Hlft_rl01
    isplitl [Hx_rr]; · iexact Hx_rr
    isplitl [Hkk]; · iexact Hkk
    iexact Hw
  iintro ⟨HSt, Hx_rr, Hkk, Hw, Hc21, Hc22⟩
  dsimp only
  iapply bind_run
  iapply (part17_run (D := D) (c := c)) $$ [Hw Hkk]
  · isplitl [Hw]; · iexact Hw
    iexact Hkk
  iintro ⟨Hw, Hkk⟩
  dsimp only
  iapply bind_run
  iapply (part18_run hg (D := D) (c := c)) $$ [Hw Hkk Hwl]
  · isplitl [Hw]; · iexact Hw
    isplitl [Hkk]; · iexact Hkk
    iexact Hwl
  iintro ⟨Hw, Hkk, Hwl⟩
  iapply bind_run
  iapply (part19_run (κ := κ) (D := D) (c := c)) $$ [HSt Hkk Hw]
  · isplitr; · iexact HP
    isplitl [HSt]; · iexact HSt
    isplitl [Hkk]; · iexact Hkk
    iexact Hw
  iintro ⟨HSt, Hkk, Hw, Hxg1⟩
  dsimp only
  iapply bind_run
  iapply (part20_run (D := D) (c := c)) $$ [Hw Hkk]
  · isplitl [Hw]; · iexact Hw
    iexact Hkk
  iintro ⟨Hw, Hkk⟩
  dsimp only
  iapply bind_run
  iapply (part21_run hg (κ := κ) (D := D) (c := c)) $$ [HSt Hw Hdl Hc11]
  · isplitr; · iexact HP
    isplitl [HSt]; · iexact HSt
    isplitl [Hw]; · iexact Hw
    isplitl [Hdl]; · iexact Hdl
    iexact Hc11
  iintro ⟨HSt, Hw, Hdl, HA17, HR17, Hrr00, Hac00⟩
  dsimp only
  iapply bind_run
  iapply (part22_run hg (κ := κ) (D := D) (c := c)) $$ [HSt Hac00 Hrgt_rr10]
  · isplitr; · iexact HP
    isplitr; · iexact HN
    isplitl [HSt]; · iexact HSt
    isplitl [Hac00]; · iexact Hac00
    iexact Hrgt_rr10
  iintro ⟨HSt, Hc13, HA18, HR18, Hrr01⟩
  iapply bind_run
  iapply (part23_run hg (κ := κ) (D := D) (c := c)) $$ [HSt Hc12 Hrr01 Hrgt_rr11 Hrr00 HR17 HR18 Hxg1 Hkk]
  · isplitr; · iexact HP
    isplitr; · iexact HN
    isplitl [HSt]; · iexact HSt
    isplitl [Hc12]; · iexact Hc12
    isplitl [Hrr01]; · iexact Hrr01
    isplitl [Hrgt_rr11]; · iexact Hrgt_rr11
    isplitl [Hrr00]; · iexact Hrr00
    isplitl [HR17]; · iexact HR17
    isplitl [HR18]; · iexact HR18
    isplitl [Hxg1]; · iexact Hxg1
    iexact Hkk
  iintro ⟨HSt, Hxg1, Hkk, Hc14⟩
  dsimp only
  iapply bind_run
  iapply (part24_run (D := D) (c := c)) $$ [Hw Hkk]
  · isplitl [Hw]; · iexact Hw
    iexact Hkk
  iintro ⟨Hw, Hkk⟩
  dsimp only
  iapply bind_run
  iapply (part25_run hg (D := D) (c := c)) $$ [Hw Hkk Hdh]
  · isplitl [Hw]; · iexact Hw
    isplitl [Hkk]; · iexact Hkk
    iexact Hdh
  iintro ⟨Hw, Hkk, Hdh⟩
  iapply bind_run
  iapply (part26_run hg (κ := κ) (D := D) (c := c)) $$ [HSt Hdh Hc21]
  · isplitr; · iexact HP
    isplitl [HSt]; · iexact HSt
    isplitl [Hdh]; · iexact Hdh
    iexact Hc21
  iintro ⟨HSt, Hdh, HA27, HR27, Hrl00, Hac10⟩
  dsimp only
  iapply bind_run
  iapply (part27_run (κ := κ) (D := D) (c := c)) $$ [HSt Hac10 Hlft_rl10 Hc22]
  · isplitr; · iexact HP
    isplitr; · iexact HN
    isplitl [HSt]; · iexact HSt
    isplitl [Hac10]; · iexact Hac10
    isplitl [Hlft_rl10]; · iexact Hlft_rl10
    iexact Hc22
  iintro ⟨HSt, Hc23, HA28, HR28, Hrl01, Hac11⟩
  dsimp only
  iapply bind_run
  iapply (part28_run hg (κ := κ) (D := D) (c := c)) $$ [HSt Hac11 Hlft_rl11 Hrl00 Hrl01 HR27 HR28 Hxg2 Hkk Hw]
  · isplitr; · iexact HP
    isplitr; · iexact HN
    isplitl [HSt]; · iexact HSt
    isplitl [Hac11]; · iexact Hac11
    isplitl [Hlft_rl11]; · iexact Hlft_rl11
    isplitl [Hrl00]; · iexact Hrl00
    isplitl [Hrl01]; · iexact Hrl01
    isplitl [HR27]; · iexact HR27
    isplitl [HR28]; · iexact HR28
    isplitl [Hxg2]; · iexact Hxg2
    isplitl [Hkk]; · iexact Hkk
    iexact Hw
  iintro ⟨HSt, Hxg2, Hkk, Hw, Hc24⟩
  dsimp only
  iapply bind_run
  iapply (part29_run (D := D) (c := c)) $$ [Hw Hkk]
  · isplitl [Hw]; · iexact Hw
    iexact Hkk
  iintro ⟨Hw, Hkk⟩
  dsimp only
  iapply bind_run
  iapply (part30_run hg (D := D) (c := c)) $$ [Hw Hkk Hdp]
  · isplitl [Hw]; · iexact Hw
    isplitl [Hkk]; · iexact Hkk
    iexact Hdp
  iintro ⟨Hw, Hkk, Hdp⟩
  dsimp only
  iapply bind_run
  iapply (part31_run hg (κ := κ) (D := D) (c := c)) $$ [HSt Hc13]
  · isplitr; · iexact HP
    isplitl [HSt]; · iexact HSt
    iexact Hc13
  iintro ⟨HSt, Hrr10, Hrgt_rr01, HRR18, Hc15⟩
  iapply bind_run
  iapply (part32_run hg (κ := κ) (D := D) (c := c)) $$ [HSt Hc14]
  · isplitr; · iexact HP
    isplitl [HSt]; · iexact HSt
    iexact Hc14
  iintro ⟨HSt, Hrr11, Hac01⟩
  iapply bind_run
  iapply (part33_run (κ := κ) (D := D) (c := c)) $$ [HSt Hac01 Hrgt_rr01 HRR18 Hxg0_r Hkk Hw]
  · isplitr; · iexact HP
    isplitl [HSt]; · iexact HSt
    isplitl [Hac01]; · iexact Hac01
    isplitl [Hrgt_rr01]; · iexact Hrgt_rr01
    isplitl [HRR18]; · iexact HRR18
    isplitl [Hxg0_r]; · iexact Hxg0_r
    isplitl [Hkk]; · iexact Hkk
    iexact Hw
  iintro ⟨HSt, Hxg0_r, Hkk, Hw, Hc16⟩
  dsimp only
  iapply bind_run
  iapply (part34_run (D := D) (c := c)) $$ [Hkk Hw]
  · isplitl [Hkk]; · iexact Hkk
    iexact Hw
  iintro ⟨Hkk, Hw⟩
  dsimp only
  iapply bind_run
  iapply (part35_run hg (κ := κ) (D := D) (c := c)) $$ [HSt Hkk Hw Hdm Hc23]
  · isplitr; · iexact HP
    isplitl [HSt]; · iexact HSt
    isplitl [Hkk]; · iexact Hkk
    isplitl [Hw]; · iexact Hw
    isplitl [Hdm]; · iexact Hdm
    iexact Hc23
  iintro ⟨HSt, Hkk, Hw, Hdm, Hrl10, Hac10⟩
  dsimp only
  iapply bind_run
  iapply (part36_run hg (κ := κ) (D := D) (c := c)) $$ [HSt Hrl10 Hac10]
  · isplitr; · iexact HP
    isplitl [HSt]; · iexact HSt
    isplitl [Hrl10]; · iexact Hrl10
    iexact Hac10
  iintro ⟨HSt, Hrl10, Hlft_rl01, HRR28, Hc25, Hrl11⟩
  iapply bind_run
  iapply (part37_run hg (κ := κ) (D := D) (c := c)) $$ [HSt Hc24 Hrl11 Hlft_rl01 HRR28 Hx_rr Hkk]
  · isplitr; · iexact HP
    isplitl [HSt]; · iexact HSt
    isplitl [Hc24]; · iexact Hc24
    isplitl [Hrl11]; · iexact Hrl11
    isplitl [Hlft_rl01]; · iexact Hlft_rl01
    isplitl [HRR28]; · iexact HRR28
    isplitl [Hx_rr]; · iexact Hx_rr
    iexact Hkk
  iintro ⟨HSt, Hrl11, Hx_rr, Hkk, Hc26⟩
  dsimp only
  iapply bind_run
  iapply (part38_run (D := D) (c := c)) $$ [Hw Hkk]
  · isplitl [Hw]; · iexact Hw
    iexact Hkk
  iintro ⟨Hw, Hkk⟩
  dsimp only
  iapply bind_run
  iapply (part39_run (D := D) (c := c)) $$ [Hw Hkk Hwh]
  · isplitl [Hw]; · iexact Hw
    isplitl [Hkk]; · iexact Hkk
    iexact Hwh
  iintro ⟨Hw, Hkk, Hwh⟩
  dsimp only
  iapply bind_run
  iapply (part40_run hg (κ := κ) (D := D) (c := c)) $$ [HSt Hwh HA17 Hwl Hou00 HA18]
  · isplitr; · iexact HP
    isplitl [HSt]; · iexact HSt
    isplitl [Hwh]; · iexact Hwh
    isplitl [HA17]; · iexact HA17
    isplitl [Hwl]; · iexact Hwl
    isplitl [Hou00]; · iexact Hou00
    iexact HA18
  iintro ⟨HSt, Hwh, Hwl, Hou00, Hrr00, Hrr01⟩
  dsimp only
  iapply bind_run
  iapply (part41_run hg (κ := κ) (D := D) (c := c)) $$ [HSt Hwl Hou10 HA27 Hwh Hou01 HA28]
  · isplitr; · iexact HP
    isplitl [HSt]; · iexact HSt
    isplitl [Hwl]; · iexact Hwl
    isplitl [Hou10]; · iexact Hou10
    isplitl [HA27]; · iexact HA27
    isplitl [Hwh]; · iexact Hwh
    isplitl [Hou01]; · iexact Hou01
    iexact HA28
  iintro ⟨HSt, Hwl, Hou10, Hwh, Hou01, Hrl00, Hrl01⟩
  iapply bind_run
  iapply (part42_run hg (κ := κ) (D := D) (c := c)) $$ [HSt Hrl01 Hwh Hou11 Hc15 Hc16]
  · isplitr; · iexact HP
    isplitl [HSt]; · iexact HSt
    isplitl [Hrl01]; · iexact Hrl01
    isplitl [Hwh]; · iexact Hwh
    isplitl [Hou11]; · iexact Hou11
    isplitl [Hc15]; · iexact Hc15
    iexact Hc16
  iintro ⟨HSt, Hrl01, Hwh, Hou11, Hac00, Hac01⟩
  iapply bind_run
  iapply (part43_run (κ := κ) (D := D) (c := c)) $$ [HSt Hc25 Hc26 Hc5 Hc6 Hc7]
  · isplitr; · iexact HP
    isplitl [HSt]; · iexact HSt
    isplitl [Hc25]; · iexact Hc25
    isplitl [Hc26]; · iexact Hc26
    isplitl [Hc5]; · iexact Hc5
    isplitl [Hc6]; · iexact Hc6
    iexact Hc7
  iintro ⟨HSt, Hac10, Hac11, Hx_l, Hxg0_l, Hx_rl⟩
  simp only [Prog.lift, Prog.bind_op, Prog.bind_ret, Prog.pure_eq_ret]
  iapply (W35 (κ := κ) (D := D) (c := c) (src := rc0) (dst := rM) rfl) $$ [HSt Hc31]
  · isplitr; · iexact HP
    isplitl [HSt]; · iexact HSt
    iexact Hc31
  iintro ⟨HSt, Hr_l⟩
  iapply (W36 (κ := κ) (D := D) (c := c) (src := rc1) (dst := rM) rfl) $$ [HSt Hc32]
  · isplitr; · iexact HP
    isplitl [HSt]; · iexact HSt
    iexact Hc32
  iintro ⟨HSt, Hr_rl⟩
  rw [wp_ret]; imodintro
  iapply Hk
  isplitl [HSt]; · iexact HSt
  isplitl [Hc33]; · iexact Hc33
  isplitl [Hx_rr]; · iexact Hx_rr
  isplitl [Hr_rrr]; · iexact Hr_rrr
  isplitl [Hw]; · iexact Hw
  isplitl [Ht]; · iexact Ht
  isplitl [Hdl]; · iexact Hdl
  isplitl [Hdh]; · iexact Hdh
  isplitl [Hdp]; · iexact Hdp
  isplitl [Hdm]; · iexact Hdm
  isplitl [Hwl]; · iexact Hwl
  isplitl [Hwh]; · iexact Hwh
  isplitl [Hou00]; · iexact Hou00
  isplitl [Hou01]; · iexact Hou01
  isplitl [Hou10]; · iexact Hou10
  isplitl [Hou11]; · iexact Hou11
  isplitl [Hbat]; · iexact Hbat
  isplitl [Hr_l]; · iexact Hr_l
  isplitl [Hr_rl]; · iexact Hr_rl
  isplitl [Hrc0]; · iexact Hrc0
  isplitl [Hrc1]; · iexact Hrc1
  isplitl [Hrc2]; · iexact Hrc2
  isplitl [Hkk]; · iexact Hkk
  isplitl [Hxg0_r]; · iexact Hxg0_r
  isplitl [Hxg2]; · iexact Hxg2
  isplitl [Hxg1]; · iexact Hxg1
  isplitl [Hrr10]; · iexact Hrr10
  isplitl [Hrr11]; · iexact Hrr11
  isplitl [Hrl10]; · iexact Hrl10
  isplitl [Hrl11]; · iexact Hrl11
  isplitl [Hrr00]; · iexact Hrr00
  isplitl [Hrr01]; · iexact Hrr01
  isplitl [Hrl00]; · iexact Hrl00
  isplitl [Hrl01]; · iexact Hrl01
  isplitl [Hac00]; · iexact Hac00
  isplitl [Hac01]; · iexact Hac01
  isplitl [Hac10]; · iexact Hac10
  isplitl [Hac11]; · iexact Hac11
  isplitl [Hx_l]; · iexact Hx_l
  isplitl [Hxg0_l]; · iexact Hxg0_l
  iexact Hx_rl

/-- The whole body. -/
theorem body_run (hg : Good D) {Q : PUnit.{1} → sProp 𝕄} :
    iprop(Pers D c κ ∗ St (F := F) c 0 0 [] ∗ Start D c)
      ⊢ iprop((iprop(St (F := F) c 23 38 doneL ∗ atQ fullShare.right.right.left c rM (D.rt c) ∗ Finish D c) -∗ Q ⟨⟩)
          -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19) Q) := by
  simp only [cc0_body_eq_skeleton]; unfold cc0_body_skel
  simp only [Prog.lift, Prog.bind_op, Prog.bind_ret, Prog.pure_eq_ret]
  iintro ⟨#HP, HSt, HS⟩ Hk
  rw [wp_bind]
  iapply (part44_run hg (κ := κ)) $$ [HSt HS]
  · isplitr; · iexact HP
    isplitl [HSt]; · iexact HSt
    iexact HS
  iintro ⟨HSt, Hc33, HF⟩
  iapply (W37 (κ := κ) (D := D) (c := c) (src := rc2) (dst := rM) rfl) $$ [HSt Hc33]
  · isplitr; · iexact HP
    isplitl [HSt]; · iexact HSt
    iexact Hc33
  iintro ⟨HSt, Hr_rrl⟩
  rw [wp_ret]; imodintro
  iapply Hk
  isplitl [HSt]; · iexact HSt
  isplitl [Hr_rrl]; · iexact Hr_rrl
  iexact HF

end Cert.KernelIdeal.Talk

end
-- ==== Proof.Open.lean ====
/-
  Between the launch and the body: the cells opened, the launch credit dealt, the scratch buffers cut into their pieces and put back together.
-/
module

public import proofs.«01_k».proof.Proof.Body
public import Idealize.ShloMosaic.Lib.Pipeline.Value
public import Idealize.ShloMosaic.Lib.Pipeline.BigSepL
public import Idealize.ShloMosaic.Lib.ValueLayout

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.TalkSites Idealize.ShloMosaic.SiteBlocks

variable {F : FTy → Type} [FloatOps F]

local notation "𝕄" => MT nD τ sig ℕ (Elt F) ℕ UU ℕ

variable (D : Cont F) (c : Dev nD)

/-! ## The launch credit -/

/-- The payments addressed to a device, in the order it waits for them. -/
def credL (c : Dev nD) : List (Pay nD τ sig) :=
  [(barC c, 1, 1), (barC c, 1, 1), (barC c, 1, 1),
   (dC c 34, 2, aR),
   (dC c 35, 2, aR),
   (dC c 36, 2, aR),
   (dC c 8, 3, aX),
   (dC c 10, 3, aX),
   (dC c 9, 4, aX),
   (dC c 17, 5, aH),
   (dC c 18, 5, aH),
   (dC c 27, 5, aH),
   (dC c 28, 5, aH),
   (dC c 19, 7, aH),
   (crRC c, 6, 1),
   (dC c 20, 7, aH),
   (dC c 29, 7, aH),
   (crLC c, 6, 1),
   (dC c 30, 7, aH),
   (dC c 17, 8, aH),
   (dC c 18, 8, aH),
   (dC c 27, 8, aH),
   (dC c 28, 8, aH)]

set_option maxRecDepth 100000 in
theorem credL_perm : ∀ c : Dev nD, (credOf dueL c).Perm (credL c) := by decide +kernel

theorem dueL_tc (c : Dev nD) : ∀ x ∈ dueL c, x.1.1.2 = .tc := by
  intro x hx
  simp only [dueL, List.mem_cons, List.not_mem_nil, or_false] at hx
  rcases hx with rfl | rfl | rfl | rfl | rfl | rfl | rfl | rfl | rfl | rfl | rfl | rfl | rfl | rfl | rfl | rfl | rfl | rfl | rfl | rfl | rfl | rfl | rfl <;> rfl

theorem tallyL_perm {l l' : List (Pay nD τ sig)} (h : l.Perm l') : (tallyL l : CellTallies nD τ sig ℕ) = tallyL l' := by
  induction h with
  | nil => rfl
  | cons x _ ih => rw [tallyL, tallyL, ih]
  | swap x y l => rw [tallyL, tallyL, tallyL, tallyL]; exact add_left_comm _ _ _
  | trans _ _ h1 h2 => exact h1.trans h2

/-- What the launch gives a device on its cells. -/
theorem launch_cred (c : Dev nD) : (Pipeline.launchCred (fun d => tallyL (dueL d)) c : sProp 𝕄) = bigSepL (credL c) fun x => cred x.tally := by
  rw [launchCred_tallyL dueL dueL_tc c, tallyL_perm (credL_perm c), cred_tallyL]

/-- The barrier's three units are one credit. -/
theorem bar_join (c : Dev nD) : iprop(cred (tallyAt (barC c) 1 1) ∗ cred (tallyAt (barC c) 1 1) ∗ cred (tallyAt (barC c) 1 1)) ⊢ (cred (tallyAt (barC c) 1 3) : sProp 𝕄) := by
  rw [show (tallyAt (barC c) 1 3 : CellTallies nD τ sig ℕ) = tallyAt (barC c) 1 1 + (tallyAt (barC c) 1 1 + tallyAt (barC c) 1 1) from by
    show tallyAt (barC c) 1 (1 + (1 + 1)) = _; rw [tallyAt_add, tallyAt_add]]
  iintro ⟨H1, H2, H3⟩
  iapply (cred_add _ _).2
  isplitl [H1]; · iexact H1
  iapply (cred_add _ _).2
  isplitl [H2]; · iexact H2
  iexact H3

/-! ## The cells opened -/

/-- The cells of a list opened one after the other. -/
theorem open_all {κ : GSem nD τ sig → ℕ} (l : List (SemLoc sig)) (hl : ∀ sm ∈ l, sm ∈ ownL) :
    iprop(fam.cellInvs ER (Rd D) κ ∗ bigSepL l (fun sm => openTok ER ((c.tc : Thread nD τ), sm)) ∗ bigSepL l (fun sm => semVal ((c.tc : Thread nD τ), sm) 0))
      ⊢ (|={Set.univ}=> iprop(bigSepL l (fun sm => atPos ER ((c.tc : Thread nD τ), sm) 0 ∅ 0) ∗ bigSepL l (fun sm => reached ER ((c.tc : Thread nD τ), sm) 0)) : sProp 𝕄) := by
  induction l with
  | nil =>
    simp only [bigSepL_nil]
    iintro -; imodintro
    isplitr <;> iempintro
  | cons a l ih =>
    rw [sepL_cons, sepL_cons, sepL_cons, sepL_cons]
    iintro ⟨#HI, ⟨Ho, Hos⟩, ⟨Hv, Hvs⟩⟩
    imod (Rounds.cell_open ER (Rd D) (g := ((c.tc : Thread nD τ), a)) (Set.mem_univ (κ ((c.tc : Thread nD τ), a)))) $$ [Ho Hv] with ⟨Hat, Hr⟩
    · isplitr; · iapply (fam.cellInvs_dorm ER (Rd D) κ c (mem_dorm 0 a (hl a List.mem_cons_self))); iexact HI
      isplitl [Ho] <;> iassumption
    imod (ih fun sm h => hl sm (List.mem_cons_of_mem _ h)) $$ [Hos Hvs] with ⟨Hats, Hrs⟩
    · isplitr; · iexact HI
      isplitl [Hos] <;> iassumption
    imodintro
    isplitl [Hat Hats]
    · isplitl [Hat] <;> iassumption
    isplitl [Hr] <;> iassumption

/-- What the body waits with, from the open cells and the launch credit. -/
theorem wts_intro : iprop(bigSepL ownL (fun sm => atPos ER ((c.tc : Thread nD τ), sm) 0 ∅ 0) ∗ bigSepL (credL c) fun x => cred x.tally)
    ⊢ (iprop(Wts (F := F) c 0 ∗ cred (tallyAt (barC c) 1 3)) : sProp 𝕄) := by
  show iprop((atPos (ER (F := F)) (dC c 34) 0 ∅ 0 ∗ atPos (ER (F := F)) (dC c 35) 0 ∅ 0 ∗ atPos (ER (F := F)) (dC c 36) 0 ∅ 0 ∗ atPos (ER (F := F)) (dC c 8) 0 ∅ 0 ∗ atPos (ER (F := F)) (dC c 10) 0 ∅ 0 ∗ atPos (ER (F := F)) (dC c 9) 0 ∅ 0 ∗ atPos (ER (F := F)) (dC c 17) 0 ∅ 0 ∗ atPos (ER (F := F)) (dC c 11) 0 ∅ 0 ∗ atPos (ER (F := F)) (dC c 18) 0 ∅ 0 ∗ atPos (ER (F := F)) (dC c 12) 0 ∅ 0 ∗ atPos (ER (F := F)) (dC c 27) 0 ∅ 0 ∗ atPos (ER (F := F)) (dC c 21) 0 ∅ 0 ∗ atPos (ER (F := F)) (dC c 28) 0 ∅ 0 ∗ atPos (ER (F := F)) (dC c 22) 0 ∅ 0 ∗ atPos (ER (F := F)) (dC c 19) 0 ∅ 0 ∗ atPos (ER (F := F)) (dC c 13) 0 ∅ 0 ∗ atPos (ER (F := F)) (crRC c) 0 ∅ 0 ∗ atPos (ER (F := F)) (dC c 20) 0 ∅ 0 ∗ atPos (ER (F := F)) (dC c 14) 0 ∅ 0 ∗ atPos (ER (F := F)) (dC c 29) 0 ∅ 0 ∗ atPos (ER (F := F)) (dC c 23) 0 ∅ 0 ∗ atPos (ER (F := F)) (crLC c) 0 ∅ 0 ∗ atPos (ER (F := F)) (dC c 30) 0 ∅ 0 ∗ atPos (ER (F := F)) (dC c 24) 0 ∅ 0 ∗ atPos (ER (F := F)) (dC c 15) 0 ∅ 0 ∗ atPos (ER (F := F)) (dC c 16) 0 ∅ 0 ∗ atPos (ER (F := F)) (dC c 25) 0 ∅ 0 ∗ atPos (ER (F := F)) (dC c 26) 0 ∅ 0 ∗ atPos (ER (F := F)) (dC c 5) 0 ∅ 0 ∗ atPos (ER (F := F)) (dC c 6) 0 ∅ 0 ∗ atPos (ER (F := F)) (dC c 7) 0 ∅ 0 ∗ atPos (ER (F := F)) (dC c 31) 0 ∅ 0 ∗ atPos (ER (F := F)) (dC c 32) 0 ∅ 0 ∗ atPos (ER (F := F)) (dC c 33) 0 ∅ 0) ∗ (cred (tallyAt (barC c) 1 1) ∗ cred (tallyAt (barC c) 1 1) ∗ cred (tallyAt (barC c) 1 1) ∗ cred (tallyAt (dC c 34) 2 aR) ∗ cred (tallyAt (dC c 35) 2 aR) ∗ cred (tallyAt (dC c 36) 2 aR) ∗ cred (tallyAt (dC c 8) 3 aX) ∗ cred (tallyAt (dC c 10) 3 aX) ∗ cred (tallyAt (dC c 9) 4 aX) ∗ cred (tallyAt (dC c 17) 5 aH) ∗ cred (tallyAt (dC c 18) 5 aH) ∗ cred (tallyAt (dC c 27) 5 aH) ∗ cred (tallyAt (dC c 28) 5 aH) ∗ cred (tallyAt (dC c 19) 7 aH) ∗ cred (tallyAt (crRC c) 6 1) ∗ cred (tallyAt (dC c 20) 7 aH) ∗ cred (tallyAt (dC c 29) 7 aH) ∗ cred (tallyAt (crLC c) 6 1) ∗ cred (tallyAt (dC c 30) 7 aH) ∗ cred (tallyAt (dC c 17) 8 aH) ∗ cred (tallyAt (dC c 18) 8 aH) ∗ cred (tallyAt (dC c 27) 8 aH) ∗ cred (tallyAt (dC c 28) 8 aH))) ⊢ iprop(((atPos (ER (F := F)) (dC c 34) 0 ∅ 0 ∗ cred (tallyAt (dC c 34) 2 aR)) ∗ (atPos (ER (F := F)) (dC c 35) 0 ∅ 0 ∗ cred (tallyAt (dC c 35) 2 aR)) ∗ (atPos (ER (F := F)) (dC c 36) 0 ∅ 0 ∗ cred (tallyAt (dC c 36) 2 aR)) ∗ (atPos (ER (F := F)) (dC c 8) 0 ∅ 0 ∗ cred (tallyAt (dC c 8) 3 aX)) ∗ (atPos (ER (F := F)) (dC c 10) 0 ∅ 0 ∗ cred (tallyAt (dC c 10) 3 aX)) ∗ (atPos (ER (F := F)) (dC c 9) 0 ∅ 0 ∗ cred (tallyAt (dC c 9) 4 aX)) ∗ (atPos (ER (F := F)) (dC c 17) 0 ∅ 0 ∗ cred (tallyAt (dC c 17) 5 aH)) ∗ atPos (ER (F := F)) (dC c 11) 0 ∅ 0 ∗ (atPos (ER (F := F)) (dC c 18) 0 ∅ 0 ∗ cred (tallyAt (dC c 18) 5 aH)) ∗ atPos (ER (F := F)) (dC c 12) 0 ∅ 0 ∗ (atPos (ER (F := F)) (dC c 27) 0 ∅ 0 ∗ cred (tallyAt (dC c 27) 5 aH)) ∗ atPos (ER (F := F)) (dC c 21) 0 ∅ 0 ∗ (atPos (ER (F := F)) (dC c 28) 0 ∅ 0 ∗ cred (tallyAt (dC c 28) 5 aH)) ∗ atPos (ER (F := F)) (dC c 22) 0 ∅ 0 ∗ (atPos (ER (F := F)) (dC c 19) 0 ∅ 0 ∗ cred (tallyAt (dC c 19) 7 aH)) ∗ atPos (ER (F := F)) (dC c 13) 0 ∅ 0 ∗ (atPos (ER (F := F)) (crRC c) 0 ∅ 0 ∗ cred (tallyAt (crRC c) 6 1)) ∗ (atPos (ER (F := F)) (dC c 20) 0 ∅ 0 ∗ cred (tallyAt (dC c 20) 7 aH)) ∗ atPos (ER (F := F)) (dC c 14) 0 ∅ 0 ∗ (atPos (ER (F := F)) (dC c 29) 0 ∅ 0 ∗ cred (tallyAt (dC c 29) 7 aH)) ∗ atPos (ER (F := F)) (dC c 23) 0 ∅ 0 ∗ (atPos (ER (F := F)) (crLC c) 0 ∅ 0 ∗ cred (tallyAt (crLC c) 6 1)) ∗ (atPos (ER (F := F)) (dC c 30) 0 ∅ 0 ∗ cred (tallyAt (dC c 30) 7 aH)) ∗ atPos (ER (F := F)) (dC c 24) 0 ∅ 0 ∗ cred (tallyAt (dC c 17) 8 aH) ∗ cred (tallyAt (dC c 18) 8 aH) ∗ cred (tallyAt (dC c 27) 8 aH) ∗ cred (tallyAt (dC c 28) 8 aH) ∗ atPos (ER (F := F)) (dC c 15) 0 ∅ 0 ∗ atPos (ER (F := F)) (dC c 16) 0 ∅ 0 ∗ atPos (ER (F := F)) (dC c 25) 0 ∅ 0 ∗ atPos (ER (F := F)) (dC c 26) 0 ∅ 0 ∗ atPos (ER (F := F)) (dC c 5) 0 ∅ 0 ∗ atPos (ER (F := F)) (dC c 6) 0 ∅ 0 ∗ atPos (ER (F := F)) (dC c 7) 0 ∅ 0 ∗ atPos (ER (F := F)) (dC c 31) 0 ∅ 0 ∗ atPos (ER (F := F)) (dC c 32) 0 ∅ 0 ∗ atPos (ER (F := F)) (dC c 33) 0 ∅ 0) ∗ cred (tallyAt (barC c) 1 3))
  iintro ⟨⟨A0, A1, A2, A3, A4, A5, A6, A7, A8, A9, A10, A11, A12, A13, A14, A15, A16, A17, A18, A19, A20, A21, A22, A23, A24, A25, A26, A27, A28, A29, A30, A31, A32, A33⟩, B0, B1, B2, C0, C1, C2, C3, C4, C5, C6, C7, C8, C9, C10, C11, C12, C13, C14, C15, C16, C17, C18, C19⟩
  isplitr [B0 B1 B2]
  · isplitl [A0 C0]; · isplitl [A0] <;> iassumption
    isplitl [A1 C1]; · isplitl [A1] <;> iassumption
    isplitl [A2 C2]; · isplitl [A2] <;> iassumption
    isplitl [A3 C3]; · isplitl [A3] <;> iassumption
    isplitl [A4 C4]; · isplitl [A4] <;> iassumption
    isplitl [A5 C5]; · isplitl [A5] <;> iassumption
    isplitl [A6 C6]; · isplitl [A6] <;> iassumption
    isplitl [A7]; · iexact A7
    isplitl [A8 C7]; · isplitl [A8] <;> iassumption
    isplitl [A9]; · iexact A9
    isplitl [A10 C8]; · isplitl [A10] <;> iassumption
    isplitl [A11]; · iexact A11
    isplitl [A12 C9]; · isplitl [A12] <;> iassumption
    isplitl [A13]; · iexact A13
    isplitl [A14 C10]; · isplitl [A14] <;> iassumption
    isplitl [A15]; · iexact A15
    isplitl [A16 C11]; · isplitl [A16] <;> iassumption
    isplitl [A17 C12]; · isplitl [A17] <;> iassumption
    isplitl [A18]; · iexact A18
    isplitl [A19 C13]; · isplitl [A19] <;> iassumption
    isplitl [A20]; · iexact A20
    isplitl [A21 C14]; · isplitl [A21] <;> iassumption
    isplitl [A22 C15]; · isplitl [A22] <;> iassumption
    isplitl [A23]; · iexact A23
    isplitl [C16]; · iexact C16
    isplitl [C17]; · iexact C17
    isplitl [C18]; · iexact C18
    isplitl [C19]; · iexact C19
    isplitl [A24]; · iexact A24
    isplitl [A25]; · iexact A25
    isplitl [A26]; · iexact A26
    isplitl [A27]; · iexact A27
    isplitl [A28]; · iexact A28
    isplitl [A29]; · iexact A29
    isplitl [A30]; · iexact A30
    isplitl [A31]; · iexact A31
    isplitl [A32]; · iexact A32
    iexact A33
  iapply (bar_join c)
  isplitl [B0]; · iexact B0
  isplitl [B1] <;> iassumption

theorem bigSepL_flatten {I : Type} (l : List (List I)) (Φ : I → sProp 𝕄) : bigSepL l.flatten Φ = bigSepL l fun x => bigSepL x Φ := by
  induction l with
  | nil => rfl
  | cons a l ih => rw [List.flatten_cons, bigSepL_append, sepL_cons, ih]

/-- A device's launch holdings for the cells. -/
def Tk : sProp 𝕄 := iprop(Pipeline.launchCred (fun d => tallyL (dueL d)) c ∗ fam.launched ER (Rd D) (fun c => {lft c, rgt c, opp c}) c)

/-- What enters the body beside its buffers. -/
def Xk : sProp 𝕄 := iprop(∃ κ, Pers D c κ ∗ (bigSepL (tokL c) fun l => bigSepL l fun x => dutyTok (ER (F := F)) x.1 x.2.1 x.2.2) ∗ Wts (F := F) c 0
  ∗ atPos ER (barC c) 0 ∅ 0 ∗ cred (tallyAt (barC c) 1 3) ∗ reached (ER (F := F)) (barC (lft c)) 0 ∗ reached (ER (F := F)) (barC (rgt c)) 0 ∗ reached (ER (F := F)) (barC (opp c)) 0)

/-- What is left of the cells: the barrier's, past its round. -/
def Yk : sProp 𝕄 := fam.barPos ER (Rd D) c 1 ∅

/-- The kernel's own semaphores. -/
abbrev osem0 (k : Fin 34) : SemLoc sig := ownL.get k

theorem ownSems0_eq : (Pipeline.ownSems0 (Ix := ℕ) (Name := ℕ) (U := UU) (Lvl := ℕ) (Val := Elt F) (τ := τ) osem0 c : sProp 𝕄)
    = bigSepL ownL fun sm => semVal ((c.tc : Thread nD τ), sm) 0 := by
  rw [Pipeline.ownSems0_eq_of_list c osem0 (List.finRange 34) (by decide) (by decide)]
  rfl

theorem ride (P : Fin 1 → sProp 𝕄) : bigSep Finset.univ P = P 0 := by
  rw [show (Finset.univ : Finset (Fin 1)) = {0} from rfl]; exact bigSep_singleton

theorem nb3 (P : Dev nD → sProp 𝕄) : bigSep {lft c, rgt c, opp c} P = iprop(P (lft c) ∗ P (rgt c) ∗ P (opp c)) := by
  have h1 : lft c ∉ ({rgt c, opp c} : Finset (Dev nD)) := by revert c; decide
  have h2 : rgt c ∉ ({opp c} : Finset (Dev nD)) := by revert c; decide
  rw [bigSep_insert h1, bigSep_insert h2, bigSep_singleton]
  rfl

/-- The launch holdings, with the own semaphores at zero, become what enters the body. -/
theorem hopen0 : iprop(Tk D c ∗ Pipeline.ownSems0 osem0 c ∗ levAts (SiteBlocks.L 9) lv) ⊢ (|={Set.univ}=> Xk D c : sProp 𝕄) := by
  have hd : bigSep (fam.dorm 0) (fun sm => (openTok ER ((c.tc : Thread nD τ), sm) : sProp 𝕄)) = bigSepL ownL fun sm => openTok ER ((c.tc : Thread nD τ), sm) :=
    bigSep_eq_bigSepL_of_eq ownL rfl ownL_nodup _
  have ht : bigSep (fam.toks c 0) (fun x => (dutyTok ER x.1 x.2.1 x.2.2 : sProp 𝕄)) = bigSepL (tokL c).flatten fun x => dutyTok ER x.1 x.2.1 x.2.2 :=
    bigSep_eq_bigSepL_of_eq (tokL c).flatten rfl (tokL_nodup c) _
  have := bigSepL_pers (F := F) ownL (fun sm => reached ER ((c.tc : Thread nD τ), sm) 0)
  rw [ownSems0_eq]
  unfold Tk Xk Fam.launched Fam.barPos
  rw [launch_cred, ride, nb3]
  unfold Fam.rides
  rw [hd, ht, bigSepL_flatten]
  iintro ⟨⟨Hc, ⟨-, HaB, #Hr1, #Hr2, #Hr3⟩, ⟨%κ, #HI⟩, Ho, Ht⟩, Hv, #HL⟩
  imod (open_all D c (κ := κ) ownL fun _ h => h) $$ [Ho Hv] with ⟨Hat, #Hr⟩
  · isplitr; · iexact HI
    isplitl [Ho] <;> iassumption
  ihave HW := (wts_intro (F := F) c) $$ [Hat Hc]
  · isplitl [Hat] <;> iassumption
  icases HW with ⟨HW, HB⟩
  imodintro
  iexists κ
  isplitr
  · unfold Pers
    isplitr; · iexact HI
    isplitr; · iexact HL
    iexact Hr
  isplitl [Ht]; · iexact Ht
  isplitl [HW]; · iexact HW
  isplitl [HaB]; · iexact HaB
  isplitl [HB]; · iexact HB
  isplitr; · iexact Hr1
  isplitr; · iexact Hr2
  iexact Hr3

/-! ## The scratch buffers -/

/-- The scratch buffers, each whole at some contents. -/
theorem scratch_eq : (Pipeline.scopedRest (Ix := ℕ) (Name := ℕ) (U := UU) (Lvl := ℕ) (Val := Elt F) spec0 c : sProp 𝕄)
    = iprop(some_ (F := F) (c := c) (b := cc0_scratch0) Finset.univ ∗ some_ (F := F) (c := c) (b := cc0_scratch1) Finset.univ ∗ some_ (F := F) (c := c) (b := cc0_scratch2) Finset.univ ∗ some_ (F := F) (c := c) (b := cc0_scratch3) Finset.univ ∗ some_ (F := F) (c := c) (b := cc0_scratch4) Finset.univ ∗ some_ (F := F) (c := c) (b := cc0_scratch5) Finset.univ ∗ some_ (F := F) (c := c) (b := cc0_scratch6) Finset.univ ∗ some_ (F := F) (c := c) (b := cc0_scratch7) Finset.univ ∗ some_ (F := F) (c := c) (b := cc0_scratch8) Finset.univ ∗ some_ (F := F) (c := c) (b := cc0_scratch9) Finset.univ) :=
  scopedRest0_eq c

/-- The scratch buffers and the result's staging buffer cut into the pieces the body takes. -/
theorem pieces_in : iprop(Pipeline.scopedRest (Ix := ℕ) (Name := ℕ) (U := UU) (Lvl := ℕ) (Val := Elt F) spec0 c ∗ some_ (F := F) (c := c) (b := cc0_stg4_0) Finset.univ)
    ⊢ (iprop(any (F := F) c ks0 ∗ any (F := F) c ks1 ∗ any (F := F) c ks2 ∗ any (F := F) c ks3 ∗ any (F := F) c xg0 ∗ any (F := F) c xg1 ∗ any (F := F) c xg2 ∗ any (F := F) c dl ∗ any (F := F) c dh ∗ any (F := F) c dp ∗ any (F := F) c dm ∗ any (F := F) c wl ∗ any (F := F) c wh ∗ any (F := F) c as0 ∗ any (F := F) c as1 ∗ any (F := F) c rc0 ∗ any (F := F) c rc1 ∗ any (F := F) c rc2 ∗ any (F := F) c ou00 ∗ any (F := F) c ou01 ∗ any (F := F) c ou10 ∗ any (F := F) c ou11 ∗ any (F := F) c rr00 ∗ any (F := F) c rr01 ∗ any (F := F) c rr10 ∗ any (F := F) c rr11 ∗ any (F := F) c rl00 ∗ any (F := F) c rl01 ∗ any (F := F) c rl10 ∗ any (F := F) c rl11) : sProp 𝕄) := by
  rw [scratch_eq]
  iintro ⟨⟨S0, S1, S2, S3, S4, S5, S6, S7, S8, S9⟩, So⟩
  ihave S0 := (split_k (F := F) c).1 $$ S0
  icases S0 with ⟨Hks0, Hks1, Hks2, Hks3⟩
  ihave S1 := (split_xg (F := F) c).1 $$ S1
  icases S1 with ⟨Hxg0, Hxg1, Hxg2⟩
  ihave S2 := (split_d (F := F) c).1 $$ S2
  icases S2 with ⟨Hdl, Hdh⟩
  ihave S3 := (split_dp (F := F) c).1 $$ S3
  irename S3 => Hdp
  ihave S4 := (split_dm (F := F) c).1 $$ S4
  irename S4 => Hdm
  ihave S5 := (split_w (F := F) c).1 $$ S5
  icases S5 with ⟨Hwl, Hwh⟩
  ihave S6 := (split_as (F := F) c).1 $$ S6
  icases S6 with ⟨Has0, Has1⟩
  ihave S7 := (split_rr (F := F) c).1 $$ S7
  icases S7 with ⟨Hrr00, Hrr01, Hrr10, Hrr11⟩
  ihave S8 := (split_rl (F := F) c).1 $$ S8
  icases S8 with ⟨Hrl00, Hrl01, Hrl10, Hrl11⟩
  ihave S9 := (split_rc (F := F) c).1 $$ S9
  icases S9 with ⟨Hrc0, Hrc1, Hrc2⟩
  ihave So := (split_ou (F := F) c).1 $$ So
  icases So with ⟨Hou00, Hou10, Hou01, Hou11⟩
  isplitl [Hks0]; · iexact Hks0
  isplitl [Hks1]; · iexact Hks1
  isplitl [Hks2]; · iexact Hks2
  isplitl [Hks3]; · iexact Hks3
  isplitl [Hxg0]; · iexact Hxg0
  isplitl [Hxg1]; · iexact Hxg1
  isplitl [Hxg2]; · iexact Hxg2
  isplitl [Hdl]; · iexact Hdl
  isplitl [Hdh]; · iexact Hdh
  isplitl [Hdp]; · iexact Hdp
  isplitl [Hdm]; · iexact Hdm
  isplitl [Hwl]; · iexact Hwl
  isplitl [Hwh]; · iexact Hwh
  isplitl [Has0]; · iexact Has0
  isplitl [Has1]; · iexact Has1
  isplitl [Hrc0]; · iexact Hrc0
  isplitl [Hrc1]; · iexact Hrc1
  isplitl [Hrc2]; · iexact Hrc2
  isplitl [Hou00]; · iexact Hou00
  isplitl [Hou01]; · iexact Hou01
  isplitl [Hou10]; · iexact Hou10
  isplitl [Hou11]; · iexact Hou11
  isplitl [Hrr00]; · iexact Hrr00
  isplitl [Hrr01]; · iexact Hrr01
  isplitl [Hrr10]; · iexact Hrr10
  isplitl [Hrr11]; · iexact Hrr11
  isplitl [Hrl00]; · iexact Hrl00
  isplitl [Hrl01]; · iexact Hrl01
  isplitl [Hrl10]; · iexact Hrl10
  iexact Hrl11

/-- The four quarters of the result's staging buffer, at one contents, are the buffer. -/
theorem ou_join (A : Buf (Elt F) ((c : Thread nD τ).loc cc0_stg4_0)) :
    iprop(at_ c ou00 A ∗ at_ (F := F) c ou10 A ∗ at_ c ou01 A ∗ at_ c ou11 A) ⊢ (((c : Thread nD τ).loc cc0_stg4_0) ↦{fullShare} A : sProp 𝕄) := by
  have d0 : Disjoint (ou00.view.set : Finset (cc0_stg4_0 : Ref sig .tc).ty.Idx) (ou10.view.set ∪ (ou01.view.set ∪ (ou11.view.set))) := by
    rw [Finset.disjoint_left]; intro i h1 h2
    have h1 := (mem_ou00 i).mp h1
    have h2 := (Finset.mem_union.trans (or_congr (mem_ou10 i) (Finset.mem_union.trans (or_congr (mem_ou01 i) (mem_ou11 i))))).mp h2
    omega
  have d1 : Disjoint (ou10.view.set : Finset (cc0_stg4_0 : Ref sig .tc).ty.Idx) (ou01.view.set ∪ (ou11.view.set)) := by
    rw [Finset.disjoint_left]; intro i h1 h2
    have h1 := (mem_ou10 i).mp h1
    have h2 := (Finset.mem_union.trans (or_congr (mem_ou01 i) (mem_ou11 i))).mp h2
    omega
  have d2 : Disjoint (ou01.view.set : Finset (cc0_stg4_0 : Ref sig .tc).ty.Idx) (ou11.view.set) := by
    rw [Finset.disjoint_left]; intro i h1 h2
    have h1 := (mem_ou01 i).mp h1
    have h2 := (mem_ou11 i).mp h2
    omega
  have e : (Finset.univ : Finset (cc0_stg4_0 : Ref sig .tc).ty.Idx) = ou00.view.set ∪ (ou10.view.set ∪ (ou01.view.set ∪ (ou11.view.set))) := by
    ext i
    have h0 : (i 0).val < 2048 := (i 0).isLt
    have h1 : (i 1).val < 1024 := (i 1).isLt
    exact ⟨fun _ => (Finset.mem_union.trans (or_congr (mem_ou00 i) (Finset.mem_union.trans (or_congr (mem_ou10 i) (Finset.mem_union.trans (or_congr (mem_ou01 i) (mem_ou11 i))))))).mpr (by omega), fun _ => Finset.mem_univ _⟩
  show _ ⊢ (((c : Thread nD τ).loc cc0_stg4_0) ↦[(Finset.univ : Finset (cc0_stg4_0 : Ref sig .tc).ty.Idx)]{fullShare} A : sProp 𝕄)
  rw [e]
  iintro ⟨H0, H1, H2, H3⟩
  iapply (pointsTo_union d0).2
  isplitl [H0]; · iexact H0
  iapply (pointsTo_union d1).2
  isplitl [H1]; · iexact H1
  iapply (pointsTo_union d2).2
  isplitl [H2]; · iexact H2
  iexact H3

/-- The whole-buffer spelling of a piece that is the whole buffer. -/
theorem whole_eq (b : Ref sig .tc) (f : b.ty.Contents (Elt F)) :
    ((Memref.whole b).view.loc (c : Thread nD τ) ↦[(Memref.whole b).view.set]{fullShare} f : sProp 𝕄) = (((c : Thread nD τ).loc b) ↦{fullShare} f) := by
  show (((c : Thread nD τ).loc b) ↦[(View.whole b).set]{fullShare} f : sProp 𝕄) = _
  rw [View.set_whole]

/-- The three shares of a staging buffer are the buffer. -/
theorem share3 {s : Shape} {e : EltTy} (P : Memref sig .tc .vmem s e) (f : Buf (Elt F) (P.view.loc (c : Thread nD τ))) :
    (at_ c P f : sProp 𝕄) ⊣⊢ iprop(atQ fullShare.left c P f ∗ atQ fullShare.right.left c P f ∗ atQ fullShare.right.right c P f) :=
  (share_split c P f).trans (sep_congr_right (pointsTo_share (PosShare.mem_left_op_right fullShare.right)))

theorem share4 {s : Shape} {e : EltTy} (P : Memref sig .tc .vmem s e) (f : Buf (Elt F) (P.view.loc (c : Thread nD τ))) :
    (at_ c P f : sProp 𝕄) ⊣⊢ iprop(atQ fullShare.left c P f ∗ atQ fullShare.right.left c P f ∗ atQ fullShare.right.right.left c P f ∗ atQ fullShare.right.right.right c P f) :=
  (share3 c P f).trans (sep_congr_right (sep_congr_right (pointsTo_share (PosShare.mem_left_op_right fullShare.right.right))))

/-- The pieces the body leaves: the windows' staging buffers whole, the scratch buffers whole again. -/
theorem pieces_out : iprop(atQ fullShare.right.right.left c rM (D.rt c) ∗ Finish D c)
    ⊢ (iprop(at_ c xM (D.x c) ∗ at_ c wM (D.w c) ∗ at_ c rM (D.rt c) ∗ at_ c tM (D.tri c) ∗ (((c : Thread nD τ).loc cc0_stg4_0) ↦{fullShare} D.oG c)
      ∗ Pipeline.scopedRest (Ix := ℕ) (Name := ℕ) (U := UU) (Lvl := ℕ) (Val := Elt F) spec0 c ∗ atPos ER (barC c) 1 ∅ 0) : sProp 𝕄) := by
  unfold Finish
  rw [scratch_eq]
  iintro ⟨HrMrrl, HxMrr_, HrMrrr, HwM, HtM, Hdl, Hdh, Hdp, Hdm, Hwl, Hwh, Hou00, Hou01, Hou10, Hou11, HB, HrMl, HrMrl, Hrc0, Hrc1, Hrc2, HkM, Hxg0r, Hxg2, Hxg1, Hrr10, Hrr11, Hrl10, Hrl11, Hrr00, Hrr01, Hrl00, Hrl01, Hac00, Hac01, Hac10, Hac11, HxMl, Hxg0l, HxMrl⟩
  isplitl [HxMl HxMrl HxMrr_]
  · iapply (share3 c xM (D.x c)).2
    isplitl [HxMl]; · iexact HxMl
    isplitl [HxMrl] <;> iassumption
  isplitl [HwM]; · iexact HwM
  isplitl [HrMl HrMrl HrMrrl HrMrrr]
  · iapply (share4 c rM (D.rt c)).2
    isplitl [HrMl]; · iexact HrMl
    isplitl [HrMrl]; · iexact HrMrl
    isplitl [HrMrrl] <;> iassumption
  isplitl [HtM]; · iexact HtM
  isplitl [Hou00 Hou10 Hou01 Hou11]
  · iapply (ou_join c (D.oG c))
    isplitl [Hou00]; · iexact Hou00
    isplitl [Hou10]; · iexact Hou10
    isplitl [Hou01] <;> iassumption
  isplitr [HB]; swap; · iexact HB
  ihave Hxg0 := (share_split c xg0 (up (D.x (lft c)))).2 $$ [Hxg0l Hxg0r]
  · isplitl [Hxg0l] <;> iassumption
  isplitl [HkM]
  · unfold some_; iexists (D.kG c)
    iapply (Entails.of_eq (whole_eq c cc0_scratch0 (D.kG c))); iexact HkM
  isplitl [Hxg0 Hxg1 Hxg2]
  · iapply (split_xg (F := F) c).2
    isplitl [Hxg0]; · iexists _; iexact Hxg0
    isplitl [Hxg1]; · iexists _; iexact Hxg1
    iexists _; iexact Hxg2
  isplitl [Hdl Hdh]
  · iapply (split_d (F := F) c).2
    isplitl [Hdl]; · iexists _; iexact Hdl
    iexists _; iexact Hdh
  isplitl [Hdp]
  · iapply (split_dp (F := F) c).2
    iexists _; iexact Hdp
  isplitl [Hdm]
  · iapply (split_dm (F := F) c).2
    iexists _; iexact Hdm
  isplitl [Hwl Hwh]
  · iapply (split_w (F := F) c).2
    isplitl [Hwl]; · iexists _; iexact Hwl
    iexists _; iexact Hwh
  isplitl [Hac00 Hac01 Hac10 Hac11]
  · iapply (split_ac (F := F) c).2
    isplitl [Hac00]; · iexists _; iexact Hac00
    isplitl [Hac01]; · iexists _; iexact Hac01
    isplitl [Hac10]; · iexists _; iexact Hac10
    iexists _; iexact Hac11
  isplitl [Hrr00 Hrr01 Hrr10 Hrr11]
  · iapply (split_rr (F := F) c).2
    isplitl [Hrr00]; · iexists _; iexact Hrr00
    isplitl [Hrr01]; · iexists _; iexact Hrr01
    isplitl [Hrr10]; · iexists _; iexact Hrr10
    iexists _; iexact Hrr11
  isplitl [Hrl00 Hrl01 Hrl10 Hrl11]
  · iapply (split_rl (F := F) c).2
    isplitl [Hrl00]; · iexists _; iexact Hrl00
    isplitl [Hrl01]; · iexists _; iexact Hrl01
    isplitl [Hrl10]; · iexists _; iexact Hrl10
    iexists _; iexact Hrl11
  iapply (split_rc (F := F) c).2
  isplitl [Hrc0]; · iexists _; iexact Hrc0
  isplitl [Hrc1]; · iexists _; iexact Hrc1
  iexists _; iexact Hrc2

end Cert.KernelIdeal.Talk

end
-- ==== Proof.Run.lean ====
/-
  The program run: the host operations, the kernel under its pipeline, and what every run ends with.
-/
module

public import Idealize.ShloMosaic.Lib.Pipeline.ValueKit.Geometry
public import Idealize.ShloMosaic.Lib.Pipeline.TalkSched
public import Idealize.ShloMosaic.Lib.Pipeline.RegionTalk
public import proofs.«01_k».proof.Proof.Open
public import proofs.«01_k».proof.Proof.Gen.KernelIdeal.Frame
public import Idealize.ShloMosaic.Lib.Pipeline.Value
public import Idealize.ShloMosaic.Lib.Pipeline.BigSepL
public import Idealize.ShloMosaic.Lib.ValueLayout

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.TalkSites Idealize.ShloMosaic.SiteBlocks

variable {F : FTy → Type} [FloatOps F]

local notation "𝕄" => MT nD τ sig ℕ (Elt F) ℕ UU ℕ

/-- What a run of the kernel's program starts from. -/
abbrev s₀ (m : (ℓ : Loc nD τ sig) → Buf (Elt F) ℓ) (ρ : Dev nD → PrngReg) : MemSt nD τ sig (Elt F) := ⟨m, fun _ => 0, ρ⟩

variable (m : (ℓ : Loc nD τ sig) → Buf (Elt F) ℓ) (ρ : Dev nD → PrngReg) (D : Cont F)

/-- The contents `D` are those of the kernel's inputs after the host operations. -/
structure Fits : Prop where
  x : ∀ c, D.x c = Gen.V m c main_v1
  w : ∀ c, D.w c = Gen.V m c main_v2
  rt : ∀ c, D.rt c = Gen.V m c main_arg2
  tri : ∀ c, D.tri c = Gen.V m c main_v6

/-- The unscoped buffers of a device: -/
abbrev bufs : Finset (DevRef τ sig) := Pipeline.ucRefs τ sig
/-- those that are arrays of the pipeline, and the others. -/
abbrev arrs : Finset (DevRef τ sig) := Pipeline.arrRefs (τ := τ) spec0
@[inherit_doc arrs] abbrev others : Finset (DevRef τ sig) := bufs \ arrs

/-- The unscoped buffers as launched, -/
abbrev V₀ (c : Dev nD) : Valuation τ sig (Elt F) := fun b => m (c, b)
/-- after the host operations, -/
abbrev V₁ (c : Dev nD) : Valuation τ sig (Elt F) := StableHlo.after hostOps0 (V₀ m c)
/-- and after the kernel. -/
abbrev V₂ (c : Dev nD) : Valuation τ sig (Elt F) := Function.update (V₁ m c) (Proc.devRef .tc main_v7) (D.oG c)

/-- What a device owes at first. -/
abbrev O₀ (c : Dev nD) : CellTallies nD τ sig ℕ := tallyL (dueL c)

/-- What the scratch buffers and the generator's register are at, whatever it is. -/
abbrev Idle (c : Dev nD) : sProp 𝕄 :=
  iprop(Pipeline.scopedRest (Ix := ℕ) (Name := ℕ) (U := UU) (Lvl := ℕ) (Val := Elt F) spec0 c ∗ (∃ r, prngReg c r))

/-- The pipeline's data: the arrays as the host operations leave them, the staging buffers after the body, and around
    them the scratch buffers and the cells. -/
def dat0 (c : Dev nD) : Pipeline.Dat τ (Elt F) ℕ ℕ UU ℕ cfg0 c where
  A w := V₁ m c (Proc.devRef .tc (Pipeline.arrRef spec0 w))
  after w _ := match w with
    | ⟨0, _⟩ => D.x c
    | ⟨1, _⟩ => D.w c
    | ⟨2, _⟩ => D.rt c
    | ⟨3, _⟩ => D.tri c
    | ⟨4, _⟩ => D.oG c
  Φ t := if t.val = 0 then iprop(Idle c ∗ Xk D c) else iprop(Idle c ∗ Pipeline.ownSems0 osem0 c ∗ Yk D c)
  q _ := fullShare
  owed t := if t.val = 0 then O₀ c else 0

abbrev adm : (p : Fin 1) → (pcfgs (F := F) p).Adm := fun p => (cfgs p).toPCfg_adm
/-- The one pipeline's data. -/
def pdats : (p : Fin 1) → (c : Dev nD) → Pipeline.Dat τ (Elt F) ℕ ℕ UU ℕ (Pipeline.pin (pcfgs (F := F)) adm p) c
  | 0 => dat0 m D

/-- A window whose one block is its whole array finds the array in its staging buffer. -/
theorem fetched_at (c : Dev nD) (w : Fin 5) (hw : (cfg0.win w).fetch t0_0 = true) (d) (j : (cfg0.win w).block.Idx)
    (hm : (cfg0.win w).moved (cfg0.grid.coords t0_0) j = true) :
    (dat0 m D c).before w t0_0 d j = ((cfg0.win w).blk t0_0).view.read (Elt F) ((dat0 m D c).A w) (fun a => ⟨(j a).val, ((cfg0.win w).moved_iff _ j).mp hm a⟩) := by
  rw [Pipeline.Dat.before_fetched (dat0 m D c) w t0_0 hw d]
  unfold Pipeline.Dat.fetched Pipeline.Window.fill
  rw [dif_pos hm]
  rfl

variable {m D} in
theorem before_0 (hf : Fits m D) (c : Dev nD) (d) : (dat0 m D c).before 0 t0_0 d = D.x c := by
  rw [hf.x]; funext j; rw [fetched_at m D c 0 (by decide) d j (((cfg0.win 0).moved_iff _ j).mpr fun a => (j a).isLt)]
  rw [View.read_apply]
  refine congrArg (V₁ m c (Proc.devRef .tc main_v1)) (funext fun a => Fin.ext ?_)
  exact Pipeline.Window.rect_emb_val_of_index_zero (cfg0.win 0) t0_0 a rfl _
variable {m D} in
theorem before_1 (hf : Fits m D) (c : Dev nD) (d) : (dat0 m D c).before 1 t0_0 d = D.w c := by
  rw [hf.w]; funext j; rw [fetched_at m D c 1 (by decide) d j (((cfg0.win 1).moved_iff _ j).mpr fun a => (j a).isLt)]
  rw [View.read_apply]
  refine congrArg (V₁ m c (Proc.devRef .tc main_v2)) (funext fun a => Fin.ext ?_)
  exact Pipeline.Window.rect_emb_val_of_index_zero (cfg0.win 1) t0_0 a rfl _
variable {m D} in
theorem before_2 (hf : Fits m D) (c : Dev nD) (d) : (dat0 m D c).before 2 t0_0 d = D.rt c := by
  rw [hf.rt]; funext j; rw [fetched_at m D c 2 (by decide) d j (((cfg0.win 2).moved_iff _ j).mpr fun a => (j a).isLt)]
  rw [View.read_apply]
  refine congrArg (V₁ m c (Proc.devRef .tc main_arg2)) (funext fun a => Fin.ext ?_)
  exact Pipeline.Window.rect_emb_val_of_index_zero (cfg0.win 2) t0_0 a rfl _
variable {m D} in
theorem before_3 (hf : Fits m D) (c : Dev nD) (d) : (dat0 m D c).before 3 t0_0 d = D.tri c := by
  rw [hf.tri]; funext j; rw [fetched_at m D c 3 (by decide) d j (((cfg0.win 3).moved_iff _ j).mpr fun a => (j a).isLt)]
  rw [View.read_apply]
  refine congrArg (V₁ m c (Proc.devRef .tc main_v6)) (funext fun a => Fin.ext ?_)
  exact Pipeline.Window.rect_emb_val_of_index_zero (cfg0.win 3) t0_0 a rfl _

theorem owed_zero (c : Dev nD) : (dat0 m D c).owed 0 = O₀ c := rfl
theorem owed_last (c : Dev nD) : (dat0 m D c).owed (Fin.last cfg0.N) = 0 := by
  show (if (Fin.last cfg0.N).val = 0 then O₀ c else 0) = 0
  rw [Fin.val_last, if_neg (by rw [show cfg0.N = 1 from N_0]; decide)]
theorem Φ_zero (c : Dev nD) : (dat0 m D c).Φ 0 = iprop(Idle c ∗ Xk D c) := rfl
theorem Φ_last (c : Dev nD) : (dat0 m D c).Φ (Fin.last cfg0.N) = iprop(Idle c ∗ Pipeline.ownSems0 osem0 c ∗ Yk D c) := by
  show (if (Fin.last cfg0.N).val = 0 then iprop(Idle c ∗ Xk D c) else iprop(Idle c ∗ Pipeline.ownSems0 osem0 c ∗ Yk D c)) = _
  rw [Fin.val_last, if_neg (by rw [show cfg0.N = 1 from N_0]; decide)]

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owes_in (c : Dev nD) (t : Fin (cfg0.N + 1)) : (dat0 m D c).owesAt 0 t ⊢ (iprop(∃ W, owes (c : Thread nD τ) ((dat0 m D c).owed t) W) : sProp 𝕄) := by
  unfold Pipeline.Dat.owesAt Pipeline.owesWithin
  iintro ⟨%W, -, HO⟩; iexists W; iexact HO
theorem owes_out (c : Dev nD) (t : Fin (cfg0.N + 1)) : iprop(∃ W, owes (c : Thread nD τ) ((dat0 m D c).owed t) W) ⊢ ((dat0 m D c).owesAt 0 t : sProp 𝕄) := by
  unfold Pipeline.Dat.owesAt Pipeline.owesWithin Pipeline.Dat.bound
  iintro ⟨%W, HO⟩; iexists W; isplitr; · ipureintro; exact fun _ _ => Or.inl trivial
  iexact HO

/-- The semaphores the body has waited out are the kernel's own. -/
theorem done_own (c : Dev nD) : (Dn (F := F) c doneL : sProp 𝕄) = Pipeline.ownSems0 osem0 c := by
  rw [ownSems0_eq]
  exact bigSepL_perm (by decide) (by decide) _

/-- The pipeline's obligation for the body: the staging buffers and the scratch buffers taken apart, the body run, and all put together again. -/
theorem body_ob (hf : Fits m D) (hg : Good D) (c : Dev nD) : Pipeline.BodyObligation (dat0 m D c) (defs₀ (F := F)) 𝒱₀ 0 Set.univ := fun t => by
  obtain rfl := fin_N0 t
  rw [bigSep_W0, bigSep_W0]
  simp only [owns_whole_eq]
  rw [show t0_0.castSucc = 0 from rfl, show (dat0 m D c).Φ t0_0.succ = iprop(Idle c ∗ Pipeline.ownSems0 osem0 c ∗ Yk D c) from rfl, Φ_zero]
  unfold Xk
  iintro ⟨⟨⟨HS, Hp⟩, %κ, #HP, Ht, HW, HaB, HcB, #Hr1, #Hr2, #Hr3⟩, HO, ⟨%d0, %f0, %hf0, H0⟩, ⟨%d1, %f1, %hf1, H1⟩, ⟨%d2, %f2, %hf2, H2⟩, ⟨%d3, %f3, %hf3, H3⟩, ⟨%d4, %f4, %hf4, H4⟩⟩
  rw [before_0 hf] at hf0; subst hf0
  rw [before_1 hf] at hf1; subst hf1
  rw [before_2 hf] at hf2; subst hf2
  rw [before_3 hf] at hf3; subst hf3
  ihave HO := (owes_in m D c 0) $$ HO
  ihave Hs := (pieces_in (F := F) c) $$ [HS H4]
  · isplitl [HS]; · iexact HS
    unfold some_; iexists f4; iexact H4
  icases Hs with ⟨Hks0, Hks1, Hks2, Hks3, Hxg0, Hxg1, Hxg2, Hdl, Hdh, Hdp, Hdm, Hwl, Hwh, Has0, Has1, Hrc0, Hrc1, Hrc2, Hou00, Hou01, Hou10, Hou11, Hrr00, Hrr01, Hrr10, Hrr11, Hrl00, Hrl01, Hrl10, Hrl11⟩
  ihave Hx := (share3 c xM (D.x c)).1 $$ [H0]
  · iapply (Entails.of_eq (whole_eq c cc0_stg0_0 (D.x c)).symm); iexact H0
  ihave Hr := (share4 c rM (D.rt c)).1 $$ [H2]
  · iapply (Entails.of_eq (whole_eq c cc0_stg2_0 (D.rt c)).symm); iexact H2
  icases Hx with ⟨Hx0, Hx1, Hx2⟩
  icases Hr with ⟨Hq0, Hq1, Hq2, Hq3⟩
  iapply (body_run (D := D) (c := c) (κ := κ) hg) $$ [HO Ht HW HaB HcB Hx0 Hx1 Hx2 Hq0 Hq1 Hq2 Hq3 H1 H3 Hks0 Hks1 Hks2 Hks3 Hxg0 Hxg1 Hxg2 Hdl Hdh Hdp Hdm Hwl Hwh Has0 Has1 Hrc0 Hrc1 Hrc2 Hou00 Hou01 Hou10 Hou11 Hrr00 Hrr01 Hrr10 Hrr11 Hrl00 Hrl01 Hrl10 Hrl11]
  · isplitr; · iexact HP
    isplitl [HO Ht HW]
    · unfold St Led
      isplitl [HO Ht]
      · isplitl [HO]; · iexact HO
        iexact Ht
      isplitl [HW]; · iexact HW
      unfold Dn; simp only [bigSepL_nil]; iempintro
    unfold Start
    isplitl [Hx0]; · iexact Hx0
    isplitl [Hx1]; · iexact Hx1
    isplitl [Hx2]; · iexact Hx2
    isplitl [Hq0]; · iexact Hq0
    isplitl [Hq1]; · iexact Hq1
    isplitl [Hq2]; · iexact Hq2
    isplitl [Hq3]; · iexact Hq3
    isplitl [H1]; · iapply (Entails.of_eq (whole_eq c cc0_stg1_0 (D.w c)).symm); iexact H1
    isplitl [H3]; · iapply (Entails.of_eq (whole_eq c cc0_stg3_0 (D.tri c)).symm); iexact H3
    isplitl [Hks0]; · iexact Hks0
    isplitl [Hks1]; · iexact Hks1
    isplitl [Hks2]; · iexact Hks2
    isplitl [Hks3]; · iexact Hks3
    isplitl [Hxg0]; · iexact Hxg0
    isplitl [Hxg1]; · iexact Hxg1
    isplitl [Hxg2]; · iexact Hxg2
    isplitl [Hdl]; · iexact Hdl
    isplitl [Hdh]; · iexact Hdh
    isplitl [Hdp]; · iexact Hdp
    isplitl [Hdm]; · iexact Hdm
    isplitl [Hwl]; · iexact Hwl
    isplitl [Hwh]; · iexact Hwh
    isplitl [Has0]; · iexact Has0
    isplitl [Has1]; · iexact Has1
    isplitl [Hrc0]; · iexact Hrc0
    isplitl [Hrc1]; · iexact Hrc1
    isplitl [Hrc2]; · iexact Hrc2
    isplitl [Hou00]; · iexact Hou00
    isplitl [Hou01]; · iexact Hou01
    isplitl [Hou10]; · iexact Hou10
    isplitl [Hou11]; · iexact Hou11
    isplitl [Hrr00]; · iexact Hrr00
    isplitl [Hrr01]; · iexact Hrr01
    isplitl [Hrr10]; · iexact Hrr10
    isplitl [Hrr11]; · iexact Hrr11
    isplitl [Hrl00]; · iexact Hrl00
    isplitl [Hrl01]; · iexact Hrl01
    isplitl [Hrl10]; · iexact Hrl10
    isplitl [Hrl11]; · iexact Hrl11
    isplitl [HaB]; · iexact HaB
    isplitl [HcB]; · iexact HcB
    isplitr; · iexact Hr1
    isplitr; · iexact Hr2
    iexact Hr3
  iintro ⟨HSt, Hq, HF⟩
  unfold St Led
  icases HSt with ⟨⟨HO, -⟩, -, HD⟩
  ihave Hs := (pieces_out D c) $$ [Hq HF]
  · isplitl [Hq] <;> iassumption
  icases Hs with ⟨H0, H1, H2, H3, H4, HS, HaB⟩
  isplitl [HS Hp HD HaB]
  · isplitl [HS Hp]
    · isplitl [HS] <;> iassumption
    isplitl [HD]; · iapply (Entails.of_eq (done_own (F := F) c)); iexact HD
    unfold Yk Fam.barPos
    isplitr
    · iexists κ
      unfold Pers; icases HP with ⟨#HI, -⟩; iexact HI
    isplitl [HaB]; · iexact HaB
    rw [bigSep_empty]; iempintro
  isplitl [HO]
  · iapply (owes_out m D c t0_0.succ); iexact HO
  isplitl [H0]
  · iexists _; isplitr; swap; (· iapply (Entails.of_eq (whole_eq c cc0_stg0_0 (D.x c))); iexact H0); ipureintro; rfl
  isplitl [H1]
  · iexists _; isplitr; swap; (· iapply (Entails.of_eq (whole_eq c cc0_stg1_0 (D.w c))); iexact H1); ipureintro; rfl
  isplitl [H2]
  · iexists _; isplitr; swap; (· iapply (Entails.of_eq (whole_eq c cc0_stg2_0 (D.rt c))); iexact H2); ipureintro; rfl
  isplitl [H3]
  · iexists _; isplitr; swap; (· iapply (Entails.of_eq (whole_eq c cc0_stg3_0 (D.tri c))); iexact H3); ipureintro; rfl
  iexists _; isplitr; swap; (· iexact H4); ipureintro; rfl

/-! ## The program's segments -/

theorem V₂_v7 (c : Dev nD) : V₂ m D c main_v7 = D.oG c := Function.update_self ..
theorem V₂_of_ne (c : Dev nD) (b : Ref sig .tc) (h : (Proc.devRef .tc b : DevRef τ sig) ≠ Proc.devRef .tc main_v7) : V₂ m D c b = V₁ m c b :=
  Function.update_of_ne h ..

/-- The result array ends at what the body leaves. -/
theorem arrAt_out (c : Dev nD) : (dat0 m D c).arrAt 4 cfg0.N = D.oG c :=
  (dat0 m D c).arrAt_eq_of_after_last 4 t0_0 (by decide +kernel) (D.oG c) fun j => rfl

theorem arr_in (c : Dev nD) (w : Fin 5) : (dat0 m D c).arrAt w 0 = V₁ m c (Proc.devRef .tc (Pipeline.arrRef spec0 w)) := rfl

theorem arr_out (c : Dev nD) (w : Fin 5) : (dat0 m D c).arrAt w cfg0.N = V₂ m D c (Proc.devRef .tc (Pipeline.arrRef spec0 w)) := by
  match w with
  | 0 => exact ((dat0 m D c).arrAt_in 0 rfl _).trans (V₂_of_ne m D c main_v1 (by decide)).symm
  | 1 => exact ((dat0 m D c).arrAt_in 1 rfl _).trans (V₂_of_ne m D c main_v2 (by decide)).symm
  | 2 => exact ((dat0 m D c).arrAt_in 2 rfl _).trans (V₂_of_ne m D c main_arg2 (by decide)).symm
  | 3 => exact ((dat0 m D c).arrAt_in 3 rfl _).trans (V₂_of_ne m D c main_v6 (by decide)).symm
  | 4 => exact (arrAt_out m D c).trans (V₂_v7 m D c).symm

theorem cut_owed (c : Dev nD) (t : Fin ((Pipeline.pin (pcfgs (F := F)) adm 0).N + 1)) (g : GSem nD τ sig) (i : ℕ) (h : 0 < (pdats m D 0 c).owed t g i) :
    i ∈ SiteBlocks.L 9 g ∧ (0 : ℕ) < lv g i := by
  have e : (pdats m D 0 c).owed t = if t.val = 0 then O₀ c else 0 := rfl
  rw [e] at h
  split at h
  · obtain ⟨x, hx, rfl, hi⟩ := tallyL_pos h
    have hr : 0 < x.2.1 ∧ x.2.1 < 9 := by
      simp only [dueL, List.mem_cons, List.not_mem_nil, or_false] at hx
      rcases hx with rfl | rfl | rfl | rfl | rfl | rfl | rfl | rfl | rfl | rfl | rfl | rfl | rfl | rfl | rfl | rfl | rfl | rfl | rfl | rfl | rfl | rfl | rfl <;> exact ⟨by norm_num, by norm_num⟩
    subst hi
    exact ⟨SiteBlocks.mem_L' (dueL_tc c x hx) hr.2, hr.1⟩
  · exact absurd h (Nat.lt_irrefl 0)

local notation "ℍ" => Pipeline.HostSeg (Name := ℕ) (U := UU) (pcfgs (F := F)) defs₀ 𝒱₀ (SiteBlocks.L 9) lv
local notation "ℝ𝕊" => Pipeline.RegionSeg (pcfgs (F := F)) adm (pdats m D) 0 defs₀ 𝒱₀ (SiteBlocks.L 9) lv

/-- What rides with a device past the host operations. -/
abbrev Rest (c : Dev nD) : sProp 𝕄 := iprop(Tk D c ∗ (∃ r, prngReg c r) ∗ ∃ W, owes (c : Thread nD τ) (O₀ c) W)

/-- The host operations. -/
def seg0 : ℍ := Pipeline.HostSeg.ofOps _ _ _ _ _ bufs hostOps0
  (fun op h => Pipeline.sub_ucRefs op (List.forall_iff_forall_mem.mp hostOps0_sub op h)) (List.forall_iff_forall_mem.mp hostOps0_fresh) (V₀ m) (Rest D)

theorem held_none (c : Dev nD) (W : Valuation τ sig (Elt F)) : (StableHlo.held (c.tc : Thread nD τ) ∅ W : sProp 𝕄) = BI.emp := by
  unfold StableHlo.held; exact BI.bigSep_empty

theorem enter (c : Dev nD) : iprop(Pipeline.scopedRest (Pipeline.pin (pcfgs (F := F)) adm 0).spec c ∗ (∃ r, prngReg c r)
    ∗ StableHlo.held (c.tc : Thread nD τ) ∅ (V₁ m c) ∗ Xk D c) ⊢ (pdats m D 0 c).Φ 0 := by
  show _ ⊢ iprop(Idle c ∗ Xk D c)
  iintro ⟨HS, Hp, -, HX⟩
  isplitl [HS Hp]
  · isplitl [HS]; · iexact HS
    iexact Hp
  iexact HX

theorem leave (c : Dev nD) : (pdats m D 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m D c) ∗ Pipeline.ownSems0 osem0 c ∗ Yk D c) := by
  rw [held_none]
  refine (Entails.of_eq (Φ_last m D c)).trans ?_
  iintro ⟨⟨HS, Hp⟩, HO, HY⟩
  isplitl [HS]; · iexact HS
  isplitl [Hp]; · iexact Hp
  isplitr; · iempintro
  isplitl [HO] <;> iassumption

set_option backward.isDefEq.respectTransparency.types false in
/-- The kernel, as a region of the program. -/
def reg0 (hf : Fits m D) (hg : Good D) : ℝ𝕊 0 :=
  Pipeline.RegionSeg.ofTalk (pcfgs (F := F)) adm (pdats m D) 0 defs₀ 𝒱₀ (SiteBlocks.L 9) lv 0 osem0 (by decide : Pipeline.OwnSemFacts spec0 osem0)
    ∅ others (Finset.empty_subset _) launch0.toP rfl (fun c => (body_ob m D hf hg c).loose)
    (fun _ => 0) O₀ (fun c => (owed_zero m D c).trans (zero_add _).symm) (owed_last m D) (fun _ => rfl) (fun c w => (dat0 m D c).share_full (fun _ => rfl) w)
    (V₁ m) (V₂ m D)
    (fun c b hb => Function.update_of_ne (fun e => (Finset.mem_sdiff.mp (Finset.mem_sdiff.mp hb).1).2 (by rw [e]; decide)) ..)
    (Tk D) (Yk D) (Xk D) (Yk D) (hopen0 D) (enter m D) (leave m D)
    (fun c => by iintro H; imodintro; iexact H)
    (fun _ => 0)
    ⟨fun c w s => SiteBlocks.mem_L' rfl (by decide), fun c w s => Nat.le_refl 0, fun c t g i h => cut_owed m D c t g i h⟩
    (fun _ => iprop(emp)) (arr_in m D) (arr_out m D)

/-- The program as its two segments. -/
def segs (hf : Fits m D) (hg : Good D) : List (Pipeline.Seg (pcfgs (F := F)) adm (pdats m D) 0 defs₀ 𝒱₀ (SiteBlocks.L 9) lv) :=
  [.host (seg0 m D), .region (reg0 m D hf hg)]

theorem main_eq (hf : Fits m D) (hg : Good D) (c : Dev nD) : main (F := F) c = Pipeline.Seg.run (segs m D hf hg) :=
  main_segs adm (pdats m D) 0 𝒱₀ (SiteBlocks.L 9) lv (seg0 m D) (reg0 m D hf hg) rfl c

theorem bufs_split (c : Dev nD) (W : Valuation τ sig (Elt F)) :
    (StableHlo.held (c.tc : Thread nD τ) bufs W : sProp 𝕄) = iprop(StableHlo.held (c.tc : Thread nD τ) arrs W ∗ StableHlo.held (c.tc : Thread nD τ) others W) :=
  StableHlo.held_sub_split (c.tc : Thread nD τ) (Pipeline.arrRefs_sub_ucRefs spec0 (by decide)) W

theorem reg0_pre (hf : Fits m D) (hg : Good D) (c : Dev nD) : (seg0 m D).post c ⊢ (reg0 m D hf hg).pre c := by
  show iprop(StableHlo.held (c.tc : Thread nD τ) bufs (V₁ m c) ∗ Rest D c) ⊢ iprop(StableHlo.held (c.tc : Thread nD τ) arrs (V₁ m c) ∗ (∃ r, prngReg c r)
    ∗ (StableHlo.held (c.tc : Thread nD τ) others (V₁ m c) ∗ emp) ∗ Tk D c ∗ ∃ Wd, owes (c : Thread nD τ) (0 + O₀ c) Wd)
  rw [bufs_split, zero_add]
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

/-- What a device ends with. -/
abbrev End (c : Dev nD) : sProp 𝕄 := iprop(StableHlo.held (c.tc : Thread nD τ) bufs (V₂ m D c) ∗ Yk D c)

theorem reg0_post (hf : Fits m D) (hg : Good D) (c : Dev nD) : (reg0 m D hf hg).post c
    ⊢ iprop(End m D c ∗ ∃ W, owes (c : Thread nD τ) (0 : CellTallies nD τ sig ℕ) W) := by
  show iprop(StableHlo.held (c.tc : Thread nD τ) arrs (V₂ m D c) ∗ (∃ r, prngReg c r)
    ∗ (StableHlo.held (c.tc : Thread nD τ) others (V₂ m D c) ∗ emp) ∗ Yk D c ∗ ∃ Wd, owes (c : Thread nD τ) (0 : CellTallies nD τ sig ℕ) Wd) ⊢ _
  rw [show End m D c = iprop(StableHlo.held (c.tc : Thread nD τ) bufs (V₂ m D c) ∗ Yk D c) from rfl, bufs_split]
  iintro ⟨Ha, -, ⟨Ho, -⟩, HY, HO⟩
  isplitr [HO]
  · isplitl [Ha Ho]
    · isplitl [Ha] <;> iassumption
    iexact HY
  iexact HO

/-! ## The launch -/

/-- The launch's ghost state: the pipeline's, and the cells'. -/
def u₀ : UU :=
  (initOf (Pipeline.cells (Pipeline.pin (pcfgs (F := F)) adm) cellOf_inj) (Pipeline.launchToks (Pipeline.pin (pcfgs (F := F)) adm) cellOf_inj),
    launchOf fam.S fam.Sd fam.T)

/-- The cells' share of it, kept on one device until it is dealt. -/
def G : Dev nD → sProp 𝕄 := SiteBlocks.onDev 0 (BI.own (ER (launchOf fam.S fam.Sd fam.T)))

/-- What a device has at the start. -/
abbrev Begin (c : Dev nD) : sProp 𝕄 := iprop(StableHlo.held (c.tc : Thread nD τ) bufs (V₀ m c) ∗ Rest D c)

theorem unscoped_eq : ∀ sm : SemLoc sig, sm.isScoped .tc = false → sm = .reg barS := by decide

theorem unscopedSems_eq (c : Dev nD) : (unscopedSems0 c : sProp 𝕄) = semVal (barC c) 0 := by
  unfold unscopedSems0
  rw [bigSep_eq_bigSepL_of_eq [SemLoc.reg barS] (by decide) (by decide)]
  rfl

/-- The cells funded, and what the launch holds dealt to the devices. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts (SiteBlocks.L 9) lv)
      ⊢ (|={Set.univ}=> bigSep Finset.univ (Begin m D) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop((StableHlo.held (c.tc : Thread nD τ) bufs (V₀ m c) ∗ (∃ r, prngReg c r) ∗ ∃ W, owes (c : Thread nD τ) (O₀ c) W)
        ∗ ((semVal (barC c) 0 ∗ Pipeline.launchCred O₀ c) ∗ G (F := F) c)) : sProp 𝕄) := by
    rw [show unscopedBufs c (fun b => m ((c : Thread nD τ).loc b)) = StableHlo.held (c : Thread nD τ) bufs (V₀ m c) from Pipeline.unscopedBufs_held c (V₀ m c),
      unscopedSems_eq]
    iintro ⟨Hh, Hus, HO, Hcr, Hp, HG⟩
    isplitl [Hh HO Hp]
    · isplitl [Hh]; · iexact Hh
      isplitl [Hp]; · iexists (ρ c); iexact Hp
      iexists ∅; iexact HO
    isplitl [Hus Hcr]
    · isplitl [Hus] <;> iassumption
    iexact HG
  have hfund : Funds ER (fun c => semVal (barC c) 0) O₀ (launchOf fam.S fam.Sd fam.T) (Tk D) Set.univ := by
    have h := pass (E := ER (F := F)) (Es := Set.univ) O₀ (fam.funds ER (Rd D) (fun _ _ h => h) fun c => {lft c, rgt c, opp c})
    simp only [zero_add] at h
    exact h
  have hbe (c : Dev nD) : iprop((StableHlo.held (c.tc : Thread nD τ) bufs (V₀ m c) ∗ (∃ r, prngReg c r) ∗ ∃ W, owes (c : Thread nD τ) (O₀ c) W) ∗ Tk D c) ⊢ Begin m D c := by
    iintro ⟨⟨Hh, Hp, HO⟩, HT⟩
    isplitl [Hh]; · iexact Hh
    isplitl [HT]; · iexact HT
    isplitl [Hp] <;> iassumption
  have hend : (bigSep Finset.univ fun c : Dev nD => iprop((StableHlo.held (c.tc : Thread nD τ) bufs (V₀ m c) ∗ (∃ r, prngReg c r) ∗ ∃ W, owes (c : Thread nD τ) (O₀ c) W) ∗ Tk D c))
      ⊢ (bigSep Finset.univ (Begin m D) : sProp 𝕄) := bigSep_mono fun c _ => hbe c
  have hun {Φ Ψ : Dev nD → sProp 𝕄} : bigSep Finset.univ (fun c => iprop(Φ c ∗ Ψ c)) ⊢ iprop(bigSep Finset.univ Φ ∗ bigSep Finset.univ Ψ) :=
    Entails.of_eq (bigSep_sep _ _ _)
  have hpa {Φ Ψ : Dev nD → sProp 𝕄} : iprop(bigSep Finset.univ Φ ∗ bigSep Finset.univ Ψ) ⊢ bigSep Finset.univ (fun c => iprop(Φ c ∗ Ψ c)) :=
    Entails.of_eq (bigSep_sep _ _ _).symm
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop((StableHlo.held (c.tc : Thread nD τ) bufs (V₀ m c) ∗ (∃ r, prngReg c r) ∗ ∃ W, owes (c : Thread nD τ) (O₀ c) W)
        ∗ ((semVal (barC c) 0 ∗ Pipeline.launchCred O₀ c) ∗ G (F := F) c)) : sProp 𝕄) from bigSep_mono fun c _ => hcore c) $$ H
  ihave H2 := hun $$ H'; icases H2 with ⟨HB, H3⟩
  ihave H4 := hun $$ H3; icases H4 with ⟨Hv, HG⟩
  ihave Hu := (show bigSep Finset.univ (G (F := F)) ⊢ BI.own (ER (launchOf fam.S fam.Sd fam.T)) from
    Entails.of_eq (SiteBlocks.bigSep_onDev 0 (BI.own (ER (launchOf fam.S fam.Sd fam.T))))) $$ HG
  imod hfund $$ [Hv Hu] with HT
  · isplitl [Hv] <;> iassumption
  imodintro
  ihave HA := hpa $$ [HB HT]
  · isplitl [HB]; · iexact HB
    iexact HT
  ihave HE := hend $$ HA; iexact HE

/-! ## The run -/

/-- The arguments and the result among the buffers. -/
theorem held_five (c : Dev nD) (W : Valuation τ sig (Elt F)) : (StableHlo.held (c.tc : Thread nD τ) bufs W : sProp 𝕄)
    ⊢ iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_arg3) ↦{fullShare} W main_arg3)
      ∗ (((c : Thread nD τ).loc main_v7) ↦{fullShare} W main_v7)) := by
  have h : ([main_arg0, main_arg1, main_arg2, main_arg3, main_v7].map fun b => (Proc.devRef .tc b : DevRef τ sig)).toFinset ⊆ bufs := by decide
  rw [StableHlo.held_sub_split (c.tc : Thread nD τ) h W]
  unfold StableHlo.held
  iintro ⟨H, -⟩
  ihave H := (Entails.of_eq (bigSep_eq_bigSepL_of_eq ([main_arg0, main_arg1, main_arg2, main_arg3, main_v7].map fun b => (Proc.devRef .tc b : DevRef τ sig)) rfl (by decide)
    (fun b => (((c.tc : Thread nD τ).1, b) ↦{fullShare} W b : sProp 𝕄)))) $$ H
  simp only [List.map_cons, List.map_nil, sepL_cons]
  icases H with ⟨H0, H1, H2, H3, H7, -⟩
  isplitl [H0]; · iexact H0
  isplitl [H1]; · iexact H1
  isplitl [H2]; · iexact H2
  isplitl [H3]; · iexact H3
  iexact H7

set_option backward.isDefEq.respectTransparency.types false in
/-- THE RUN: from any memory with zero counters every fair execution ends, the arguments unchanged, the result at what
    the body leaves, every counter at zero. -/
theorem run_main (hf : Fits m D) (hg : Good D) : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v7) = D.oG c) ∧ r.2.sem = fun _ => 0) :=
  Pipeline.θ_run_regions_kit_sems (pcfgs (F := F)) adm (pdats m D) 0 cellOf_inj EP defs₀ 𝒱₀ (SiteBlocks.L 9) lv m ρ main (segs m D hf hg)
    (fun c Q => by rw [main_eq m D hf hg c])
    (by simp only [segs, Pipeline.Seg.pipes_host, Pipeline.Seg.pipes_region, Pipeline.Seg.pipes_nil]; decide)
    (O₀ := O₀) (hL := SiteBlocks.hL 9) (G := G) (u₀ := u₀ (F := F))
    (hu₀ := by
      unfold u₀ G
      iintro Hu
      ihave H := (ownU_pair _ _) $$ Hu
      icases H with ⟨HP, HX⟩
      imodintro
      isplitl [HP]; · iexact HP
      rw [SiteBlocks.bigSep_onDev]; iexact HX)
    (T₀ := Begin m D) (Tₙ := End m D)
    (hch := ⟨fun c => .rfl, fun c => reg0_pre m D hf hg c, fun c => reg0_post m D hf hg c⟩)
    (hinit := init m ρ D)
    (QY := fun c s => (s.mem ((c : Thread nD τ).loc main_arg0) = V₂ m D c main_arg0 ∧ s.mem ((c : Thread nD τ).loc main_arg1) = V₂ m D c main_arg1
        ∧ s.mem ((c : Thread nD τ).loc main_arg2) = V₂ m D c main_arg2 ∧ s.mem ((c : Thread nD τ).loc main_arg3) = V₂ m D c main_arg3
        ∧ s.mem ((c : Thread nD τ).loc main_v7) = V₂ m D c main_v7)
      ∧ s.sem (barC c) = 0)
    (hfin := fun c s' => by
      dsimp only [End, Yk]
      iintro ⟨⟨Hh, HY⟩, HSI⟩
      ihave Hh := (held_five (F := F) c (V₂ m D c)) $$ Hh
      icases Hh with ⟨H0, H1, H2, H3, H7⟩
      icombine HSI H0 gives %h0
      icombine HSI H1 gives %h1
      icombine HSI H2 gives %h2
      icombine HSI H3 gives %h3
      icombine HSI H7 gives %h7
      imod (fam.barPos_read ER (Rd D) c (r := 1) rfl ∅ s') $$ [HY HSI] with ⟨%hb, HSI⟩
      · isplitl [HY]; · iexact HY
        iexact HSI
      imodintro
      isplitr
      · ipureintro
        exact ⟨⟨Buf.eq_of_forall_mem_univ h0, Buf.eq_of_forall_mem_univ h1, Buf.eq_of_forall_mem_univ h2, Buf.eq_of_forall_mem_univ h3, Buf.eq_of_forall_mem_univ h7⟩, hb⟩
      iexact HSI)
    (hQ := fun s h hs => ⟨fun c => by
        obtain ⟨⟨h0, h1, h2, h3, h7⟩, -⟩ := h c
        rw [V₂_of_ne _ _ _ _ (by decide)] at h0 h1 h2 h3
        rw [V₂_v7] at h7
        exact ⟨h0.trans (V_main_arg0 m c), h1.trans (V_main_arg1 m c), h2.trans (V_main_arg2 m c), h3.trans (V_main_arg3 m c), h7⟩,
      sem_eq_zero hs fun c sm hsm => by
        obtain rfl := unscoped_eq sm hsm
        exact (h c).2⟩)

end Cert.KernelIdeal.Talk

end
-- ==== Proof.Data.lean ====
/-
  The contents of the buffers as the body leaves them, built from the four inputs, and that every store writes them.
-/
module

public import proofs.«01_k».proof.Proof.Run
public import Idealize.ShloMosaic.Lib.ViewIndex
public import Idealize.ShloMosaic.Lib.Pipeline.ValueKit.Stack

@[expose] public section

noncomputable section

namespace Cert.KernelIdeal.Talk

open Cert.KernelIdeal Cert.KernelIdeal.Gen
open Idealize.ShloMosaic Idealize.ShloMosaic.TcCoe
open Idealize.SL.Sem
open Idealize.ShloMosaic.ValueIdx

variable {F : FTy → Type} [FloatOps F]

/-- A buffer's contents with a rectangle of it written. -/
abbrev put {s : Shape} {e : EltTy} (M : Memref sig .tc .vmem s e) (r : Rect s) (v : r.shape.Idx → Elt F e) (f : M.view.ty.Contents (Elt F)) : M.view.ty.Contents (Elt F) :=
  (M.access r).write (Elt F) f v Finset.univ

/-- The rectangle just written reads what was written; -/
theorem read_put {s : Shape} {e : EltTy} (M : Memref sig .tc .vmem s e) (r : Rect s) (v : r.shape.Idx → Elt F e) (f : M.view.ty.Contents (Elt F)) :
    (M.access r).read (Elt F) (put M r v f) = v := View.read_write_univ (v := M.view.slice r) f v

/-- one apart from it along an axis reads what was there before. -/
theorem read_put_off {s : Shape} {e : EltTy} (M : Memref sig .tc .vmem s e) {off size off' size' : Fin s.rank → ℕ} {inb : ∀ a, off a + size a ≤ s.size a} {inb' : ∀ a, off' a + size' a ≤ s.size a}
    (a : Fin s.rank) (h : off a + size a ≤ off' a ∨ off' a + size' a ≤ off a) (v : (Rect.unit (s := s) off' size' inb').shape.Idx → Elt F e) (f : M.view.ty.Contents (Elt F)) :
    (M.access (Rect.unit (s := s) off size inb)).read (Elt F) (put M (Rect.unit (s := s) off' size' inb') v f) = (M.access (Rect.unit (s := s) off size inb)).read (Elt F) f :=
  View.read_slice_write_slice_of_disjoint (v := M.view) _ _ f v Finset.univ (View.disjoint_slice (v := M.view) (Rect.unit_disjoint a h))

/-- One slot of a two-slot buffer of accumulators. -/
def down {e : EltTy} (s : Fin 2) (f : S2x2048x512.Idx → Elt F e) : S2048x512.Idx → Elt F e := fun j => f (ix3 s (j 0) (j 1))

/-- What a rectangle inside a slot reads of the slot spread over both is what it reads of the whole. -/
theorem read_up_down (s : Fin 2) {off size : Fin S2x2048x512.rank → ℕ} {inb : ∀ a, off a + size a ≤ S2x2048x512.size a} (h0 : off 0 = s.val) (h1 : size 0 = 1) (f : S2x2048x512.Idx → Elt F .bf16) :
    ((Memref.whole cc0_scratch6 : Memref sig .tc .vmem S2x2048x512 .bf16).access (Rect.unit (s := S2x2048x512) off size inb)).read (Elt F) (up (down s f))
      = ((Memref.whole cc0_scratch6 : Memref sig .tc .vmem S2x2048x512 .bf16).access (Rect.unit (s := S2x2048x512) off size inb)).read (Elt F) f := by
  funext x
  refine congrArg f ?_
  funext a
  match a with
  | 0 =>
    apply Fin.ext
    have e : (((Rect.unit (s := S2x2048x512) off size inb).emb x) 0).val = off 0 + (x 0).val := Rect.idx_unit_val ..
    have hx : (x 0).val < size 0 := (x 0).isLt
    show s.val = (((Rect.unit (s := S2x2048x512) off size inb).emb x) 0).val
    omega
  | 1 => rfl
  | 2 => rfl

/-- The contents `kG` from those it is computed of. -/
def mk_kG (D : Cont F) (c : Dev nD) : Vec F S4x2048x8 .bf16 :=
  (put (Memref.whole cc0_scratch0 : Memref sig .tc .vmem S4x2048x8 .bf16) (Rect.unit (s := S4x2048x8) ![3, 0, 0] S1x2048x8.size inb_S4x2048x8_S1x2048x8_3_0_0)
    (k0_pay8 (V1_1 c) (V3_0 c) (V4_2 D.rt c) (V4_3 D.rt c) (V4_4 c) (V4_5 D.rt c) (V4_6 c) (V4_7 c) (rd (Memref.whole cc0_stg2_0 : Memref sig .tc .vmem S2048x1 .i32) (Rect.unit (s := S2048x1) ![0, 0] S2048x1.size inb_S2048x1_S2048x1_0_0) ((D.rt c))) (rd (Memref.whole cc0_stg3_0 : Memref sig .tc .vmem S2048x2048 .bf16) (Rect.unit (s := S2048x2048) ![0, 0] S2048x2048.size inb_S2048x2048_S2048x2048_0_0) ((D.tri c))))
    (put (Memref.whole cc0_scratch0 : Memref sig .tc .vmem S4x2048x8 .bf16) (Rect.unit (s := S4x2048x8) ![2, 0, 0] S1x2048x8.size inb_S4x2048x8_S1x2048x8_2_0_0)
    (k0_pay12 (V6_0 D.rt D.tri c) (V6_1 D.rt c) (V6_2 c))
    (put (Memref.whole cc0_scratch0 : Memref sig .tc .vmem S4x2048x8 .bf16) (Rect.unit (s := S4x2048x8) ![1, 0, 0] S1x2048x8.size inb_S4x2048x8_S1x2048x8_1_0_0)
    (k0_pay15 (V7_0 D.rt c) (V7_1 D.rt c) (rd (Memref.whole cc0_stg3_0 : Memref sig .tc .vmem S2048x2048 .bf16) (Rect.unit (s := S2048x2048) ![0, 0] S2048x2048.size inb_S2048x2048_S2048x2048_0_0) ((D.tri c))))
    (put (Memref.whole cc0_scratch0 : Memref sig .tc .vmem S4x2048x8 .bf16) (Rect.unit (s := S4x2048x8) ![0, 0, 0] S1x2048x8.size inb_S4x2048x8_S1x2048x8_0_0_0)
    (k0_pay17 (V3_0 c) (V4_2 D.rt c) (V8_0 c) (V8_1 D.rt c) (V8_2 c) (rd (Memref.whole cc0_scratch9 : Memref sig .tc .vmem S3x2048x1 .i32) (Rect.unit (s := S3x2048x1) ![0, 0, 0] S1x2048x1.size inb_S3x2048x1_S1x2048x1_0_0_0) ((up (D.rt (lft c))))) (rd (Memref.whole cc0_stg3_0 : Memref sig .tc .vmem S2048x2048 .bf16) (Rect.unit (s := S2048x2048) ![0, 0] S2048x2048.size inb_S2048x2048_S2048x2048_0_0) ((D.tri c))))
    (constant (F := F) S4x2048x8 .bf16 0)))))
theorem mk_kG_0 (D : Cont F) (c : Dev nD) : ((Memref.whole cc0_scratch0 : Memref sig .tc .vmem S4x2048x8 .bf16).access (Rect.unit (s := S4x2048x8) ![3, 0, 0] S1x2048x8.size inb_S4x2048x8_S1x2048x8_3_0_0)).read (Elt F) (mk_kG D c)
    = (k0_pay8 (V1_1 c) (V3_0 c) (V4_2 D.rt c) (V4_3 D.rt c) (V4_4 c) (V4_5 D.rt c) (V4_6 c) (V4_7 c) (rd (Memref.whole cc0_stg2_0 : Memref sig .tc .vmem S2048x1 .i32) (Rect.unit (s := S2048x1) ![0, 0] S2048x1.size inb_S2048x1_S2048x1_0_0) ((D.rt c))) (rd (Memref.whole cc0_stg3_0 : Memref sig .tc .vmem S2048x2048 .bf16) (Rect.unit (s := S2048x2048) ![0, 0] S2048x2048.size inb_S2048x2048_S2048x2048_0_0) ((D.tri c)))) :=
  (read_put (Memref.whole cc0_scratch0 : Memref sig .tc .vmem S4x2048x8 .bf16) _ _ _)
theorem mk_kG_1 (D : Cont F) (c : Dev nD) : ((Memref.whole cc0_scratch0 : Memref sig .tc .vmem S4x2048x8 .bf16).access (Rect.unit (s := S4x2048x8) ![2, 0, 0] S1x2048x8.size inb_S4x2048x8_S1x2048x8_2_0_0)).read (Elt F) (mk_kG D c)
    = (k0_pay12 (V6_0 D.rt D.tri c) (V6_1 D.rt c) (V6_2 c)) :=
  ((read_put_off (Memref.whole cc0_scratch0 : Memref sig .tc .vmem S4x2048x8 .bf16) 0 (by decide) _ _).trans (read_put (Memref.whole cc0_scratch0 : Memref sig .tc .vmem S4x2048x8 .bf16) _ _ _))
theorem mk_kG_2 (D : Cont F) (c : Dev nD) : ((Memref.whole cc0_scratch0 : Memref sig .tc .vmem S4x2048x8 .bf16).access (Rect.unit (s := S4x2048x8) ![1, 0, 0] S1x2048x8.size inb_S4x2048x8_S1x2048x8_1_0_0)).read (Elt F) (mk_kG D c)
    = (k0_pay15 (V7_0 D.rt c) (V7_1 D.rt c) (rd (Memref.whole cc0_stg3_0 : Memref sig .tc .vmem S2048x2048 .bf16) (Rect.unit (s := S2048x2048) ![0, 0] S2048x2048.size inb_S2048x2048_S2048x2048_0_0) ((D.tri c)))) :=
  (((read_put_off (Memref.whole cc0_scratch0 : Memref sig .tc .vmem S4x2048x8 .bf16) 0 (by decide) _ _).trans (read_put_off (Memref.whole cc0_scratch0 : Memref sig .tc .vmem S4x2048x8 .bf16) 0 (by decide) _ _)).trans (read_put (Memref.whole cc0_scratch0 : Memref sig .tc .vmem S4x2048x8 .bf16) _ _ _))
theorem mk_kG_3 (D : Cont F) (c : Dev nD) : ((Memref.whole cc0_scratch0 : Memref sig .tc .vmem S4x2048x8 .bf16).access (Rect.unit (s := S4x2048x8) ![0, 0, 0] S1x2048x8.size inb_S4x2048x8_S1x2048x8_0_0_0)).read (Elt F) (mk_kG D c)
    = (k0_pay17 (V3_0 c) (V4_2 D.rt c) (V8_0 c) (V8_1 D.rt c) (V8_2 c) (rd (Memref.whole cc0_scratch9 : Memref sig .tc .vmem S3x2048x1 .i32) (Rect.unit (s := S3x2048x1) ![0, 0, 0] S1x2048x1.size inb_S3x2048x1_S1x2048x1_0_0_0) ((up (D.rt (lft c))))) (rd (Memref.whole cc0_stg3_0 : Memref sig .tc .vmem S2048x2048 .bf16) (Rect.unit (s := S2048x2048) ![0, 0] S2048x2048.size inb_S2048x2048_S2048x2048_0_0) ((D.tri c)))) :=
  ((((read_put_off (Memref.whole cc0_scratch0 : Memref sig .tc .vmem S4x2048x8 .bf16) 0 (by decide) _ _).trans (read_put_off (Memref.whole cc0_scratch0 : Memref sig .tc .vmem S4x2048x8 .bf16) 0 (by decide) _ _)).trans (read_put_off (Memref.whole cc0_scratch0 : Memref sig .tc .vmem S4x2048x8 .bf16) 0 (by decide) _ _)).trans (read_put (Memref.whole cc0_scratch0 : Memref sig .tc .vmem S4x2048x8 .bf16) _ _ _))

/-- The contents `a0r` from those it is computed of. -/
def mk_a0r (D : Cont F) (c : Dev nD) : Vec F S2048x512 .bf16 :=
  (down 0 (put (Memref.whole cc0_scratch6 : Memref sig .tc .vmem S2x2048x512 .bf16) (Rect.unit (s := S2x2048x512) ![0, 0, 0] S1x2048x512.size inb_S2x2048x512_S1x2048x512_0_0_0)
    (k0_pay21 (V10_0 D.x c) (V11_0 D.x D.w D.kG c) (rd (Memref.whole cc0_scratch0 : Memref sig .tc .vmem S4x2048x8 .bf16) (Rect.unit (s := S4x2048x8) ![0, 0, 6] S1x2048x1.size inb_S4x2048x8_S1x2048x1_0_0_6) ((D.kG c))) (rd (Memref.whole cc0_stg1_0 : Memref sig .tc .vmem S8x512x1024 .bf16) (Rect.unit (s := S8x512x1024) ![6, 0, 0] S1x512x512.size inb_S8x512x1024_S1x512x512_6_0_0) ((D.w c))) (rd (Memref.whole cc0_scratch0 : Memref sig .tc .vmem S4x2048x8 .bf16) (Rect.unit (s := S4x2048x8) ![0, 0, 7] S1x2048x1.size inb_S4x2048x8_S1x2048x1_0_0_7) ((D.kG c))) (rd (Memref.whole cc0_stg1_0 : Memref sig .tc .vmem S8x512x1024 .bf16) (Rect.unit (s := S8x512x1024) ![7, 0, 0] S1x512x512.size inb_S8x512x1024_S1x512x512_7_0_0) ((D.w c))))
    (constant (F := F) S2x2048x512 .bf16 0)))
theorem mk_a0r_0 (D : Cont F) (c : Dev nD) : ((Memref.whole cc0_scratch6 : Memref sig .tc .vmem S2x2048x512 .bf16).access (Rect.unit (s := S2x2048x512) ![0, 0, 0] S1x2048x512.size inb_S2x2048x512_S1x2048x512_0_0_0)).read (Elt F) (up (mk_a0r D c))
    = (k0_pay21 (V10_0 D.x c) (V11_0 D.x D.w D.kG c) (rd (Memref.whole cc0_scratch0 : Memref sig .tc .vmem S4x2048x8 .bf16) (Rect.unit (s := S4x2048x8) ![0, 0, 6] S1x2048x1.size inb_S4x2048x8_S1x2048x1_0_0_6) ((D.kG c))) (rd (Memref.whole cc0_stg1_0 : Memref sig .tc .vmem S8x512x1024 .bf16) (Rect.unit (s := S8x512x1024) ![6, 0, 0] S1x512x512.size inb_S8x512x1024_S1x512x512_6_0_0) ((D.w c))) (rd (Memref.whole cc0_scratch0 : Memref sig .tc .vmem S4x2048x8 .bf16) (Rect.unit (s := S4x2048x8) ![0, 0, 7] S1x2048x1.size inb_S4x2048x8_S1x2048x1_0_0_7) ((D.kG c))) (rd (Memref.whole cc0_stg1_0 : Memref sig .tc .vmem S8x512x1024 .bf16) (Rect.unit (s := S8x512x1024) ![7, 0, 0] S1x512x512.size inb_S8x512x1024_S1x512x512_7_0_0) ((D.w c)))) :=
  ((read_up_down 0 (by rfl) (by rfl) _).trans (read_put (Memref.whole cc0_scratch6 : Memref sig .tc .vmem S2x2048x512 .bf16) _ _ _))

/-- The contents `a0l` from those it is computed of. -/
def mk_a0l (D : Cont F) (c : Dev nD) : Vec F S2048x512 .bf16 :=
  (down 1 (put (Memref.whole cc0_scratch6 : Memref sig .tc .vmem S2x2048x512 .bf16) (Rect.unit (s := S2x2048x512) ![1, 0, 0] S1x2048x512.size inb_S2x2048x512_S1x2048x512_1_0_0)
    (k0_pay27 (V13_0 D.x c) (V14_0 D.x D.w D.kG c) (V14_1 D.kG c) (rd (Memref.whole cc0_stg1_0 : Memref sig .tc .vmem S8x512x1024 .bf16) (Rect.unit (s := S8x512x1024) ![5, 0, 512] S1x512x512.size inb_S8x512x1024_S1x512x512_5_0_512) ((D.w c))) (rd (Memref.whole cc0_scratch0 : Memref sig .tc .vmem S4x2048x8 .bf16) (Rect.unit (s := S4x2048x8) ![2, 0, 6] S1x2048x1.size inb_S4x2048x8_S1x2048x1_2_0_6) ((D.kG c))) (rd (Memref.whole cc0_stg1_0 : Memref sig .tc .vmem S8x512x1024 .bf16) (Rect.unit (s := S8x512x1024) ![6, 0, 512] S1x512x512.size inb_S8x512x1024_S1x512x512_6_0_512) ((D.w c))) (rd (Memref.whole cc0_scratch0 : Memref sig .tc .vmem S4x2048x8 .bf16) (Rect.unit (s := S4x2048x8) ![2, 0, 7] S1x2048x1.size inb_S4x2048x8_S1x2048x1_2_0_7) ((D.kG c))) (rd (Memref.whole cc0_stg1_0 : Memref sig .tc .vmem S8x512x1024 .bf16) (Rect.unit (s := S8x512x1024) ![7, 0, 512] S1x512x512.size inb_S8x512x1024_S1x512x512_7_0_512) ((D.w c))))
    (constant (F := F) S2x2048x512 .bf16 0)))
theorem mk_a0l_0 (D : Cont F) (c : Dev nD) : ((Memref.whole cc0_scratch6 : Memref sig .tc .vmem S2x2048x512 .bf16).access (Rect.unit (s := S2x2048x512) ![1, 0, 0] S1x2048x512.size inb_S2x2048x512_S1x2048x512_1_0_0)).read (Elt F) (up (mk_a0l D c))
    = (k0_pay27 (V13_0 D.x c) (V14_0 D.x D.w D.kG c) (V14_1 D.kG c) (rd (Memref.whole cc0_stg1_0 : Memref sig .tc .vmem S8x512x1024 .bf16) (Rect.unit (s := S8x512x1024) ![5, 0, 512] S1x512x512.size inb_S8x512x1024_S1x512x512_5_0_512) ((D.w c))) (rd (Memref.whole cc0_scratch0 : Memref sig .tc .vmem S4x2048x8 .bf16) (Rect.unit (s := S4x2048x8) ![2, 0, 6] S1x2048x1.size inb_S4x2048x8_S1x2048x1_2_0_6) ((D.kG c))) (rd (Memref.whole cc0_stg1_0 : Memref sig .tc .vmem S8x512x1024 .bf16) (Rect.unit (s := S8x512x1024) ![6, 0, 512] S1x512x512.size inb_S8x512x1024_S1x512x512_6_0_512) ((D.w c))) (rd (Memref.whole cc0_scratch0 : Memref sig .tc .vmem S4x2048x8 .bf16) (Rect.unit (s := S4x2048x8) ![2, 0, 7] S1x2048x1.size inb_S4x2048x8_S1x2048x1_2_0_7) ((D.kG c))) (rd (Memref.whole cc0_stg1_0 : Memref sig .tc .vmem S8x512x1024 .bf16) (Rect.unit (s := S8x512x1024) ![7, 0, 512] S1x512x512.size inb_S8x512x1024_S1x512x512_7_0_512) ((D.w c)))) :=
  ((read_up_down 1 (by rfl) (by rfl) _).trans (read_put (Memref.whole cc0_scratch6 : Memref sig .tc .vmem S2x2048x512 .bf16) _ _ _))

/-- The contents `dG` from those it is computed of. -/
def mk_dG (D : Cont F) (c : Dev nD) : Vec F S2048x1024 .bf16 :=
  (put (Memref.whole cc0_scratch2 : Memref sig .tc .vmem S2048x1024 .bf16) (Rect.unit (s := S2048x1024) ![0, 0] S2048x512.size inb_S2048x1024_S2048x512_0_0)
    (k0_pay39 (V19_0 D.x c) (V20_0 D.x D.w D.kG c) (V20_1 D.kG c) (rd (Memref.whole cc0_stg1_0 : Memref sig .tc .vmem S8x512x1024 .bf16) (Rect.unit (s := S8x512x1024) ![7, 0, 0] S1x512x512.size inb_S8x512x1024_S1x512x512_7_0_0) ((D.w c))))
    (put (Memref.whole cc0_scratch2 : Memref sig .tc .vmem S2048x1024 .bf16) (Rect.unit (s := S2048x1024) ![0, 512] S2048x512.size inb_S2048x1024_S2048x512_0_512)
    (k0_pay49 (V23_0 D.x c) (V24_0 D.x D.w D.kG c) (V24_1 D.x D.kG c) (rd (Memref.whole cc0_stg1_0 : Memref sig .tc .vmem S8x512x1024 .bf16) (Rect.unit (s := S8x512x1024) ![4, 0, 512] S1x512x512.size inb_S8x512x1024_S1x512x512_4_0_512) ((D.w c))) (rd (Memref.whole cc0_scratch0 : Memref sig .tc .vmem S4x2048x8 .bf16) (Rect.unit (s := S4x2048x8) ![1, 0, 5] S1x2048x1.size inb_S4x2048x8_S1x2048x1_1_0_5) ((D.kG c))) (rd (Memref.whole cc0_stg1_0 : Memref sig .tc .vmem S8x512x1024 .bf16) (Rect.unit (s := S8x512x1024) ![5, 0, 512] S1x512x512.size inb_S8x512x1024_S1x512x512_5_0_512) ((D.w c))) (rd (Memref.whole cc0_scratch0 : Memref sig .tc .vmem S4x2048x8 .bf16) (Rect.unit (s := S4x2048x8) ![1, 0, 6] S1x2048x1.size inb_S4x2048x8_S1x2048x1_1_0_6) ((D.kG c))) (rd (Memref.whole cc0_stg1_0 : Memref sig .tc .vmem S8x512x1024 .bf16) (Rect.unit (s := S8x512x1024) ![6, 0, 512] S1x512x512.size inb_S8x512x1024_S1x512x512_6_0_512) ((D.w c))) (rd (Memref.whole cc0_scratch0 : Memref sig .tc .vmem S4x2048x8 .bf16) (Rect.unit (s := S4x2048x8) ![1, 0, 7] S1x2048x1.size inb_S4x2048x8_S1x2048x1_1_0_7) ((D.kG c))) (rd (Memref.whole cc0_stg1_0 : Memref sig .tc .vmem S8x512x1024 .bf16) (Rect.unit (s := S8x512x1024) ![7, 0, 512] S1x512x512.size inb_S8x512x1024_S1x512x512_7_0_512) ((D.w c))))
    (constant (F := F) S2048x1024 .bf16 0)))
theorem mk_dG_0 (D : Cont F) (c : Dev nD) : ((Memref.whole cc0_scratch2 : Memref sig .tc .vmem S2048x1024 .bf16).access (Rect.unit (s := S2048x1024) ![0, 0] S2048x512.size inb_S2048x1024_S2048x512_0_0)).read (Elt F) (mk_dG D c)
    = (k0_pay39 (V19_0 D.x c) (V20_0 D.x D.w D.kG c) (V20_1 D.kG c) (rd (Memref.whole cc0_stg1_0 : Memref sig .tc .vmem S8x512x1024 .bf16) (Rect.unit (s := S8x512x1024) ![7, 0, 0] S1x512x512.size inb_S8x512x1024_S1x512x512_7_0_0) ((D.w c)))) :=
  (read_put (Memref.whole cc0_scratch2 : Memref sig .tc .vmem S2048x1024 .bf16) _ _ _)
theorem mk_dG_1 (D : Cont F) (c : Dev nD) : ((Memref.whole cc0_scratch2 : Memref sig .tc .vmem S2048x1024 .bf16).access (Rect.unit (s := S2048x1024) ![0, 512] S2048x512.size inb_S2048x1024_S2048x512_0_512)).read (Elt F) (mk_dG D c)
    = (k0_pay49 (V23_0 D.x c) (V24_0 D.x D.w D.kG c) (V24_1 D.x D.kG c) (rd (Memref.whole cc0_stg1_0 : Memref sig .tc .vmem S8x512x1024 .bf16) (Rect.unit (s := S8x512x1024) ![4, 0, 512] S1x512x512.size inb_S8x512x1024_S1x512x512_4_0_512) ((D.w c))) (rd (Memref.whole cc0_scratch0 : Memref sig .tc .vmem S4x2048x8 .bf16) (Rect.unit (s := S4x2048x8) ![1, 0, 5] S1x2048x1.size inb_S4x2048x8_S1x2048x1_1_0_5) ((D.kG c))) (rd (Memref.whole cc0_stg1_0 : Memref sig .tc .vmem S8x512x1024 .bf16) (Rect.unit (s := S8x512x1024) ![5, 0, 512] S1x512x512.size inb_S8x512x1024_S1x512x512_5_0_512) ((D.w c))) (rd (Memref.whole cc0_scratch0 : Memref sig .tc .vmem S4x2048x8 .bf16) (Rect.unit (s := S4x2048x8) ![1, 0, 6] S1x2048x1.size inb_S4x2048x8_S1x2048x1_1_0_6) ((D.kG c))) (rd (Memref.whole cc0_stg1_0 : Memref sig .tc .vmem S8x512x1024 .bf16) (Rect.unit (s := S8x512x1024) ![6, 0, 512] S1x512x512.size inb_S8x512x1024_S1x512x512_6_0_512) ((D.w c))) (rd (Memref.whole cc0_scratch0 : Memref sig .tc .vmem S4x2048x8 .bf16) (Rect.unit (s := S4x2048x8) ![1, 0, 7] S1x2048x1.size inb_S4x2048x8_S1x2048x1_1_0_7) ((D.kG c))) (rd (Memref.whole cc0_stg1_0 : Memref sig .tc .vmem S8x512x1024 .bf16) (Rect.unit (s := S8x512x1024) ![7, 0, 512] S1x512x512.size inb_S8x512x1024_S1x512x512_7_0_512) ((D.w c)))) :=
  ((read_put_off (Memref.whole cc0_scratch2 : Memref sig .tc .vmem S2048x1024 .bf16) 1 (by decide) _ _).trans (read_put (Memref.whole cc0_scratch2 : Memref sig .tc .vmem S2048x1024 .bf16) _ _ _))

/-- The contents `pG` from those it is computed of. -/
def mk_pG (D : Cont F) (c : Dev nD) : Vec F S2048x512 .bf16 :=
  (put (Memref.whole cc0_scratch3 : Memref sig .tc .vmem S2048x512 .bf16) (Rect.unit (s := S2048x512) ![0, 0] S2048x512.size inb_S2048x512_S2048x512_0_0)
    (k0_pay57 (V28_0 D.x c) (V29_0 D.x D.w D.kG c) (V29_1 D.x D.kG c) (rd (Memref.whole cc0_stg1_0 : Memref sig .tc .vmem S8x512x1024 .bf16) (Rect.unit (s := S8x512x1024) ![5, 0, 0] S1x512x512.size inb_S8x512x1024_S1x512x512_5_0_0) ((D.w c))) (rd (Memref.whole cc0_scratch0 : Memref sig .tc .vmem S4x2048x8 .bf16) (Rect.unit (s := S4x2048x8) ![2, 0, 6] S1x2048x1.size inb_S4x2048x8_S1x2048x1_2_0_6) ((D.kG c))) (rd (Memref.whole cc0_stg1_0 : Memref sig .tc .vmem S8x512x1024 .bf16) (Rect.unit (s := S8x512x1024) ![6, 0, 0] S1x512x512.size inb_S8x512x1024_S1x512x512_6_0_0) ((D.w c))) (rd (Memref.whole cc0_scratch0 : Memref sig .tc .vmem S4x2048x8 .bf16) (Rect.unit (s := S4x2048x8) ![2, 0, 7] S1x2048x1.size inb_S4x2048x8_S1x2048x1_2_0_7) ((D.kG c))) (rd (Memref.whole cc0_stg1_0 : Memref sig .tc .vmem S8x512x1024 .bf16) (Rect.unit (s := S8x512x1024) ![7, 0, 0] S1x512x512.size inb_S8x512x1024_S1x512x512_7_0_0) ((D.w c))))
    (constant (F := F) S2048x512 .bf16 0))
theorem mk_pG_0 (D : Cont F) (c : Dev nD) : ((Memref.whole cc0_scratch3 : Memref sig .tc .vmem S2048x512 .bf16).access (Rect.unit (s := S2048x512) ![0, 0] S2048x512.size inb_S2048x512_S2048x512_0_0)).read (Elt F) (mk_pG D c)
    = (k0_pay57 (V28_0 D.x c) (V29_0 D.x D.w D.kG c) (V29_1 D.x D.kG c) (rd (Memref.whole cc0_stg1_0 : Memref sig .tc .vmem S8x512x1024 .bf16) (Rect.unit (s := S8x512x1024) ![5, 0, 0] S1x512x512.size inb_S8x512x1024_S1x512x512_5_0_0) ((D.w c))) (rd (Memref.whole cc0_scratch0 : Memref sig .tc .vmem S4x2048x8 .bf16) (Rect.unit (s := S4x2048x8) ![2, 0, 6] S1x2048x1.size inb_S4x2048x8_S1x2048x1_2_0_6) ((D.kG c))) (rd (Memref.whole cc0_stg1_0 : Memref sig .tc .vmem S8x512x1024 .bf16) (Rect.unit (s := S8x512x1024) ![6, 0, 0] S1x512x512.size inb_S8x512x1024_S1x512x512_6_0_0) ((D.w c))) (rd (Memref.whole cc0_scratch0 : Memref sig .tc .vmem S4x2048x8 .bf16) (Rect.unit (s := S4x2048x8) ![2, 0, 7] S1x2048x1.size inb_S4x2048x8_S1x2048x1_2_0_7) ((D.kG c))) (rd (Memref.whole cc0_stg1_0 : Memref sig .tc .vmem S8x512x1024 .bf16) (Rect.unit (s := S8x512x1024) ![7, 0, 0] S1x512x512.size inb_S8x512x1024_S1x512x512_7_0_0) ((D.w c)))) :=
  (read_put (Memref.whole cc0_scratch3 : Memref sig .tc .vmem S2048x512 .bf16) _ _ _)

/-- The contents `mG` from those it is computed of. -/
def mk_mG (D : Cont F) (c : Dev nD) : Vec F S2048x512 .bf16 :=
  (put (Memref.whole cc0_scratch4 : Memref sig .tc .vmem S2048x512 .bf16) (Rect.unit (s := S2048x512) ![0, 0] S2048x512.size inb_S2048x512_S2048x512_0_0)
    (k0_pay63 (V33_0 D.x c) (V34_0 D.x D.w D.kG c) (rd (Memref.whole cc0_scratch0 : Memref sig .tc .vmem S4x2048x8 .bf16) (Rect.unit (s := S4x2048x8) ![0, 0, 7] S1x2048x1.size inb_S4x2048x8_S1x2048x1_0_0_7) ((D.kG c))) (rd (Memref.whole cc0_stg1_0 : Memref sig .tc .vmem S8x512x1024 .bf16) (Rect.unit (s := S8x512x1024) ![7, 0, 512] S1x512x512.size inb_S8x512x1024_S1x512x512_7_0_512) ((D.w c))))
    (constant (F := F) S2048x512 .bf16 0))
theorem mk_mG_0 (D : Cont F) (c : Dev nD) : ((Memref.whole cc0_scratch4 : Memref sig .tc .vmem S2048x512 .bf16).access (Rect.unit (s := S2048x512) ![0, 0] S2048x512.size inb_S2048x512_S2048x512_0_0)).read (Elt F) (mk_mG D c)
    = (k0_pay63 (V33_0 D.x c) (V34_0 D.x D.w D.kG c) (rd (Memref.whole cc0_scratch0 : Memref sig .tc .vmem S4x2048x8 .bf16) (Rect.unit (s := S4x2048x8) ![0, 0, 7] S1x2048x1.size inb_S4x2048x8_S1x2048x1_0_0_7) ((D.kG c))) (rd (Memref.whole cc0_stg1_0 : Memref sig .tc .vmem S8x512x1024 .bf16) (Rect.unit (s := S8x512x1024) ![7, 0, 512] S1x512x512.size inb_S8x512x1024_S1x512x512_7_0_512) ((D.w c)))) :=
  (read_put (Memref.whole cc0_scratch4 : Memref sig .tc .vmem S2048x512 .bf16) _ _ _)

/-- The contents `wG` from those it is computed of. -/
def mk_wG (D : Cont F) (c : Dev nD) : Vec F S2048x1024 .bf16 :=
  (put (Memref.whole cc0_scratch5 : Memref sig .tc .vmem S2048x1024 .bf16) (Rect.unit (s := S2048x1024) ![0, 0] S2048x512.size inb_S2048x1024_S2048x512_0_0)
    (k0_pay33 (V16_0 D.x c) (V17_0 D.x D.w D.kG c) (V17_1 D.x D.kG c) (rd (Memref.whole cc0_stg1_0 : Memref sig .tc .vmem S8x512x1024 .bf16) (Rect.unit (s := S8x512x1024) ![5, 0, 0] S1x512x512.size inb_S8x512x1024_S1x512x512_5_0_0) ((D.w c))) (rd (Memref.whole cc0_scratch0 : Memref sig .tc .vmem S4x2048x8 .bf16) (Rect.unit (s := S4x2048x8) ![3, 0, 6] S1x2048x1.size inb_S4x2048x8_S1x2048x1_3_0_6) ((D.kG c))) (rd (Memref.whole cc0_stg1_0 : Memref sig .tc .vmem S8x512x1024 .bf16) (Rect.unit (s := S8x512x1024) ![6, 0, 0] S1x512x512.size inb_S8x512x1024_S1x512x512_6_0_0) ((D.w c))) (rd (Memref.whole cc0_scratch0 : Memref sig .tc .vmem S4x2048x8 .bf16) (Rect.unit (s := S4x2048x8) ![3, 0, 7] S1x2048x1.size inb_S4x2048x8_S1x2048x1_3_0_7) ((D.kG c))) (rd (Memref.whole cc0_stg1_0 : Memref sig .tc .vmem S8x512x1024 .bf16) (Rect.unit (s := S8x512x1024) ![7, 0, 0] S1x512x512.size inb_S8x512x1024_S1x512x512_7_0_0) ((D.w c))))
    (put (Memref.whole cc0_scratch5 : Memref sig .tc .vmem S2048x1024 .bf16) (Rect.unit (s := S2048x1024) ![0, 512] S2048x512.size inb_S2048x1024_S2048x512_0_512)
    (V39_0 D.x D.w D.kG c)
    (constant (F := F) S2048x1024 .bf16 0)))
theorem mk_wG_0 (D : Cont F) (c : Dev nD) : ((Memref.whole cc0_scratch5 : Memref sig .tc .vmem S2048x1024 .bf16).access (Rect.unit (s := S2048x1024) ![0, 0] S2048x512.size inb_S2048x1024_S2048x512_0_0)).read (Elt F) (mk_wG D c)
    = (k0_pay33 (V16_0 D.x c) (V17_0 D.x D.w D.kG c) (V17_1 D.x D.kG c) (rd (Memref.whole cc0_stg1_0 : Memref sig .tc .vmem S8x512x1024 .bf16) (Rect.unit (s := S8x512x1024) ![5, 0, 0] S1x512x512.size inb_S8x512x1024_S1x512x512_5_0_0) ((D.w c))) (rd (Memref.whole cc0_scratch0 : Memref sig .tc .vmem S4x2048x8 .bf16) (Rect.unit (s := S4x2048x8) ![3, 0, 6] S1x2048x1.size inb_S4x2048x8_S1x2048x1_3_0_6) ((D.kG c))) (rd (Memref.whole cc0_stg1_0 : Memref sig .tc .vmem S8x512x1024 .bf16) (Rect.unit (s := S8x512x1024) ![6, 0, 0] S1x512x512.size inb_S8x512x1024_S1x512x512_6_0_0) ((D.w c))) (rd (Memref.whole cc0_scratch0 : Memref sig .tc .vmem S4x2048x8 .bf16) (Rect.unit (s := S4x2048x8) ![3, 0, 7] S1x2048x1.size inb_S4x2048x8_S1x2048x1_3_0_7) ((D.kG c))) (rd (Memref.whole cc0_stg1_0 : Memref sig .tc .vmem S8x512x1024 .bf16) (Rect.unit (s := S8x512x1024) ![7, 0, 0] S1x512x512.size inb_S8x512x1024_S1x512x512_7_0_0) ((D.w c)))) :=
  (read_put (Memref.whole cc0_scratch5 : Memref sig .tc .vmem S2048x1024 .bf16) _ _ _)
theorem mk_wG_1 (D : Cont F) (c : Dev nD) : ((Memref.whole cc0_scratch5 : Memref sig .tc .vmem S2048x1024 .bf16).access (Rect.unit (s := S2048x1024) ![0, 512] S2048x512.size inb_S2048x1024_S2048x512_0_512)).read (Elt F) (mk_wG D c)
    = (V39_0 D.x D.w D.kG c) :=
  ((read_put_off (Memref.whole cc0_scratch5 : Memref sig .tc .vmem S2048x1024 .bf16) 1 (by decide) _ _).trans (read_put (Memref.whole cc0_scratch5 : Memref sig .tc .vmem S2048x1024 .bf16) _ _ _))

/-- The contents `a1r` from those it is computed of. -/
def mk_a1r (D : Cont F) (c : Dev nD) : Vec F S2048x512 .bf16 :=
  (down 0 (put (Memref.whole cc0_scratch6 : Memref sig .tc .vmem S2x2048x512 .bf16) (Rect.unit (s := S2x2048x512) ![0, 0, 0] S1x1024x512.size inb_S2x2048x512_S1x1024x512_0_0_0)
    (k0_pay42 (V21_1 D.a0r c) (V21_2 D.dG c))
    (put (Memref.whole cc0_scratch6 : Memref sig .tc .vmem S2x2048x512 .bf16) (Rect.unit (s := S2x2048x512) ![0, 1024, 0] S1x1024x512.size inb_S2x2048x512_S1x1024x512_0_1024_0)
    (k0_pay43 (V21_0 D.dG c) (rd (Memref.whole cc0_scratch7 : Memref sig .tc .vmem S2x2048x512 .bf16) (Rect.unit (s := S2x2048x512) ![0, 1024, 0] S1x1024x512.size inb_S2x2048x512_S1x1024x512_0_1024_0) ((up (D.a0r (lft c))))))
    (constant (F := F) S2x2048x512 .bf16 0))))
theorem mk_a1r_0 (D : Cont F) (c : Dev nD) : ((Memref.whole cc0_scratch6 : Memref sig .tc .vmem S2x2048x512 .bf16).access (Rect.unit (s := S2x2048x512) ![0, 0, 0] S1x1024x512.size inb_S2x2048x512_S1x1024x512_0_0_0)).read (Elt F) (up (mk_a1r D c))
    = (k0_pay42 (V21_1 D.a0r c) (V21_2 D.dG c)) :=
  ((read_up_down 0 (by rfl) (by rfl) _).trans (read_put (Memref.whole cc0_scratch6 : Memref sig .tc .vmem S2x2048x512 .bf16) _ _ _))
theorem mk_a1r_1 (D : Cont F) (c : Dev nD) : ((Memref.whole cc0_scratch6 : Memref sig .tc .vmem S2x2048x512 .bf16).access (Rect.unit (s := S2x2048x512) ![0, 1024, 0] S1x1024x512.size inb_S2x2048x512_S1x1024x512_0_1024_0)).read (Elt F) (up (mk_a1r D c))
    = (k0_pay43 (V21_0 D.dG c) (rd (Memref.whole cc0_scratch7 : Memref sig .tc .vmem S2x2048x512 .bf16) (Rect.unit (s := S2x2048x512) ![0, 1024, 0] S1x1024x512.size inb_S2x2048x512_S1x1024x512_0_1024_0) ((up (D.a0r (lft c)))))) :=
  (((read_up_down 0 (by rfl) (by rfl) _).trans (read_put_off (Memref.whole cc0_scratch6 : Memref sig .tc .vmem S2x2048x512 .bf16) 1 (by decide) _ _)).trans (read_put (Memref.whole cc0_scratch6 : Memref sig .tc .vmem S2x2048x512 .bf16) _ _ _))

/-- The contents `a1l` from those it is computed of. -/
def mk_a1l (D : Cont F) (c : Dev nD) : Vec F S2048x512 .bf16 :=
  (down 1 (put (Memref.whole cc0_scratch6 : Memref sig .tc .vmem S2x2048x512 .bf16) (Rect.unit (s := S2x2048x512) ![1, 0, 0] S1x1024x512.size inb_S2x2048x512_S1x1024x512_1_0_0)
    (k0_pay50 (rd (Memref.whole cc0_scratch2 : Memref sig .tc .vmem S2048x1024 .bf16) (Rect.unit (s := S2048x1024) ![0, 512] S2048x512.size inb_S2048x1024_S2048x512_0_512) ((D.dG c))) (rd (Memref.whole cc0_scratch8 : Memref sig .tc .vmem S2x2048x512 .bf16) (Rect.unit (s := S2x2048x512) ![0, 0, 0] S1x1024x512.size inb_S2x2048x512_S1x1024x512_0_0_0) ((up (D.a0l (rgt c))))))
    (put (Memref.whole cc0_scratch6 : Memref sig .tc .vmem S2x2048x512 .bf16) (Rect.unit (s := S2x2048x512) ![1, 1024, 0] S1x1024x512.size inb_S2x2048x512_S1x1024x512_1_1024_0)
    (V27_0 D.dG D.a0l c)
    (constant (F := F) S2x2048x512 .bf16 0))))
theorem mk_a1l_0 (D : Cont F) (c : Dev nD) : ((Memref.whole cc0_scratch6 : Memref sig .tc .vmem S2x2048x512 .bf16).access (Rect.unit (s := S2x2048x512) ![1, 0, 0] S1x1024x512.size inb_S2x2048x512_S1x1024x512_1_0_0)).read (Elt F) (up (mk_a1l D c))
    = (k0_pay50 (rd (Memref.whole cc0_scratch2 : Memref sig .tc .vmem S2048x1024 .bf16) (Rect.unit (s := S2048x1024) ![0, 512] S2048x512.size inb_S2048x1024_S2048x512_0_512) ((D.dG c))) (rd (Memref.whole cc0_scratch8 : Memref sig .tc .vmem S2x2048x512 .bf16) (Rect.unit (s := S2x2048x512) ![0, 0, 0] S1x1024x512.size inb_S2x2048x512_S1x1024x512_0_0_0) ((up (D.a0l (rgt c)))))) :=
  ((read_up_down 1 (by rfl) (by rfl) _).trans (read_put (Memref.whole cc0_scratch6 : Memref sig .tc .vmem S2x2048x512 .bf16) _ _ _))
theorem mk_a1l_1 (D : Cont F) (c : Dev nD) : ((Memref.whole cc0_scratch6 : Memref sig .tc .vmem S2x2048x512 .bf16).access (Rect.unit (s := S2x2048x512) ![1, 1024, 0] S1x1024x512.size inb_S2x2048x512_S1x1024x512_1_1024_0)).read (Elt F) (up (mk_a1l D c))
    = (V27_0 D.dG D.a0l c) :=
  (((read_up_down 1 (by rfl) (by rfl) _).trans (read_put_off (Memref.whole cc0_scratch6 : Memref sig .tc .vmem S2x2048x512 .bf16) 1 (by decide) _ _)).trans (read_put (Memref.whole cc0_scratch6 : Memref sig .tc .vmem S2x2048x512 .bf16) _ _ _))

/-- The contents `a2r` from those it is computed of. -/
def mk_a2r (D : Cont F) (c : Dev nD) : Vec F S2048x512 .bf16 :=
  (down 0 (put (Memref.whole cc0_scratch6 : Memref sig .tc .vmem S2x2048x512 .bf16) (Rect.unit (s := S2x2048x512) ![0, 0, 0] S1x1024x512.size inb_S2x2048x512_S1x1024x512_0_0_0)
    (k0_pay58 (V30_0 D.pG c) (rd (Memref.whole cc0_scratch7 : Memref sig .tc .vmem S2x2048x512 .bf16) (Rect.unit (s := S2x2048x512) ![1, 0, 0] S1x1024x512.size inb_S2x2048x512_S1x1024x512_1_0_0) ((up (D.a1r (lft c))))))
    (put (Memref.whole cc0_scratch6 : Memref sig .tc .vmem S2x2048x512 .bf16) (Rect.unit (s := S2x2048x512) ![0, 1024, 0] S1x1024x512.size inb_S2x2048x512_S1x1024x512_0_1024_0)
    (k0_pay59 (V30_0 D.pG c) (rd (Memref.whole cc0_scratch7 : Memref sig .tc .vmem S2x2048x512 .bf16) (Rect.unit (s := S2x2048x512) ![1, 1024, 0] S1x1024x512.size inb_S2x2048x512_S1x1024x512_1_1024_0) ((up (D.a1r (lft c))))))
    (constant (F := F) S2x2048x512 .bf16 0))))
theorem mk_a2r_0 (D : Cont F) (c : Dev nD) : ((Memref.whole cc0_scratch6 : Memref sig .tc .vmem S2x2048x512 .bf16).access (Rect.unit (s := S2x2048x512) ![0, 0, 0] S1x1024x512.size inb_S2x2048x512_S1x1024x512_0_0_0)).read (Elt F) (up (mk_a2r D c))
    = (k0_pay58 (V30_0 D.pG c) (rd (Memref.whole cc0_scratch7 : Memref sig .tc .vmem S2x2048x512 .bf16) (Rect.unit (s := S2x2048x512) ![1, 0, 0] S1x1024x512.size inb_S2x2048x512_S1x1024x512_1_0_0) ((up (D.a1r (lft c)))))) :=
  ((read_up_down 0 (by rfl) (by rfl) _).trans (read_put (Memref.whole cc0_scratch6 : Memref sig .tc .vmem S2x2048x512 .bf16) _ _ _))
theorem mk_a2r_1 (D : Cont F) (c : Dev nD) : ((Memref.whole cc0_scratch6 : Memref sig .tc .vmem S2x2048x512 .bf16).access (Rect.unit (s := S2x2048x512) ![0, 1024, 0] S1x1024x512.size inb_S2x2048x512_S1x1024x512_0_1024_0)).read (Elt F) (up (mk_a2r D c))
    = (k0_pay59 (V30_0 D.pG c) (rd (Memref.whole cc0_scratch7 : Memref sig .tc .vmem S2x2048x512 .bf16) (Rect.unit (s := S2x2048x512) ![1, 1024, 0] S1x1024x512.size inb_S2x2048x512_S1x1024x512_1_1024_0) ((up (D.a1r (lft c)))))) :=
  (((read_up_down 0 (by rfl) (by rfl) _).trans (read_put_off (Memref.whole cc0_scratch6 : Memref sig .tc .vmem S2x2048x512 .bf16) 1 (by decide) _ _)).trans (read_put (Memref.whole cc0_scratch6 : Memref sig .tc .vmem S2x2048x512 .bf16) _ _ _))

/-- The contents `a2l` from those it is computed of. -/
def mk_a2l (D : Cont F) (c : Dev nD) : Vec F S2048x512 .bf16 :=
  (down 1 (put (Memref.whole cc0_scratch6 : Memref sig .tc .vmem S2x2048x512 .bf16) (Rect.unit (s := S2x2048x512) ![1, 0, 0] S1x1024x512.size inb_S2x2048x512_S1x1024x512_1_0_0)
    (k0_pay64 (V35_0 D.mG c) (rd (Memref.whole cc0_scratch8 : Memref sig .tc .vmem S2x2048x512 .bf16) (Rect.unit (s := S2x2048x512) ![1, 0, 0] S1x1024x512.size inb_S2x2048x512_S1x1024x512_1_0_0) ((up (D.a1l (rgt c))))))
    (put (Memref.whole cc0_scratch6 : Memref sig .tc .vmem S2x2048x512 .bf16) (Rect.unit (s := S2x2048x512) ![1, 1024, 0] S1x1024x512.size inb_S2x2048x512_S1x1024x512_1_1024_0)
    (k0_pay65 (V35_0 D.mG c) (rd (Memref.whole cc0_scratch8 : Memref sig .tc .vmem S2x2048x512 .bf16) (Rect.unit (s := S2x2048x512) ![1, 1024, 0] S1x1024x512.size inb_S2x2048x512_S1x1024x512_1_1024_0) ((up (D.a1l (rgt c))))))
    (constant (F := F) S2x2048x512 .bf16 0))))
theorem mk_a2l_0 (D : Cont F) (c : Dev nD) : ((Memref.whole cc0_scratch6 : Memref sig .tc .vmem S2x2048x512 .bf16).access (Rect.unit (s := S2x2048x512) ![1, 0, 0] S1x1024x512.size inb_S2x2048x512_S1x1024x512_1_0_0)).read (Elt F) (up (mk_a2l D c))
    = (k0_pay64 (V35_0 D.mG c) (rd (Memref.whole cc0_scratch8 : Memref sig .tc .vmem S2x2048x512 .bf16) (Rect.unit (s := S2x2048x512) ![1, 0, 0] S1x1024x512.size inb_S2x2048x512_S1x1024x512_1_0_0) ((up (D.a1l (rgt c)))))) :=
  ((read_up_down 1 (by rfl) (by rfl) _).trans (read_put (Memref.whole cc0_scratch6 : Memref sig .tc .vmem S2x2048x512 .bf16) _ _ _))
theorem mk_a2l_1 (D : Cont F) (c : Dev nD) : ((Memref.whole cc0_scratch6 : Memref sig .tc .vmem S2x2048x512 .bf16).access (Rect.unit (s := S2x2048x512) ![1, 1024, 0] S1x1024x512.size inb_S2x2048x512_S1x1024x512_1_1024_0)).read (Elt F) (up (mk_a2l D c))
    = (k0_pay65 (V35_0 D.mG c) (rd (Memref.whole cc0_scratch8 : Memref sig .tc .vmem S2x2048x512 .bf16) (Rect.unit (s := S2x2048x512) ![1, 1024, 0] S1x1024x512.size inb_S2x2048x512_S1x1024x512_1_1024_0) ((up (D.a1l (rgt c)))))) :=
  (((read_up_down 1 (by rfl) (by rfl) _).trans (read_put_off (Memref.whole cc0_scratch6 : Memref sig .tc .vmem S2x2048x512 .bf16) 1 (by decide) _ _)).trans (read_put (Memref.whole cc0_scratch6 : Memref sig .tc .vmem S2x2048x512 .bf16) _ _ _))

/-- The contents `oG` from those it is computed of. -/
def mk_oG (D : Cont F) (c : Dev nD) : Vec F S2048x1024 .f32 :=
  (put (Memref.whole cc0_stg4_0 : Memref sig .tc .vmem S2048x1024 .f32) (Rect.unit (s := S2048x1024) ![0, 0] S1024x512.size inb_S2048x1024_S1024x512_0_0)
    (k0_pay72 (rd (Memref.whole cc0_scratch7 : Memref sig .tc .vmem S2x2048x512 .bf16) (Rect.unit (s := S2x2048x512) ![0, 0, 0] S1x1024x512.size inb_S2x2048x512_S1x1024x512_0_0_0) ((up (D.a2r (lft c))))) (rd (Memref.whole cc0_scratch5 : Memref sig .tc .vmem S2048x1024 .bf16) (Rect.unit (s := S2048x1024) ![0, 0] S1024x512.size inb_S2048x1024_S1024x512_0_0) ((D.wG c))))
    (put (Memref.whole cc0_stg4_0 : Memref sig .tc .vmem S2048x1024 .f32) (Rect.unit (s := S2048x1024) ![1024, 0] S1024x512.size inb_S2048x1024_S1024x512_1024_0)
    (k0_pay74 (V40_0 D.a2r c) (rd (Memref.whole cc0_scratch5 : Memref sig .tc .vmem S2048x1024 .bf16) (Rect.unit (s := S2048x1024) ![1024, 0] S1024x512.size inb_S2048x1024_S1024x512_1024_0) ((D.wG c))))
    (put (Memref.whole cc0_stg4_0 : Memref sig .tc .vmem S2048x1024 .f32) (Rect.unit (s := S2048x1024) ![0, 512] S1024x512.size inb_S2048x1024_S1024x512_0_512)
    (k0_pay75 (rd (Memref.whole cc0_scratch8 : Memref sig .tc .vmem S2x2048x512 .bf16) (Rect.unit (s := S2x2048x512) ![0, 0, 0] S1x1024x512.size inb_S2x2048x512_S1x1024x512_0_0_0) ((up (D.a2l (rgt c))))) (rd (Memref.whole cc0_scratch5 : Memref sig .tc .vmem S2048x1024 .bf16) (Rect.unit (s := S2048x1024) ![0, 512] S1024x512.size inb_S2048x1024_S1024x512_0_512) ((D.wG c))))
    (put (Memref.whole cc0_stg4_0 : Memref sig .tc .vmem S2048x1024 .f32) (Rect.unit (s := S2048x1024) ![1024, 512] S1024x512.size inb_S2048x1024_S1024x512_1024_512)
    (k0_pay76 (rd (Memref.whole cc0_scratch8 : Memref sig .tc .vmem S2x2048x512 .bf16) (Rect.unit (s := S2x2048x512) ![0, 1024, 0] S1x1024x512.size inb_S2x2048x512_S1x1024x512_0_1024_0) ((up (D.a2l (rgt c))))) (rd (Memref.whole cc0_scratch5 : Memref sig .tc .vmem S2048x1024 .bf16) (Rect.unit (s := S2048x1024) ![1024, 512] S1024x512.size inb_S2048x1024_S1024x512_1024_512) ((D.wG c))))
    (constant (F := F) S2048x1024 .f32 0)))))
theorem mk_oG_0 (D : Cont F) (c : Dev nD) : ((Memref.whole cc0_stg4_0 : Memref sig .tc .vmem S2048x1024 .f32).access (Rect.unit (s := S2048x1024) ![0, 0] S1024x512.size inb_S2048x1024_S1024x512_0_0)).read (Elt F) (mk_oG D c)
    = (k0_pay72 (rd (Memref.whole cc0_scratch7 : Memref sig .tc .vmem S2x2048x512 .bf16) (Rect.unit (s := S2x2048x512) ![0, 0, 0] S1x1024x512.size inb_S2x2048x512_S1x1024x512_0_0_0) ((up (D.a2r (lft c))))) (rd (Memref.whole cc0_scratch5 : Memref sig .tc .vmem S2048x1024 .bf16) (Rect.unit (s := S2048x1024) ![0, 0] S1024x512.size inb_S2048x1024_S1024x512_0_0) ((D.wG c)))) :=
  (read_put (Memref.whole cc0_stg4_0 : Memref sig .tc .vmem S2048x1024 .f32) _ _ _)
theorem mk_oG_1 (D : Cont F) (c : Dev nD) : ((Memref.whole cc0_stg4_0 : Memref sig .tc .vmem S2048x1024 .f32).access (Rect.unit (s := S2048x1024) ![1024, 0] S1024x512.size inb_S2048x1024_S1024x512_1024_0)).read (Elt F) (mk_oG D c)
    = (k0_pay74 (V40_0 D.a2r c) (rd (Memref.whole cc0_scratch5 : Memref sig .tc .vmem S2048x1024 .bf16) (Rect.unit (s := S2048x1024) ![1024, 0] S1024x512.size inb_S2048x1024_S1024x512_1024_0) ((D.wG c)))) :=
  ((read_put_off (Memref.whole cc0_stg4_0 : Memref sig .tc .vmem S2048x1024 .f32) 0 (by decide) _ _).trans (read_put (Memref.whole cc0_stg4_0 : Memref sig .tc .vmem S2048x1024 .f32) _ _ _))
theorem mk_oG_2 (D : Cont F) (c : Dev nD) : ((Memref.whole cc0_stg4_0 : Memref sig .tc .vmem S2048x1024 .f32).access (Rect.unit (s := S2048x1024) ![0, 512] S1024x512.size inb_S2048x1024_S1024x512_0_512)).read (Elt F) (mk_oG D c)
    = (k0_pay75 (rd (Memref.whole cc0_scratch8 : Memref sig .tc .vmem S2x2048x512 .bf16) (Rect.unit (s := S2x2048x512) ![0, 0, 0] S1x1024x512.size inb_S2x2048x512_S1x1024x512_0_0_0) ((up (D.a2l (rgt c))))) (rd (Memref.whole cc0_scratch5 : Memref sig .tc .vmem S2048x1024 .bf16) (Rect.unit (s := S2048x1024) ![0, 512] S1024x512.size inb_S2048x1024_S1024x512_0_512) ((D.wG c)))) :=
  (((read_put_off (Memref.whole cc0_stg4_0 : Memref sig .tc .vmem S2048x1024 .f32) 1 (by decide) _ _).trans (read_put_off (Memref.whole cc0_stg4_0 : Memref sig .tc .vmem S2048x1024 .f32) 0 (by decide) _ _)).trans (read_put (Memref.whole cc0_stg4_0 : Memref sig .tc .vmem S2048x1024 .f32) _ _ _))
theorem mk_oG_3 (D : Cont F) (c : Dev nD) : ((Memref.whole cc0_stg4_0 : Memref sig .tc .vmem S2048x1024 .f32).access (Rect.unit (s := S2048x1024) ![1024, 512] S1024x512.size inb_S2048x1024_S1024x512_1024_512)).read (Elt F) (mk_oG D c)
    = (k0_pay76 (rd (Memref.whole cc0_scratch8 : Memref sig .tc .vmem S2x2048x512 .bf16) (Rect.unit (s := S2x2048x512) ![0, 1024, 0] S1x1024x512.size inb_S2x2048x512_S1x1024x512_0_1024_0) ((up (D.a2l (rgt c))))) (rd (Memref.whole cc0_scratch5 : Memref sig .tc .vmem S2048x1024 .bf16) (Rect.unit (s := S2048x1024) ![1024, 512] S1024x512.size inb_S2048x1024_S1024x512_1024_512) ((D.wG c)))) :=
  ((((read_put_off (Memref.whole cc0_stg4_0 : Memref sig .tc .vmem S2048x1024 .f32) 0 (by decide) _ _).trans (read_put_off (Memref.whole cc0_stg4_0 : Memref sig .tc .vmem S2048x1024 .f32) 1 (by decide) _ _)).trans (read_put_off (Memref.whole cc0_stg4_0 : Memref sig .tc .vmem S2048x1024 .f32) 0 (by decide) _ _)).trans (read_put (Memref.whole cc0_stg4_0 : Memref sig .tc .vmem S2048x1024 .f32) _ _ _))

/-- Stage 1 of the contents. -/
def stage1 (D : Cont F) : Cont F := { D with kG := mk_kG D }

/-- Stage 2 of the contents. -/
def stage2 (D : Cont F) : Cont F := { D with a0r := mk_a0r D, a0l := mk_a0l D, dG := mk_dG D, pG := mk_pG D, mG := mk_mG D, wG := mk_wG D }

/-- Stage 3 of the contents. -/
def stage3 (D : Cont F) : Cont F := { D with a1r := mk_a1r D, a1l := mk_a1l D }

/-- Stage 4 of the contents. -/
def stage4 (D : Cont F) : Cont F := { D with a2r := mk_a2r D, a2l := mk_a2l D }

/-- Stage 5 of the contents. -/
def stage5 (D : Cont F) : Cont F := { D with oG := mk_oG D }

variable (m : (ℓ : Loc nD τ sig) → Buf (Elt F) ℓ)

/-- The inputs the kernel starts from, every other contents zero. -/
def inputs : Cont F where
  x c := V m c main_v1
  rt c := V m c main_arg2
  w c := V m c main_v2
  tri c := V m c main_v6
  a0r _ := constant (F := F) S2048x512 .bf16 0
  a1r _ := constant (F := F) S2048x512 .bf16 0
  a2r _ := constant (F := F) S2048x512 .bf16 0
  a0l _ := constant (F := F) S2048x512 .bf16 0
  a1l _ := constant (F := F) S2048x512 .bf16 0
  a2l _ := constant (F := F) S2048x512 .bf16 0
  pG _ := constant (F := F) S2048x512 .bf16 0
  mG _ := constant (F := F) S2048x512 .bf16 0
  kG _ := constant (F := F) S4x2048x8 .bf16 0
  dG _ := constant (F := F) S2048x1024 .bf16 0
  wG _ := constant (F := F) S2048x1024 .bf16 0
  oG _ := constant (F := F) S2048x1024 .f32 0

def dat1 : Cont F := stage1 (inputs m)
def dat2 : Cont F := stage2 (dat1 m)
def dat3 : Cont F := stage3 (dat2 m)
def dat4 : Cont F := stage4 (dat3 m)
/-- All the contents. -/
def dataOf : Cont F := stage5 (dat4 m)

theorem fits : Fits m (dataOf m) := ⟨fun _ => rfl, fun _ => rfl, fun _ => rfl, fun _ => rfl⟩

set_option maxHeartbeats 4000000 in
/-- Every store writes what its buffer is said to hold. -/
theorem good : Good (dataOf m) where
  g0 c := mk_kG_0 (inputs m) c
  g1 c := mk_kG_1 (inputs m) c
  g2 c := mk_kG_2 (inputs m) c
  g3 c := mk_kG_3 (inputs m) c
  g4 c := mk_a0r_0 (dat1 m) c
  g5 c := mk_a0l_0 (dat1 m) c
  g6 c := mk_wG_0 (dat1 m) c
  g7 c := mk_dG_0 (dat1 m) c
  g8 c := mk_a1r_0 (dat2 m) c
  g9 c := mk_a1r_1 (dat2 m) c
  g10 c := mk_dG_1 (dat1 m) c
  g11 c := mk_a1l_0 (dat2 m) c
  g12 c := mk_a1l_1 (dat2 m) c
  g13 c := mk_pG_0 (dat1 m) c
  g14 c := mk_a2r_0 (dat3 m) c
  g15 c := mk_a2r_1 (dat3 m) c
  g16 c := mk_mG_0 (dat1 m) c
  g17 c := mk_a2l_0 (dat3 m) c
  g18 c := mk_a2l_1 (dat3 m) c
  g19 c := mk_wG_1 (dat1 m) c
  g20 c := mk_oG_0 (dat4 m) c
  g21 c := mk_oG_1 (dat4 m) c
  g22 c := mk_oG_2 (dat4 m) c
  g23 c := mk_oG_3 (dat4 m) c

/-- THE RUN of the kernel's program from any memory. -/
theorem run_value (ρ : Dev nD → PrngReg) : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v7) = (dataOf m).oG c) ∧ r.2.sem = fun _ => 0) :=
  run_main m ρ (dataOf m) (fits m) (good m)

end Cert.KernelIdeal.Talk

end
-- ==== Proof.Frames.lean ====
/-
  The three programs run, leave their arguments as they were and every counter at zero.
-/
module

public import proofs.«01_k».proof.Defs
public import proofs.«01_k».proof.Proof.Data
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem

/-- The kernel over the reals. -/
theorem frame_KernelIdeal : quiescent_KernelIdeal (hKernelIdeal := Cert.KernelIdeal.Gen.facts) := fun m g _ =>
  (θ_run _ _ _).mono (fun _ h => ⟨fun c => ⟨(h.1 c).1, (h.1 c).2.1, (h.1 c).2.2.1, (h.1 c).2.2.2.1⟩, h.2⟩) (Cert.KernelIdeal.Talk.run_value m g)

set_option maxRecDepth 100000 in
set_option maxHeartbeats 4000000 in
/-- The kernel's program as printed for the machine and as printed for reading over the reals are one text: their body
    tables agree. -/
theorem defs_eq : (@Cert.Kernel.defs Bits _ Cert.Kernel.Gen.facts) = (@Cert.KernelIdeal.defs Bits _ Cert.KernelIdeal.Gen.facts) := by
  have d : (@Cert.Kernel.defs₀ Bits _ Cert.Kernel.Gen.facts) = (@Cert.KernelIdeal.defs₀ Bits _ Cert.KernelIdeal.Gen.facts) := by
    refine congrArg Defs.onTc ?_
    funext l a
    match l, a with
    | ⟨0, _⟩, (t, s) => rfl
    | ⟨_ + 1, h⟩, _ => exact absurd h (Nat.not_lt.2 (Nat.le_add_left _ _))
  exact congrArg (Pipeline.defs (Cert.KernelIdeal.pcfgs (F := Bits))) d

set_option maxRecDepth 100000 in
set_option maxHeartbeats 4000000 in
/-- The kernel at the machine's words. -/
theorem frame_Kernel : quiescent_Kernel (hKernel := Cert.Kernel.Gen.facts) := fun m g _ => by
  have h := Cert.KernelIdeal.Talk.run_value (F := Bits) m g
  rw [← defs_eq] at h
  exact (θ_run _ _ _).mono (fun _ h => ⟨fun c => ⟨(h.1 c).1, (h.1 c).2.1, (h.1 c).2.2.1, (h.1 c).2.2.2.1⟩, h.2⟩) h

/-- The reference. -/
theorem frame_ReferenceIdeal : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

end Cert.Proof

end
-- ==== Proof.Masks.lean ====
/-
  Which tokens each expert keeps: the masks the body stores, as numbers.
-/
module

public import proofs.«01_k».proof.Proof.Vals
public import Idealize.ShloMosaic.Lib.Pointwise
public import Idealize.ShloMosaic.Lib.Pipeline.ValueKit.Stack

@[expose] public section

noncomputable section

namespace Cert.KernelIdeal.Talk

open Cert.KernelIdeal Cert.KernelIdeal.Gen
open Idealize.ShloMosaic Idealize.ShloMosaic.TcCoe

section
variable {F : FTy → Type} [FloatOps F]

/-- Which tokens chose which of the eight experts. -/
def hitB (ids : IVec S1x8 32) (rt : IVec S2048x1 32) : IVec S2048x8 1 :=
  cmpi .eq (broadcastTo S2048x8 rt broadcasts_S2048x1_S2048x8) (broadcastTo S2048x8 ids broadcasts_S1x8_S2048x8)

/-- The same as ones and zeros. -/
def hitF (ids : IVec S1x8 32) (rt : IVec S2048x1 32) : FVec F S2048x8 .f32 :=
  sitofp .f32 (extui 32 (hitB ids rt) natLt_1_32)

/-- How many tokens chose each expert. -/
def cntV (ids : IVec S1x8 32) (rt : IVec S2048x1 32) : FVec F S1x8 .f32 :=
  shapeCast S1x8 (multiReduction .add [0] S8 (hitF ids rt : FVec F S2048x8 .f32) 0x00000000#32 reduces_S2048x8_S8 (.inl rfl) rfl) shapeCasts_S8_S1x8

/-- One device's counts, if its block of tokens comes before. -/
def wgtV (a b : BitVec 32) (x : FVec F S1x8 .f32) : FVec F S1x8 .f32 :=
  mulf (broadcast S1x8 (Scalar.select (Scalar.cmpi .slt a b) (Scalar.ofBits .f32 0x3F800000#32 : F .f32) (Scalar.ofBits .f32 0x00000000#32))) x

/-- The counts of the blocks before, from the three other devices. -/
def offV (b a1 a2 a3 : BitVec 32) (x1 x2 x3 : FVec F S1x8 .f32) : FVec F S1x8 .f32 :=
  addf (addf (addf (broadcast S1x8 (Scalar.ofBits .f32 0x00000000#32)) (wgtV a1 b x1)) (wgtV a2 b x2)) (wgtV a3 b x3)

/-- Which tokens each expert keeps. -/
def keptV (ids : IVec S1x8 32) (rt : IVec S2048x1 32) (tri : FVec F S2048x2048 .bf16) (off : FVec F S1x8 .f32) : FVec F S2048x8 .bf16 :=
  truncf .bf16 (sitofp .f32 (extui 32 (andi
    (cmpf .ogt (truncf .bf16 (hitF ids rt : FVec F S2048x8 .f32) bitsLt_bf16_f32) (broadcast S2048x8 (Scalar.ofBits .bf16 0x0000#16)))
    (cmpf .olt (addf (subf (matmul dot_S2048x2048_S2048x8_S2048x8_1_0_0_1_n_n none tri (truncf .bf16 (hitF ids rt : FVec F S2048x8 .f32) bitsLt_bf16_f32) (constant S2048x8 .f32 0x00000000#32))
        (extf .f32 (truncf .bf16 (hitF ids rt : FVec F S2048x8 .f32) bitsLt_bf16_f32) bitsLt_bf16_f32)) (broadcastTo S2048x8 off broadcasts_S1x8_S2048x8))
      (broadcast S2048x8 (Scalar.ofBits .f32 0x434C0000#32)))) natLt_1_32)) bitsLt_bf16_f32

end

/-! ## Counting -/

/-- How many tokens of a block chose expert `w`; -/
def cnt (r : Fin 2048 → BitVec 32) (w : BitVec 32) : ℕ := ∑ k, if r k = w then 1 else 0
/-- how many of them before token `n`. -/
def pre (r : Fin 2048 → BitVec 32) (w : BitVec 32) (n : Fin 2048) : ℕ := ∑ k, if k < n ∧ r k = w then 1 else 0

/-- The column of choices of a block. -/
def col (rt : IVec S2048x1 32) : Fin 2048 → BitVec 32 := fun n => rt (ix2 n 0)

/-- A truth value made a number. -/
theorem bit_val (p : Bool) : (FloatOps.sitofp FTy.f32 (BitVec.setWidth 32 (BitVec.ofBool p)) : Ideal .f32) = if p then (1 : EReal) else 0 := by
  show (((BitVec.setWidth 32 (BitVec.ofBool p)).toInt : ℝ) : EReal) = _
  rw [show (BitVec.setWidth 32 (BitVec.ofBool p)).toInt = if p then 1 else 0 by cases p <;> decide]
  cases p <;> simp

theorem hit_val (a b : BitVec 32) : (FloatOps.sitofp FTy.f32 (BitVec.setWidth 32 (IntOp.cmpi CmpIPredicate.eq a b)) : Ideal .f32) = if a = b then (1 : EReal) else 0 := by
  rw [show IntOp.cmpi CmpIPredicate.eq a b = BitVec.ofBool (a == b) from rfl, bit_val]
  simp

theorem cast_sum {ι : Type} [Fintype ι] (f : ι → ℕ) : ((∑ k, f k : ℕ) : EReal) = ∑ k, ((f k : ℕ) : EReal) := by
  push_cast; rfl

theorem cntV_apply (ids : IVec S1x8 32) (rt : IVec S2048x1 32) (e : Fin 8) :
    cntV (F := Ideal) ids rt (ix2 0 e) = ((cnt (col rt) (ids (ix2 0 e)) : ℕ) : EReal) := by
  pointwise [cntV, hitF, hitB]
  rw [cnt, cast_sum]
  refine Finset.sum_congr rfl fun k _ => ?_
  rw [hit_val]; split <;> simp_all [col]

theorem wgtV_apply (a b : BitVec 32) (x : FVec Ideal S1x8 .f32) (e : Fin 8) (k : ℕ) (hx : x (ix2 0 e) = (k : EReal)) :
    wgtV (F := Ideal) a b x (ix2 0 e) = ((if a.slt b then k else 0 : ℕ) : EReal) := by
  pointwise [wgtV]
  rw [hx, show Scalar.cmpi CmpIPredicate.slt a b = BitVec.ofBool (a.slt b) from rfl]
  cases a.slt b <;> simp [Scalar.select]

theorem offV_apply (b a1 a2 a3 : BitVec 32) (x1 x2 x3 : FVec Ideal S1x8 .f32) (e : Fin 8) (k1 k2 k3 : ℕ)
    (h1 : x1 (ix2 0 e) = (k1 : EReal)) (h2 : x2 (ix2 0 e) = (k2 : EReal)) (h3 : x3 (ix2 0 e) = (k3 : EReal)) :
    offV (F := Ideal) b a1 a2 a3 x1 x2 x3 (ix2 0 e)
      = (((if a1.slt b then k1 else 0) + (if a2.slt b then k2 else 0) + (if a3.slt b then k3 else 0) : ℕ) : EReal) := by
  pointwise [offV]
  rw [wgtV_apply _ _ _ _ _ h1, wgtV_apply _ _ _ _ _ h2, wgtV_apply _ _ _ _ _ h3]
  push_cast; simp

theorem ofBits_204 : Ideal.ofBits FTy.f32 1129054208#32 = ((204 : ℕ) : EReal) := by
  have h : Ideal.ofBits FTy.f32 1129054208#32 = ((204 : ℝ) : EReal) := by
    simp [Ideal.ofBits, Ideal.ieee, -EReal.coe_mul]; norm_num
  rw [h]; norm_cast

theorem sub_nat (a b : ℕ) : (((a + b : ℕ) : EReal)) - ((b : ℕ) : EReal) = ((a : ℕ) : EReal) := by
  have e (k : ℕ) : ((k : ℕ) : EReal) = (((k : ℕ) : ℝ) : EReal) := by norm_cast
  rw [e, e, e, ← EReal.coe_sub]; congr 1; push_cast; ring

/-- What the body stores for a token and an expert: one if it is kept. -/
theorem keptV_apply (ids : IVec S1x8 32) (rt : IVec S2048x1 32) (tri : FVec Ideal S2048x2048 .bf16) (off : FVec Ideal S1x8 .f32)
    (n : Fin 2048) (e : Fin 8) (b : ℕ) (ht : ∀ k, tri (ix2 n k) = if k ≤ n then (1 : EReal) else 0) (hb : off (ix2 0 e) = ((b : ℕ) : EReal)) :
    keptV (F := Ideal) ids rt tri off (ix2 n e)
      = if col rt n = ids (ix2 0 e) ∧ b + pre (col rt) (ids (ix2 0 e)) n < 204 then (1 : EReal) else 0 := by
  have hs : (∑ k, tri (ix2 n k) * (if rt (ix2 k 0) = ids (ix2 0 e) then (1 : EReal) else 0))
      = ((pre (col rt) (ids (ix2 0 e)) n + (if col rt n = ids (ix2 0 e) then 1 else 0) : ℕ) : EReal) := by
    have hn : pre (col rt) (ids (ix2 0 e)) n + (if col rt n = ids (ix2 0 e) then 1 else 0)
        = ∑ k, if k ≤ n ∧ col rt k = ids (ix2 0 e) then 1 else 0 := by
      have h1 : (if col rt n = ids (ix2 0 e) then 1 else 0) = ∑ k, if k = n then (if col rt k = ids (ix2 0 e) then 1 else 0) else 0 := by simp
      rw [h1, pre, ← Finset.sum_add_distrib]
      refine Finset.sum_congr rfl fun k _ => ?_
      rcases lt_trichotomy k n with h | h | h
      · simp [h, h.le, h.ne]
      · simp [h]
      · simp [h.not_ge, h.not_gt, h.ne']
    rw [hn, cast_sum]
    refine Finset.sum_congr rfl fun k _ => ?_
    rw [ht k]
    by_cases h1 : k ≤ n <;> by_cases h2 : rt (ix2 k 0) = ids (ix2 0 e) <;> simp [h1, h2, col]
  pointwise [keptV, hitF, hitB]
  simp only [hit_val]
  rw [hs, hb, ofBits_204]
  by_cases h : col rt n = ids (ix2 0 e)
  · have h' : rt (ix2 n 0) = ids (ix2 0 e) := h
    simp only [h, h', if_true, true_and]
    have e1 : ((pre (col rt) (ids (ix2 0 e)) n + 1 : ℕ) : EReal) - 1 = ((pre (col rt) (ids (ix2 0 e)) n : ℕ) : EReal) := by
      have := sub_nat (pre (col rt) (ids (ix2 0 e)) n) 1
      rwa [Nat.cast_one] at this
    rw [e1, ← Nat.cast_add]
    have e2 : decide (((pre (col rt) (ids (ix2 0 e)) n + b : ℕ) : EReal) < ((204 : ℕ) : EReal)) = decide (b + pre (col rt) (ids (ix2 0 e)) n < 204) := by
      rw [decide_eq_decide, EReal.natCast_lt_iff, Nat.add_comm]
    rw [e2, show decide ((0:EReal) < 1) = true by simp, show IntOp.andi (BitVec.ofBool true) (BitVec.ofBool (decide (b + pre (col rt) (ids (ix2 0 e)) n < 204))) = BitVec.ofBool (decide (b + pre (col rt) (ids (ix2 0 e)) n < 204)) by cases decide (b + pre (col rt) (ids (ix2 0 e)) n < 204) <;> rfl, bit_val]
    simp
  · have h' : ¬ rt (ix2 n 0) = ids (ix2 0 e) := h
    simp only [h, h', if_false, false_and]
    rw [show decide ((0:EReal) < 0) = false by simp]
    rw [show ∀ x : BitVec 1, IntOp.andi (BitVec.ofBool false) x = BitVec.ofBool false by decide, bit_val]
    simp

end Cert.KernelIdeal.Talk

end
-- ==== Proof.Kept.lean ====
/-
  The four masks of a device: each token of each source is kept by an expert if fewer than 204 tokens chose that expert
  before it, over all four blocks in their order.
-/
module

public import proofs.«01_k».proof.Proof.Masks

@[expose] public section

noncomputable section

namespace Cert.KernelIdeal.Talk

open Cert.KernelIdeal Cert.KernelIdeal.Gen
open Idealize.ShloMosaic Idealize.ShloMosaic.TcCoe

/-- A unit-stride rectangle places an index at the offsets plus it. -/
theorem at_idx {S : Shape} {off size : Fin S.rank → ℕ} {inb : ∀ a, off a + size a ≤ S.size a} (x : (Rect.unit off size inb).shape.Idx)
    (i : S.Idx) (hi : ∀ a, (i a : ℕ) = off a + x a) : (Rect.unit off size inb).idx x = i :=
  funext fun a => Fin.ext ((Rect.idx_unit_val off size inb x a).trans (hi a).symm)

/-- The place of a mask's element in its slot. -/
theorem slot_at (j : Fin 4) {k : ℕ} (hk : j.val = k) (inb) (n : Fin 2048) (e : Fin 8) :
    (Rect.unit (s := S4x2048x8) ![k, 0, 0] S1x2048x8.size inb).idx (ix3 0 n e) = ix3 j n e :=
  at_idx _ _ fun a => by
    match a with
    | 0 => exact hk
    | 1 => exact (Nat.zero_add _).symm
    | 2 => exact (Nat.zero_add _).symm

/-- The number of tokens before token `n` of block `s` that chose expert `w`. -/
def befo (R : Dev nD → Fin 2048 → BitVec 32) (s : Dev nD) (n : Fin 2048) (w : BitVec 32) : ℕ :=
  (∑ t : Dev nD, if t < s then cnt (R t) w else 0) + pre (R s) w n

/-- One if token `n` of block `s` is kept by expert `w`, zero if not. -/
def keep (R : Dev nD → Fin 2048 → BitVec 32) (s : Dev nD) (n : Fin 2048) (w : BitVec 32) : EReal :=
  if R s n = w ∧ befo R s n w < 204 then 1 else 0

/-- The number of a device's expert. -/
def expert (c : Dev nD) (e : Fin 8) : BitVec 32 := BitVec.ofNat 32 (8 * c.val + e.val)

theorem ids_apply (c : Dev nD) (e : Fin 8) : V3_0 c (ix2 0 e) = expert c e := by
  pointwise [V3_0, k0_pay1, expert]
  revert c e
  decide

variable (D : Cont Ideal)

/-- The columns of choices. -/
def cols : Dev nD → Fin 2048 → BitVec 32 := fun s => col (D.rt s)

/-- The column of choices in slot `j` of the buffer of columns; -/
def rtRd (A : Vec Ideal S2048x1 .i32) (j : ℕ) (hj : ∀ a, ![j, 0, 0] a + S1x2048x1.size a ≤ S3x2048x1.size a) : IVec S2048x1 32 :=
  shapeCast S2048x1 (rd (F := Ideal) (Memref.whole cc0_scratch9 : Memref sig .tc .vmem S3x2048x1 .i32) (Rect.unit (s := S3x2048x1) ![j, 0, 0] S1x2048x1.size hj) (up A)) shapeCasts_S1x2048x1_S2048x1
/-- the device's own; -/
def rtOwn (A : Vec Ideal S2048x1 .i32) : IVec S2048x1 32 :=
  shapeCast S2048x1 (rd (F := Ideal) (Memref.whole cc0_stg2_0 : Memref sig .tc .vmem S2048x1 .i32) (Rect.unit (s := S2048x1) ![0, 0] S2048x1.size inb_S2048x1_S2048x1_0_0) A) shapeCasts_S2048x1_S2048x1
/-- the triangle of ones as it is read. -/
def triOwn (A : Vec Ideal S2048x2048 .bf16) : FVec Ideal S2048x2048 .bf16 :=
  shapeCast S2048x2048 (rd (F := Ideal) (Memref.whole cc0_stg3_0 : Memref sig .tc .vmem S2048x2048 .bf16) (Rect.unit (s := S2048x2048) ![0, 0] S2048x2048.size inb_S2048x2048_S2048x2048_0_0) A) shapeCasts_S2048x2048_S2048x2048

/-- A column with its leading axis dropped. -/
theorem drop_col (f : IVec S1x2048x1 32) (n : Fin 2048) (z : Fin 1) : shapeCast S2048x1 f shapeCasts_S1x2048x1_S2048x1 (ix2 n z) = f (ix3 0 n z) := by
  obtain rfl : z = 0 := Subsingleton.elim _ _
  pointwise

/-- A column received from another device. -/
theorem rt_read (A : Vec Ideal S2048x1 .i32) (j : ℕ) (hj : ∀ a, ![j, 0, 0] a + S1x2048x1.size a ≤ S3x2048x1.size a) :
    rtRd A j hj = A := by
  funext i
  idx_vars i
  refine (drop_col _ _ _).trans (congrArg A (funext fun a => Fin.ext ?_))
  match a with
  | 0 => exact (Rect.idx_unit_val ..).trans (by simp)
  | 1 => exact (Rect.idx_unit_val ..).trans (by simp)

/-- A device's own column. -/
theorem rt_own (A : Vec Ideal S2048x1 .i32) :
    rtOwn A = A := by
  funext i
  idx_vars i
  unfold rtOwn
  pointwise
  refine congrArg A (at_idx _ _ fun a => ?_)
  match a with
  | 0 => simp
  | 1 => simp

/-- The triangle of ones. -/
theorem tri_own (A : Vec Ideal S2048x2048 .bf16) :
    triOwn A = A := by
  funext i
  idx_vars i
  unfold triOwn
  pointwise
  refine congrArg A (at_idx _ _ fun a => ?_)
  match a with
  | 0 => simp
  | 1 => simp

theorem cnt0 (c : Dev nD) (e : Fin 8) : V4_0 D.rt c (ix2 0 e) = ((cnt (cols D c) (expert c e) : ℕ) : EReal) := by
  rw [show V4_0 D.rt c = cntV (V3_0 c) (rtOwn (D.rt c)) from rfl, rt_own, cntV_apply, ids_apply]; rfl
theorem cnt1 (c : Dev nD) (e : Fin 8) : V4_1 D.rt c (ix2 0 e) = ((cnt (cols D (rgt c)) (expert c e) : ℕ) : EReal) := by
  rw [show V4_1 D.rt c = cntV (V3_0 c) (rtRd (D.rt (rgt c)) 1 inb_S3x2048x1_S1x2048x1_1_0_0) from rfl, rt_read, cntV_apply, ids_apply]; rfl
theorem cnt2 (c : Dev nD) (e : Fin 8) : V4_2 D.rt c (ix2 0 e) = ((cnt (cols D (opp c)) (expert c e) : ℕ) : EReal) := by
  rw [show V4_2 D.rt c = cntV (V3_0 c) (rtRd (D.rt (opp c)) 2 inb_S3x2048x1_S1x2048x1_2_0_0) from rfl, rt_read, cntV_apply, ids_apply]; rfl
theorem cnt3 (c : Dev nD) (e : Fin 8) : V4_3 D.rt c (ix2 0 e) = ((cnt (cols D (lft c)) (expert c e) : ℕ) : EReal) := by
  rw [show V4_3 D.rt c = cntV (V3_0 c) (rtRd (D.rt (lft c)) 0 inb_S3x2048x1_S1x2048x1_0_0_0) from rfl, rt_read, cntV_apply, ids_apply]; rfl

/-- The device `k` places to the right, as the body numbers it. -/
def gid (k : BitVec 32) (c : Dev nD) : BitVec 32 := Scalar.remsi (Scalar.addi (V1_1 c) k) 4#32

/-- The other devices' counts, each taken if its block comes before, are the counts of the blocks before. -/
theorem offs (K : Dev nD → ℕ) (c : Dev nD) :
    ((if (gid 1 c).slt (gid 0 c) then K (rgt c) else 0) + (if (gid 2 c).slt (gid 0 c) then K (opp c) else 0) + (if (gid 3 c).slt (gid 0 c) then K (lft c) else 0)
        = ∑ t, if t < c then K t else 0)
    ∧ ((if (gid 0 c).slt (gid 1 c) then K c else 0) + (if (gid 2 c).slt (gid 1 c) then K (opp c) else 0) + (if (gid 3 c).slt (gid 1 c) then K (lft c) else 0)
        = ∑ t, if t < rgt c then K t else 0)
    ∧ ((if (gid 0 c).slt (gid 2 c) then K c else 0) + (if (gid 1 c).slt (gid 2 c) then K (rgt c) else 0) + (if (gid 3 c).slt (gid 2 c) then K (lft c) else 0)
        = ∑ t, if t < opp c then K t else 0)
    ∧ ((if (gid 0 c).slt (gid 3 c) then K c else 0) + (if (gid 1 c).slt (gid 3 c) then K (rgt c) else 0) + (if (gid 2 c).slt (gid 3 c) then K (opp c) else 0)
        = ∑ t, if t < lft c then K t else 0) := by
  have h0 : ∀ c, (gid 0 c).toInt = (c.val : ℤ) := by decide
  have h1 : ∀ c, (gid 1 c).toInt = ((rgt c).val : ℤ) := by decide
  have h2 : ∀ c, (gid 2 c).toInt = ((opp c).val : ℤ) := by decide
  have h3 : ∀ c, (gid 3 c).toInt = ((lft c).val : ℤ) := by decide
  have hs : ∀ a b : BitVec 32, a.slt b = decide (a.toInt < b.toInt) := fun _ _ => rfl
  have hr : rgt 0 = 1 ∧ rgt 1 = 2 ∧ rgt 2 = 3 ∧ rgt 3 = 0 := by decide
  have ho : opp 0 = 2 ∧ opp 1 = 3 ∧ opp 2 = 0 ∧ opp 3 = 1 := by decide
  have hl : lft 0 = 3 ∧ lft 1 = 0 ∧ lft 2 = 1 ∧ lft 3 = 2 := by decide
  have hc : ∀ c : Dev nD, c = 0 ∨ c = 1 ∨ c = 2 ∨ c = 3 := by decide
  have lt : ∀ a b : Dev nD, ((a.val : ℤ) < b.val) = (a < b) := fun a b => by rw [Nat.cast_lt, Fin.lt_def]
  simp only [hs, h0, h1, h2, h3, decide_eq_true_eq, lt]
  rw [show (∑ t : Dev nD, if t < c then K t else 0) = _ from Fin.sum_univ_four _, show (∑ t : Dev nD, if t < rgt c then K t else 0) = _ from Fin.sum_univ_four _,
    show (∑ t : Dev nD, if t < opp c then K t else 0) = _ from Fin.sum_univ_four _, show (∑ t : Dev nD, if t < lft c then K t else 0) = _ from Fin.sum_univ_four _]
  rcases hc c with rfl | rfl | rfl | rfl <;> simp [hr, ho, hl] <;> omega

variable {D} (g : Good D) (ht : ∀ c n k, D.tri c (ix2 n k) = if k ≤ n then (1 : EReal) else 0)

include g ht

/-- The mask of the device's own tokens; -/
theorem k_own (c : Dev nD) (n : Fin 2048) (e : Fin 8) : D.kG c (ix3 3 n e) = keep (cols D) c n (expert c e) := by
  have h : D.kG c ((Rect.unit (s := S4x2048x8) ![3, 0, 0] S1x2048x8.size inb_S4x2048x8_S1x2048x8_3_0_0).idx (ix3 0 n e)) = _ := congrFun (g.g0 c) (ix3 0 n e)
  refine ((congrArg (D.kG c) (slot_at 3 rfl _ n e)).symm.trans h).trans ?_
  change shapeCast S1x2048x8 (keptV (V3_0 c) (rtOwn (D.rt c)) (triOwn (D.tri c)) (offV (gid 0 c) (gid 1 c) (gid 2 c) (gid 3 c) (V4_1 D.rt c) (V4_2 D.rt c) (V4_3 D.rt c))) shapeCasts_S2048x8_S1x2048x8 (ix3 0 n e) = _
  rw [rt_own, tri_own]
  pointwise
  rw [keptV_apply _ _ _ _ _ _ _ (ht c n) (offV_apply _ _ _ _ _ _ _ _ _ _ _ (cnt1 D c e) (cnt2 D c e) (cnt3 D c e)), ids_apply, (offs (fun s => cnt (cols D s) (expert c e)) c).1]
  rfl

/-- of the right neighbour's; -/
theorem k_rgt (c : Dev nD) (n : Fin 2048) (e : Fin 8) : D.kG c (ix3 2 n e) = keep (cols D) (rgt c) n (expert c e) := by
  have h : D.kG c ((Rect.unit (s := S4x2048x8) ![2, 0, 0] S1x2048x8.size inb_S4x2048x8_S1x2048x8_2_0_0).idx (ix3 0 n e)) = _ := congrFun (g.g1 c) (ix3 0 n e)
  refine ((congrArg (D.kG c) (slot_at 2 rfl _ n e)).symm.trans h).trans ?_
  change shapeCast S1x2048x8 (keptV (V3_0 c) (rtRd (D.rt (rgt c)) 1 inb_S3x2048x1_S1x2048x1_1_0_0) (triOwn (D.tri c)) (offV (gid 1 c) (gid 0 c) (gid 2 c) (gid 3 c) (V4_0 D.rt c) (V4_2 D.rt c) (V4_3 D.rt c))) shapeCasts_S2048x8_S1x2048x8 (ix3 0 n e) = _
  rw [rt_read, tri_own]
  pointwise
  rw [keptV_apply _ _ _ _ _ _ _ (ht c n) (offV_apply _ _ _ _ _ _ _ _ _ _ _ (cnt0 D c e) (cnt2 D c e) (cnt3 D c e)), ids_apply, (offs (fun s => cnt (cols D s) (expert c e)) c).2.1]
  rfl

/-- of the opposite device's; -/
theorem k_opp (c : Dev nD) (n : Fin 2048) (e : Fin 8) : D.kG c (ix3 1 n e) = keep (cols D) (opp c) n (expert c e) := by
  have h : D.kG c ((Rect.unit (s := S4x2048x8) ![1, 0, 0] S1x2048x8.size inb_S4x2048x8_S1x2048x8_1_0_0).idx (ix3 0 n e)) = _ := congrFun (g.g2 c) (ix3 0 n e)
  refine ((congrArg (D.kG c) (slot_at 1 rfl _ n e)).symm.trans h).trans ?_
  change shapeCast S1x2048x8 (keptV (V3_0 c) (rtRd (D.rt (opp c)) 2 inb_S3x2048x1_S1x2048x1_2_0_0) (triOwn (D.tri c)) (offV (gid 2 c) (gid 0 c) (gid 1 c) (gid 3 c) (V4_0 D.rt c) (V4_1 D.rt c) (V4_3 D.rt c))) shapeCasts_S2048x8_S1x2048x8 (ix3 0 n e) = _
  rw [rt_read, tri_own]
  pointwise
  rw [keptV_apply _ _ _ _ _ _ _ (ht c n) (offV_apply _ _ _ _ _ _ _ _ _ _ _ (cnt0 D c e) (cnt1 D c e) (cnt3 D c e)), ids_apply, (offs (fun s => cnt (cols D s) (expert c e)) c).2.2.1]
  rfl

/-- of the left neighbour's. -/
theorem k_lft (c : Dev nD) (n : Fin 2048) (e : Fin 8) : D.kG c (ix3 0 n e) = keep (cols D) (lft c) n (expert c e) := by
  have h : D.kG c ((Rect.unit (s := S4x2048x8) ![0, 0, 0] S1x2048x8.size inb_S4x2048x8_S1x2048x8_0_0_0).idx (ix3 0 n e)) = _ := congrFun (g.g3 c) (ix3 0 n e)
  refine ((congrArg (D.kG c) (slot_at 0 rfl _ n e)).symm.trans h).trans ?_
  change shapeCast S1x2048x8 (keptV (V3_0 c) (rtRd (D.rt (lft c)) 0 inb_S3x2048x1_S1x2048x1_0_0_0) (triOwn (D.tri c)) (offV (gid 3 c) (gid 0 c) (gid 1 c) (gid 2 c) (V4_0 D.rt c) (V4_1 D.rt c) (V4_2 D.rt c))) shapeCasts_S2048x8_S1x2048x8 (ix3 0 n e) = _
  rw [rt_read, tri_own]
  pointwise
  rw [keptV_apply _ _ _ _ _ _ _ (ht c n) (offV_apply _ _ _ _ _ _ _ _ _ _ _ (cnt0 D c e) (cnt1 D c e) (cnt2 D c e)), ids_apply, (offs (fun s => cnt (cols D s) (expert c e)) c).2.2.2]
  rfl

end Cert.KernelIdeal.Talk

end
-- ==== Proof.Sums.lean ====
/-
  The sums the devices form and pass on: what one device adds for one block of tokens, and what is left in its output after
  the two chains round the ring.
-/
module

public import proofs.«01_k».proof.Proof.Kept

@[expose] public section

noncomputable section

namespace Cert.KernelIdeal.Talk

open Cert.KernelIdeal Cert.KernelIdeal.Gen
open Idealize.ShloMosaic Idealize.ShloMosaic.TcCoe

/-! ## One expert and eight -/

/-- One expert's product added to a sum; -/
def prodV (x : FVec Ideal S2048x512 .bf16) (k : Vec Ideal S1x2048x1 .bf16) (w : Vec Ideal S1x512x512 .bf16) (acc : FVec Ideal S2048x512 .f32) : FVec Ideal S2048x512 .f32 :=
  addf acc (matmul dot_S2048x512_S512x512_S2048x512_1_0_0_1_n_n none
    (mulf x (broadcastTo S2048x512 (shapeCast S2048x1 k shapeCasts_S1x2048x1_S2048x1) broadcasts_S2048x1_S2048x512))
    (shapeCast S512x512 w shapeCasts_S1x512x512_S512x512 : FVec Ideal S512x512 .bf16) (constant S2048x512 .f32 0x00000000#32))

theorem prodV_apply (x : FVec Ideal S2048x512 .bf16) (k : Vec Ideal S1x2048x1 .bf16) (w : Vec Ideal S1x512x512 .bf16) (acc : FVec Ideal S2048x512 .f32)
    (n : Fin 2048) (h : Fin 512) :
    prodV x k w acc (ix2 n h) = acc (ix2 n h) + ∑ d, (x (ix2 n d) * k (ix3 0 n 0)) * w (ix3 0 d h) := by
  pointwise [prodV]

/-- the column of a mask for one expert; -/
def kAt (A : Vec Ideal S4x2048x8 .bf16) (s e : ℕ) (hk : ∀ a, ![s, 0, e] a + S1x2048x1.size a ≤ S4x2048x8.size a) : Vec Ideal S1x2048x1 .bf16 :=
  rd (F := Ideal) (Memref.whole cc0_scratch0 : Memref sig .tc .vmem S4x2048x8 .bf16) (Rect.unit (s := S4x2048x8) ![s, 0, e] S1x2048x1.size hk) A
/-- half the columns of its weights; -/
def wAt (A : Vec Ideal S8x512x1024 .bf16) (e o : ℕ) (hw : ∀ a, ![e, 0, o] a + S1x512x512.size a ≤ S8x512x1024.size a) : Vec Ideal S1x512x512 .bf16 :=
  rd (F := Ideal) (Memref.whole cc0_stg1_0 : Memref sig .tc .vmem S8x512x1024 .bf16) (Rect.unit (s := S8x512x1024) ![e, 0, o] S1x512x512.size hw) A

theorem kAt_apply (A : Vec Ideal S4x2048x8 .bf16) (s : Fin 4) (e : Fin 8) (hk) (n : Fin 2048) : kAt A s.val e.val hk (ix3 0 n 0) = A (ix3 s n e) :=
  congrArg A (at_idx _ _ fun a => by
    match a with
    | 0 => exact (Nat.add_zero _).symm
    | 1 => exact (Nat.zero_add _).symm
    | 2 => exact (Nat.add_zero _).symm)

theorem wAt_apply (A : Vec Ideal S8x512x1024 .bf16) (e : Fin 8) (o : ℕ) (hw) (d : Fin 512) (h : Fin 512) (j : Fin 1024) (hj : j.val = o + h.val) :
    wAt A e.val o hw (ix3 0 d h) = A (ix3 e d j) :=
  congrArg A (at_idx _ _ fun a => by
    match a with
    | 0 => exact (Nat.add_zero _).symm
    | 1 => exact (Nat.zero_add _).symm
    | 2 => exact hj)

/-- a device's eight experts on one block of tokens. -/
def partV (x : FVec Ideal S2048x512 .bf16) (K : Vec Ideal S4x2048x8 .bf16) (s : ℕ) (W : Vec Ideal S8x512x1024 .bf16) (o : ℕ)
    (hk : ∀ e, e < 8 → ∀ a, ![s, 0, e] a + S1x2048x1.size a ≤ S4x2048x8.size a) (hw : ∀ e, e < 8 → ∀ a, ![e, 0, o] a + S1x512x512.size a ≤ S8x512x1024.size a) :
    FVec Ideal S2048x512 .bf16 :=
  truncf .bf16
    (prodV x (kAt K s 7 (hk 7 (by decide))) (wAt W 7 o (hw 7 (by decide)))
    (prodV x (kAt K s 6 (hk 6 (by decide))) (wAt W 6 o (hw 6 (by decide)))
    (prodV x (kAt K s 5 (hk 5 (by decide))) (wAt W 5 o (hw 5 (by decide)))
    (prodV x (kAt K s 4 (hk 4 (by decide))) (wAt W 4 o (hw 4 (by decide)))
    (prodV x (kAt K s 3 (hk 3 (by decide))) (wAt W 3 o (hw 3 (by decide)))
    (prodV x (kAt K s 2 (hk 2 (by decide))) (wAt W 2 o (hw 2 (by decide)))
    (prodV x (kAt K s 1 (hk 1 (by decide))) (wAt W 1 o (hw 1 (by decide)))
    (prodV x (kAt K s 0 (hk 0 (by decide))) (wAt W 0 o (hw 0 (by decide)))
      (broadcast S2048x512 (Scalar.ofBits .f32 0x00000000#32 : Ideal .f32)))))))))) bitsLt_bf16_f32

theorem partV_apply (x : FVec Ideal S2048x512 .bf16) (K : Vec Ideal S4x2048x8 .bf16) (s : Fin 4) (W : Vec Ideal S8x512x1024 .bf16) (o : ℕ) (hk) (hw)
    (n : Fin 2048) (h : Fin 512) (j : Fin 1024) (hj : j.val = o + h.val) :
    partV x K s.val W o hk hw (ix2 n h) = ∑ e : Fin 8, ∑ d, (x (ix2 n d) * K (ix3 s n e)) * W (ix3 e d j) := by
  have h1 (e : Fin 8) (acc : FVec Ideal S2048x512 .f32) : prodV x (kAt K s.val e.val (hk e.val e.isLt)) (wAt W e.val o (hw e.val e.isLt)) acc (ix2 n h)
      = acc (ix2 n h) + ∑ d, (x (ix2 n d) * K (ix3 s n e)) * W (ix3 e d j) := by
    rw [prodV_apply, kAt_apply]
    exact congrArg _ (Finset.sum_congr rfl fun d _ => by rw [wAt_apply W e o _ d h j hj])
  have h0 : (broadcast S2048x512 (Scalar.ofBits .f32 0x00000000#32 : Ideal .f32)) (ix2 n h) = (0 : EReal) := by pointwise
  refine (h1 7 _).trans ?_
  rw [Fin.sum_univ_eight]
  refine congrArg (· + _) ((h1 6 _).trans ?_)
  refine congrArg (· + _) ((h1 5 _).trans ?_)
  refine congrArg (· + _) ((h1 4 _).trans ?_)
  refine congrArg (· + _) ((h1 3 _).trans ?_)
  refine congrArg (· + _) ((h1 2 _).trans ?_)
  refine congrArg (· + _) ((h1 1 _).trans ?_)
  refine congrArg (· + _) ((h1 0 _).trans ?_)
  rw [h0, zero_add]

/-! ## What each device adds -/

/-- A block of tokens received from another device; -/
def xRd (A : Vec Ideal S2048x512 .bf16) (j : ℕ) (hj : ∀ a, ![j, 0, 0] a + S1x2048x512.size a ≤ S3x2048x512.size a) : FVec Ideal S2048x512 .bf16 :=
  shapeCast S2048x512 (rd (F := Ideal) (Memref.whole cc0_scratch1 : Memref sig .tc .vmem S3x2048x512 .bf16) (Rect.unit (s := S3x2048x512) ![j, 0, 0] S1x2048x512.size hj) (up A)) shapeCasts_S1x2048x512_S2048x512
/-- a device's own. -/
def xOwn (A : Vec Ideal S2048x512 .bf16) : FVec Ideal S2048x512 .bf16 :=
  shapeCast S2048x512 (rd (F := Ideal) (Memref.whole cc0_stg0_0 : Memref sig .tc .vmem S2048x512 .bf16) (Rect.unit (s := S2048x512) ![0, 0] S2048x512.size inb_S2048x512_S2048x512_0_0) A) shapeCasts_S2048x512_S2048x512

/-- A block with its leading axis dropped. -/
theorem drop_blk (f : FVec Ideal S1x2048x512 .bf16) (n : Fin 2048) (d : Fin 512) : shapeCast S2048x512 f shapeCasts_S1x2048x512_S2048x512 (ix2 n d) = f (ix3 0 n d) := by
  pointwise

theorem x_read (A : Vec Ideal S2048x512 .bf16) (j : ℕ) (hj) : xRd A j hj = A := by
  funext i
  idx_vars i
  refine (drop_blk _ _ _).trans (congrArg A (funext fun a => Fin.ext ?_))
  match a with
  | 0 => exact (Rect.idx_unit_val ..).trans (by simp)
  | 1 => exact (Rect.idx_unit_val ..).trans (by simp)

theorem x_own (A : Vec Ideal S2048x512 .bf16) : xOwn A = A := by
  funext i
  idx_vars i
  unfold xOwn
  pointwise
  refine congrArg A (at_idx _ _ fun a => ?_)
  match a with
  | 0 => simp
  | 1 => simp

variable (D : Cont Ideal)

/-- What device `c`'s experts add to column `j` of token `n` of block `p`. -/
def sumP (c p : Dev nD) (n : Fin 2048) (j : Fin 1024) : EReal :=
  ∑ e : Fin 8, ∑ d, (D.x p (ix2 n d) * keep (cols D) p n (expert c e)) * D.w c (ix3 e d j)

/-- Column `h` of the left half; -/
def lo (h : Fin 512) : Fin 1024 := ⟨h.val, by omega⟩
/-- of the right half. -/
def hi (h : Fin 512) : Fin 1024 := ⟨512 + h.val, by omega⟩

theorem hk_of (s : Fin 4) : ∀ e, e < 8 → ∀ a, ![s.val, 0, e] a + S1x2048x1.size a ≤ S4x2048x8.size a := fun e he a => by
  match a with
  | 0 => exact s.isLt
  | 1 => exact le_of_eq (Nat.zero_add _)
  | 2 => exact he
theorem hw_of (o : ℕ) (ho : o ≤ 512) : ∀ e, e < 8 → ∀ a, ![e, 0, o] a + S1x512x512.size a ≤ S8x512x1024.size a := fun e he a => by
  match a with
  | 0 => exact he
  | 1 => exact le_of_eq (Nat.zero_add _)
  | 2 => exact (by omega : o + 512 ≤ 1024)

/-- The eight experts' sum at an index, from the masks of the slot. -/
theorem part_eq (c p : Dev nD) (s : Fin 4) (o : ℕ) (ho : o ≤ 512) (x : FVec Ideal S2048x512 .bf16) (hx : x = D.x p)
    (hK : ∀ n e, D.kG c (ix3 s n e) = keep (cols D) p n (expert c e)) (n : Fin 2048) (h : Fin 512) (j : Fin 1024) (hj : j.val = o + h.val) :
    partV x (D.kG c) s.val (D.w c) o (hk_of s) (hw_of o ho) (ix2 n h) = sumP D c p n j := by
  subst hx
  rw [partV_apply _ _ s _ o _ _ n h j hj, sumP]
  exact Finset.sum_congr rfl fun e _ => Finset.sum_congr rfl fun d _ => by rw [hK]

variable {D} (g : Good D) (ht : ∀ c n k, D.tri c (ix2 n k) = if k ≤ n then (1 : EReal) else 0)

/-- The place of an element of a block in the two-slot buffers. -/
theorem up_at (A : Vec Ideal S2048x512 .bf16) (j o : ℕ) {N : ℕ} (inb) (m : Fin N) (h : Fin 512) (n : Fin 2048) (hn : n.val = o + m.val) :
    up A ((Rect.unit (s := S2x2048x512) ![j, o, 0] (⟨3, ![1, N, 512]⟩ : Shape).size inb).idx (ix3 0 m h)) = A (ix2 n h) :=
  congrArg A (funext fun a => Fin.ext (by
    match a with
    | 0 => exact (Rect.idx_unit_val ..).trans hn.symm
    | 1 => exact (Rect.idx_unit_val ..).trans (Nat.zero_add _)))

/-- The place of an element of a piece of a matrix. -/
theorem mat_at (o o' : ℕ) {N M N' M' : ℕ} (inb) (m : Fin N') (h : Fin M') (n : Fin N) (j : Fin M) (hn : n.val = o + m.val) (hj : j.val = o' + h.val) :
    (Rect.unit (s := (⟨2, ![N, M]⟩ : Shape)) ![o, o'] (⟨2, ![N', M']⟩ : Shape).size inb).idx (ix2 m h) = ix2 n j :=
  at_idx _ _ fun a => by
    match a with
    | 0 => exact hn
    | 1 => exact hj

/-- A block given a leading axis. -/
theorem add_blk (f : FVec Ideal S2048x512 .bf16) (n : Fin 2048) (d : Fin 512) : shapeCast S1x2048x512 f shapeCasts_S2048x512_S1x2048x512 (ix3 0 n d) = f (ix2 n d) := by
  pointwise

/-- A block given its own shape. -/
theorem same_blk (f : FVec Ideal S2048x512 .bf16) (n : Fin 2048) (d : Fin 512) : shapeCast S2048x512 f shapeCasts_S2048x512_S2048x512 (ix2 n d) = f (ix2 n d) := by
  pointwise

include g ht

theorem a0r_eq (c : Dev nD) (n : Fin 2048) (h : Fin 512) : D.a0r c (ix2 n h) = sumP D c (lft c) n (lo h) := by
  refine ((up_at _ 0 0 _ n h n (Nat.zero_add _).symm).symm.trans (congrFun (g.g4 c) (ix3 0 n h))).trans ?_
  refine (add_blk (partV (xRd (D.x (lft c)) 0 inb_S3x2048x512_S1x2048x512_0_0_0) (D.kG c) 0 (D.w c) 0 (hk_of 0) (hw_of 0 (by decide))) n h).trans ?_
  exact part_eq D c (lft c) 0 0 (by decide) _ (x_read ..) (k_lft g ht c) n h (lo h) (Nat.zero_add _).symm

theorem a0l_eq (c : Dev nD) (n : Fin 2048) (h : Fin 512) : D.a0l c (ix2 n h) = sumP D c (rgt c) n (hi h) := by
  refine ((up_at _ 1 0 _ n h n (Nat.zero_add _).symm).symm.trans (congrFun (g.g5 c) (ix3 0 n h))).trans ?_
  refine (add_blk (partV (xRd (D.x (rgt c)) 2 inb_S3x2048x512_S1x2048x512_2_0_0) (D.kG c) 2 (D.w c) 512 (hk_of 2) (hw_of 512 (by decide))) n h).trans ?_
  exact part_eq D c (rgt c) 2 512 (by decide) _ (x_read ..) (k_rgt g ht c) n h (hi h) rfl

theorem wG_lo (c : Dev nD) (n : Fin 2048) (h : Fin 512) : D.wG c (ix2 n (lo h)) = sumP D c c n (lo h) := by
  have e := (g.g6 c).trans (show _ = shapeCast S2048x512 (partV (xOwn (D.x c)) (D.kG c) 3 (D.w c) 0 (hk_of 3) (hw_of 0 (by decide))) shapeCasts_S2048x512_S2048x512 from rfl)
  refine ((congrArg (D.wG c) (mat_at 0 0 _ n h n (lo h) (Nat.zero_add _).symm (Nat.zero_add _).symm)).symm.trans (congrFun e (ix2 n h))).trans ((same_blk _ n h).trans ?_)
  exact part_eq D c c 3 0 (by decide) _ (x_own _) (k_own g ht c) n h (lo h) (Nat.zero_add _).symm

theorem wG_hi (c : Dev nD) (n : Fin 2048) (h : Fin 512) : D.wG c (ix2 n (hi h)) = sumP D c c n (hi h) := by
  have e := (g.g19 c).trans (show _ = shapeCast S2048x512 (partV (xOwn (D.x c)) (D.kG c) 3 (D.w c) 512 (hk_of 3) (hw_of 512 (by decide))) shapeCasts_S2048x512_S2048x512 from rfl)
  refine ((congrArg (D.wG c) (mat_at 0 512 _ n h n (hi h) (Nat.zero_add _).symm rfl)).symm.trans (congrFun e (ix2 n h))).trans ((same_blk _ n h).trans ?_)
  exact part_eq D c c 3 512 (by decide) _ (x_own _) (k_own g ht c) n h (hi h) rfl

theorem dG_lo (c : Dev nD) (n : Fin 2048) (h : Fin 512) : D.dG c (ix2 n (lo h)) = sumP D c (opp c) n (lo h) := by
  have e := (g.g7 c).trans (show _ = shapeCast S2048x512 (partV (xRd (D.x (lft (lft c))) 1 inb_S3x2048x512_S1x2048x512_1_0_0) (D.kG c) 1 (D.w c) 0 (hk_of 1) (hw_of 0 (by decide))) shapeCasts_S2048x512_S2048x512 from rfl)
  refine ((congrArg (D.dG c) (mat_at 0 0 _ n h n (lo h) (Nat.zero_add _).symm (Nat.zero_add _).symm)).symm.trans (congrFun e (ix2 n h))).trans ((same_blk _ n h).trans ?_)
  exact part_eq D c (opp c) 1 0 (by decide) _ ((x_read ..).trans (congrArg D.x (lft_lft c))) (k_opp g ht c) n h (lo h) (Nat.zero_add _).symm

theorem dG_hi (c : Dev nD) (n : Fin 2048) (h : Fin 512) : D.dG c (ix2 n (hi h)) = sumP D c (opp c) n (hi h) := by
  have e := (g.g10 c).trans (show _ = shapeCast S2048x512 (partV (xRd (D.x (lft (lft c))) 1 inb_S3x2048x512_S1x2048x512_1_0_0) (D.kG c) 1 (D.w c) 512 (hk_of 1) (hw_of 512 (by decide))) shapeCasts_S2048x512_S2048x512 from rfl)
  refine ((congrArg (D.dG c) (mat_at 0 512 _ n h n (hi h) (Nat.zero_add _).symm rfl)).symm.trans (congrFun e (ix2 n h))).trans ((same_blk _ n h).trans ?_)
  exact part_eq D c (opp c) 1 512 (by decide) _ ((x_read ..).trans (congrArg D.x (lft_lft c))) (k_opp g ht c) n h (hi h) rfl

theorem pG_eq (c : Dev nD) (n : Fin 2048) (h : Fin 512) : D.pG c (ix2 n h) = sumP D c (rgt c) n (lo h) := by
  have e := (g.g13 c).trans (show _ = shapeCast S2048x512 (partV (xRd (D.x (rgt c)) 2 inb_S3x2048x512_S1x2048x512_2_0_0) (D.kG c) 2 (D.w c) 0 (hk_of 2) (hw_of 0 (by decide))) shapeCasts_S2048x512_S2048x512 from rfl)
  refine ((congrArg (D.pG c) (mat_at 0 0 _ n h n h (Nat.zero_add _).symm (Nat.zero_add _).symm)).symm.trans (congrFun e (ix2 n h))).trans ((same_blk _ n h).trans ?_)
  exact part_eq D c (rgt c) 2 0 (by decide) _ (x_read ..) (k_rgt g ht c) n h (lo h) (Nat.zero_add _).symm

theorem mG_eq (c : Dev nD) (n : Fin 2048) (h : Fin 512) : D.mG c (ix2 n h) = sumP D c (lft c) n (hi h) := by
  have e := (g.g16 c).trans (show _ = shapeCast S2048x512 (partV (xRd (D.x (lft c)) 0 inb_S3x2048x512_S1x2048x512_0_0_0) (D.kG c) 0 (D.w c) 512 (hk_of 0) (hw_of 512 (by decide))) shapeCasts_S2048x512_S2048x512 from rfl)
  refine ((congrArg (D.mG c) (mat_at 0 0 _ n h n h (Nat.zero_add _).symm (Nat.zero_add _).symm)).symm.trans (congrFun e (ix2 n h))).trans ((same_blk _ n h).trans ?_)
  exact part_eq D c (lft c) 0 512 (by decide) _ (x_read ..) (k_lft g ht c) n h (hi h) rfl

end Cert.KernelIdeal.Talk

end
-- ==== Proof.Chain.lean ====
/-
  The two chains round the ring: what is left in a device's output is the sum, over the four devices, of what each adds for
  the device's own block of tokens.
-/
module

public import proofs.«01_k».proof.Proof.Sums

@[expose] public section

noncomputable section

namespace Cert.KernelIdeal.Talk

open Cert.KernelIdeal Cert.KernelIdeal.Gen
open Idealize.ShloMosaic Idealize.ShloMosaic.TcCoe

/-- A token of the upper half of a block; -/
def top (m : Fin 1024) : Fin 2048 := ⟨m.val, by omega⟩
/-- of the lower half. -/
def bot (m : Fin 1024) : Fin 2048 := ⟨1024 + m.val, by omega⟩

theorem top_val (m : Fin 1024) : (top m).val = 0 + m.val := (Nat.zero_add _).symm
theorem bot_val (m : Fin 1024) : (bot m).val = 1024 + m.val := rfl

theorem rows {p : Fin 2048 → Prop} (h0 : ∀ m, p (top m)) (h1 : ∀ m, p (bot m)) (n : Fin 2048) : p n := by
  rcases lt_or_ge n.val 1024 with h | h
  · exact h0 ⟨n.val, h⟩
  · have e : n = bot ⟨n.val - 1024, by omega⟩ := Fin.ext (by show n.val = 1024 + (n.val - 1024); omega)
    rw [e]; exact h1 _

theorem columns {p : Fin 1024 → Prop} (h0 : ∀ h, p (lo h)) (h1 : ∀ h, p (hi h)) (j : Fin 1024) : p j := by
  rcases lt_or_ge j.val 512 with h | h
  · exact h0 ⟨j.val, h⟩
  · have e : j = hi ⟨j.val - 512, by omega⟩ := Fin.ext (by show j.val = 512 + (j.val - 512); omega)
    rw [e]; exact h1 _

/-- What was received plus the upper half of a device's own sum, at an index; -/
theorem add_top (R : Vec Ideal S1x1024x512 .bf16) (A : Vec Ideal S2048x512 .bf16) (m : Fin 1024) (h : Fin 512) :
    shapeCast S1x1024x512 (addf (shapeCast S1024x512 R shapeCasts_S1x1024x512_S1024x512 : FVec Ideal S1024x512 .bf16)
      (extractStridedSlice S1024x512 ![0, 0] A slices_S2048x512_o0_0_S1024x512 : FVec Ideal S1024x512 .bf16)) shapeCasts_S1024x512_S1x1024x512 (ix3 0 m h)
      = R (ix3 0 m h) + A (ix2 (top m) h) := by
  pointwise
  refine congrArg (_ + A ·) (congrArg (ix2 · h) (Fin.ext ?_))
  simp [top]
/-- plus the lower half. -/
theorem add_bot (R : Vec Ideal S1x1024x512 .bf16) (A : Vec Ideal S2048x512 .bf16) (m : Fin 1024) (h : Fin 512) :
    shapeCast S1x1024x512 (addf (shapeCast S1024x512 R shapeCasts_S1x1024x512_S1024x512 : FVec Ideal S1024x512 .bf16)
      (extractStridedSlice S1024x512 ![1024, 0] A slices_S2048x512_o1024_0_S1024x512 : FVec Ideal S1024x512 .bf16)) shapeCasts_S1024x512_S1x1024x512 (ix3 0 m h)
      = R (ix3 0 m h) + A (ix2 (bot m) h) := by
  pointwise
  refine congrArg (_ + A ·) (congrArg (ix2 · h) (Fin.ext ?_))
  simp [bot, Nat.add_comm]
/-- What was received plus a piece of a device's own sum, written at full width. -/
theorem add_out (R : Vec Ideal S1x1024x512 .bf16) (A : Vec Ideal S1024x512 .bf16) (m : Fin 1024) (h : Fin 512) :
    (extf .f32 (addf (shapeCast S1024x512 R shapeCasts_S1x1024x512_S1024x512 : FVec Ideal S1024x512 .bf16) (A : FVec Ideal S1024x512 .bf16)) bitsLt_bf16_f32 : FVec Ideal S1024x512 .f32) (ix2 m h)
      = R (ix3 0 m h) + A (ix2 m h) := by
  pointwise

variable {D : Cont Ideal} (g : Good D)

include g

/-- The second step of the chain to the right; -/
theorem a1r_eq (c : Dev nD) (n : Fin 2048) (h : Fin 512) : D.a1r c (ix2 n h) = D.a0r (lft c) (ix2 n h) + D.dG c (ix2 n (lo h)) := by
  revert n
  refine rows (fun m => ?_) fun m => ?_
  · refine ((up_at _ 0 0 _ m h (top m) (Nat.zero_add _).symm).symm.trans (congrFun (g.g8 c) (ix3 0 m h))).trans ((add_top (rd (F := Ideal) (Memref.whole cc0_scratch7 : Memref sig .tc .vmem S2x2048x512 .bf16) (Rect.unit (s := S2x2048x512) ![0, 0, 0] S1x1024x512.size inb_S2x2048x512_S1x1024x512_0_0_0) (up (D.a0r (lft c)))) (V21_0 D.dG c) m h).trans ?_)
    exact congrArg₂ (· + ·) (up_at _ 0 0 _ m h (top m) (Nat.zero_add _).symm) (congrArg (D.dG c) (mat_at 0 0 _ (top m) h (top m) (lo h) (Nat.zero_add _).symm (Nat.zero_add _).symm))
  · refine ((up_at _ 0 1024 _ m h (bot m) (bot_val m)).symm.trans (congrFun (g.g9 c) (ix3 0 m h))).trans ((add_bot _ _ m h).trans ?_)
    exact congrArg₂ (· + ·) (up_at _ 0 1024 _ m h (bot m) (bot_val m)) (congrArg (D.dG c) (mat_at 0 0 _ (bot m) h (bot m) (lo h) (Nat.zero_add _).symm (Nat.zero_add _).symm))

/-- the third. -/
theorem a2r_eq (c : Dev nD) (n : Fin 2048) (h : Fin 512) : D.a2r c (ix2 n h) = D.a1r (lft c) (ix2 n h) + D.pG c (ix2 n h) := by
  revert n
  refine rows (fun m => ?_) fun m => ?_
  · refine ((up_at _ 0 0 _ m h (top m) (Nat.zero_add _).symm).symm.trans (congrFun (g.g14 c) (ix3 0 m h))).trans ((add_top _ _ m h).trans ?_)
    exact congrArg₂ (· + ·) (up_at _ 1 0 _ m h (top m) (Nat.zero_add _).symm) (congrArg (D.pG c) (mat_at 0 0 _ (top m) h (top m) h (Nat.zero_add _).symm (Nat.zero_add _).symm))
  · refine ((up_at _ 0 1024 _ m h (bot m) (bot_val m)).symm.trans (congrFun (g.g15 c) (ix3 0 m h))).trans ((add_bot _ _ m h).trans ?_)
    exact congrArg₂ (· + ·) (up_at _ 1 1024 _ m h (bot m) (bot_val m)) (congrArg (D.pG c) (mat_at 0 0 _ (bot m) h (bot m) h (Nat.zero_add _).symm (Nat.zero_add _).symm))

/-- The second step of the chain to the left; -/
theorem a1l_eq (c : Dev nD) (n : Fin 2048) (h : Fin 512) : D.a1l c (ix2 n h) = D.a0l (rgt c) (ix2 n h) + D.dG c (ix2 n (hi h)) := by
  revert n
  refine rows (fun m => ?_) fun m => ?_
  · refine ((up_at _ 1 0 _ m h (top m) (Nat.zero_add _).symm).symm.trans (congrFun (g.g11 c) (ix3 0 m h))).trans ((add_top _ _ m h).trans ?_)
    exact congrArg₂ (· + ·) (up_at _ 0 0 _ m h (top m) (Nat.zero_add _).symm) (congrArg (D.dG c) (mat_at 0 512 _ (top m) h (top m) (hi h) (Nat.zero_add _).symm rfl))
  · refine ((up_at _ 1 1024 _ m h (bot m) (bot_val m)).symm.trans (congrFun (g.g12 c) (ix3 0 m h))).trans ((add_bot _ _ m h).trans ?_)
    exact congrArg₂ (· + ·) (up_at _ 0 1024 _ m h (bot m) (bot_val m)) (congrArg (D.dG c) (mat_at 0 512 _ (bot m) h (bot m) (hi h) (Nat.zero_add _).symm rfl))

/-- the third. -/
theorem a2l_eq (c : Dev nD) (n : Fin 2048) (h : Fin 512) : D.a2l c (ix2 n h) = D.a1l (rgt c) (ix2 n h) + D.mG c (ix2 n h) := by
  revert n
  refine rows (fun m => ?_) fun m => ?_
  · refine ((up_at _ 1 0 _ m h (top m) (Nat.zero_add _).symm).symm.trans (congrFun (g.g17 c) (ix3 0 m h))).trans ((add_top _ _ m h).trans ?_)
    exact congrArg₂ (· + ·) (up_at _ 1 0 _ m h (top m) (Nat.zero_add _).symm) (congrArg (D.mG c) (mat_at 0 0 _ (top m) h (top m) h (Nat.zero_add _).symm (Nat.zero_add _).symm))
  · refine ((up_at _ 1 1024 _ m h (bot m) (bot_val m)).symm.trans (congrFun (g.g18 c) (ix3 0 m h))).trans ((add_bot _ _ m h).trans ?_)
    exact congrArg₂ (· + ·) (up_at _ 1 1024 _ m h (bot m) (bot_val m)) (congrArg (D.mG c) (mat_at 0 0 _ (bot m) h (bot m) h (Nat.zero_add _).symm (Nat.zero_add _).symm))

/-- The left half of the output; -/
theorem oG_lo (c : Dev nD) (n : Fin 2048) (h : Fin 512) : D.oG c (ix2 n (lo h)) = D.a2r (lft c) (ix2 n h) + D.wG c (ix2 n (lo h)) := by
  revert n
  refine rows (fun m => ?_) fun m => ?_
  · refine ((congrArg (D.oG c) (mat_at 0 0 _ m h (top m) (lo h) (Nat.zero_add _).symm (Nat.zero_add _).symm)).symm.trans (congrFun (g.g20 c) (ix2 m h))).trans ((add_out _ _ m h).trans ?_)
    exact congrArg₂ (· + ·) (up_at _ 0 0 _ m h (top m) (Nat.zero_add _).symm) (congrArg (D.wG c) (mat_at 0 0 _ m h (top m) (lo h) (Nat.zero_add _).symm (Nat.zero_add _).symm))
  · refine ((congrArg (D.oG c) (mat_at 1024 0 _ m h (bot m) (lo h) (bot_val m) (Nat.zero_add _).symm)).symm.trans (congrFun (g.g21 c) (ix2 m h))).trans ((add_out (rd (F := Ideal) (Memref.whole cc0_scratch7 : Memref sig .tc .vmem S2x2048x512 .bf16) (Rect.unit (s := S2x2048x512) ![0, 1024, 0] S1x1024x512.size inb_S2x2048x512_S1x1024x512_0_1024_0) (up (D.a2r (lft c)))) _ m h).trans ?_)
    exact congrArg₂ (· + ·) (up_at _ 0 1024 _ m h (bot m) (bot_val m)) (congrArg (D.wG c) (mat_at 1024 0 _ m h (bot m) (lo h) (bot_val m) (Nat.zero_add _).symm))

/-- the right half. -/
theorem oG_hi (c : Dev nD) (n : Fin 2048) (h : Fin 512) : D.oG c (ix2 n (hi h)) = D.a2l (rgt c) (ix2 n h) + D.wG c (ix2 n (hi h)) := by
  revert n
  refine rows (fun m => ?_) fun m => ?_
  · refine ((congrArg (D.oG c) (mat_at 0 512 _ m h (top m) (hi h) (Nat.zero_add _).symm rfl)).symm.trans (congrFun (g.g22 c) (ix2 m h))).trans ((add_out _ _ m h).trans ?_)
    exact congrArg₂ (· + ·) (up_at _ 0 0 _ m h (top m) (Nat.zero_add _).symm) (congrArg (D.wG c) (mat_at 0 512 _ m h (top m) (hi h) (Nat.zero_add _).symm rfl))
  · refine ((congrArg (D.oG c) (mat_at 1024 512 _ m h (bot m) (hi h) (bot_val m) rfl)).symm.trans (congrFun (g.g23 c) (ix2 m h))).trans ((add_out _ _ m h).trans ?_)
    exact congrArg₂ (· + ·) (up_at _ 0 1024 _ m h (bot m) (bot_val m)) (congrArg (D.wG c) (mat_at 1024 512 _ m h (bot m) (hi h) (bot_val m) rfl))

/-- A device's output is the sum of what the four devices add for its tokens. -/
theorem oG_eq (ht : ∀ c n k, D.tri c (ix2 n k) = if k ≤ n then (1 : EReal) else 0) (c : Dev nD) (n : Fin 2048) (j : Fin 1024) :
    D.oG c (ix2 n j) = ∑ p : Dev nD, sumP D p c n j := by
  have hr : rgt 0 = 1 ∧ rgt 1 = 2 ∧ rgt 2 = 3 ∧ rgt 3 = 0 := by decide
  have ho : opp 0 = 2 ∧ opp 1 = 3 ∧ opp 2 = 0 ∧ opp 3 = 1 := by decide
  have hl : lft 0 = 3 ∧ lft 1 = 0 ∧ lft 2 = 1 ∧ lft 3 = 2 := by decide
  have hc : ∀ c : Dev nD, c = 0 ∨ c = 1 ∨ c = 2 ∨ c = 3 := by decide
  rw [show (∑ p : Dev nD, sumP D p c n j) = _ from Fin.sum_univ_four _]
  revert j
  refine columns (fun h => ?_) fun h => ?_
  · rw [oG_lo g, a2r_eq g, a1r_eq g, a0r_eq g ht, dG_lo g ht, pG_eq g ht, wG_lo g ht]
    rcases hc c with rfl | rfl | rfl | rfl <;> simp only [hr, ho, hl] <;> abel
  · rw [oG_hi g, a2l_eq g, a1l_eq g, a0l_eq g ht, dG_hi g ht, mG_eq g ht, wG_hi g ht]
    rcases hc c with rfl | rfl | rfl | rfl <;> simp only [hr, ho, hl] <;> abel

end Cert.KernelIdeal.Talk

end
-- ==== Proof.Inputs.lean ====
/-
  What the devices hold when the kernel begins, from the arguments.
-/
module

public import proofs.«01_k».proof.Proof.Chain
public import proofs.«01_k».proof.Proof.Data
public import Idealize.ShloMosaic.Lib.StableHlo.ReadAt

@[expose] public section

noncomputable section

namespace Cert.KernelIdeal.Talk

open Cert.KernelIdeal Cert.KernelIdeal.Gen
open Idealize.ShloMosaic Idealize.ShloMosaic.TcCoe Idealize.ShloMosaic.StableHlo

variable (m : (ℓ : Loc nD τ sig) → Buf (Elt Ideal) ℓ)

/-- The tokens; -/
theorem in_x (c : Dev nD) (n : Fin 2048) (d : Fin 512) :
    (dataOf m).x c (ix2 n d) = (m ((c.tc : Thread nD τ).loc main_arg0) : FVec Ideal S2048x512 .f32) (ix2 n d) := by
  refine (congrFun ((fits m).x c) (ix2 n d)).trans ?_
  unfold Gen.V
  after_reads_at

/-- the experts' weights; -/
theorem in_w (c : Dev nD) (e : Fin 8) (d : Fin 512) (j : Fin 1024) :
    (dataOf m).w c (ix3 e d j) = (m ((c.tc : Thread nD τ).loc main_arg3) : FVec Ideal S8x512x1024 .f32) (ix3 e d j) := by
  refine (congrFun ((fits m).w c) (ix3 e d j)).trans ?_
  unfold Gen.V
  after_reads_at

/-- the choices; -/
theorem in_rt (c : Dev nD) : (dataOf m).rt c = m ((c.tc : Thread nD τ).loc main_arg2) :=
  ((fits m).rt c).trans (Gen.V_main_arg2 m c)

/-- the triangle of ones. -/
theorem in_tri (c : Dev nD) (n k : Fin 2048) : (dataOf m).tri c (ix2 n k) = if k ≤ n then (1 : EReal) else 0 := by
  refine (congrFun ((fits m).tri c) (ix2 n k)).trans ?_
  unfold Gen.V
  after_reads_at
  have small (i : Fin 2048) : (BitVec.ofNat 32 i.val).toInt = (i.val : ℤ) := by
    rw [BitVec.toInt_ofNat']
    have := i.isLt
    rw [Int.bmod_def]; omega
  have h : IntOp.cmpi CmpIPredicate.sge (BitVec.ofNat 32 n.val) (BitVec.ofNat 32 k.val) = BitVec.ofBool (decide (k ≤ n)) := by
    show BitVec.ofBool (decide ((BitVec.ofNat 32 k.val).toInt ≤ (BitVec.ofNat 32 n.val).toInt)) = _
    simp only [small, Nat.cast_le, ← Fin.le_def]
  rw [h]
  show (((BitVec.ofBool (decide (k ≤ n))).toNat : ℝ) : EReal) = _
  by_cases hk : k ≤ n <;> simp [hk]

end Cert.KernelIdeal.Talk

end
-- ==== Proof.RefValue.lean ====
/-
  The reference's result at an index: the sum over the experts that keep the token of the token's product with the
  expert's weights.
-/
module

public import proofs.«01_k».proof.Proof.Gen.ReferenceIdeal.Run
public import Idealize.ShloMosaic.Lib.Pointwise
public import Idealize.ShloMosaic.Lib.Routing.OpsOne

@[expose] public section

noncomputable section

namespace Cert.ReferenceIdeal.Value

open Cert.ReferenceIdeal Cert.ReferenceIdeal.Gen
open Idealize.ShloMosaic Idealize.ShloMosaic.TcCoe

/-- Which tokens chose which expert; -/
def hits (rt : IVec S8192x1 32) : IVec S8192x32 1 :=
  cmpi .eq (broadcastInDim S8192x32 ![0, 1] bcast_S8192x1_S8192x32_0_1 rt) (broadcastInDim S8192x32 ![0, 1] bcast_S1x32_S8192x32_0_1 (broadcastInDim S1x32 ![1] bcast_S32_S1x32_1 (iotaInDim S32 32 0)))

/-- how many tokens up to each chose each expert; -/
def runs (rt : IVec S8192x1 32) : IVec S8192x32 32 :=
  Host.reduceWindow IntOp.addi ![8192, 1] ![1, 1] ![8191, 0] ![0, 0] (extui 32 (hits rt) natLt_1_32) (broadcastInDim S_ ![] bcast_S_S_ (constantI S_ 32 0#32)) reduceWindows_S8192x32_S8192x32_w8192s1p8191_0_w1s1p0_0 h_S_

/-- which tokens each expert keeps; -/
def keeps (rt : IVec S8192x1 32) : IVec S8192x32 1 :=
  andi (hits rt) (cmpi .slt (subi (runs rt) (extui 32 (hits rt) natLt_1_32)) (broadcastInDim S8192x32 ![] bcast_S_S8192x32 (constantI S_ 32 204#32)))

/-- the reference's result. -/
def result (x : FVec Ideal S8192x512 .f32) (rt : IVec S8192x1 32) (w : FVec Ideal S32x512x1024 .f32) : FVec Ideal S8192x1024 .f32 :=
  Host.reduceAdd (select (broadcastInDim S8192x32x1024 ![0, 1, 2] bcast_S8192x32x1_S8192x32x1024_0_1_2 (broadcastInDim S8192x32x1 ![0, 1] bcast_S8192x32_S8192x32x1_0_1 (keeps rt)))
    (Host.dotGeneral dot_S8192x512_S32x512x1024_S8192x32x1024_1_1_0_02_n_n none x w : FVec Ideal S8192x32x1024 .f32)
    (broadcastInDim S8192x32x1024 ![] bcast_S_S8192x32x1024 (id (constant S_ .f32 0x00000000#32)))) (constant S_ .f32 0x00000000#32) reducesTo_S8192x32x1024_S8192x1024_d1 h_S_

theorem result_apply (x : FVec Ideal S8192x512 .f32) (rt : IVec S8192x1 32) (w : FVec Ideal S32x512x1024 .f32) (n : Fin 8192) (j : Fin 1024) :
    result x rt w (ix2 n j) = ∑ e : Fin 32, if keeps rt (ix2 n e) = 1#1 then ∑ d, x (ix2 n d) * w (ix3 e d j) else 0 := by
  pointwise [result]
  refine Finset.sum_congr rfl fun e _ => ?_
  rw [show (id (constant (F := Ideal) S_ FTy.f32 0#32) ix0) = (0 : EReal) by show constant (F := Ideal) S_ FTy.f32 0#32 ix0 = _; pointwise]
  rfl

/-- A wrapping sum of words of numbers is the word of their sum. -/
theorem ofNat_sum {ι : Type} (s : Finset ι) (f : ι → ℕ) : (∑ k ∈ s, BitVec.ofNat 32 (f k)) = BitVec.ofNat 32 (∑ k ∈ s, f k) := by
  classical
  induction s using Finset.induction_on with
  | empty => rfl
  | insert a s ha ih => rw [Finset.sum_insert ha, Finset.sum_insert ha, ih, BitVec.ofNat_add]

theorem beq_word (a b : BitVec 32) : (a == b) = decide (a = b) := by
  rw [Bool.eq_iff_iff]; simp

theorem bit_word (a b : BitVec 32) : BitVec.setWidth 32 (IntOp.cmpi CmpIPredicate.eq a b) = BitVec.ofNat 32 (if a = b then 1 else 0) := by
  show BitVec.setWidth 32 (BitVec.ofBool (a == b)) = _
  rw [beq_word]
  by_cases h : a = b <;> simp [h]

theorem runs_apply (rt : IVec S8192x1 32) (n : Fin 8192) (e : Fin 32) :
    runs rt (ix2 n e) = BitVec.ofNat 32 ((∑ k : Fin 8192, if k < n ∧ rt (ix2 k 0) = BitVec.ofNat 32 e.val then 1 else 0) + if rt (ix2 n 0) = BitVec.ofNat 32 e.val then 1 else 0) := by
  have h (k : Fin 8192) : extui 32 (hits rt) natLt_1_32 (ix2 k e) = BitVec.ofNat 32 (if rt (ix2 k 0) = BitVec.ofNat 32 e.val then 1 else 0) := by
    pointwise [hits]
    exact bit_word _ _
  refine (Routing.cumsum_rows_sum (A := 8192) (Am1 := 8191) (N := 32) rfl _ _ (by pointwise) _ _ n e).trans ?_
  have h1 (k : Fin 8192) : (if k ≤ n then extui 32 (hits rt) natLt_1_32 (ix2 k e) else 0) = BitVec.ofNat 32 (if k ≤ n ∧ rt (ix2 k 0) = BitVec.ofNat 32 e.val then 1 else 0) := by
    rw [h]
    by_cases h1 : k ≤ n <;> simp [h1]
  refine (Finset.sum_congr rfl fun k _ => h1 k).trans ((ofNat_sum _ _).trans (congrArg _ ?_))
  have h2 : (if rt (ix2 n 0) = BitVec.ofNat 32 e.val then 1 else 0) = ∑ k, if k = n then (if rt (ix2 k 0) = BitVec.ofNat 32 e.val then 1 else 0) else 0 := by simp
  rw [h2, ← Finset.sum_add_distrib]
  refine Finset.sum_congr rfl fun k _ => ?_
  rcases lt_trichotomy k n with h | h | h
  · simp [h, h.le, h.ne]
  · simp [h]
  · simp [h.not_ge, h.not_gt, h.ne']

theorem word_slt (b : ℕ) (hb : b ≤ 8192) : IntOp.cmpi CmpIPredicate.slt (BitVec.ofNat 32 b) 204#32 = BitVec.ofBool (decide (b < 204)) := by
  have h : (BitVec.ofNat 32 b).toInt = (b : ℤ) := by
    rw [BitVec.toInt_ofNat', Int.bmod_def]; omega
  show BitVec.ofBool (decide ((BitVec.ofNat 32 b).toInt < (204#32).toInt)) = _
  simp only [h, show (204#32).toInt = 204 from by decide]
  congr 2
  exact propext (by omega)

theorem keeps_apply (rt : IVec S8192x1 32) (n : Fin 8192) (e : Fin 32) :
    keeps rt (ix2 n e) = BitVec.ofBool (decide (rt (ix2 n 0) = BitVec.ofNat 32 e.val ∧ (∑ k : Fin 8192, if k < n ∧ rt (ix2 k 0) = BitVec.ofNat 32 e.val then 1 else 0) < 204)) := by
  pointwise [keeps, hits]
  rw [runs_apply, bit_word, show ∀ a b : ℕ, IntOp.subi (BitVec.ofNat 32 (a + b)) (BitVec.ofNat 32 b) = BitVec.ofNat 32 a from fun a b => by
    show BitVec.ofNat 32 (a + b) - BitVec.ofNat 32 b = _
    rw [BitVec.ofNat_add, BitVec.add_sub_cancel], word_slt _ (le_trans (Finset.sum_le_card_nsmul _ _ 1 fun k _ => by split <;> omega) (by simp))]
  show BitVec.ofBool (rt (ix2 n 0) == BitVec.ofNat 32 e.val) &&& BitVec.ofBool _ = _
  rw [Bool.decide_and, beq_word]
  generalize decide (_ < 204) = q
  by_cases h : rt (ix2 n 0) = BitVec.ofNat 32 e.val <;> cases q <;> simp [h]

end Cert.ReferenceIdeal.Value

end
-- ==== Proof.Value.lean ====
/-
  The kernel computes the reference: each device's output is its block of the reference's result, over the reals.
-/
module

public import proofs.«01_k».proof.Proof.Inputs
public import proofs.«01_k».proof.Proof.RefValue
public import proofs.«01_k».proof.Proof.Frames

@[expose] public section

noncomputable section

namespace Cert.Proof

open Idealize.ShloMosaic Idealize.ShloMosaic.TcCoe Idealize.SL.Sem
open Cert.KernelIdeal.Talk

/-- Token `n` of block `t` in the whole array; -/
def tok (t : Fin 4) (n : Fin 2048) : Fin 8192 := ⟨t.val * 2048 + n.val, by omega⟩
/-- expert `e` of device `p`. -/
def exw (p : Fin 4) (e : Fin 8) : Fin 32 := ⟨p.val * 8 + e.val, by omega⟩

/-- A sum over an array is the sum over its blocks. -/
theorem sum_blocks {M : Type} [AddCommMonoid M] (a b : ℕ) (f : Fin (a * b) → M) (q : Fin a → Fin b → Fin (a * b)) (hq : ∀ t k, (q t k).val = t.val * b + k.val) :
    ∑ i, f i = ∑ t, ∑ k, f (q t k) := by
  rw [← finProdFinEquiv.sum_comp f, Fintype.sum_prod_type]
  refine Finset.sum_congr rfl fun t _ => Finset.sum_congr rfl fun k _ => congrArg f (Fin.ext ?_)
  rw [hq, finProdFinEquiv_apply_val, Nat.add_comm, Nat.mul_comm]

/-- The tokens before one in the whole array are those of the blocks before and those before it in its block. -/
theorem before_eq (r : Fin 8192 → BitVec 32) (s : Fin 4) (n : Fin 2048) (w : BitVec 32) :
    (∑ k : Fin 8192, if k < tok s n ∧ r k = w then 1 else 0) = befo (fun t k => r (tok t k)) s n w := by
  rw [sum_blocks 4 2048 (fun k : Fin 8192 => if k < tok s n ∧ r k = w then 1 else 0) tok fun _ _ => rfl]
  have h (t : Fin 4) : (∑ k, if tok t k < tok s n ∧ r (tok t k) = w then 1 else 0)
      = (if t < s then cnt (fun k => r (tok t k)) w else 0) + if t = s then pre (fun k => r (tok t k)) w n else 0 := by
    have lt (k : Fin 2048) : tok t k < tok s n ↔ t.val * 2048 + k.val < s.val * 2048 + n.val := Iff.rfl
    have hn := n.isLt
    rcases lt_trichotomy t s with h | h | h
    · rw [if_pos h, if_neg h.ne, Nat.add_zero, cnt]
      refine Finset.sum_congr rfl fun k _ => ?_
      have : tok t k < tok s n := (lt k).2 (by have := k.isLt; have : t.val < s.val := h; omega)
      simp only [this, true_and]
    · subst h
      rw [if_neg (lt_irrefl t), if_pos rfl, Nat.zero_add, pre]
      refine Finset.sum_congr rfl fun k _ => ?_
      have : (tok t k < tok t n) = (k < n) := propext ((lt k).trans (by rw [Fin.lt_def]; omega))
      simp only [this]
    · rw [if_neg h.not_gt, if_neg h.ne']
      refine Finset.sum_eq_zero fun k _ => ?_
      have : ¬ tok t k < tok s n := fun q => by have := (lt k).1 q; have : s.val < t.val := h; omega
      simp only [this, false_and, if_false]
  rw [Finset.sum_congr rfl fun t _ => h t, Finset.sum_add_distrib, Finset.sum_ite_eq' Finset.univ s, if_pos (Finset.mem_univ s)]
  rfl

/-- A device's output is its block of the reference's result. -/
theorem out_eq (m : (ℓ : Loc Cert.KernelIdeal.nD Cert.KernelIdeal.τ Cert.KernelIdeal.sig) → Buf (Elt Ideal) ℓ)
    (x : FVec Ideal Cert.ReferenceIdeal.S8192x512 .f32) (rt : IVec Cert.ReferenceIdeal.S8192x1 32) (w : FVec Ideal Cert.ReferenceIdeal.S32x512x1024 .f32)
    (hx : ∀ c : Dev Cert.KernelIdeal.nD, m ((c.tc : Thread Cert.KernelIdeal.nD Cert.KernelIdeal.τ).loc Cert.KernelIdeal.main_arg0) = Layout.block ⟨2, ![2048, 512]⟩ ⟨2, ![8192, 512]⟩ 0 4 c x)
    (hr : ∀ c : Dev Cert.KernelIdeal.nD, m ((c.tc : Thread Cert.KernelIdeal.nD Cert.KernelIdeal.τ).loc Cert.KernelIdeal.main_arg2) = Layout.block ⟨2, ![2048, 1]⟩ ⟨2, ![8192, 1]⟩ 0 4 c rt)
    (hw : ∀ c : Dev Cert.KernelIdeal.nD, m ((c.tc : Thread Cert.KernelIdeal.nD Cert.KernelIdeal.τ).loc Cert.KernelIdeal.main_arg3) = Layout.block ⟨3, ![8, 512, 1024]⟩ ⟨3, ![32, 512, 1024]⟩ 0 4 c w)
    (c : Dev Cert.KernelIdeal.nD) :
    (dataOf m).oG c = Layout.block ⟨2, ![2048, 1024]⟩ ⟨2, ![8192, 1024]⟩ 0 4 c (Cert.ReferenceIdeal.Value.result x rt w) := by
  have ex (s : Fin 4) (n : Fin 2048) (d : Fin 512) : (dataOf m).x s (ix2 n d) = x (ix2 (tok s n) d) := by
    refine (in_x m s n d).trans ((congrFun (hx s) (ix2 n d)).trans (congrArg x (funext fun a => Fin.ext ?_)))
    match a with
    | 0 => rfl
    | 1 => rfl
  have er : cols (dataOf m) = fun s k => rt (ix2 (tok s k) 0) := by
    funext s k
    refine (congrFun ((in_rt m s).trans (hr s)) (ix2 k 0)).trans (congrArg rt (funext fun a => Fin.ext ?_))
    match a with
    | 0 => rfl
    | 1 => rfl
  have ew (p : Fin 4) (e : Fin 8) (d : Fin 512) (j : Fin 1024) : (dataOf m).w p (ix3 e d j) = w (ix3 (exw p e) d j) := by
    refine (in_w m p e d j).trans ((congrFun (hw p) (ix3 e d j)).trans (congrArg w (funext fun a => Fin.ext ?_)))
    match a with
    | 0 => rfl
    | 1 => rfl
    | 2 => rfl
  suffices h : ∀ (n : Fin 2048) (j : Fin 1024), (dataOf m).oG c (ix2 n j) = Layout.block ⟨2, ![2048, 1024]⟩ ⟨2, ![8192, 1024]⟩ 0 4 c (Cert.ReferenceIdeal.Value.result x rt w) (by decide) (ix2 n j) by
    funext i
    idx_vars i
    exact h _ _
  intro n j
  have eb : Layout.block ⟨2, ![2048, 1024]⟩ ⟨2, ![8192, 1024]⟩ 0 4 c (Cert.ReferenceIdeal.Value.result x rt w) (by decide) (ix2 n j) = Cert.ReferenceIdeal.Value.result x rt w (ix2 (tok c n) j) := by
    refine congrArg (Cert.ReferenceIdeal.Value.result x rt w) (funext fun a => Fin.ext ?_)
    match a with
    | 0 => rfl
    | 1 => rfl
  refine (oG_eq (good m) (in_tri m) c n j).trans (Eq.trans ?_ eb.symm)
  rw [Cert.ReferenceIdeal.Value.result_apply]
  refine Eq.trans ?_ (sum_blocks 4 8 (fun E : Fin 32 => if Cert.ReferenceIdeal.Value.keeps rt (ix2 (tok c n) E) = 1#1 then ∑ d, x (ix2 (tok c n) d) * w (ix3 E d j) else 0) exw fun _ _ => rfl).symm
  refine Finset.sum_congr rfl fun p _ => Finset.sum_congr rfl fun e _ => ?_
  rw [Cert.ReferenceIdeal.Value.keeps_apply, before_eq (fun k => rt (ix2 k 0)) c n, er]
  have hE : BitVec.ofNat 32 (exw p e).val = expert p e := by
    show BitVec.ofNat 32 (p.val * 8 + e.val) = BitVec.ofNat 32 (8 * p.val + e.val)
    rw [Nat.mul_comm]
  rw [hE]
  by_cases h : rt (ix2 (tok c n) 0) = expert p e ∧ befo (fun t k => rt (ix2 (tok t k) 0)) c n (expert p e) < 204
  · have hk : keep (fun s k => rt (ix2 (tok s k) 0)) c n (expert p e) = 1 := if_pos h
    rw [decide_eq_true h, if_pos (show BitVec.ofBool true = 1#1 from rfl)]
    exact Finset.sum_congr rfl fun d _ => by rw [hk, mul_one, ex, ew]
  · have hk : keep (fun s k => rt (ix2 (tok s k) 0)) c n (expert p e) = 0 := if_neg h
    rw [decide_eq_false h, if_neg (show ¬ BitVec.ofBool false = 1#1 by decide)]
    exact Finset.sum_eq_zero fun d _ => by rw [hk, mul_zero, zero_mul]

/-- From blocks of the reference's arguments, every run of the kernel leaves each device its block of the reference's
    result. -/
theorem algebraic : algebraic_KernelIdeal_ReferenceIdeal (hKernelIdeal := Cert.KernelIdeal.Gen.facts) (hReferenceIdeal := Cert.ReferenceIdeal.Gen.facts) :=
  fun m g m' g' _ h => ⟨_,
    (θ_run _ _ _).mono (fun _ q c => ⟨((q.1 c).2.2.2.2).trans (out_eq m _ _ _ (fun c => (h c).1) (fun c => (h c).2.2.1) (fun c => (h c).2.2.2) c),
      (q.1 c).1, (q.1 c).2.1, (q.1 c).2.2.1, (q.1 c).2.2.2.1⟩) (run_value m g),
    (θ_run _ _ _).mono (fun _ q => q 0) (Cert.ReferenceIdeal.Value.run m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
